-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite2 [hPre_finite2 : Cert.Pre_finite2.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite2.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite2 [hPre_finite2 : Cert.Pre_finite2.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite2.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite2 [hKernel5Ideal : Cert.Kernel5Ideal.Facts] [hPre_finite2 : Cert.Pre_finite2.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite2 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite2 [hReference5Ideal : Cert.Reference5Ideal.Facts] [hPre_finite2 : Cert.Pre_finite2.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite2 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v116_0)) (v1 : (c : Dev Cert.KernelIdeal.nD) → Buf (Elt Ideal) ((c.tc : Thread Cert.KernelIdeal.nD Cert.KernelIdeal.τ).loc Cert.KernelIdeal.main_v116_1)) (v2 : (c : Dev Cert.KernelIdeal.nD) → Buf (Elt Ideal) ((c.tc : Thread Cert.KernelIdeal.nD Cert.KernelIdeal.τ).loc Cert.KernelIdeal.main_v116_2)) (v3 : (c : Dev Cert.KernelIdeal.nD) → Buf (Elt Ideal) ((c.tc : Thread Cert.KernelIdeal.nD Cert.KernelIdeal.τ).loc Cert.KernelIdeal.main_v116_3)) (v4 : (c : Dev Cert.KernelIdeal.nD) → Buf (Elt Ideal) ((c.tc : Thread Cert.KernelIdeal.nD Cert.KernelIdeal.τ).loc Cert.KernelIdeal.main_v116_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116_0) = v0 c
          ∧ r.2.mem ((c.tc : Thread Cert.KernelIdeal.nD Cert.KernelIdeal.τ).loc Cert.KernelIdeal.main_v116_1) = v1 c
          ∧ r.2.mem ((c.tc : Thread Cert.KernelIdeal.nD Cert.KernelIdeal.τ).loc Cert.KernelIdeal.main_v116_2) = v2 c
          ∧ r.2.mem ((c.tc : Thread Cert.KernelIdeal.nD Cert.KernelIdeal.τ).loc Cert.KernelIdeal.main_v116_3) = v3 c
          ∧ r.2.mem ((c.tc : Thread Cert.KernelIdeal.nD Cert.KernelIdeal.τ).loc Cert.KernelIdeal.main_v116_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v41) = v3 c
          ∧ r.2.mem ((c.tc : Thread Cert.Reference3Ideal.nD Cert.Reference3Ideal.τ).loc Cert.Reference3Ideal.main_v42) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite2 [hKernel5Ideal : Cert.Kernel5Ideal.Facts] [hReference5Ideal : Cert.Reference5Ideal.Facts] [hPre_finite2 : Cert.Pre_finite2.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite2 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "c1" .f32 0x3FC48605#32 ((8388608 / 5463681 : ℝ) : EReal)
  ∧ IdealRules.named_const.Statement Cert.Kernel7Ideal.κ "c2" .f32 0x42C8E6D3#32 ((268435456 / 2672307 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_v19) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite2 (hKernel5Ideal := hKernel5Ideal) (hPre_finite2 := hPre_finite2)
    ∧ quiescent_Reference5Ideal (hReference5Ideal := hReference5Ideal)
    ∧ quiescent_Reference5Ideal_pre_finite2 (hReference5Ideal := hReference5Ideal) (hPre_finite2 := hPre_finite2)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite2 (hKernel5Ideal := hKernel5Ideal) (hReference5Ideal := hReference5Ideal) (hPre_finite2 := hPre_finite2)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite.lean ====
abbrev S4096x3072 : Shape := ⟨2, ![4096, 3072]⟩
abbrev S4096x1024 : Shape := ⟨2, ![4096, 1024]⟩
abbrev S4096x8 : Shape := ⟨2, ![4096, 8]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn {F : FTy → Type} [FloatOps F] (main_arg0 : FVec F S4096x3072 .bf16) (main_arg1 : FVec F S4096x1024 .bf16) (main_arg2 : FVec F S4096x8 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S4096x8 .f32 := Host.absf main_arg2
  let main_cst_2 : FVec F S_ .f32 := constant S_ .f32 0x7F800000#32
  let main_v11 : FVec F S4096x8 .f32 := broadcastInDim S4096x8 ![] bcast_S_S4096x8 main_cst_2
  let main_v12 : IVec S4096x8 1 := cmpf .olt main_v10 main_v11
  let main_c_3 : IVec S_ 1 := constantI S_ 1 1#1
  let main_v13 : IVec S_ 1 := (fun x v => Host.reduce IntOp.andi x v reducesTo_S4096x8_S_d0_1 h_S_) main_v12 main_c_3
  let main_v14 : IVec S_ 1 := andi main_v9 main_v13
  let main_v15 : IVec S_ 1 := andi main_v4 main_v14
  main_v15
-- ==== Pre_finite2.lean ====
abbrev S4096x512 : Shape := ⟨2, ![4096, 512]⟩
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x128 : S_.BroadcastsInDim S4096x128 (![] : Fin 0 → Fin S4096x128.rank)
  reducesTo_S4096x128_S_d0_1 : S4096x128.ReducesTo [0, 1] S_
  bcast_S_S1024x3200 : S_.BroadcastsInDim S1024x3200 (![] : Fin 0 → Fin S1024x3200.rank)
  reducesTo_S1024x3200_S_d0_1 : S1024x3200.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S4096x1024 .f32) (main_arg8 : FVec F S1x1024 .f32) (main_v34 : IVec S_ 1) (main_v35 : FVec F S1024x3200 .f32) : IVec S_ 1 :=
  let main_v36 : FVec F S1024x3200 .f32 := Host.absf main_v35
  let main_cst_10 : FVec F S_ .f32 := constant S_ .f32 0x7F800000#32
  let main_v37 : FVec F S1024x3200 .f32 := broadcastInDim S1024x3200 ![] bcast_S_S1024x3200 main_cst_10
  let main_v38 : IVec S1024x3200 1 := cmpf .olt main_v36 main_v37
  let main_c_11 : IVec S_ 1 := constantI S_ 1 1#1
  let main_v39 : IVec S_ 1 := (fun x v => Host.reduce IntOp.andi x v reducesTo_S1024x3200_S_d0_1 h_S_) main_v38 main_c_11
  let main_v40 : FVec F S4096x1024 .f32 := Host.absf main_arg7
  let main_cst_12 : FVec F S_ .f32 := constant S_ .f32 0x7F800000#32
  let main_v41 : FVec F S4096x1024 .f32 := broadcastInDim S4096x1024 ![] bcast_S_S4096x1024 main_cst_12
  let main_v42 : IVec S4096x1024 1 := cmpf .olt main_v40 main_v41
  let main_c_13 : IVec S_ 1 := constantI S_ 1 1#1
  let main_v43 : IVec S_ 1 := (fun x v => Host.reduce IntOp.andi x v reducesTo_S4096x1024_S_d0_1 h_S_) main_v42 main_c_13
  let main_v44 : FVec F S1x1024 .f32 := Host.absf main_arg8
  let main_cst_14 : FVec F S_ .f32 := constant S_ .f32 0x7F800000#32
  let main_v45 : FVec F S1x1024 .f32 := broadcastInDim S1x1024 ![] bcast_S_S1x1024 main_cst_14
  let main_v46 : IVec S1x1024 1 := cmpf .olt main_v44 main_v45
  let main_c_15 : IVec S_ 1 := constantI S_ 1 1#1
  let main_v47 : IVec S_ 1 := (fun x v => Host.reduce IntOp.andi x v reducesTo_S1x1024_S_d0_1 h_S_) main_v46 main_c_15
  let main_v48 : IVec S_ 1 := andi main_v43 main_v47
  let main_v49 : IVec S_ 1 := andi main_v39 main_v48
  let main_v50 : IVec S_ 1 := andi main_v34 main_v49
  main_v50

def fn_part1 {F : FTy → Type} [FloatOps F] (main_arg4 : FVec F S4096x512 .bf16) (main_arg5 : FVec F S4096x128 .bf16) (main_arg6 : FVec F S1024x3200 .bf16) (main_arg7 : FVec F S4096x1024 .f32) (main_arg8 : FVec F S1x1024 .f32) (main_v10 : IVec S_ 1) (main_v15 : IVec S_ 1) (main_v17 : FVec F S4096x512 .f32) : IVec S_ 1 :=
  let main_cst_4 : FVec F S_ .f32 := constant S_ .f32 0x7F800000#32
  let main_v18 : FVec F S4096x512 .f32 := broadcastInDim S4096x512 ![] bcast_S_S4096x512 main_cst_4
  let main_v19 : IVec S4096x512 1 := cmpf .olt main_v17 main_v18
  let main_c_5 : IVec S_ 1 := constantI S_ 1 1#1
  let main_v20 : IVec S_ 1 := (fun x v => Host.reduce IntOp.andi x v reducesTo_S4096x512_S_d0_1 h_S_) main_v19 main_c_5
  let main_v21 : FVec F S4096x512 .f32 := (extf .f32 · bitsLt_bf16_f32) main_arg4
  let main_v22 : FVec F S4096x512 .f32 := Host.absf main_v21
  let main_cst_6 : FVec F S_ .f32 := constant S_ .f32 0x7F800000#32
  let main_v23 : FVec F S4096x512 .f32 := broadcastInDim S4096x512 ![] bcast_S_S4096x512 main_cst_6
  let main_v24 : IVec S4096x512 1 := cmpf .olt main_v22 main_v23
  let main_c_7 : IVec S_ 1 := constantI S_ 1 1#1
  let main_v25 : IVec S_ 1 := (fun x v => Host.reduce IntOp.andi x v reducesTo_S4096x512_S_d0_1 h_S_) main_v24 main_c_7
  let main_v26 : IVec S_ 1 := andi main_v20 main_v25
  let main_v27 : IVec S_ 1 := andi main_v15 main_v26
  let main_v28 : IVec S_ 1 := andi main_v10 main_v27
  let main_v29 : FVec F S4096x128 .f32 := (extf .f32 · bitsLt_bf16_f32) main_arg5
  let main_v30 : FVec F S4096x128 .f32 := Host.absf main_v29
  let main_cst_8 : FVec F S_ .f32 := constant S_ .f32 0x7F800000#32
  let main_v31 : FVec F S4096x128 .f32 := broadcastInDim S4096x128 ![] bcast_S_S4096x128 main_cst_8
  let main_v32 : IVec S4096x128 1 := cmpf .olt main_v30 main_v31
  let main_c_9 : IVec S_ 1 := constantI S_ 1 1#1
  let main_v33 : IVec S_ 1 := (fun x v => Host.reduce IntOp.andi x v reducesTo_S4096x128_S_d0_1 h_S_) main_v32 main_c_9
  let main_v34 : IVec S_ 1 := andi main_v28 main_v33
  let main_v35 : FVec F S1024x3200 .f32 := (extf .f32 · bitsLt_bf16_f32) main_arg6
  fn_part2 (F := F) main_arg7 main_arg8 main_v34 main_v35

def fn {F : FTy → Type} [FloatOps F] (main_arg0 : FVec F S4096x512 .bf16) (main_arg1 : FVec F S4096x1024 .bf16) (main_arg2 : FVec F S4096x512 .bf16) (main_arg3 : FVec F S4096x512 .bf16) (main_arg4 : FVec F S4096x512 .bf16) (main_arg5 : FVec F S4096x128 .bf16) (main_arg6 : FVec F S1024x3200 .bf16) (main_arg7 : FVec F S4096x1024 .f32) (main_arg8 : FVec F S1x1024 .f32) (main_arg9 : FVec F S4096x1024 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : FVec F S4096x512 .f32 := (extf .f32 · bitsLt_bf16_f32) main_arg3
  let main_v17 : FVec F S4096x512 .f32 := Host.absf main_v16
  fn_part1 (F := F) main_arg4 main_arg5 main_arg6 main_arg7 main_arg8 main_v10 main_v15 main_v17
-- ==== Pre_finite3.lean ====
abbrev S4096x1024 : Shape := ⟨2, ![4096, 1024]⟩
abbrev S1024x1024 : Shape := ⟨2, ![1024, 1024]⟩
abbrev S4096x512 : Shape := ⟨2, ![4096, 512]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_arg4 : FVec F S4096x3072 .bf16) (main_v9 : IVec S_ 1) (main_v14 : IVec S_ 1) (main_v16 : FVec F S4096x512 .f32) (main_cst_4 : FVec F S_ .f32) : IVec S_ 1 :=
  let main_v17 : FVec F S4096x512 .f32 := broadcastInDim S4096x512 ![] bcast_S_S4096x512 main_cst_4
  let main_v18 : IVec S4096x512 1 := cmpf .olt main_v16 main_v17
  let main_c_5 : IVec S_ 1 := constantI S_ 1 1#1
  let main_v19 : IVec S_ 1 := (fun x v => Host.reduce IntOp.andi x v reducesTo_S4096x512_S_d0_1 h_S_) main_v18 main_c_5
  let main_v20 : FVec F S4096x3072 .f32 := (extf .f32 · bitsLt_bf16_f32) main_arg4
  let main_v21 : FVec F S4096x3072 .f32 := Host.absf main_v20
  let main_cst_6 : FVec F S_ .f32 := constant S_ .f32 0x7F800000#32
  let main_v22 : FVec F S4096x3072 .f32 := broadcastInDim S4096x3072 ![] bcast_S_S4096x3072 main_cst_6
  let main_v23 : IVec S4096x3072 1 := cmpf .olt main_v21 main_v22
  let main_c_7 : IVec S_ 1 := constantI S_ 1 1#1
  let main_v24 : IVec S_ 1 := (fun x v => Host.reduce IntOp.andi x v reducesTo_S4096x3072_S_d0_1 h_S_) main_v23 main_c_7
  let main_v25 : IVec S_ 1 := andi main_v19 main_v24
  let main_v26 : IVec S_ 1 := andi main_v14 main_v25
  let main_v27 : IVec S_ 1 := andi main_v9 main_v26
  main_v27

def fn {F : FTy → Type} [FloatOps F] (main_arg0 : FVec F S4096x1024 .f32) (main_arg1 : FVec F S1024x1024 .bf16) (main_arg2 : FVec F S4096x512 .bf16) (main_arg3 : FVec F S4096x512 .bf16) (main_arg4 : FVec F S4096x3072 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S4096x512 .f32 := (extf .f32 · bitsLt_bf16_f32) main_arg2
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : FVec F S4096x512 .f32 := (extf .f32 · bitsLt_bf16_f32) main_arg3
  let main_v16 : FVec F S4096x512 .f32 := Host.absf main_v15
  let main_cst_4 : FVec F S_ .f32 := constant S_ .f32 0x7F800000#32
  fn_part1 (F := F) main_arg4 main_v9 main_v14 main_v16 main_cst_4
-- ==== Pre_finite6.lean ====
abbrev S4096x128 : Shape := ⟨2, ![4096, 128]⟩
abbrev S1x128 : Shape := ⟨2, ![1, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v8 : IVec S_ 1) (main_v12 : IVec S_ 1) (main_v15 : IVec S1x128 1) (main_c_5 : IVec S_ 1) : IVec S_ 1 :=
  let main_v16 : IVec S_ 1 := (fun x v => Host.reduce IntOp.andi x v reducesTo_S1x128_S_d0_1 h_S_) main_v15 main_c_5
  let main_v17 : IVec S_ 1 := andi main_v12 main_v16
  let main_v18 : IVec S_ 1 := andi main_v8 main_v17
  main_v18

def fn {F : FTy → Type} [FloatOps F] (main_arg0 : FVec F S4096x128 .f32) (main_arg1 : FVec F S4096x128 .f32) (main_arg2 : FVec F S4096x128 .f32) (main_arg3 : FVec F S1x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : FVec F S1x128 .f32 := Host.absf main_arg3
  let main_cst_4 : FVec F S_ .f32 := constant S_ .f32 0x7F800000#32
  let main_v14 : FVec F S1x128 .f32 := broadcastInDim S1x128 ![] bcast_S_S1x128 main_cst_4
  let main_v15 : IVec S1x128 1 := cmpf .olt main_v13 main_v14
  let main_c_5 : IVec S_ 1 := constantI S_ 1 1#1
  fn_part1 (F := F) main_v8 main_v12 main_v15 main_c_5
-- ==== Kernel.lean ====
abbrev S4096x3072 : Shape := ⟨2, ![4096, 3072]⟩
abbrev S4096x1024 : Shape := ⟨2, ![4096, 1024]⟩
abbrev S4096x8 : Shape := ⟨2, ![4096, 8]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S4096x8x1 : Shape := ⟨3, ![4096, 8, 1]⟩
abbrev S4096x8x55 : Shape := ⟨3, ![4096, 8, 55]⟩
abbrev S4096x4x2x64 : Shape := ⟨4, ![4096, 4, 2, 64]⟩
abbrev S4096x8x61 : Shape := ⟨3, ![4096, 8, 61]⟩
abbrev S4096x128 : Shape := ⟨2, ![4096, 128]⟩
abbrev S512x128 : Shape := ⟨2, ![512, 128]⟩
abbrev S2x512x128 : Shape := ⟨3, ![2, 512, 128]⟩
abbrev S2x4096x128 : Shape := ⟨3, ![2, 4096, 128]⟩
abbrev S1x512x128 : Shape := ⟨3, ![1, 512, 128]⟩
abbrev S512x512 : Shape := ⟨2, ![512, 512]⟩
abbrev S512x1 : Shape := ⟨2, ![512, 1]⟩
abbrev S1x4096x128 : Shape := ⟨3, ![1, 4096, 128]⟩

abbrev nBuf : Space → Nat
  | .hbm => 133
  | .vmem => 27
  | .smem => 0
  | _ => 0

abbrev hbmTy0_0 (i : Nat) : BufTy := match i % 128 with
  | 0 => ⟨S4096x3072, .bf16⟩
  | 1 => ⟨S4096x1024, .bf16⟩
  | 2 => ⟨S4096x8, .f32⟩
  | 3 => ⟨S4096x512, .bf16⟩
  | 4 => ⟨S4096x512, .f32⟩
  | 5 => ⟨S4096x8x64, .f32⟩
  | 6 => ⟨S4096x512, .bf16⟩
  | 7 => ⟨S4096x512, .f32⟩
  | 8 => ⟨S4096x8x64, .f32⟩
  | 9 => ⟨S4096x512, .bf16⟩
  | 10 => ⟨S4096x512, .f32⟩
  | 11 => ⟨S4096x8x64, .f32⟩
  | 12 => ⟨S4096x512, .bf16⟩
  | 13 => ⟨S4096x512, .f32⟩
  | 14 => ⟨S4096x8x64, .f32⟩
  | 15 => ⟨S8x4096x4096, .f32⟩
  | 16 => ⟨S_, .f32⟩
  | 17 => ⟨S8x4096x4096, .f32⟩
  | 18 => ⟨S8x4096x4096, .f32⟩
  | 19 => ⟨S8x4096, .f32⟩
  | 20 => ⟨S8x4096x1, .f32⟩
  | 21 => ⟨S8x4096, .f32⟩
  | 22 => ⟨S8x1x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S4096, .i32⟩
  | 28 => ⟨S4096x1, .i32⟩
  | 29 => ⟨S4096, .i32⟩
  | 30 => ⟨S1x4096, .i32⟩
  | 31 => ⟨S4096x4096, .i32⟩
  | 32 => ⟨S4096x4096, .i32⟩
  | 33 => ⟨S4096x4096, .i1⟩
  | 34 => ⟨S8x4096x4096, .i1⟩
  | 35 => ⟨S_, .f32⟩
  | 36 => ⟨S8x4096x4096, .f32⟩
  | 37 => ⟨S8x4096x4096, .f32⟩
  | 38 => ⟨S_, .f32⟩
  | 39 => ⟨S8x4096, .f32⟩
  | 40 => ⟨S8x4096x1, .f32⟩
  | 41 => ⟨S8x4096x4096, .f32⟩
  | 42 => ⟨S8x4096x4096, .f32⟩
  | 43 => ⟨S8x4096x4096, .f32⟩
  | 44 => ⟨S_, .f32⟩
  | 45 => ⟨S8x4096, .f32⟩
  | 46 => ⟨S8x4096x1, .f32⟩
  | 47 => ⟨S8x4096x4096, .f32⟩
  | 48 => ⟨S8x4096x4096, .f32⟩
  | 49 => ⟨S8x64x4096, .f32⟩
  | 50 => ⟨S4096x8x64, .f32⟩
  | 51 => ⟨S8x4096, .f32⟩
  | 52 => ⟨S8x4096, .f32⟩
  | 53 => ⟨S4096x8, .f32⟩
  | 54 => ⟨S4096x8x64, .f32⟩
  | 55 => ⟨S_, .f32⟩
  | 56 => ⟨S4096x8, .f32⟩
  | 57 => ⟨S_, .f32⟩
  | 58 => ⟨S4096x8, .f32⟩
  | 59 => ⟨S4096x8, .bf16⟩
  | 60 => ⟨S4096x8, .f32⟩
  | 61 => ⟨S4096x8, .f32⟩
  | 62 => ⟨S4096x8, .bf16⟩
  | 63 => ⟨S4096x8, .f32⟩
  | 64 => ⟨S4096x8, .f32⟩
  | 65 => ⟨S4096x8, .f32⟩
  | 66 => ⟨S4096x8, .bf16⟩
  | 67 => ⟨S4096x8, .f32⟩
  | 68 => ⟨S4096x8, .f32⟩
  | 69 => ⟨S4096x8, .bf16⟩
  | 70 => ⟨S4096x8, .f32⟩
  | 71 => ⟨S4096x8, .f32⟩
  | 72 => ⟨S4096x8, .f32⟩
  | 73 => ⟨S4096x8, .bf16⟩
  | 74 => ⟨S4096x8, .f32⟩
  | 75 => ⟨S4096x8, .f32⟩
  | 76 => ⟨S4096x8, .bf16⟩
  | 77 => ⟨S4096x8, .f32⟩
  | 78 => ⟨S4096x8, .f32⟩
  | 79 => ⟨S4096x8x1, .f32⟩
  | 80 => ⟨S4096x8x1, .f32⟩
  | 81 => ⟨S4096x8x1, .f32⟩
  | 82 => ⟨S4096x8x1, .f32⟩
  | 83 => ⟨S4096x8x1, .f32⟩
  | 84 => ⟨S4096x8x1, .f32⟩
  | 85 => ⟨S4096x8x1, .f32⟩
  | 86 => ⟨S4096x8x1, .f32⟩
  | 87 => ⟨S4096x8x1, .f32⟩
  | 88 => ⟨S_, .f32⟩
  | 89 => ⟨S4096x8x55, .f32⟩
  | 90 => ⟨S4096x8x64, .f32⟩
  | 91 => ⟨S4096x4x2x64, .f32⟩
  | 92 => ⟨S4096x4x2x64, .f32⟩
  | 93 => ⟨S4096x512, .f32⟩
  | 94 => ⟨S4096x512, .bf16⟩
  | 95 => ⟨S4096x8x1, .f32⟩
  | 96 => ⟨S4096x8x1, .f32⟩
  | 97 => ⟨S4096x8x1, .f32⟩
  | 98 => ⟨S4096x8x1, .f32⟩
  | 99 => ⟨S4096x8x1, .f32⟩
  | 100 => ⟨S4096x8x1, .f32⟩
  | 101 => ⟨S4096x8x1, .f32⟩
  | 102 => ⟨S4096x8x1, .f32⟩
  | 103 => ⟨S4096x8x1, .f32⟩
  | 104 => ⟨S_, .f32⟩
  | 105 => ⟨S4096x8x55, .f32⟩
  | 106 => ⟨S4096x8x64, .f32⟩
  | 107 => ⟨S4096x4x2x64, .f32⟩
  | 108 => ⟨S4096x4x2x64, .f32⟩
  | 109 => ⟨S4096x512, .f32⟩
  | 110 => ⟨S4096x512, .bf16⟩
  | 111 => ⟨S4096x8, .f32⟩
  | 112 => ⟨S4096x8, .bf16⟩
  | 113 => ⟨S4096x8, .f32⟩
  | 114 => ⟨S4096x8, .f32⟩
  | 115 => ⟨S4096x8, .bf16⟩
  | 116 => ⟨S4096x8, .f32⟩
  | 117 => ⟨S4096x8, .f32⟩
  | 118 => ⟨S4096x8x1, .f32⟩
  | 119 => ⟨S4096x8x1, .f32⟩
  | 120 => ⟨S4096x8x1, .f32⟩
  | 121 => ⟨S_, .f32⟩
  | 122 => ⟨S4096x8x61, .f32⟩
  | 123 => ⟨S4096x8x64, .f32⟩
  | 124 => ⟨S4096x4x2x64, .f32⟩
  | 125 => ⟨S4096x4x2x64, .f32⟩
  | 126 => ⟨S4096x512, .f32⟩
  | 127 => ⟨S4096x512, .bf16⟩
  | _ => ⟨S4096x3072, .bf16⟩

abbrev hbmTy0_1 (i : Nat) : BufTy := match i % 128 with
  | 0 => ⟨S4096x512, .bf16⟩
  | 1 => ⟨S4096x512, .bf16⟩
  | 2 => ⟨S4096x512, .bf16⟩
  | 3 => ⟨S4096x128, .f32⟩
  | 4 => ⟨S4096x128, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S4096x128, .f32⟩
  | .local _ .vmem, ⟨21, _⟩ => ⟨S4096x128, .f32⟩
  | .local _ .vmem, ⟨22, _⟩ => ⟨S2x512x128, .bf16⟩
  | .local _ .vmem, ⟨23, _⟩ => ⟨S2x512x128, .bf16⟩
  | .local _ .vmem, ⟨24, _⟩ => ⟨S2x512x128, .f32⟩
  | .local _ .vmem, ⟨25, _⟩ => ⟨S512x128, .f32⟩
  | .local _ .vmem, ⟨26, _⟩ => ⟨S2x4096x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_5 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_cst_7 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116_0 : Ref sig .tc := ⟨.hbm, 128, rfl⟩
abbrev main_v116_1 : Ref sig .tc := ⟨.hbm, 129, rfl⟩
abbrev main_v116_2 : Ref sig .tc := ⟨.hbm, 130, rfl⟩
abbrev main_v116_3 : Ref sig .tc := ⟨.hbm, 131, rfl⟩
abbrev main_v116_4 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v52 : BitVec 32 := Scalar.muli arg1 c512_i32
  v52
def k0_off1 (i : grid0.Coords) : Fin 2 → Nat :=
  let arg1 : BitVec 32 := BitVec.ofNat 32 (i 1).val
  let c512_i32 : BitVec 32 := 512#32
  let v52 : BitVec 32 := Scalar.muli arg1 c512_i32
  let v53 : BitVec 32 := v52
  let v54 : Index := Scalar.indexCast v53
  let c0_33 : Index := 0#32
  ![v54.toNat, 0]
def k0_off2 (i : grid0.Coords) : Fin 3 → Nat :=
  let c0_64 : Index := 0#32
  let arg1 : BitVec 32 := BitVec.ofNat 32 (i 1).val
  let c512_i32 : BitVec 32 := 512#32
  let v52 : BitVec 32 := Scalar.muli arg1 c512_i32
  let v53 : BitVec 32 := v52
  let v101 : Index := Scalar.indexCast v53
  let c0_65 : Index := 0#32
  ![0, v101.toNat, 0]
def k0_off3 (i : grid0.Coords) : Fin 3 → Nat :=
  let c1_82 : Index := 1#32
  let arg1 : BitVec 32 := BitVec.ofNat 32 (i 1).val
  let c512_i32 : BitVec 32 := 512#32
  let v52 : BitVec 32 := Scalar.muli arg1 c512_i32
  let v53 : BitVec 32 := v52
  let v129 : Index := Scalar.indexCast v53
  let c0_83 : Index := 0#32
  ![1, v129.toNat, 0]
@[reducible] def k0_t1_loop (i : grid0.Coords) : Scf.Loop 32 :=
  let c0_i32_100 : BitVec 32 := 0#32
  let c7_i32 : BitVec 32 := 7#32
  let arg1 : BitVec 32 := BitVec.ofNat 32 (i 1).val
  let v145 : BitVec 32 := Scalar.subi c7_i32 arg1
  let c0_i32_94 : BitVec 32 := 0#32
  let v147 : BitVec 1 := Scalar.cmpi .sgt v145 c0_i32_94
  let v148 : BitVec 32 := Scalar.extui v147
  let c0_i32_95 : BitVec 32 := 0#32
  let v149 : BitVec 1 := Scalar.cmpi .slt v145 c0_i32_95
  let v150 : BitVec 32 := Scalar.extui v149
  let v151 : BitVec 32 := Scalar.subi v148 v150
  let c2_i32 : BitVec 32 := 2#32
  let c0_i32_96 : BitVec 32 := 0#32
  let v152 : BitVec 1 := Scalar.cmpi .sgt c2_i32 c0_i32_96
  let v153 : BitVec 32 := Scalar.extui v152
  let c0_i32_97 : BitVec 32 := 0#32
  let v154 : BitVec 1 := Scalar.cmpi .slt c2_i32 c0_i32_97
  let v155 : BitVec 32 := Scalar.extui v154
  let v156 : BitVec 32 := Scalar.subi v153 v155
  let v157 : BitVec 1 := Scalar.cmpi .ne v151 v156
  let v158 : BitVec 32 := Scalar.remsi v145 c2_i32
  let c0_i32_98 : BitVec 32 := 0#32
  let v159 : BitVec 1 := Scalar.cmpi .ne v158 c0_i32_98
  let v160 : BitVec 1 := Scalar.andi v157 v159
  let v146 : BitVec 32 := Scalar.divsi v145 c2_i32
  let c1_i32 : BitVec 32 := 1#32
  let v161 : BitVec 32 := Scalar.subi v146 c1_i32
  let v162 : BitVec 32 := Scalar.select v160 v161 v146
  let v163 : BitVec 32 := Scalar.subi v162 c0_i32_100
  let c1_i32_101 : BitVec 32 := 1#32
  let v165 : BitVec 32 := Scalar.divsi v163 c1_i32_101
  let v166 : BitVec 32 := Scalar.muli v165 c1_i32_101
  let v167 : BitVec 32 := Scalar.addi c0_i32_100 v166
  let c1_i32_102 : BitVec 32 := 1#32
  ⟨c0_i32_100, v167, c1_i32_102⟩
def k0_mult2 (i : grid0.Coords) (k0_t1 : Fin (k0_t1_loop i).trips) : BitVec 32 :=
  let arg1 : BitVec 32 := BitVec.ofNat 32 (i 1).val
  let c1_i32_138 : BitVec 32 := 1#32
  let v221 : BitVec 32 := Scalar.addi arg1 c1_i32_138
  let c2_i32_139 : BitVec 32 := 2#32
  let c0_i32_100 : BitVec 32 := 0#32
  let c1_i32_102 : BitVec 32 := 1#32
  let arg19 : BitVec 32 := Scf.iv c0_i32_100 c1_i32_102 k0_t1
  let v222 : BitVec 32 := Scalar.muli c2_i32_139 arg19
  let v223 : BitVec 32 := Scalar.addi v221 v222
  let c512_i32_140 : BitVec 32 := 512#32
  let v224 : BitVec 32 := Scalar.muli v223 c512_i32_140
  v224
def k0_off4 (i : grid0.Coords) (k0_t1 : Fin (k0_t1_loop i).trips) (c1_i32_138 : BitVec 32) : Fin 2 → Nat :=
  let arg1 : BitVec 32 := BitVec.ofNat 32 (i 1).val
  let v221 : BitVec 32 := Scalar.addi arg1 c1_i32_138
  let c2_i32_139 : BitVec 32 := 2#32
  let c0_i32_100 : BitVec 32 := 0#32
  let c1_i32_102 : BitVec 32 := 1#32
  let arg19 : BitVec 32 := Scf.iv c0_i32_100 c1_i32_102 k0_t1
  let v222 : BitVec 32 := Scalar.muli c2_i32_139 arg19
  let v223 : BitVec 32 := Scalar.addi v221 v222
  let c512_i32_140 : BitVec 32 := 512#32
  let v224 : BitVec 32 := Scalar.muli v223 c512_i32_140
  let v225 : BitVec 32 := v224
  let v226 : Index := Scalar.indexCast v225
  let c0_141 : Index := 0#32
  ![v226.toNat, 0]
def k0_off5 (i : grid0.Coords) (k0_t1 : Fin (k0_t1_loop i).trips) (c1_i32_138 : BitVec 32) : Fin 3 → Nat :=
  let c0_171 : Index := 0#32
  let arg1 : BitVec 32 := BitVec.ofNat 32 (i 1).val
  let v221 : BitVec 32 := Scalar.addi arg1 c1_i32_138
  let c2_i32_139 : BitVec 32 := 2#32
  let c0_i32_100 : BitVec 32 := 0#32
  let c1_i32_102 : BitVec 32 := 1#32
  let arg19 : BitVec 32 := Scf.iv c0_i32_100 c1_i32_102 k0_t1
  let v222 : BitVec 32 := Scalar.muli c2_i32_139 arg19
  let v223 : BitVec 32 := Scalar.addi v221 v222
  let c512_i32_140 : BitVec 32 := 512#32
  let v224 : BitVec 32 := Scalar.muli v223 c512_i32_140
  let v225 : BitVec 32 := v224
  let v268 : Index := Scalar.indexCast v225
  let c0_172 : Index := 0#32
  ![0, v268.toNat, 0]
def k0_off6 (i : grid0.Coords) (k0_t1 : Fin (k0_t1_loop i).trips) (c1_i32_138 : BitVec 32) : Fin 3 → Nat :=
  let c1_188 : Index := 1#32
  let arg1 : BitVec 32 := BitVec.ofNat 32 (i 1).val
  let v221 : BitVec 32 := Scalar.addi arg1 c1_i32_138
  let c2_i32_139 : BitVec 32 := 2#32
  let c0_i32_100 : BitVec 32 := 0#32
  let c1_i32_102 : BitVec 32 := 1#32
  let arg19 : BitVec 32 := Scf.iv c0_i32_100 c1_i32_102 k0_t1
  let v222 : BitVec 32 := Scalar.muli c2_i32_139 arg19
  let v223 : BitVec 32 := Scalar.addi v221 v222
  let c512_i32_140 : BitVec 32 := 512#32
  let v224 : BitVec 32 := Scalar.muli v223 c512_i32_140
  let v225 : BitVec 32 := v224
  let v294 : Index := Scalar.indexCast v225
  let c0_189 : Index := 0#32
  ![1, v294.toNat, 0]
def k0_mult3 (i : grid0.Coords) (k0_t1 : Fin (k0_t1_loop i).trips) : BitVec 32 :=
  let arg1 : BitVec 32 := BitVec.ofNat 32 (i 1).val
  let c2_i32_200 : BitVec 32 := 2#32
  let v310 : BitVec 32 := Scalar.addi arg1 c2_i32_200
  let c2_i32_201 : BitVec 32 := 2#32
  let c0_i32_100 : BitVec 32 := 0#32
  let c1_i32_102 : BitVec 32 := 1#32
  let arg19 : BitVec 32 := Scf.iv c0_i32_100 c1_i32_102 k0_t1
  let v311 : BitVec 32 := Scalar.muli c2_i32_201 arg19
  let v312 : BitVec 32 := Scalar.addi v310 v311
  let c512_i32_202 : BitVec 32 := 512#32
  let v313 : BitVec 32 := Scalar.muli v312 c512_i32_202
  v313
@[reducible] def k0_t2_loop (i : grid0.Coords) : Scf.Loop 32 :=
  let c0_i32_100 : BitVec 32 := 0#32
  let c7_i32 : BitVec 32 := 7#32
  let arg1 : BitVec 32 := BitVec.ofNat 32 (i 1).val
  let v145 : BitVec 32 := Scalar.subi c7_i32 arg1
  let c0_i32_94 : BitVec 32 := 0#32
  let v147 : BitVec 1 := Scalar.cmpi .sgt v145 c0_i32_94
  let v148 : BitVec 32 := Scalar.extui v147
  let c0_i32_95 : BitVec 32 := 0#32
  let v149 : BitVec 1 := Scalar.cmpi .slt v145 c0_i32_95
  let v150 : BitVec 32 := Scalar.extui v149
  let v151 : BitVec 32 := Scalar.subi v148 v150
  let c2_i32 : BitVec 32 := 2#32
  let c0_i32_96 : BitVec 32 := 0#32
  let v152 : BitVec 1 := Scalar.cmpi .sgt c2_i32 c0_i32_96
  let v153 : BitVec 32 := Scalar.extui v152
  let c0_i32_97 : BitVec 32 := 0#32
  let v154 : BitVec 1 := Scalar.cmpi .slt c2_i32 c0_i32_97
  let v155 : BitVec 32 := Scalar.extui v154
  let v156 : BitVec 32 := Scalar.subi v153 v155
  let v157 : BitVec 1 := Scalar.cmpi .ne v151 v156
  let v158 : BitVec 32 := Scalar.remsi v145 c2_i32
  let c0_i32_98 : BitVec 32 := 0#32
  let v159 : BitVec 1 := Scalar.cmpi .ne v158 c0_i32_98
  let v160 : BitVec 1 := Scalar.andi v157 v159
  let v146 : BitVec 32 := Scalar.divsi v145 c2_i32
  let c1_i32 : BitVec 32 := 1#32
  let v161 : BitVec 32 := Scalar.subi v146 c1_i32
  let v162 : BitVec 32 := Scalar.select v160 v161 v146
  let v163 : BitVec 32 := Scalar.subi v162 c0_i32_100
  let c1_i32_101 : BitVec 32 := 1#32
  let v165 : BitVec 32 := Scalar.divsi v163 c1_i32_101
  let v166 : BitVec 32 := Scalar.muli v165 c1_i32_101
  let v167 : BitVec 32 := Scalar.addi c0_i32_100 v166
  let v164 : BitVec 32 := Scalar.addi c0_i32_100 v163
  let c1_i32_103 : BitVec 32 := 1#32
  ⟨v167, v164, c1_i32_103⟩
def k0_mult4 (i : grid0.Coords) (k0_t2 : Fin (k0_t2_loop i).trips) : BitVec 32 :=
  let arg1 : BitVec 32 := BitVec.ofNat 32 (i 1).val
  let c1_i32_138 : BitVec 32 := 1#32
  let v221 : BitVec 32 := Scalar.addi arg1 c1_i32_138
  let c2_i32_139 : BitVec 32 := 2#32
  let c0_i32_100 : BitVec 32 := 0#32
  let c7_i32 : BitVec 32 := 7#32
  let v145 : BitVec 32 := Scalar.subi c7_i32 arg1
  let c0_i32_94 : BitVec 32 := 0#32
  let v147 : BitVec 1 := Scalar.cmpi .sgt v145 c0_i32_94
  let v148 : BitVec 32 := Scalar.extui v147
  let c0_i32_95 : BitVec 32 := 0#32
  let v149 : BitVec 1 := Scalar.cmpi .slt v145 c0_i32_95
  let v150 : BitVec 32 := Scalar.extui v149
  let v151 : BitVec 32 := Scalar.subi v148 v150
  let c2_i32 : BitVec 32 := 2#32
  let c0_i32_96 : BitVec 32 := 0#32
  let v152 : BitVec 1 := Scalar.cmpi .sgt c2_i32 c0_i32_96
  let v153 : BitVec 32 := Scalar.extui v152
  let c0_i32_97 : BitVec 32 := 0#32
  let v154 : BitVec 1 := Scalar.cmpi .slt c2_i32 c0_i32_97
  let v155 : BitVec 32 := Scalar.extui v154
  let v156 : BitVec 32 := Scalar.subi v153 v155
  let v157 : BitVec 1 := Scalar.cmpi .ne v151 v156
  let v158 : BitVec 32 := Scalar.remsi v145 c2_i32
  let c0_i32_98 : BitVec 32 := 0#32
  let v159 : BitVec 1 := Scalar.cmpi .ne v158 c0_i32_98
  let v160 : BitVec 1 := Scalar.andi v157 v159
  let v146 : BitVec 32 := Scalar.divsi v145 c2_i32
  let c1_i32 : BitVec 32 := 1#32
  let v161 : BitVec 32 := Scalar.subi v146 c1_i32
  let v162 : BitVec 32 := Scalar.select v160 v161 v146
  let v163 : BitVec 32 := Scalar.subi v162 c0_i32_100
  let c1_i32_101 : BitVec 32 := 1#32
  let v165 : BitVec 32 := Scalar.divsi v163 c1_i32_101
  let v166 : BitVec 32 := Scalar.muli v165 c1_i32_101
  let v167 : BitVec 32 := Scalar.addi c0_i32_100 v166
  let c1_i32_103 : BitVec 32 := 1#32
  let arg19 : BitVec 32 := Scf.iv v167 c1_i32_103 k0_t2
  let v222 : BitVec 32 := Scalar.muli c2_i32_139 arg19
  let v223 : BitVec 32 := Scalar.addi v221 v222
  let c512_i32_140 : BitVec 32 := 512#32
  let v224 : BitVec 32 := Scalar.muli v223 c512_i32_140
  v224
def k0_off7 (i : grid0.Coords) (k0_t2 : Fin (k0_t2_loop i).trips) (c1_i32_138 : BitVec 32) : Fin 2 → Nat :=
  let arg1 : BitVec 32 := BitVec.ofNat 32 (i 1).val
  let v221 : BitVec 32 := Scalar.addi arg1 c1_i32_138
  let c2_i32_139 : BitVec 32 := 2#32
  let c0_i32_100 : BitVec 32 := 0#32
  let c7_i32 : BitVec 32 := 7#32
  let v145 : BitVec 32 := Scalar.subi c7_i32 arg1
  let c0_i32_94 : BitVec 32 := 0#32
  let v147 : BitVec 1 := Scalar.cmpi .sgt v145 c0_i32_94
  let v148 : BitVec 32 := Scalar.extui v147
  let c0_i32_95 : BitVec 32 := 0#32
  let v149 : BitVec 1 := Scalar.cmpi .slt v145 c0_i32_95
  let v150 : BitVec 32 := Scalar.extui v149
  let v151 : BitVec 32 := Scalar.subi v148 v150
  let c2_i32 : BitVec 32 := 2#32
  let c0_i32_96 : BitVec 32 := 0#32
  let v152 : BitVec 1 := Scalar.cmpi .sgt c2_i32 c0_i32_96
  let v153 : BitVec 32 := Scalar.extui v152
  let c0_i32_97 : BitVec 32 := 0#32
  let v154 : BitVec 1 := Scalar.cmpi .slt c2_i32 c0_i32_97
  let v155 : BitVec 32 := Scalar.extui v154
  let v156 : BitVec 32 := Scalar.subi v153 v155
  let v157 : BitVec 1 := Scalar.cmpi .ne v151 v156
  let v158 : BitVec 32 := Scalar.remsi v145 c2_i32
  let c0_i32_98 : BitVec 32 := 0#32
  let v159 : BitVec 1 := Scalar.cmpi .ne v158 c0_i32_98
  let v160 : BitVec 1 := Scalar.andi v157 v159
  let v146 : BitVec 32 := Scalar.divsi v145 c2_i32
  let c1_i32 : BitVec 32 := 1#32
  let v161 : BitVec 32 := Scalar.subi v146 c1_i32
  let v162 : BitVec 32 := Scalar.select v160 v161 v146
  let v163 : BitVec 32 := Scalar.subi v162 c0_i32_100
  let c1_i32_101 : BitVec 32 := 1#32
  let v165 : BitVec 32 := Scalar.divsi v163 c1_i32_101
  let v166 : BitVec 32 := Scalar.muli v165 c1_i32_101
  let v167 : BitVec 32 := Scalar.addi c0_i32_100 v166
  let c1_i32_103 : BitVec 32 := 1#32
  let arg19 : BitVec 32 := Scf.iv v167 c1_i32_103 k0_t2
  let v222 : BitVec 32 := Scalar.muli c2_i32_139 arg19
  let v223 : BitVec 32 := Scalar.addi v221 v222
  let c512_i32_140 : BitVec 32 := 512#32
  let v224 : BitVec 32 := Scalar.muli v223 c512_i32_140
  let v225 : BitVec 32 := v224
  let v226 : Index := Scalar.indexCast v225
  let c0_141 : Index := 0#32
  ![v226.toNat, 0]
def k0_off8 (i : grid0.Coords) (k0_t2 : Fin (k0_t2_loop i).trips) (c1_i32_138 : BitVec 32) : Fin 3 → Nat :=
  let c0_171 : Index := 0#32
  let arg1 : BitVec 32 := BitVec.ofNat 32 (i 1).val
  let v221 : BitVec 32 := Scalar.addi arg1 c1_i32_138
  let c2_i32_139 : BitVec 32 := 2#32
  let c0_i32_100 : BitVec 32 := 0#32
  let c7_i32 : BitVec 32 := 7#32
  let v145 : BitVec 32 := Scalar.subi c7_i32 arg1
  let c0_i32_94 : BitVec 32 := 0#32
  let v147 : BitVec 1 := Scalar.cmpi .sgt v145 c0_i32_94
  let v148 : BitVec 32 := Scalar.extui v147
  let c0_i32_95 : BitVec 32 := 0#32
  let v149 : BitVec 1 := Scalar.cmpi .slt v145 c0_i32_95
  let v150 : BitVec 32 := Scalar.extui v149
  let v151 : BitVec 32 := Scalar.subi v148 v150
  let c2_i32 : BitVec 32 := 2#32
  let c0_i32_96 : BitVec 32 := 0#32
  let v152 : BitVec 1 := Scalar.cmpi .sgt c2_i32 c0_i32_96
  let v153 : BitVec 32 := Scalar.extui v152
  let c0_i32_97 : BitVec 32 := 0#32
  let v154 : BitVec 1 := Scalar.cmpi .slt c2_i32 c0_i32_97
  let v155 : BitVec 32 := Scalar.extui v154
  let v156 : BitVec 32 := Scalar.subi v153 v155
  let v157 : BitVec 1 := Scalar.cmpi .ne v151 v156
  let v158 : BitVec 32 := Scalar.remsi v145 c2_i32
  let c0_i32_98 : BitVec 32 := 0#32
  let v159 : BitVec 1 := Scalar.cmpi .ne v158 c0_i32_98
  let v160 : BitVec 1 := Scalar.andi v157 v159
  let v146 : BitVec 32 := Scalar.divsi v145 c2_i32
  let c1_i32 : BitVec 32 := 1#32
  let v161 : BitVec 32 := Scalar.subi v146 c1_i32
  let v162 : BitVec 32 := Scalar.select v160 v161 v146
  let v163 : BitVec 32 := Scalar.subi v162 c0_i32_100
  let c1_i32_101 : BitVec 32 := 1#32
  let v165 : BitVec 32 := Scalar.divsi v163 c1_i32_101
  let v166 : BitVec 32 := Scalar.muli v165 c1_i32_101
  let v167 : BitVec 32 := Scalar.addi c0_i32_100 v166
  let c1_i32_103 : BitVec 32 := 1#32
  let arg19 : BitVec 32 := Scf.iv v167 c1_i32_103 k0_t2
  let v222 : BitVec 32 := Scalar.muli c2_i32_139 arg19
  let v223 : BitVec 32 := Scalar.addi v221 v222
  let c512_i32_140 : BitVec 32 := 512#32
  let v224 : BitVec 32 := Scalar.muli v223 c512_i32_140
  let v225 : BitVec 32 := v224
  let v268 : Index := Scalar.indexCast v225
  let c0_172 : Index := 0#32
  ![0, v268.toNat, 0]
def k0_off9 (i : grid0.Coords) (k0_t2 : Fin (k0_t2_loop i).trips) (c1_i32_138 : BitVec 32) : Fin 3 → Nat :=
  let c1_188 : Index := 1#32
  let arg1 : BitVec 32 := BitVec.ofNat 32 (i 1).val
  let v221 : BitVec 32 := Scalar.addi arg1 c1_i32_138
  let c2_i32_139 : BitVec 32 := 2#32
  let c0_i32_100 : BitVec 32 := 0#32
  let c7_i32 : BitVec 32 := 7#32
  let v145 : BitVec 32 := Scalar.subi c7_i32 arg1
  let c0_i32_94 : BitVec 32 := 0#32
  let v147 : BitVec 1 := Scalar.cmpi .sgt v145 c0_i32_94
  let v148 : BitVec 32 := Scalar.extui v147
  let c0_i32_95 : BitVec 32 := 0#32
  let v149 : BitVec 1 := Scalar.cmpi .slt v145 c0_i32_95
  let v150 : BitVec 32 := Scalar.extui v149
  let v151 : BitVec 32 := Scalar.subi v148 v150
  let c2_i32 : BitVec 32 := 2#32
  let c0_i32_96 : BitVec 32 := 0#32
  let v152 : BitVec 1 := Scalar.cmpi .sgt c2_i32 c0_i32_96
  let v153 : BitVec 32 := Scalar.extui v152
  let c0_i32_97 : BitVec 32 := 0#32
  let v154 : BitVec 1 := Scalar.cmpi .slt c2_i32 c0_i32_97
  let v155 : BitVec 32 := Scalar.extui v154
  let v156 : BitVec 32 := Scalar.subi v153 v155
  let v157 : BitVec 1 := Scalar.cmpi .ne v151 v156
  let v158 : BitVec 32 := Scalar.remsi v145 c2_i32
  let c0_i32_98 : BitVec 32 := 0#32
  let v159 : BitVec 1 := Scalar.cmpi .ne v158 c0_i32_98
  let v160 : BitVec 1 := Scalar.andi v157 v159
  let v146 : BitVec 32 := Scalar.divsi v145 c2_i32
  let c1_i32 : BitVec 32 := 1#32
  let v161 : BitVec 32 := Scalar.subi v146 c1_i32
  let v162 : BitVec 32 := Scalar.select v160 v161 v146
  let v163 : BitVec 32 := Scalar.subi v162 c0_i32_100
  let c1_i32_101 : BitVec 32 := 1#32
  let v165 : BitVec 32 := Scalar.divsi v163 c1_i32_101
  let v166 : BitVec 32 := Scalar.muli v165 c1_i32_101
  let v167 : BitVec 32 := Scalar.addi c0_i32_100 v166
  let c1_i32_103 : BitVec 32 := 1#32
  let arg19 : BitVec 32 := Scf.iv v167 c1_i32_103 k0_t2
  let v222 : BitVec 32 := Scalar.muli c2_i32_139 arg19
  let v223 : BitVec 32 := Scalar.addi v221 v222
  let c512_i32_140 : BitVec 32 := 512#32
  let v224 : BitVec 32 := Scalar.muli v223 c512_i32_140
  let v225 : BitVec 32 := v224
  let v294 : Index := Scalar.indexCast v225
  let c0_189 : Index := 0#32
  ![1, v294.toNat, 0]
def k0_mult5 (i : grid0.Coords) (k0_t2 : Fin (k0_t2_loop i).trips) : BitVec 32 :=
  let arg1 : BitVec 32 := BitVec.ofNat 32 (i 1).val
  let c2_i32_200 : BitVec 32 := 2#32
  let v310 : BitVec 32 := Scalar.addi arg1 c2_i32_200
  let c2_i32_201 : BitVec 32 := 2#32
  let c0_i32_100 : BitVec 32 := 0#32
  let c7_i32 : BitVec 32 := 7#32
  let v145 : BitVec 32 := Scalar.subi c7_i32 arg1
  let c0_i32_94 : BitVec 32 := 0#32
  let v147 : BitVec 1 := Scalar.cmpi .sgt v145 c0_i32_94
  let v148 : BitVec 32 := Scalar.extui v147
  let c0_i32_95 : BitVec 32 := 0#32
  let v149 : BitVec 1 := Scalar.cmpi .slt v145 c0_i32_95
  let v150 : BitVec 32 := Scalar.extui v149
  let v151 : BitVec 32 := Scalar.subi v148 v150
  let c2_i32 : BitVec 32 := 2#32
  let c0_i32_96 : BitVec 32 := 0#32
  let v152 : BitVec 1 := Scalar.cmpi .sgt c2_i32 c0_i32_96
  let v153 : BitVec 32 := Scalar.extui v152
  let c0_i32_97 : BitVec 32 := 0#32
  let v154 : BitVec 1 := Scalar.cmpi .slt c2_i32 c0_i32_97
  let v155 : BitVec 32 := Scalar.extui v154
  let v156 : BitVec 32 := Scalar.subi v153 v155
  let v157 : BitVec 1 := Scalar.cmpi .ne v151 v156
  let v158 : BitVec 32 := Scalar.remsi v145 c2_i32
  let c0_i32_98 : BitVec 32 := 0#32
  let v159 : BitVec 1 := Scalar.cmpi .ne v158 c0_i32_98
  let v160 : BitVec 1 := Scalar.andi v157 v159
  let v146 : BitVec 32 := Scalar.divsi v145 c2_i32
  let c1_i32 : BitVec 32 := 1#32
  let v161 : BitVec 32 := Scalar.subi v146 c1_i32
  let v162 : BitVec 32 := Scalar.select v160 v161 v146
  let v163 : BitVec 32 := Scalar.subi v162 c0_i32_100
  let c1_i32_101 : BitVec 32 := 1#32
  let v165 : BitVec 32 := Scalar.divsi v163 c1_i32_101
  let v166 : BitVec 32 := Scalar.muli v165 c1_i32_101
  let v167 : BitVec 32 := Scalar.addi c0_i32_100 v166
  let c1_i32_103 : BitVec 32 := 1#32
  let arg19 : BitVec 32 := Scf.iv v167 c1_i32_103 k0_t2
  let v311 : BitVec 32 := Scalar.muli c2_i32_201 arg19
  let v312 : BitVec 32 := Scalar.addi v310 v311
  let c512_i32_202 : BitVec 32 := 512#32
  let v313 : BitVec 32 := Scalar.muli v312 c512_i32_202
  v313
def k0_cond3 (i : grid0.Coords) : BitVec 1 :=
  let c7_i32 : BitVec 32 := 7#32
  let arg1 : BitVec 32 := BitVec.ofNat 32 (i 1).val
  let v145 : BitVec 32 := Scalar.subi c7_i32 arg1
  let c2_i32_104 : BitVec 32 := 2#32
  let c0_i32_105 : BitVec 32 := 0#32
  let v168 : BitVec 1 := Scalar.cmpi .eq c2_i32_104 c0_i32_105
  let c1_i32_106 : BitVec 32 := 1#32
  let v169 : BitVec 32 := Scalar.select v168 c1_i32_106 c2_i32_104
  let v170 : BitVec 32 := Scalar.remsi v145 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c1_i32_110 : BitVec 32 := 1#32
  let v178 : BitVec 1 := Scalar.cmpi .eq v177 c1_i32_110
  let v179 : BitVec 32 := Scalar.extui v178
  let c0_i32_111 : BitVec 32 := 0#32
  let v180 : BitVec 1 := Scalar.cmpi .ne v179 c0_i32_111
  v180

def k0_mult6 : BitVec 32 :=
  let c3584_i32 : BitVec 32 := 3584#32
  c3584_i32
def k0_mult7 (i : grid0.Coords) : BitVec 32 :=
  let arg1 : BitVec 32 := BitVec.ofNat 32 (i 1).val
  let c512_i32_124 : BitVec 32 := 512#32
  let v191 : BitVec 32 := Scalar.muli arg1 c512_i32_124
  v191
def k0_cond4 (i : grid0.Coords) : BitVec 1 :=
  let arg1 : BitVec 32 := BitVec.ofNat 32 (i 1).val
  let c7_i32_136 : BitVec 32 := 7#32
  let v218 : BitVec 1 := Scalar.cmpi .eq arg1 c7_i32_136
  let v219 : BitVec 32 := Scalar.extui v218
  let c0_i32_137 : BitVec 32 := 0#32
  let v220 : BitVec 1 := Scalar.cmpi .ne v219 c0_i32_137
  v220

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S4096x1024 : Shape := ⟨2, ![4096, 1024]⟩
abbrev S4096x8 : Shape := ⟨2, ![4096, 8]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x64x4096 : Shape := ⟨3, ![8, 64, 4096]⟩
abbrev S8x4096x64 : Shape := ⟨3, ![8, 4096, 64]⟩
abbrev S4096x128 : Shape := ⟨2, ![4096, 128]⟩

abbrev nBuf : Space → Nat
  | .hbm => 135
  | .vmem => 0
  | .smem => 0
  | _ => 0

abbrev hbmTy0_0 (i : Nat) : BufTy := match i % 128 with
  | 0 => ⟨S4096x3072, .bf16⟩
  | 1 => ⟨S4096x1024, .bf16⟩
  | 2 => ⟨S4096x8, .f32⟩
  | 3 => ⟨S4096x3072, .f32⟩
  | 4 => ⟨S4096x1024, .f32⟩
  | 5 => ⟨S4096x512, .f32⟩
  | 6 => ⟨S4096x512, .f32⟩
  | 7 => ⟨S4096x512, .f32⟩
  | 8 => ⟨S4096x512, .f32⟩
  | 9 => ⟨S4096x8x64, .f32⟩
  | 10 => ⟨S4096x8x64, .f32⟩
  | 11 => ⟨S4096x8x64, .f32⟩
  | 12 => ⟨S8x4096x4096, .f32⟩
  | 13 => ⟨S_, .f32⟩
  | 14 => ⟨S8x4096x4096, .f32⟩
  | 15 => ⟨S8x4096x4096, .f32⟩
  | 16 => ⟨S8x4096, .f32⟩
  | 17 => ⟨S8x4096x1, .f32⟩
  | 18 => ⟨S8x4096, .f32⟩
  | 19 => ⟨S8x1x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S4096, .i32⟩
  | 25 => ⟨S4096x1, .i32⟩
  | 26 => ⟨S4096, .i32⟩
  | 27 => ⟨S1x4096, .i32⟩
  | 28 => ⟨S4096x4096, .i32⟩
  | 29 => ⟨S4096x4096, .i32⟩
  | 30 => ⟨S4096x4096, .i1⟩
  | 31 => ⟨S1x4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096x4096, .f32⟩
  | 39 => ⟨S_, .f32⟩
  | 40 => ⟨S8x4096, .f32⟩
  | 41 => ⟨S8x4096x1, .f32⟩
  | 42 => ⟨S8x4096x4096, .f32⟩
  | 43 => ⟨S8x4096x4096, .i1⟩
  | 44 => ⟨S8x4096x4096, .f32⟩
  | 45 => ⟨S_, .f32⟩
  | 46 => ⟨S8x4096, .f32⟩
  | 47 => ⟨S_, .f32⟩
  | 48 => ⟨S8x4096, .f32⟩
  | 49 => ⟨S8x4096, .f32⟩
  | 50 => ⟨S_, .f32⟩
  | 51 => ⟨S8x4096, .f32⟩
  | 52 => ⟨S8x4096, .i1⟩
  | 53 => ⟨S_, .f32⟩
  | 54 => ⟨S8x4096, .f32⟩
  | 55 => ⟨S8x4096, .i1⟩
  | 56 => ⟨S_, .f32⟩
  | 57 => ⟨S8x4096, .f32⟩
  | 58 => ⟨S_, .f32⟩
  | 59 => ⟨S8x4096, .f32⟩
  | 60 => ⟨S_, .f32⟩
  | 61 => ⟨S8x4096, .f32⟩
  | 62 => ⟨S8x4096, .f32⟩
  | 63 => ⟨S8x4096, .f32⟩
  | 64 => ⟨S8x4096x1, .f32⟩
  | 65 => ⟨S8x4096x4096, .f32⟩
  | 66 => ⟨S8x4096x4096, .f32⟩
  | 67 => ⟨S8x4096x4096, .f32⟩
  | 68 => ⟨S_, .f32⟩
  | 69 => ⟨S8x4096, .f32⟩
  | 70 => ⟨S8x4096x1, .f32⟩
  | 71 => ⟨S8x4096x4096, .f32⟩
  | 72 => ⟨S8x4096x4096, .f32⟩
  | 73 => ⟨S8x4096x1, .f32⟩
  | 74 => ⟨S_, .f32⟩
  | 75 => ⟨S8x4096x1, .f32⟩
  | 76 => ⟨S8x4096x1, .f32⟩
  | 77 => ⟨S8x64x4096, .f32⟩
  | 78 => ⟨S4096x8x64, .f32⟩
  | 79 => ⟨S4096x512, .f32⟩
  | 80 => ⟨S4096x8x64, .f32⟩
  | 81 => ⟨S8x64x4096, .f32⟩
  | 82 => ⟨S8x4096x4096, .f32⟩
  | 83 => ⟨S8x64x4096, .f32⟩
  | 84 => ⟨S4096x8x64, .f32⟩
  | 85 => ⟨S8x4096x4096, .f32⟩
  | 86 => ⟨S8x4096x4096, .f32⟩
  | 87 => ⟨S8x4096x4096, .f32⟩
  | 88 => ⟨S_, .f32⟩
  | 89 => ⟨S8x4096, .f32⟩
  | 90 => ⟨S8x4096x1, .f32⟩
  | 91 => ⟨S8x4096x1, .f32⟩
  | 92 => ⟨S8x4096x4096, .f32⟩
  | 93 => ⟨S8x4096x4096, .f32⟩
  | 94 => ⟨S_, .f32⟩
  | 95 => ⟨S8x4096, .f32⟩
  | 96 => ⟨S8x4096x4096, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .f32⟩
  | 102 => ⟨S_, .f32⟩
  | 103 => ⟨S8x4096, .f32⟩
  | 104 => ⟨S8x4096x1, .f32⟩
  | 105 => ⟨S8x4096x4096, .f32⟩
  | 106 => ⟨S_, .f32⟩
  | 107 => ⟨S8x4096, .f32⟩
  | 108 => ⟨S8x1x4096, .f32⟩
  | 109 => ⟨S_, .f32⟩
  | 110 => ⟨S8x4096, .f32⟩
  | 111 => ⟨S4096x8, .f32⟩
  | 112 => ⟨S_, .f32⟩
  | 113 => ⟨S8x4096, .f32⟩
  | 114 => ⟨S4096x8, .f32⟩
  | 115 => ⟨S_, .f32⟩
  | 116 => ⟨S8x4096x4096, .f32⟩
  | 117 => ⟨S8x4096x4096, .f32⟩
  | 118 => ⟨S8x4096x64, .f32⟩
  | 119 => ⟨S4096x8x64, .f32⟩
  | 120 => ⟨S8x4096x64, .f32⟩
  | 121 => ⟨S4096x8x64, .f32⟩
  | 122 => ⟨S4096x512, .f32⟩
  | 123 => ⟨S4096x512, .f32⟩
  | 124 => ⟨S4096x512, .f32⟩
  | 125 => ⟨S4096x512, .bf16⟩
  | 126 => ⟨S4096x512, .bf16⟩
  | 127 => ⟨S4096x512, .bf16⟩
  | _ => ⟨S4096x3072, .bf16⟩

abbrev hbmTy0_1 (i : Nat) : BufTy := match i % 128 with
  | 0 => ⟨S_, .i32⟩
  | 1 => ⟨S_, .f32⟩
  | 2 => ⟨S4096x128, .f32⟩
  | 3 => ⟨S4096x8, .f32⟩
  | 4 => ⟨S_, .i32⟩
  | 5 => ⟨S_, .f32⟩
  | 6 => ⟨S4096x128, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call1_cst : Ref sig .tc := ⟨.hbm, 99, rfl⟩
abbrev main_call1_v0 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c : Ref sig .tc := ⟨.hbm, 128, rfl⟩
abbrev main_call2_v0 : Ref sig .tc := ⟨.hbm, 129, rfl⟩
abbrev main_v99 : Ref sig .tc := ⟨.hbm, 130, rfl⟩
abbrev main_v100 : Ref sig .tc := ⟨.hbm, 131, rfl⟩
abbrev main_c_18 : Ref sig .tc := ⟨.hbm, 132, rfl⟩
abbrev main_call3_v0 : Ref sig .tc := ⟨.hbm, 133, rfl⟩
abbrev main_v101 : Ref sig .tc := ⟨.hbm, 134, rfl⟩

abbrev nD : Nat := 1
abbrev τ : Topo := Topo.v7x

variable {F : FTy → Type} [FloatOps F]
-- ==== Kernel2.lean ====
abbrev S4096x512 : Shape := ⟨2, ![4096, 512]⟩
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x128 : Shape := ⟨2, ![512, 128]⟩
abbrev S512x512 : Shape := ⟨2, ![512, 512]⟩
abbrev S512x1024 : Shape := ⟨2, ![512, 1024]⟩
abbrev S1024x3072 : Shape := ⟨2, ![1024, 3072]⟩
abbrev S1024x128 : Shape := ⟨2, ![1024, 128]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 30
  | .vmem => 28
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S1024x3200, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1024x3200, .f32⟩
  | .hbm, ⟨27, _⟩ => ⟨S1024x3200, .bf16⟩
  | .hbm, ⟨28, _⟩ => ⟨S4096x1024, .f32⟩
  | .hbm, ⟨29, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S1024x3072, .bf16⟩
  | .local _ .vmem, ⟨17, _⟩ => ⟨S1024x128, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S1024x3200, .f32⟩
  | .local _ .vmem, ⟨24, _⟩ => ⟨S1024x3200, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v48 : BitVec 1 := Scalar.cmpi .eq arg0 c7_i32
  let v49 : BitVec 32 := Scalar.extui v48
  let c0_i32_44 : BitVec 32 := 0#32
  let v50 : BitVec 1 := Scalar.cmpi .ne v49 c0_i32_44
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x3200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x3200 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S4096x512 : Shape := ⟨2, ![4096, 512]⟩
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S4096x3200 : Shape := ⟨2, ![4096, 3200]⟩
abbrev S_ : Shape := ⟨0, ![]⟩
abbrev S4096 : Shape := ⟨1, ![4096]⟩
abbrev S4096x1 : Shape := ⟨2, ![4096, 1]⟩
abbrev S3200x1024 : Shape := ⟨2, ![3200, 1024]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S1024x3200, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x512, .bf16⟩
  | .hbm, ⟨11, _⟩ => ⟨S4096x512, .bf16⟩
  | .hbm, ⟨12, _⟩ => ⟨S4096x3200, .bf16⟩
  | .hbm, ⟨13, _⟩ => ⟨S4096x3200, .f32⟩
  | .hbm, ⟨14, _⟩ => ⟨S1024x3200, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x3200, .f32⟩
  | .hbm, ⟨35, _⟩ => ⟨S3200x1024, .f32⟩
  | .hbm, ⟨36, _⟩ => ⟨S1024x3200, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x3200, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S4096x512 : Shape := ⟨2, ![4096, 512]⟩
abbrev S4096x3072 : Shape := ⟨2, ![4096, 3072]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x3072, .bf16⟩
  | .hbm, ⟨5, _⟩ => ⟨S1024x1024, .f32⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1024x1024, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v248 : BitVec 1 := Scalar.cmpi .eq arg0 c7_i32
  let v249 : BitVec 32 := Scalar.extui v248
  let c0_i32_98 : BitVec 32 := 0#32
  let v250 : BitVec 1 := Scalar.cmpi .ne v249 c0_i32_98
  v250

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4096x1024 : Shape := ⟨2, ![4096, 1024]⟩
abbrev S1024x1024 : Shape := ⟨2, ![1024, 1024]⟩
abbrev S4096x512 : Shape := ⟨2, ![4096, 512]⟩
abbrev S4096x3072 : Shape := ⟨2, ![4096, 3072]⟩
abbrev S_ : Shape := ⟨0, ![]⟩
abbrev S4096x4x2x64 : Shape := ⟨4, ![4096, 4, 2, 64]⟩
abbrev S4096x4x2 : Shape := ⟨3, ![4096, 4, 2]⟩
abbrev S4096x4x1 : Shape := ⟨3, ![4096, 4, 1]⟩
abbrev S4096x4 : Shape := ⟨2, ![4096, 4]⟩
abbrev S4096x4x2x1 : Shape := ⟨4, ![4096, 4, 2, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x3072, .bf16⟩
  | .hbm, ⟨5, _⟩ => ⟨S1024x1024, .f32⟩
  | .hbm, ⟨6, _⟩ => ⟨S4096x512, .f32⟩
  | .hbm, ⟨7, _⟩ => ⟨S4096x512, .f32⟩
  | .hbm, ⟨8, _⟩ => ⟨S4096x3072, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S1024x1024, .f32⟩
  | .hbm, ⟨43, _⟩ => ⟨S4096x1024, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x4x2x64, .f32⟩
  | .hbm, ⟨60, _⟩ => ⟨S_, .f32⟩
  | .hbm, ⟨61, _⟩ => ⟨S4096x4x2, .f32⟩
  | .hbm, ⟨62, _⟩ => ⟨S4096x4x1, .f32⟩
  | .hbm, ⟨63, _⟩ => ⟨S4096x4, .f32⟩
  | .hbm, ⟨64, _⟩ => ⟨S4096x4x1, .f32⟩
  | .hbm, ⟨65, _⟩ => ⟨S4096x4, .f32⟩
  | .hbm, ⟨66, _⟩ => ⟨S4096x4x1, .f32⟩
  | .hbm, ⟨67, _⟩ => ⟨S4096x4x1, .f32⟩
  | .hbm, ⟨68, _⟩ => ⟨S4096x4x2, .f32⟩
  | .hbm, ⟨69, _⟩ => ⟨S4096x4x2x1, .f32⟩
  | .hbm, ⟨70, _⟩ => ⟨S4096x4x2x1, .f32⟩
  | .hbm, ⟨71, _⟩ => ⟨S_, .i32⟩
  | .hbm, ⟨72, _⟩ => ⟨S_, .f32⟩
  | .hbm, ⟨73, _⟩ => ⟨S4096x4x2x64, .f32⟩
  | .hbm, ⟨74, _⟩ => ⟨S4096x512, .f32⟩
  | .hbm, ⟨75, _⟩ => ⟨S1024x1024, .bf16⟩
  | .hbm, ⟨76, _⟩ => ⟨S4096x1024, .f32⟩
  | .hbm, ⟨77, _⟩ => ⟨S4096x1024, .bf16⟩
  | .hbm, ⟨78, _⟩ => ⟨S4096x1024, .f32⟩
  | .hbm, ⟨79, _⟩ => ⟨S4096x1024, .bf16⟩
  | .hbm, ⟨80, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_v8_2 : Ref sig .tc := ⟨.hbm, 32, rfl⟩
abbrev main_call1_cst_1 : Ref sig .tc := ⟨.hbm, 33, rfl⟩
abbrev main_call1_v6 : Ref sig .tc := ⟨.hbm, 34, rfl⟩
abbrev main_call1_v7 : Ref sig .tc := ⟨.hbm, 35, rfl⟩
abbrev main_v8_1 : Ref sig .tc := ⟨.hbm, 36, rfl⟩
abbrev main_v8_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c : Ref sig .tc := ⟨.hbm, 71, rfl⟩
abbrev main_call4_v0 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩

abbrev nD : Nat := 1
abbrev τ : Topo := Topo.v7x

variable {F : FTy → Type} [FloatOps F]
-- ==== Kernel4.lean ====
abbrev S4096x512 : Shape := ⟨2, ![4096, 512]⟩
abbrev S4096x1024 : Shape := ⟨2, ![4096, 1024]⟩
abbrev S4096x128 : Shape := ⟨2, ![4096, 128]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x3200 : Shape := ⟨2, ![1024, 3200]⟩
abbrev S1024x128 : Shape := ⟨2, ![1024, 128]⟩
abbrev S1024x512 : Shape := ⟨2, ![1024, 512]⟩
abbrev S1024x1024 : Shape := ⟨2, ![1024, 1024]⟩

abbrev nBuf : Space → Nat
  | .hbm => 26
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x3200, .f32⟩
  | .hbm, ⟨25, _⟩ => ⟨S1024x3200, .bf16⟩
  | .local _ .vmem, ⟨0, _⟩ => ⟨S1024x128, .bf16⟩
  | .local _ .vmem, ⟨1, _⟩ => ⟨S1024x128, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S1024x1024, .bf16⟩
  | .local _ .vmem, ⟨16, _⟩ => ⟨S1024x3200, .f32⟩
  | .local _ .vmem, ⟨17, _⟩ => ⟨S1024x3200, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v48 : BitVec 1 := Scalar.cmpi .eq arg0 c3_i32
  let v49 : BitVec 32 := Scalar.extui v48
  let c0_i32_44 : BitVec 32 := 0#32
  let v50 : BitVec 1 := Scalar.cmpi .ne v49 c0_i32_44
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3200 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x512 : Shape := ⟨2, ![4096, 512]⟩
abbrev S4096x1024 : Shape := ⟨2, ![4096, 1024]⟩
abbrev S4096x128 : Shape := ⟨2, ![4096, 128]⟩
abbrev S1x1024 : Shape := ⟨2, ![1, 1024]⟩
abbrev S4096x3200 : Shape := ⟨2, ![4096, 3200]⟩
abbrev S_ : Shape := ⟨0, ![]⟩
abbrev S1024x3200 : Shape := ⟨2, ![1024, 3200]⟩
abbrev S4096 : Shape := ⟨1, ![4096]⟩
abbrev S4096x1 : Shape := ⟨2, ![4096, 1]⟩
abbrev S3200x1024 : Shape := ⟨2, ![3200, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S4096x1024, .f32⟩
  | .hbm, ⟨7, _⟩ => ⟨S1x1024, .f32⟩
  | .hbm, ⟨8, _⟩ => ⟨S4096x512, .bf16⟩
  | .hbm, ⟨9, _⟩ => ⟨S4096x512, .bf16⟩
  | .hbm, ⟨10, _⟩ => ⟨S4096x3200, .bf16⟩
  | .hbm, ⟨11, _⟩ => ⟨S4096x3200, .f32⟩
  | .hbm, ⟨12, _⟩ => ⟨S_, .f32⟩
  | .hbm, ⟨13, _⟩ => ⟨S1024x3200, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x3200, .f32⟩
  | .hbm, ⟨30, _⟩ => ⟨S3200x1024, .f32⟩
  | .hbm, ⟨31, _⟩ => ⟨S1024x3200, .f32⟩
  | .hbm, ⟨32, _⟩ => ⟨S1024x3200, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel5.lean ====
abbrev S4096x512 : Shape := ⟨2, ![4096, 512]⟩
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S512x128 : Shape := ⟨2, ![512, 128]⟩
abbrev S512x512 : Shape := ⟨2, ![512, 512]⟩
abbrev S1024x3072 : Shape := ⟨2, ![1024, 3072]⟩
abbrev S1024x128 : Shape := ⟨2, ![1024, 128]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 12
  | .vmem => 24
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S1024x3200, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x3072, .bf16⟩
  | .local _ .vmem, ⟨15, _⟩ => ⟨S1024x128, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S4096x512 : Shape := ⟨2, ![4096, 512]⟩
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S4096x3200 : Shape := ⟨2, ![4096, 3200]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S1024x3200, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x512, .bf16⟩
  | .hbm, ⟨11, _⟩ => ⟨S4096x512, .bf16⟩
  | .hbm, ⟨12, _⟩ => ⟨S4096x3200, .bf16⟩
  | .hbm, ⟨13, _⟩ => ⟨S4096x3200, .f32⟩
  | .hbm, ⟨14, _⟩ => ⟨S1024x3200, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x3200, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel6.lean ====
abbrev S4096x128 : Shape := ⟨2, ![4096, 128]⟩
abbrev S1x128 : Shape := ⟨2, ![1, 128]⟩
abbrev S256x256 : Shape := ⟨2, ![256, 256]⟩
abbrev S256x128 : Shape := ⟨2, ![256, 128]⟩
abbrev S128 : Shape := ⟨1, ![128]⟩

abbrev nBuf : Space → Nat
  | .hbm => 6
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S1x128, .f32⟩
  | .hbm, ⟨4, _⟩ => ⟨S4096x128, .bf16⟩
  | .hbm, ⟨5, _⟩ => ⟨S1x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S1x128, .f32⟩
  | .local _ .vmem, ⟨4, _⟩ => ⟨S4096x128, .bf16⟩
  | .local _ .vmem, ⟨5, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference6Ideal.lean ====
abbrev S4096x128 : Shape := ⟨2, ![4096, 128]⟩
abbrev S1x128 : Shape := ⟨2, ![1, 128]⟩
abbrev S_ : Shape := ⟨0, ![]⟩
abbrev S128 : Shape := ⟨1, ![128]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S1x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S_, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S_, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S4096x128, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_call1_call0_cst : Ref sig .tc := ⟨.hbm, 23, rfl⟩
abbrev main_call1_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel7.lean ====
abbrev S4x552x128 : Shape := ⟨3, ![4, 552, 128]⟩
abbrev S8x552x128 : Shape := ⟨3, ![8, 552, 128]⟩
abbrev S1x552x128 : Shape := ⟨3, ![1, 552, 128]⟩
abbrev S552x128 : Shape := ⟨2, ![552, 128]⟩

abbrev nBuf : Space → Nat
  | .hbm => 11
  | .vmem => 22
  | .smem => 0
  | _ => 0

abbrev bufTy : (tb : Table) → Fin (tcTables nBuf tb) → BufTy
  | .hbm, ⟨0, _⟩ => ⟨S4x552x128, .f32⟩
  | .hbm, ⟨1, _⟩ => ⟨S4x552x128, .f32⟩
  | .hbm, ⟨2, _⟩ => ⟨S4x552x128, .f32⟩
  | .hbm, ⟨3, _⟩ => ⟨S8x552x128, .f32⟩
  | .hbm, ⟨4, _⟩ => ⟨S8x552x128, .f32⟩
  | .hbm, ⟨5, _⟩ => ⟨S8x552x128, .f32⟩
  | .hbm, ⟨6, _⟩ => ⟨S8x552x128, .f32⟩
  | .hbm, ⟨7, _⟩ => ⟨S4x552x128, .f32⟩
  | .hbm, ⟨8, _⟩ => ⟨S4x552x128, .f32⟩
  | .hbm, ⟨9, _⟩ => ⟨S4x552x128, .f32⟩
  | .hbm, ⟨10, _⟩ => ⟨S4x552x128, .f32⟩
  | .local _ .vmem, ⟨0, _⟩ => ⟨S1x552x128, .f32⟩
  | .local _ .vmem, ⟨1, _⟩ => ⟨S1x552x128, .f32⟩
  | .local _ .vmem, ⟨2, _⟩ => ⟨S1x552x128, .f32⟩
  | .local _ .vmem, ⟨3, _⟩ => ⟨S1x552x128, .f32⟩
  | .local _ .vmem, ⟨4, _⟩ => ⟨S1x552x128, .f32⟩
  | .local _ .vmem, ⟨5, _⟩ => ⟨S1x552x128, .f32⟩
  | .local _ .vmem, ⟨6, _⟩ => ⟨S8x552x128, .f32⟩
  | .local _ .vmem, ⟨7, _⟩ => ⟨S8x552x128, .f32⟩
  | .local _ .vmem, ⟨8, _⟩ => ⟨S8x552x128, .f32⟩
  | .local _ .vmem, ⟨9, _⟩ => ⟨S8x552x128, .f32⟩
  | .local _ .vmem, ⟨10, _⟩ => ⟨S8x552x128, .f32⟩
  | .local _ .vmem, ⟨11, _⟩ => ⟨S8x552x128, .f32⟩
  | .local _ .vmem, ⟨12, _⟩ => ⟨S8x552x128, .f32⟩
  | .local _ .vmem, ⟨13, _⟩ => ⟨S8x552x128, .f32⟩
  | .local _ .vmem, ⟨14, _⟩ => ⟨S1x552x128, .f32⟩
  | .local _ .vmem, ⟨15, _⟩ => ⟨S1x552x128, .f32⟩
  | .local _ .vmem, ⟨16, _⟩ => ⟨S1x552x128, .f32⟩
  | .local _ .vmem, ⟨17, _⟩ => ⟨S1x552x128, .f32⟩
  | .local _ .vmem, ⟨18, _⟩ => ⟨S1x552x128, .f32⟩
  | .local _ .vmem, ⟨19, _⟩ => ⟨S1x552x128, .f32⟩
  | .local _ .vmem, ⟨20, _⟩ => ⟨S1x552x128, .f32⟩
  | .local _ .vmem, ⟨21, _⟩ => ⟨S1x552x128, .f32⟩
  | _, _ => ⟨S4x552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x552x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x552x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x552x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x552x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x552x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x552x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x552x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x552x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x552x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x552x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x552x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel7Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference7Ideal.lean ====
abbrev S4x552x128 : Shape := ⟨3, ![4, 552, 128]⟩
abbrev S8x552x128 : Shape := ⟨3, ![8, 552, 128]⟩
abbrev S_ : Shape := ⟨0, ![]⟩
abbrev S552x128 : Shape := ⟨2, ![552, 128]⟩
abbrev S1x552x128 : Shape := ⟨3, ![1, 552, 128]⟩

abbrev nBuf : Space → Nat
  | .hbm => 53
  | .vmem => 0
  | .smem => 0
  | _ => 0

abbrev bufTy : (tb : Table) → Fin (tcTables nBuf tb) → BufTy
  | .hbm, ⟨0, _⟩ => ⟨S4x552x128, .f32⟩
  | .hbm, ⟨1, _⟩ => ⟨S4x552x128, .f32⟩
  | .hbm, ⟨2, _⟩ => ⟨S4x552x128, .f32⟩
  | .hbm, ⟨3, _⟩ => ⟨S8x552x128, .f32⟩
  | .hbm, ⟨4, _⟩ => ⟨S8x552x128, .f32⟩
  | .hbm, ⟨5, _⟩ => ⟨S8x552x128, .f32⟩
  | .hbm, ⟨6, _⟩ => ⟨S8x552x128, .f32⟩
  | .hbm, ⟨7, _⟩ => ⟨S_, .f32⟩
  | .hbm, ⟨8, _⟩ => ⟨S552x128, .f32⟩
  | .hbm, ⟨9, _⟩ => ⟨S_, .f32⟩
  | .hbm, ⟨10, _⟩ => ⟨S552x128, .f32⟩
  | .hbm, ⟨11, _⟩ => ⟨S_, .f32⟩
  | .hbm, ⟨12, _⟩ => ⟨S552x128, .f32⟩
  | .hbm, ⟨13, _⟩ => ⟨S_, .f32⟩
  | .hbm, ⟨14, _⟩ => ⟨S552x128, .f32⟩
  | .hbm, ⟨15, _⟩ => ⟨S1x552x128, .f32⟩
  | .hbm, ⟨16, _⟩ => ⟨S1x552x128, .f32⟩
  | .hbm, ⟨17, _⟩ => ⟨S1x552x128, .f32⟩
  | .hbm, ⟨18, _⟩ => ⟨S1x552x128, .f32⟩
  | .hbm, ⟨19, _⟩ => ⟨S4x552x128, .f32⟩
  | .hbm, ⟨20, _⟩ => ⟨S_, .f32⟩
  | .hbm, ⟨21, _⟩ => ⟨S4x552x128, .f32⟩
  | .hbm, ⟨22, _⟩ => ⟨S4x552x128, .f32⟩
  | .hbm, ⟨23, _⟩ => ⟨S_, .f32⟩
  | .hbm, ⟨24, _⟩ => ⟨S4x552x128, .f32⟩
  | .hbm, ⟨25, _⟩ => ⟨S4x552x128, .f32⟩
  | .hbm, ⟨26, _⟩ => ⟨S4x552x128, .f32⟩
  | .hbm, ⟨27, _⟩ => ⟨S_, .f32⟩
  | .hbm, ⟨28, _⟩ => ⟨S4x552x128, .f32⟩
  | .hbm, ⟨29, _⟩ => ⟨S4x552x128, .f32⟩
  | .hbm, ⟨30, _⟩ => ⟨S4x552x128, .f32⟩
  | .hbm, ⟨31, _⟩ => ⟨S_, .f32⟩
  | .hbm, ⟨32, _⟩ => ⟨S4x552x128, .f32⟩
  | .hbm, ⟨33, _⟩ => ⟨S4x552x128, .f32⟩
  | .hbm, ⟨34, _⟩ => ⟨S4x552x128, .f32⟩
  | .hbm, ⟨35, _⟩ => ⟨S_, .f32⟩
  | .hbm, ⟨36, _⟩ => ⟨S4x552x128, .f32⟩
  | .hbm, ⟨37, _⟩ => ⟨S4x552x128, .f32⟩
  | .hbm, ⟨38, _⟩ => ⟨S_, .f32⟩
  | .hbm, ⟨39, _⟩ => ⟨S4x552x128, .f32⟩
  | .hbm, ⟨40, _⟩ => ⟨S4x552x128, .f32⟩
  | .hbm, ⟨41, _⟩ => ⟨S4x552x128, .f32⟩
  | .hbm, ⟨42, _⟩ => ⟨S_, .f32⟩
  | .hbm, ⟨43, _⟩ => ⟨S4x552x128, .f32⟩
  | .hbm, ⟨44, _⟩ => ⟨S4x552x128, .f32⟩
  | .hbm, ⟨45, _⟩ => ⟨S4x552x128, .f32⟩
  | .hbm, ⟨46, _⟩ => ⟨S_, .f32⟩
  | .hbm, ⟨47, _⟩ => ⟨S4x552x128, .f32⟩
  | .hbm, ⟨48, _⟩ => ⟨S4x552x128, .f32⟩
  | .hbm, ⟨49, _⟩ => ⟨S4x552x128, .f32⟩
  | .hbm, ⟨50, _⟩ => ⟨S_, .f32⟩
  | .hbm, ⟨51, _⟩ => ⟨S4x552x128, .f32⟩
  | .hbm, ⟨52, _⟩ => ⟨S4x552x128, .f32⟩
  | _, _ => ⟨S4x552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Proof.PI.State.lean ====
/-
  The body's memory as pure data: the contents of the seven input blocks and of the ten buffers the body writes
  (`Ins`, `St`), what the core owns at such contents (`Own`), and one rule per memory operation, each taking the
  contents to the contents after it.
-/
module

public import proofs.«01_k».proof.Proof.Gen.KernelIdeal.Frame
public import proofs.«01_k».proof.Proof.Gen.KernelIdeal.Skeleton

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's memrefs, and contents for them -/

/-- The body's seventeen memrefs. -/
structure Args where
  a2 : Memref sig .tc .vmem S4096x128 .bf16
  h2 : a2.IsWhole
  a3 : Memref sig .tc .vmem S512x128 .bf16
  h3 : a3.IsWhole
  a4 : Memref sig .tc .vmem S512x128 .bf16
  h4 : a4.IsWhole
  a5 : Memref sig .tc .vmem S4096x128 .bf16
  h5 : a5.IsWhole
  a6 : Memref sig .tc .vmem S4096x128 .bf16
  h6 : a6.IsWhole
  a7 : Memref sig .tc .vmem S512x128 .bf16
  h7 : a7.IsWhole
  a8 : Memref sig .tc .vmem S4096x128 .bf16
  h8 : a8.IsWhole
  a9 : Memref sig .tc .vmem S4096x128 .bf16
  h9 : a9.IsWhole
  a10 : Memref sig .tc .vmem S512x128 .bf16
  h10 : a10.IsWhole
  a11 : Memref sig .tc .vmem S512x128 .bf16
  h11 : a11.IsWhole
  a12 : Memref sig .tc .vmem S4096x128 .f32
  h12 : a12.IsWhole
  a13 : Memref sig .tc .vmem S4096x128 .f32
  h13 : a13.IsWhole
  a14 : Memref sig .tc .vmem S2x512x128 .bf16
  h14 : a14.IsWhole
  a15 : Memref sig .tc .vmem S2x512x128 .bf16
  h15 : a15.IsWhole
  a16 : Memref sig .tc .vmem S2x512x128 .f32
  h16 : a16.IsWhole
  a17 : Memref sig .tc .vmem S512x128 .f32
  h17 : a17.IsWhole
  a18 : Memref sig .tc .vmem S2x4096x128 .f32
  h18 : a18.IsWhole

/-- Contents of the seven input blocks: q, a key tile, a value tile, do, the lanes beside q, beside k, beside do. -/
structure Ins (F : FTy → Type) where
  x2 : S4096x128.Idx → Elt F .bf16
  x3 : S512x128.Idx → Elt F .bf16
  x4 : S512x128.Idx → Elt F .bf16
  x5 : S4096x128.Idx → Elt F .bf16
  x6 : S4096x128.Idx → Elt F .bf16
  x7 : S512x128.Idx → Elt F .bf16
  x8 : S4096x128.Idx → Elt F .bf16

/-- Contents of the buffers the body writes: the five results' blocks, then the five scratch buffers. -/
@[ext] structure St (F : FTy → Type) where
  x9 : S4096x128.Idx → Elt F .bf16
  x10 : S512x128.Idx → Elt F .bf16
  x11 : S512x128.Idx → Elt F .bf16
  x12 : S4096x128.Idx → Elt F .f32
  x13 : S4096x128.Idx → Elt F .f32
  x14 : S2x512x128.Idx → Elt F .bf16
  x15 : S2x512x128.Idx → Elt F .bf16
  x16 : S2x512x128.Idx → Elt F .f32
  x17 : S512x128.Idx → Elt F .f32
  x18 : S2x4096x128.Idx → Elt F .f32

namespace St
/-- Buffer 9 overwritten on the rectangle `r`. -/
def put9 (s : St F) (r : Rect S4096x128) (w : r.shape.Idx → Elt F .bf16) : St F := { s with x9 := r.overlay s.x9 w }
/-- Buffer 10 overwritten on the rectangle `r`. -/
def put10 (s : St F) (r : Rect S512x128) (w : r.shape.Idx → Elt F .bf16) : St F := { s with x10 := r.overlay s.x10 w }
/-- Buffer 11 overwritten on the rectangle `r`. -/
def put11 (s : St F) (r : Rect S512x128) (w : r.shape.Idx → Elt F .bf16) : St F := { s with x11 := r.overlay s.x11 w }
/-- Buffer 12 overwritten on the rectangle `r`. -/
def put12 (s : St F) (r : Rect S4096x128) (w : r.shape.Idx → Elt F .f32) : St F := { s with x12 := r.overlay s.x12 w }
/-- Buffer 13 overwritten on the rectangle `r`. -/
def put13 (s : St F) (r : Rect S4096x128) (w : r.shape.Idx → Elt F .f32) : St F := { s with x13 := r.overlay s.x13 w }
/-- Buffer 14 overwritten on the rectangle `r`. -/
def put14 (s : St F) (r : Rect S2x512x128) (w : r.shape.Idx → Elt F .bf16) : St F := { s with x14 := r.overlay s.x14 w }
/-- Buffer 15 overwritten on the rectangle `r`. -/
def put15 (s : St F) (r : Rect S2x512x128) (w : r.shape.Idx → Elt F .bf16) : St F := { s with x15 := r.overlay s.x15 w }
/-- Buffer 16 overwritten on the rectangle `r`. -/
def put16 (s : St F) (r : Rect S2x512x128) (w : r.shape.Idx → Elt F .f32) : St F := { s with x16 := r.overlay s.x16 w }
/-- Buffer 17 overwritten on the rectangle `r`. -/
def put17 (s : St F) (r : Rect S512x128) (w : r.shape.Idx → Elt F .f32) : St F := { s with x17 := r.overlay s.x17 w }
/-- Buffer 18 overwritten on the rectangle `r`. -/
def put18 (s : St F) (r : Rect S2x4096x128) (w : r.shape.Idx → Elt F .f32) : St F := { s with x18 := r.overlay s.x18 w }
end St

/-- Shares of the seven input blocks. -/
structure Shares where
  q2 : PosShare TreeShare
  q3 : PosShare TreeShare
  q4 : PosShare TreeShare
  q5 : PosShare TreeShare
  q6 : PosShare TreeShare
  q7 : PosShare TreeShare
  q8 : PosShare TreeShare

/-- The core owns every memref of the body: the inputs at their shares and contents `X`, the others whole at `s`. -/
def Own (c : Dev nD) (A : Args) (q : Shares) (X : Ins F) (s : St F) : sProp 𝕄 :=
  iprop(owns (c : Thread nD τ) A.a2 q.q2 X.x2 ∗ owns (c : Thread nD τ) A.a3 q.q3 X.x3 ∗ owns (c : Thread nD τ) A.a4 q.q4 X.x4 ∗ owns (c : Thread nD τ) A.a5 q.q5 X.x5 ∗ owns (c : Thread nD τ) A.a6 q.q6 X.x6 ∗ owns (c : Thread nD τ) A.a7 q.q7 X.x7 ∗ owns (c : Thread nD τ) A.a8 q.q8 X.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13 ∗ owns (c : Thread nD τ) A.a14 fullShare s.x14 ∗ owns (c : Thread nD τ) A.a15 fullShare s.x15 ∗ owns (c : Thread nD τ) A.a16 fullShare s.x16 ∗ owns (c : Thread nD τ) A.a17 fullShare s.x17 ∗ owns (c : Thread nD τ) A.a18 fullShare s.x18)

variable (c : Dev nD) (A : Args) (q : Shares) (X : Ins F)

/-! ## One component at a time -/

theorem own2 (s : St F) : Own c A q X s ⊢ iprop(owns (c : Thread nD τ) A.a2 q.q2 X.x2 ∗ (owns (c : Thread nD τ) A.a2 q.q2 X.x2 -∗ Own c A q X s)) := by
  unfold Own; iintro ⟨H2, H3, H4, H5, H6, H7, H8, H9, H10, H11, H12, H13, H14, H15, H16, H17, H18⟩; isplitl [H2]; · iexact H2
  iintro H2
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own3 (s : St F) : Own c A q X s ⊢ iprop(owns (c : Thread nD τ) A.a3 q.q3 X.x3 ∗ (owns (c : Thread nD τ) A.a3 q.q3 X.x3 -∗ Own c A q X s)) := by
  unfold Own; iintro ⟨H2, H3, H4, H5, H6, H7, H8, H9, H10, H11, H12, H13, H14, H15, H16, H17, H18⟩; isplitl [H3]; · iexact H3
  iintro H3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own4 (s : St F) : Own c A q X s ⊢ iprop(owns (c : Thread nD τ) A.a4 q.q4 X.x4 ∗ (owns (c : Thread nD τ) A.a4 q.q4 X.x4 -∗ Own c A q X s)) := by
  unfold Own; iintro ⟨H2, H3, H4, H5, H6, H7, H8, H9, H10, H11, H12, H13, H14, H15, H16, H17, H18⟩; isplitl [H4]; · iexact H4
  iintro H4
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own5 (s : St F) : Own c A q X s ⊢ iprop(owns (c : Thread nD τ) A.a5 q.q5 X.x5 ∗ (owns (c : Thread nD τ) A.a5 q.q5 X.x5 -∗ Own c A q X s)) := by
  unfold Own; iintro ⟨H2, H3, H4, H5, H6, H7, H8, H9, H10, H11, H12, H13, H14, H15, H16, H17, H18⟩; isplitl [H5]; · iexact H5
  iintro H5
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own6 (s : St F) : Own c A q X s ⊢ iprop(owns (c : Thread nD τ) A.a6 q.q6 X.x6 ∗ (owns (c : Thread nD τ) A.a6 q.q6 X.x6 -∗ Own c A q X s)) := by
  unfold Own; iintro ⟨H2, H3, H4, H5, H6, H7, H8, H9, H10, H11, H12, H13, H14, H15, H16, H17, H18⟩; isplitl [H6]; · iexact H6
  iintro H6
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own7 (s : St F) : Own c A q X s ⊢ iprop(owns (c : Thread nD τ) A.a7 q.q7 X.x7 ∗ (owns (c : Thread nD τ) A.a7 q.q7 X.x7 -∗ Own c A q X s)) := by
  unfold Own; iintro ⟨H2, H3, H4, H5, H6, H7, H8, H9, H10, H11, H12, H13, H14, H15, H16, H17, H18⟩; isplitl [H7]; · iexact H7
  iintro H7
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own8 (s : St F) : Own c A q X s ⊢ iprop(owns (c : Thread nD τ) A.a8 q.q8 X.x8 ∗ (owns (c : Thread nD τ) A.a8 q.q8 X.x8 -∗ Own c A q X s)) := by
  unfold Own; iintro ⟨H2, H3, H4, H5, H6, H7, H8, H9, H10, H11, H12, H13, H14, H15, H16, H17, H18⟩; isplitl [H8]; · iexact H8
  iintro H8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own9 (s : St F) : Own c A q X s ⊢ iprop(owns (c : Thread nD τ) A.a9 fullShare s.x9 ∗ (∀ y, owns (c : Thread nD τ) A.a9 fullShare y -∗ Own c A q X { s with x9 := y })) := by
  unfold Own; iintro ⟨H2, H3, H4, H5, H6, H7, H8, H9, H10, H11, H12, H13, H14, H15, H16, H17, H18⟩; isplitl [H9]; · iexact H9
  iintro %y H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own10 (s : St F) : Own c A q X s ⊢ iprop(owns (c : Thread nD τ) A.a10 fullShare s.x10 ∗ (∀ y, owns (c : Thread nD τ) A.a10 fullShare y -∗ Own c A q X { s with x10 := y })) := by
  unfold Own; iintro ⟨H2, H3, H4, H5, H6, H7, H8, H9, H10, H11, H12, H13, H14, H15, H16, H17, H18⟩; isplitl [H10]; · iexact H10
  iintro %y H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own11 (s : St F) : Own c A q X s ⊢ iprop(owns (c : Thread nD τ) A.a11 fullShare s.x11 ∗ (∀ y, owns (c : Thread nD τ) A.a11 fullShare y -∗ Own c A q X { s with x11 := y })) := by
  unfold Own; iintro ⟨H2, H3, H4, H5, H6, H7, H8, H9, H10, H11, H12, H13, H14, H15, H16, H17, H18⟩; isplitl [H11]; · iexact H11
  iintro %y H11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own12 (s : St F) : Own c A q X s ⊢ iprop(owns (c : Thread nD τ) A.a12 fullShare s.x12 ∗ (∀ y, owns (c : Thread nD τ) A.a12 fullShare y -∗ Own c A q X { s with x12 := y })) := by
  unfold Own; iintro ⟨H2, H3, H4, H5, H6, H7, H8, H9, H10, H11, H12, H13, H14, H15, H16, H17, H18⟩; isplitl [H12]; · iexact H12
  iintro %y H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own13 (s : St F) : Own c A q X s ⊢ iprop(owns (c : Thread nD τ) A.a13 fullShare s.x13 ∗ (∀ y, owns (c : Thread nD τ) A.a13 fullShare y -∗ Own c A q X { s with x13 := y })) := by
  unfold Own; iintro ⟨H2, H3, H4, H5, H6, H7, H8, H9, H10, H11, H12, H13, H14, H15, H16, H17, H18⟩; isplitl [H13]; · iexact H13
  iintro %y H13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own14 (s : St F) : Own c A q X s ⊢ iprop(owns (c : Thread nD τ) A.a14 fullShare s.x14 ∗ (∀ y, owns (c : Thread nD τ) A.a14 fullShare y -∗ Own c A q X { s with x14 := y })) := by
  unfold Own; iintro ⟨H2, H3, H4, H5, H6, H7, H8, H9, H10, H11, H12, H13, H14, H15, H16, H17, H18⟩; isplitl [H14]; · iexact H14
  iintro %y H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own15 (s : St F) : Own c A q X s ⊢ iprop(owns (c : Thread nD τ) A.a15 fullShare s.x15 ∗ (∀ y, owns (c : Thread nD τ) A.a15 fullShare y -∗ Own c A q X { s with x15 := y })) := by
  unfold Own; iintro ⟨H2, H3, H4, H5, H6, H7, H8, H9, H10, H11, H12, H13, H14, H15, H16, H17, H18⟩; isplitl [H15]; · iexact H15
  iintro %y H15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own16 (s : St F) : Own c A q X s ⊢ iprop(owns (c : Thread nD τ) A.a16 fullShare s.x16 ∗ (∀ y, owns (c : Thread nD τ) A.a16 fullShare y -∗ Own c A q X { s with x16 := y })) := by
  unfold Own; iintro ⟨H2, H3, H4, H5, H6, H7, H8, H9, H10, H11, H12, H13, H14, H15, H16, H17, H18⟩; isplitl [H16]; · iexact H16
  iintro %y H16
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own17 (s : St F) : Own c A q X s ⊢ iprop(owns (c : Thread nD τ) A.a17 fullShare s.x17 ∗ (∀ y, owns (c : Thread nD τ) A.a17 fullShare y -∗ Own c A q X { s with x17 := y })) := by
  unfold Own; iintro ⟨H2, H3, H4, H5, H6, H7, H8, H9, H10, H11, H12, H13, H14, H15, H16, H17, H18⟩; isplitl [H17]; · iexact H17
  iintro %y H17
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem own18 (s : St F) : Own c A q X s ⊢ iprop(owns (c : Thread nD τ) A.a18 fullShare s.x18 ∗ (∀ y, owns (c : Thread nD τ) A.a18 fullShare y -∗ Own c A q X { s with x18 := y })) := by
  unfold Own; iintro ⟨H2, H3, H4, H5, H6, H7, H8, H9, H10, H11, H12, H13, H14, H15, H16, H17, H18⟩; isplitl [H18]; · iexact H18
  iintro %y H18
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-! ## The memory operations -/

variable {α : Type}

/-- The weakest precondition of a body's program on core `c`. -/
abbrev WP (c : Dev nD) (p : Prog (TpuEff nD τ sig (Elt F) Λ₀ .tc) α) (Q : α → sProp 𝕄) : sProp 𝕄 :=
  wp frame (wpE (defs₀ (F := F)) Variants.none (c : Thread nD τ) none) Set.univ p Q

/-- A load through a memref owned within `P` reads its contents there. -/
theorem load_of {Q : α → sProp 𝕄} {P : sProp 𝕄} {s : Shape} {e : EltTy} {M : Memref sig .tc .vmem s e} {q : PosShare TreeShare} {d : s.Idx → Elt F e}
    (hP : P ⊢ iprop(owns (c : Thread nD τ) M q d ∗ (owns (c : Thread nD τ) M q d -∗ P)))
    {r : Rect s} {hl} {k : (r.shape.Idx → Elt F e) → Prog (TpuEff nD τ sig (Elt F) Λ₀ .tc) α} (h : P ⊢ WP c (k (View.ld d r)) Q) :
    P ⊢ WP c (.op (.load M r.toLoadRect hl) k) Q := by
  refine hP.trans ?_
  iintro ⟨H, HP⟩
  ihave H' := (show owns (c : Thread nD τ) M q d ⊢ iprop(∃ g, ⌜M.view.read (Elt F) g = d⌝ ∗ M.view.loc (c : Thread nD τ) ↦[M.view.set]{q} g) from .rfl) $$ H
  icases H' with ⟨%g, %hg, H⟩
  iapply (wp_load Variants.none (c : Thread nD τ) none Set.univ (m := M) (View.setOn_subset_set _ _)) $$ H
  iintro H
  rw [View.readAt_eq_ld, hg]
  iapply h
  iapply HP
  rw [← hg]
  iapply (owns_intro (c : Thread nD τ) M q g)
  iexact H

/-- What a view reads after a store through one of its rectangles. -/
theorem read_store {κ : Kind} {sp : Space} {s : Shape} {e : EltTy} (v : View sig κ sp s e) (r : Rect s) (g : v.ty.Contents (Elt F))
    (w : r.shape.Idx → Elt F e) : v.read (Elt F) ((v.slice r).write (Elt F) g w Finset.univ) = r.overlay (v.read (Elt F) g) w := by
  funext j
  by_cases hj : j ∈ r.set
  · obtain ⟨i, rfl⟩ := r.exists_idx_of_mem hj
    refine Eq.trans ?_ (r.overlay_emb _ _ i).symm
    exact congrFun (View.read_write_univ (v := v.slice r) (Val := Elt F) g w) i
  · rw [Rect.overlay_of_not_mem _ _ _ hj]
    exact View.read_slice_write_of_not_mem r _ _ _ (by rwa [Rect.map_emb_univ])

/-- A store through a memref owned whole within `P`. -/
theorem store_of {Q : α → sProp 𝕄} {P P' : sProp 𝕄} {s : Shape} {e : EltTy} {M : Memref sig .tc .vmem s e} {d : s.Idx → Elt F e}
    {r : Rect s} {w : r.shape.Idx → Elt F e}
    (hP : P ⊢ iprop(owns (c : Thread nD τ) M fullShare d ∗ (owns (c : Thread nD τ) M fullShare (r.overlay d w) -∗ P')))
    {hx hm} {k : PUnit → Prog (TpuEff nD τ sig (Elt F) Λ₀ .tc) α} (h : P' ⊢ WP c (k ⟨⟩) Q) :
    P ⊢ WP c (.op (.store M r w Finset.univ hx hm) k) Q := by
  refine hP.trans ?_
  iintro ⟨H, HP⟩
  ihave H' := (show owns (c : Thread nD τ) M fullShare d ⊢ iprop(∃ g, ⌜M.view.read (Elt F) g = d⌝ ∗ M.view.loc (c : Thread nD τ) ↦[M.view.set]{fullShare} g) from .rfl) $$ H
  icases H' with ⟨%g, %hg, H⟩
  iapply (wp_store Variants.none (c : Thread nD τ) none Set.univ (m := M) (r := r) (by
    rw [View.setOn_univ]; exact M.view.set_slice_subset r)) $$ H
  iintro H
  iapply h
  iapply HP
  rw [← hg, ← read_store]
  iapply (owns_intro (c : Thread nD τ) M fullShare _)
  iexact H

theorem ld2 {Q : α → sProp 𝕄} {s : St F} {r : Rect S4096x128} {hl} {k : (r.shape.Idx → Elt F .bf16) → Prog (TpuEff nD τ sig (Elt F) Λ₀ .tc) α}
    (h : Own c A q X s ⊢ WP c (k (View.ld X.x2 r)) Q) : Own c A q X s ⊢ WP c (.op (.load A.a2 r.toLoadRect hl) k) Q :=
  load_of c (own2 c A q X s) h
theorem ld3 {Q : α → sProp 𝕄} {s : St F} {r : Rect S512x128} {hl} {k : (r.shape.Idx → Elt F .bf16) → Prog (TpuEff nD τ sig (Elt F) Λ₀ .tc) α}
    (h : Own c A q X s ⊢ WP c (k (View.ld X.x3 r)) Q) : Own c A q X s ⊢ WP c (.op (.load A.a3 r.toLoadRect hl) k) Q :=
  load_of c (own3 c A q X s) h
theorem ld4 {Q : α → sProp 𝕄} {s : St F} {r : Rect S512x128} {hl} {k : (r.shape.Idx → Elt F .bf16) → Prog (TpuEff nD τ sig (Elt F) Λ₀ .tc) α}
    (h : Own c A q X s ⊢ WP c (k (View.ld X.x4 r)) Q) : Own c A q X s ⊢ WP c (.op (.load A.a4 r.toLoadRect hl) k) Q :=
  load_of c (own4 c A q X s) h
theorem ld5 {Q : α → sProp 𝕄} {s : St F} {r : Rect S4096x128} {hl} {k : (r.shape.Idx → Elt F .bf16) → Prog (TpuEff nD τ sig (Elt F) Λ₀ .tc) α}
    (h : Own c A q X s ⊢ WP c (k (View.ld X.x5 r)) Q) : Own c A q X s ⊢ WP c (.op (.load A.a5 r.toLoadRect hl) k) Q :=
  load_of c (own5 c A q X s) h
theorem ld6 {Q : α → sProp 𝕄} {s : St F} {r : Rect S4096x128} {hl} {k : (r.shape.Idx → Elt F .bf16) → Prog (TpuEff nD τ sig (Elt F) Λ₀ .tc) α}
    (h : Own c A q X s ⊢ WP c (k (View.ld X.x6 r)) Q) : Own c A q X s ⊢ WP c (.op (.load A.a6 r.toLoadRect hl) k) Q :=
  load_of c (own6 c A q X s) h
theorem ld7 {Q : α → sProp 𝕄} {s : St F} {r : Rect S512x128} {hl} {k : (r.shape.Idx → Elt F .bf16) → Prog (TpuEff nD τ sig (Elt F) Λ₀ .tc) α}
    (h : Own c A q X s ⊢ WP c (k (View.ld X.x7 r)) Q) : Own c A q X s ⊢ WP c (.op (.load A.a7 r.toLoadRect hl) k) Q :=
  load_of c (own7 c A q X s) h
theorem ld8 {Q : α → sProp 𝕄} {s : St F} {r : Rect S4096x128} {hl} {k : (r.shape.Idx → Elt F .bf16) → Prog (TpuEff nD τ sig (Elt F) Λ₀ .tc) α}
    (h : Own c A q X s ⊢ WP c (k (View.ld X.x8 r)) Q) : Own c A q X s ⊢ WP c (.op (.load A.a8 r.toLoadRect hl) k) Q :=
  load_of c (own8 c A q X s) h
theorem ld9 {Q : α → sProp 𝕄} {s : St F} {r : Rect S4096x128} {hl} {k : (r.shape.Idx → Elt F .bf16) → Prog (TpuEff nD τ sig (Elt F) Λ₀ .tc) α}
    (h : Own c A q X s ⊢ WP c (k (View.ld s.x9 r)) Q) : Own c A q X s ⊢ WP c (.op (.load A.a9 r.toLoadRect hl) k) Q :=
  load_of c ((own9 c A q X s).trans (sep_mono_right (forall_elim _))) h
theorem st9 {Q : α → sProp 𝕄} {s : St F} {r : Rect S4096x128} {w : r.shape.Idx → Elt F .bf16} {hx hm} {k : PUnit → Prog (TpuEff nD τ sig (Elt F) Λ₀ .tc) α}
    (h : Own c A q X (s.put9 r w) ⊢ WP c (k ⟨⟩) Q) : Own c A q X s ⊢ WP c (.op (.store A.a9 r w Finset.univ hx hm) k) Q :=
  store_of c ((own9 c A q X s).trans (sep_mono_right (forall_elim _))) h
theorem ld10 {Q : α → sProp 𝕄} {s : St F} {r : Rect S512x128} {hl} {k : (r.shape.Idx → Elt F .bf16) → Prog (TpuEff nD τ sig (Elt F) Λ₀ .tc) α}
    (h : Own c A q X s ⊢ WP c (k (View.ld s.x10 r)) Q) : Own c A q X s ⊢ WP c (.op (.load A.a10 r.toLoadRect hl) k) Q :=
  load_of c ((own10 c A q X s).trans (sep_mono_right (forall_elim _))) h
theorem st10 {Q : α → sProp 𝕄} {s : St F} {r : Rect S512x128} {w : r.shape.Idx → Elt F .bf16} {hx hm} {k : PUnit → Prog (TpuEff nD τ sig (Elt F) Λ₀ .tc) α}
    (h : Own c A q X (s.put10 r w) ⊢ WP c (k ⟨⟩) Q) : Own c A q X s ⊢ WP c (.op (.store A.a10 r w Finset.univ hx hm) k) Q :=
  store_of c ((own10 c A q X s).trans (sep_mono_right (forall_elim _))) h
theorem ld11 {Q : α → sProp 𝕄} {s : St F} {r : Rect S512x128} {hl} {k : (r.shape.Idx → Elt F .bf16) → Prog (TpuEff nD τ sig (Elt F) Λ₀ .tc) α}
    (h : Own c A q X s ⊢ WP c (k (View.ld s.x11 r)) Q) : Own c A q X s ⊢ WP c (.op (.load A.a11 r.toLoadRect hl) k) Q :=
  load_of c ((own11 c A q X s).trans (sep_mono_right (forall_elim _))) h
theorem st11 {Q : α → sProp 𝕄} {s : St F} {r : Rect S512x128} {w : r.shape.Idx → Elt F .bf16} {hx hm} {k : PUnit → Prog (TpuEff nD τ sig (Elt F) Λ₀ .tc) α}
    (h : Own c A q X (s.put11 r w) ⊢ WP c (k ⟨⟩) Q) : Own c A q X s ⊢ WP c (.op (.store A.a11 r w Finset.univ hx hm) k) Q :=
  store_of c ((own11 c A q X s).trans (sep_mono_right (forall_elim _))) h
theorem ld12 {Q : α → sProp 𝕄} {s : St F} {r : Rect S4096x128} {hl} {k : (r.shape.Idx → Elt F .f32) → Prog (TpuEff nD τ sig (Elt F) Λ₀ .tc) α}
    (h : Own c A q X s ⊢ WP c (k (View.ld s.x12 r)) Q) : Own c A q X s ⊢ WP c (.op (.load A.a12 r.toLoadRect hl) k) Q :=
  load_of c ((own12 c A q X s).trans (sep_mono_right (forall_elim _))) h
theorem st12 {Q : α → sProp 𝕄} {s : St F} {r : Rect S4096x128} {w : r.shape.Idx → Elt F .f32} {hx hm} {k : PUnit → Prog (TpuEff nD τ sig (Elt F) Λ₀ .tc) α}
    (h : Own c A q X (s.put12 r w) ⊢ WP c (k ⟨⟩) Q) : Own c A q X s ⊢ WP c (.op (.store A.a12 r w Finset.univ hx hm) k) Q :=
  store_of c ((own12 c A q X s).trans (sep_mono_right (forall_elim _))) h
theorem ld13 {Q : α → sProp 𝕄} {s : St F} {r : Rect S4096x128} {hl} {k : (r.shape.Idx → Elt F .f32) → Prog (TpuEff nD τ sig (Elt F) Λ₀ .tc) α}
    (h : Own c A q X s ⊢ WP c (k (View.ld s.x13 r)) Q) : Own c A q X s ⊢ WP c (.op (.load A.a13 r.toLoadRect hl) k) Q :=
  load_of c ((own13 c A q X s).trans (sep_mono_right (forall_elim _))) h
theorem st13 {Q : α → sProp 𝕄} {s : St F} {r : Rect S4096x128} {w : r.shape.Idx → Elt F .f32} {hx hm} {k : PUnit → Prog (TpuEff nD τ sig (Elt F) Λ₀ .tc) α}
    (h : Own c A q X (s.put13 r w) ⊢ WP c (k ⟨⟩) Q) : Own c A q X s ⊢ WP c (.op (.store A.a13 r w Finset.univ hx hm) k) Q :=
  store_of c ((own13 c A q X s).trans (sep_mono_right (forall_elim _))) h
theorem ld14 {Q : α → sProp 𝕄} {s : St F} {r : Rect S2x512x128} {hl} {k : (r.shape.Idx → Elt F .bf16) → Prog (TpuEff nD τ sig (Elt F) Λ₀ .tc) α}
    (h : Own c A q X s ⊢ WP c (k (View.ld s.x14 r)) Q) : Own c A q X s ⊢ WP c (.op (.load A.a14 r.toLoadRect hl) k) Q :=
  load_of c ((own14 c A q X s).trans (sep_mono_right (forall_elim _))) h
theorem st14 {Q : α → sProp 𝕄} {s : St F} {r : Rect S2x512x128} {w : r.shape.Idx → Elt F .bf16} {hx hm} {k : PUnit → Prog (TpuEff nD τ sig (Elt F) Λ₀ .tc) α}
    (h : Own c A q X (s.put14 r w) ⊢ WP c (k ⟨⟩) Q) : Own c A q X s ⊢ WP c (.op (.store A.a14 r w Finset.univ hx hm) k) Q :=
  store_of c ((own14 c A q X s).trans (sep_mono_right (forall_elim _))) h
theorem ld15 {Q : α → sProp 𝕄} {s : St F} {r : Rect S2x512x128} {hl} {k : (r.shape.Idx → Elt F .bf16) → Prog (TpuEff nD τ sig (Elt F) Λ₀ .tc) α}
    (h : Own c A q X s ⊢ WP c (k (View.ld s.x15 r)) Q) : Own c A q X s ⊢ WP c (.op (.load A.a15 r.toLoadRect hl) k) Q :=
  load_of c ((own15 c A q X s).trans (sep_mono_right (forall_elim _))) h
theorem st15 {Q : α → sProp 𝕄} {s : St F} {r : Rect S2x512x128} {w : r.shape.Idx → Elt F .bf16} {hx hm} {k : PUnit → Prog (TpuEff nD τ sig (Elt F) Λ₀ .tc) α}
    (h : Own c A q X (s.put15 r w) ⊢ WP c (k ⟨⟩) Q) : Own c A q X s ⊢ WP c (.op (.store A.a15 r w Finset.univ hx hm) k) Q :=
  store_of c ((own15 c A q X s).trans (sep_mono_right (forall_elim _))) h
theorem ld16 {Q : α → sProp 𝕄} {s : St F} {r : Rect S2x512x128} {hl} {k : (r.shape.Idx → Elt F .f32) → Prog (TpuEff nD τ sig (Elt F) Λ₀ .tc) α}
    (h : Own c A q X s ⊢ WP c (k (View.ld s.x16 r)) Q) : Own c A q X s ⊢ WP c (.op (.load A.a16 r.toLoadRect hl) k) Q :=
  load_of c ((own16 c A q X s).trans (sep_mono_right (forall_elim _))) h
theorem st16 {Q : α → sProp 𝕄} {s : St F} {r : Rect S2x512x128} {w : r.shape.Idx → Elt F .f32} {hx hm} {k : PUnit → Prog (TpuEff nD τ sig (Elt F) Λ₀ .tc) α}
    (h : Own c A q X (s.put16 r w) ⊢ WP c (k ⟨⟩) Q) : Own c A q X s ⊢ WP c (.op (.store A.a16 r w Finset.univ hx hm) k) Q :=
  store_of c ((own16 c A q X s).trans (sep_mono_right (forall_elim _))) h
theorem ld17 {Q : α → sProp 𝕄} {s : St F} {r : Rect S512x128} {hl} {k : (r.shape.Idx → Elt F .f32) → Prog (TpuEff nD τ sig (Elt F) Λ₀ .tc) α}
    (h : Own c A q X s ⊢ WP c (k (View.ld s.x17 r)) Q) : Own c A q X s ⊢ WP c (.op (.load A.a17 r.toLoadRect hl) k) Q :=
  load_of c ((own17 c A q X s).trans (sep_mono_right (forall_elim _))) h
theorem st17 {Q : α → sProp 𝕄} {s : St F} {r : Rect S512x128} {w : r.shape.Idx → Elt F .f32} {hx hm} {k : PUnit → Prog (TpuEff nD τ sig (Elt F) Λ₀ .tc) α}
    (h : Own c A q X (s.put17 r w) ⊢ WP c (k ⟨⟩) Q) : Own c A q X s ⊢ WP c (.op (.store A.a17 r w Finset.univ hx hm) k) Q :=
  store_of c ((own17 c A q X s).trans (sep_mono_right (forall_elim _))) h
theorem ld18 {Q : α → sProp 𝕄} {s : St F} {r : Rect S2x4096x128} {hl} {k : (r.shape.Idx → Elt F .f32) → Prog (TpuEff nD τ sig (Elt F) Λ₀ .tc) α}
    (h : Own c A q X s ⊢ WP c (k (View.ld s.x18 r)) Q) : Own c A q X s ⊢ WP c (.op (.load A.a18 r.toLoadRect hl) k) Q :=
  load_of c ((own18 c A q X s).trans (sep_mono_right (forall_elim _))) h
theorem st18 {Q : α → sProp 𝕄} {s : St F} {r : Rect S2x4096x128} {w : r.shape.Idx → Elt F .f32} {hx hm} {k : PUnit → Prog (TpuEff nD τ sig (Elt F) Λ₀ .tc) α}
    (h : Own c A q X (s.put18 r w) ⊢ WP c (k ⟨⟩) Q) : Own c A q X s ⊢ WP c (.op (.store A.a18 r w Finset.univ hx hm) k) Q :=
  store_of c ((own18 c A q X s).trans (sep_mono_right (forall_elim _))) h

end Cert.Proof.PI

end
-- ==== Proof.PI.Body.lean ====
/-
  The body's run: one update of the accumulators at a tile of rows (`upd`), the whole body as a function of the
  contents it starts from (`bodySt`), and that the body runs and leaves exactly those contents.
-/
module

public import proofs.«01_k».proof.Proof.PI.State

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (A : Args) (q : Shares) (X : Ins F)

/-! ## One update -/

/-- The whole of a key tile's buffer; head 0's half of a pair's scratch buffer; head 1's half. -/
abbrev rW : Rect S512x128 := Rect.unit (s := S512x128) ![0, 0] S512x128.size inb_S512x128_S512x128_0_0
abbrev rK0 : Rect S2x512x128 := Rect.unit (s := S2x512x128) ![0, 0, 0] S1x512x128.size inb_S2x512x128_S1x512x128_0_0_0
abbrev rK1 : Rect S2x512x128 := Rect.unit (s := S2x512x128) ![1, 0, 0] S1x512x128.size inb_S2x512x128_S1x512x128_1_0_0

/-- A 512 x 128 value of zeros, and the scale 1/8, as the body builds them. -/
def zb : FVec F S512x128 .bf16 := broadcast S512x128 (Scalar.ofBits .bf16 0x0000#16)

/-- A head's scaled query rows: the query lanes of the head scaled, and the extra lanes beside them. -/
def qsOf (m : IVec S512x128 1) (v2 v6 : Vec F S512x128 .bf16) : FVec F S512x128 .bf16 :=
  select m (mulf v2 (broadcast S512x128 (Scalar.ofBits .bf16 0x3E00#16))) (shapeCast S512x128 v6 shapeCasts_S512x128_S512x128)

/-- The product of rows with key rows, 512 x 512. -/
def rowsBy (a : FVec F S512x128 .bf16) (b : Vec F S1x512x128 .bf16) : FVec F S512x512 .f32 :=
  matmul dot_S512x128_S512x128_S512x512_1_1_0_0_n_n none a (shapeCast S512x128 b shapeCasts_S1x512x128_S512x128)
    (constant S512x512 .f32 0x00000000#32)

/-- The weights: the exponential of the masked products. -/
def pOf (mk : FVec F S512x512 .f32 → FVec F S512x512 .f32) (qs : FVec F S512x128 .bf16) (km : Vec F S1x512x128 .bf16) : FVec F S512x512 .f32 :=
  exp (mk (rowsBy qs km))

/-- The gradient of the logits. -/
def dsOf (m : IVec S512x128 1) (p : FVec F S512x512 .f32) (v5 v8 : Vec F S512x128 .bf16) (vm : Vec F S1x512x128 .bf16) : FVec F S512x512 .bf16 :=
  truncf .bf16 (mulf p (rowsBy (select m v5 (shapeCast S512x128 v8 shapeCasts_S512x128_S512x128)) vm)) bitsLt_bf16_f32

/-- The product of a transposed 512 x 512 value with 512 rows. -/
def colsBy (a : FVec F S512x512 .bf16) (b : FVec F S512x128 .bf16) : FVec F S512x128 .f32 :=
  matmul dot_S512x512_S512x128_S512x128_0_0_1_1_n_n none a b (constant S512x128 .f32 0x00000000#32)

/-- The keys' accumulator of one head after an update. -/
def dkNew (ds : FVec F S512x512 .bf16) (qs : FVec F S512x128 .bf16) (old : Vec F S1x512x128 .f32) : FVec F S1x512x128 .f32 :=
  shapeCast S1x512x128 (addf (shapeCast S512x128 old shapeCasts_S1x512x128_S512x128) (colsBy ds qs)) shapeCasts_S512x128_S1x512x128

/-- The queries' accumulator of one head at the rows of an update. -/
def dqNew (ds : FVec F S512x512 .bf16) (km : Vec F S1x512x128 .bf16) (old : Vec F S1x512x128 .f32) : FVec F S1x512x128 .f32 :=
  shapeCast S1x512x128 (addf (shapeCast S512x128 old shapeCasts_S1x512x128_S512x128)
    (matmul dot_S512x512_S512x128_S512x128_1_0_0_1_n_n none ds (shapeCast S512x128 km shapeCasts_S1x512x128_S512x128)
      (constant S512x128 .f32 0x00000000#32))) shapeCasts_S512x128_S1x512x128

/-- The values' accumulator after an update. -/
def dvNew (p0 p1 : FVec F S512x512 .f32) (v5 : Vec F S512x128 .bf16) (old : Vec F S512x128 .f32) : FVec F S512x128 .f32 :=
  shapeCast S512x128 (addf old (addf (colsBy (truncf .bf16 p0 bitsLt_bf16_f32) (select k0_pay92 v5 zb))
    (colsBy (truncf .bf16 p1 bitsLt_bf16_f32) (select k0_pay93 v5 zb)))) shapeCasts_S512x128_S512x128

/-- What is kept of the products at the diagonal tile: those at or below the diagonal. -/
def maskDiag (x : FVec F S512x512 .f32) : FVec F S512x512 .f32 :=
  select k0_pay107 x (broadcast S512x512 (Named.named κ "mask" 0xF149F2CA#32))

/-- One update: the rows at `o` against the key tile; `o0`, `o1` the same rows in the queries' accumulator. -/
def upd (mk : FVec F S512x512 .f32 → FVec F S512x512 .f32) (X : Ins F)
    (o : Fin 2 → Nat) (ho : ∀ a, o a + S512x128.size a ≤ S4096x128.size a)
    (o0 : Fin 3 → Nat) (h0 : ∀ a, o0 a + S1x512x128.size a ≤ S2x4096x128.size a)
    (o1 : Fin 3 → Nat) (h1 : ∀ a, o1 a + S1x512x128.size a ≤ S2x4096x128.size a) (s : St F) : St F :=
  have v2 : Vec F S512x128 .bf16 := View.ld X.x2 (Rect.unit (s := S4096x128) o S512x128.size ho)
  have v5 : Vec F S512x128 .bf16 := View.ld X.x5 (Rect.unit (s := S4096x128) o S512x128.size ho)
  have v6 : Vec F S512x128 .bf16 := View.ld X.x6 (Rect.unit (s := S4096x128) o S512x128.size ho)
  have v8 : Vec F S512x128 .bf16 := View.ld X.x8 (Rect.unit (s := S4096x128) o S512x128.size ho)
  have km0 : Vec F S1x512x128 .bf16 := View.ld s.x14 rK0
  have km1 : Vec F S1x512x128 .bf16 := View.ld s.x14 rK1
  have qs0 := qsOf k0_pay92 v2 v6
  have qs1 := qsOf k0_pay93 v2 v6
  have p0 := pOf mk qs0 km0
  have p1 := pOf mk qs1 km1
  have ds0 := dsOf k0_pay92 p0 v5 v8 (View.ld s.x15 rK0)
  have ds1 := dsOf k0_pay93 p1 v5 v8 (View.ld s.x15 rK1)
  have r0 := Rect.unit (s := S2x4096x128) o0 S1x512x128.size h0
  have r1 := Rect.unit (s := S2x4096x128) o1 S1x512x128.size h1
  have s1 := s.put16 rK0 (dkNew ds0 qs0 (View.ld s.x16 rK0))
  have s2 := s1.put18 (Rect.unit (s := S2x4096x128) o0 S1x512x128.size h0) (dqNew ds0 km0 (View.ld s1.x18 (Rect.unit (s := S2x4096x128) o0 S1x512x128.size h0)))
  have s3 := s2.put16 rK1 (dkNew ds1 qs1 (View.ld s2.x16 rK1))
  have s4 := s3.put18 (Rect.unit (s := S2x4096x128) o1 S1x512x128.size h1) (dqNew ds1 km1 (View.ld s3.x18 (Rect.unit (s := S2x4096x128) o1 S1x512x128.size h1)))
  s4.put17 rW (dvNew p0 p1 v5 (View.ld s4.x17 rW))

variable {c A q X}

theorem own_congr {s s' : St F} {P : sProp 𝕄} (e : s = s') (h : Own c A q X s' ⊢ P) : Own c A q X s ⊢ P := e ▸ h

theorem own_ret {α : Type} {Q : α → sProp 𝕄} {s : St F} {a : α} (h : Own c A q X s ⊢ Q a) : Own c A q X s ⊢ WP c (.ret a) Q := by
  unfold WP; rw [wp_ret]; exact h.trans fupd_intro

/-! ## A trip of the loop -/

/-- The two updates of a trip. -/
def trip (X : Ins F) (i : grid0.Coords) (k : Fin (k0_t1_loop i).trips) (s : St F) : St F :=
  upd id X (k0_off4 i k 2#32) (k0_off4_inb i k 1) (k0_off5 i k 2#32) (k0_off5_inb i k 1) (k0_off6 i k 2#32) (k0_off6_inb i k 1)
    (upd id X (k0_off4 i k 1#32) (k0_off4_inb i k 0) (k0_off5 i k 1#32) (k0_off5_inb i k 0) (k0_off6 i k 1#32) (k0_off6_inb i k 0) s)

set_option maxRecDepth 4096 in
set_option maxHeartbeats 4000000 in
theorem trip_run (i : grid0.Coords) (arg1 v53 : BitVec 32) (v116 : FVec F S512x512 .bf16) (v121 v131 : FVec F S512x128 .f32)
    (k : Fin (k0_t1_loop i).trips) (s : St F) {Q : Unit → sProp 𝕄} (h : Own c A q X (trip X i k s) ⊢ Q ()) :
    Own c A q X s ⊢ WP c (k0_t1_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg1 k0_pay92 k0_pay93 v53 v116 v121 v131 k ()) Q := by
  unfold k0_t1_body
  rw [k0_part1_eq_skeleton, k0_part2_eq_skeleton, k0_part3_eq_skeleton, k0_part4_eq_skeleton, k0_part5_eq_skeleton]
  unfold k0_part1_skel k0_part2_skel
  simp only [Prog.lift, Prog.bind_op, Prog.bind_ret, Prog.pure_eq_ret, Prog.bind_assoc]
  refine ld2 c A q X ?_; refine ld5 c A q X ?_; refine ld6 c A q X ?_; refine ld8 c A q X ?_; refine ld14 c A q X ?_
  refine ld14 c A q X ?_; refine ld15 c A q X ?_; refine ld15 c A q X ?_; refine ld16 c A q X ?_; refine ld16 c A q X ?_
  refine st16 c A q X ?_; refine ld18 c A q X ?_; refine ld14 c A q X ?_; refine ld18 c A q X ?_; refine st18 c A q X ?_
  refine ld16 c A q X ?_
  unfold k0_part3_skel
  simp only [Prog.lift, Prog.bind_op, Prog.bind_ret, Prog.pure_eq_ret, Prog.bind_assoc]
  refine ld16 c A q X ?_; refine st16 c A q X ?_; refine ld18 c A q X ?_; refine ld14 c A q X ?_; refine ld18 c A q X ?_
  refine st18 c A q X ?_; refine ld17 c A q X ?_; refine ld17 c A q X ?_; refine st17 c A q X ?_
  refine own_congr (s' := upd id X (k0_off4 i k 1#32) (k0_off4_inb i k 0) (k0_off5 i k 1#32) (k0_off5_inb i k 0) (k0_off6 i k 1#32) (k0_off6_inb i k 0) s) rfl ?_
  generalize hs : upd id X (k0_off4 i k 1#32) (k0_off4_inb i k 0) (k0_off5 i k 1#32) (k0_off5_inb i k 0) (k0_off6 i k 1#32) (k0_off6_inb i k 0) s = s1
  have h : Own c A q X (upd id X (k0_off4 i k 2#32) (k0_off4_inb i k 1) (k0_off5 i k 2#32) (k0_off5_inb i k 1) (k0_off6 i k 2#32) (k0_off6_inb i k 1) s1) ⊢ Q () := by
    rw [← hs]; exact h
  refine ld2 c A q X ?_; refine ld5 c A q X ?_; refine ld6 c A q X ?_
  unfold k0_part4_skel k0_part5_skel
  simp only [Prog.lift, Prog.bind_op, Prog.bind_ret, Prog.pure_eq_ret, Prog.bind_assoc]
  refine ld8 c A q X ?_; refine ld14 c A q X ?_; refine ld14 c A q X ?_; refine ld15 c A q X ?_; refine ld15 c A q X ?_
  refine ld16 c A q X ?_; refine ld16 c A q X ?_; refine st16 c A q X ?_; refine ld18 c A q X ?_; refine ld14 c A q X ?_
  refine ld18 c A q X ?_; refine st18 c A q X ?_; refine ld16 c A q X ?_; refine ld16 c A q X ?_; refine st16 c A q X ?_
  refine ld18 c A q X ?_; refine ld14 c A q X ?_; refine ld18 c A q X ?_; refine st18 c A q X ?_; refine ld17 c A q X ?_
  refine ld17 c A q X ?_; refine st17 c A q X ?_
  refine own_congr (s' := upd id X (k0_off4 i k 2#32) (k0_off4_inb i k 1) (k0_off5 i k 2#32) (k0_off5_inb i k 1) (k0_off6 i k 2#32) (k0_off6_inb i k 1) s1) rfl ?_
  exact own_ret h

/-- The contents after the first `n` trips. -/
def tripsSt (X : Ins F) (i : grid0.Coords) (s : St F) : Nat → St F
  | 0 => s
  | n + 1 => if h : n < (k0_t1_loop i).trips then trip X i ⟨n, h⟩ (tripsSt X i s n) else tripsSt X i s n

theorem loop1_run (i : grid0.Coords) (arg1 v53 : BitVec 32) (v116 : FVec F S512x512 .bf16) (v121 v131 : FVec F S512x128 .f32)
    {α : Type} {kk : Unit → Prog (TpuEff nD τ sig (Elt F) Λ₀ .tc) α} {Q : α → sProp 𝕄} (s : St F)
    (h : Own c A q X (tripsSt X i s (k0_t1_loop i).trips) ⊢ WP c (kk ()) Q) :
    Own c A q X s ⊢ WP c (Scf.Loop.for (k0_t1_loop i) (k0_t1_ok i) () (k0_t1_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg1 k0_pay92 k0_pay93 v53 v116 v121 v131) >>= kk) Q := by
  have hl := Scf.wp_for_bind frame (wpE (defs₀ (F := F)) Variants.none (c : Thread nD τ) none) Set.univ (k0_t1_loop i).lb (k0_t1_loop i).ub (k0_t1_loop i).st
    (k0_t1_ok i) () (k0_t1_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg1 k0_pay92 k0_pay93 v53 v116 v121 v131)
    (fun n _ => Own c A q X (tripsSt X i s n)) (fun k acc => trip_run i arg1 v53 v116 v121 v131 k _ (by
      rw [tripsSt, dif_pos k.isLt])) (kk := kk) (Q := Q)
  refine hl.trans ?_
  iintro H
  iapply H
  iintro %acc H
  iapply h
  iexact H

theorem trips2 : ∀ i : grid0.Coords, (k0_t2_loop i).trips = 0 := by decide +kernel

theorem loop2_run (i : grid0.Coords) (arg1 v53 v167 : BitVec 32) (v116 : FVec F S512x512 .bf16) (v121 v131 : FVec F S512x128 .f32)
    {α : Type} {kk : Unit → Prog (TpuEff nD τ sig (Elt F) Λ₀ .tc) α} {Q : α → sProp 𝕄} (s : St F)
    (h : Own c A q X s ⊢ WP c (kk ()) Q) :
    Own c A q X s ⊢ WP c (Scf.Loop.for (k0_t2_loop i) (k0_t2_ok i) () (k0_t2_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg1 k0_pay92 k0_pay93 v53 v116 v121 v131 v167) >>= kk) Q := by
  have hl := Scf.wp_for_bind frame (wpE (defs₀ (F := F)) Variants.none (c : Thread nD τ) none) Set.univ (k0_t2_loop i).lb (k0_t2_loop i).ub (k0_t2_loop i).st
    (k0_t2_ok i) () (k0_t2_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg1 k0_pay92 k0_pay93 v53 v116 v121 v131 v167)
    (fun n _ => Own c A q X s) (fun k acc => absurd k.isLt (by have := trips2 i; unfold Scf.Loop.trips at this; omega)) (kk := kk) (Q := Q)
  refine hl.trans ?_
  iintro H
  iapply H
  iintro %acc H
  iapply h
  iexact H

/-! ## Before the loop -/

/-- The queries' accumulator is emptied at a pair's first tile. -/
def cond2 (i : grid0.Coords) : BitVec 1 :=
  Scalar.cmpi .ne (Scalar.extui (Scalar.cmpi .eq (BitVec.ofNat 32 (i 1).val) 0#32) : BitVec 32) 0#32

abbrev rQ : Rect S4096x128 := Rect.unit (s := S4096x128) ![0, 0] S4096x128.size inb_S4096x128_S4096x128_0_0
abbrev rA : Rect S2x4096x128 := Rect.unit (s := S2x4096x128) ![0, 0, 0] S2x4096x128.size inb_S2x4096x128_S2x4096x128_0_0_0
abbrev rK : Rect S2x512x128 := Rect.unit (s := S2x512x128) ![0, 0, 0] S2x512x128.size inb_S2x512x128_S2x512x128_0_0_0

/-- The shared row and column sums are emptied at the first point of all. -/
def zeroSums (i : grid0.Coords) (s : St F) : St F :=
  if k0_cond1 i = 1#1 then (s.put12 rQ k0_pay94).put13 rQ k0_pay95 else s
def zeroDq (i : grid0.Coords) (s : St F) : St F :=
  if cond2 i = 1#1 then s.put18 rA k0_pay96 else s

/-- The tile's keys and values with their extra lanes, and empty accumulators for them. -/
def setTile (X : Ins F) (s : St F) : St F :=
  ((((((s.put14 rK0 (k0_pay98 (View.ld X.x3 rW) (View.ld X.x7 rW))).put15 rK0 (k0_pay99 (View.ld X.x4 rW))).put14 rK1
    (k0_pay100 k0_pay93 (View.ld X.x3 rW) (View.ld X.x7 rW))).put15 rK1 (k0_pay101 k0_pay93 (k0_pay97 (F := F)) (View.ld X.x4 rW))).put16 rK (k0_pay102 (F := F))).put17 rW
    (k0_pay103 (F := F)))

/-- The update at the tile's own rows, masked. -/
def diagSt (X : Ins F) (i : grid0.Coords) (s : St F) : St F :=
  upd maskDiag X (k0_off1 i) (k0_off1_inb i) (k0_off2 i) (k0_off2_inb i) (k0_off3 i) (k0_off3_inb i) s

set_option maxRecDepth 4096 in
theorem part14_run (i : grid0.Coords) {α : Type} {Q : α → sProp 𝕄} {kk} (s : St F)
    (h : Own c A q X (((zeroDq i (zeroSums i s)).put14 rK0 (k0_pay98 (View.ld X.x3 rW) (View.ld X.x7 rW))).put15 rK0 (k0_pay99 (View.ld X.x4 rW))) ⊢
      WP c (kk ⟨BitVec.ofNat 32 (i 0).val, BitVec.ofNat 32 (i 1).val, k0_pay92, k0_pay93, k0_pay97 (F := F)⟩) Q) :
    Own c A q X s ⊢ WP c (k0_part14 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 >>= kk) Q := by
  rw [k0_part14_eq_skeleton]
  unfold k0_part14_skel
  unfold zeroDq zeroSums cond2 at h
  by_cases h1 : k0_cond1 i = 1#1 <;> by_cases h2 : Scalar.cmpi .ne (Scalar.extui (Scalar.cmpi .eq (BitVec.ofNat 32 (i 1).val) 0#32) : BitVec 32) 0#32 = 1#1
  · simp only [dif_pos h1, dif_pos h2, if_pos h1, if_pos h2, Prog.lift, Prog.bind_op, Prog.bind_ret, Prog.pure_eq_ret, Prog.bind_assoc] at h ⊢
    refine ld12 c A q X ?_; refine st12 c A q X ?_; refine ld13 c A q X ?_; refine st13 c A q X ?_; refine ld18 c A q X ?_
    refine st18 c A q X ?_; refine ld3 c A q X ?_; refine ld7 c A q X ?_; refine ld14 c A q X ?_; refine st14 c A q X ?_
    refine ld4 c A q X ?_; refine ld15 c A q X ?_; refine st15 c A q X ?_
    exact h
  · simp only [dif_pos h1, dif_neg h2, if_pos h1, if_neg h2, Prog.lift, Prog.bind_op, Prog.bind_ret, Prog.pure_eq_ret, Prog.bind_assoc] at h ⊢
    refine ld12 c A q X ?_; refine st12 c A q X ?_; refine ld13 c A q X ?_; refine st13 c A q X ?_; refine ld3 c A q X ?_
    refine ld7 c A q X ?_; refine ld14 c A q X ?_; refine st14 c A q X ?_; refine ld4 c A q X ?_; refine ld15 c A q X ?_
    refine st15 c A q X ?_
    exact h
  · simp only [dif_neg h1, dif_pos h2, if_neg h1, if_pos h2, Prog.lift, Prog.bind_op, Prog.bind_ret, Prog.pure_eq_ret, Prog.bind_assoc] at h ⊢
    refine ld18 c A q X ?_; refine st18 c A q X ?_; refine ld3 c A q X ?_; refine ld7 c A q X ?_; refine ld14 c A q X ?_
    refine st14 c A q X ?_; refine ld4 c A q X ?_; refine ld15 c A q X ?_; refine st15 c A q X ?_
    exact h
  · simp only [dif_neg h1, dif_neg h2, if_neg h1, if_neg h2, Prog.lift, Prog.bind_op, Prog.bind_ret, Prog.pure_eq_ret, Prog.bind_assoc] at h ⊢
    refine ld3 c A q X ?_; refine ld7 c A q X ?_; refine ld14 c A q X ?_; refine st14 c A q X ?_; refine ld4 c A q X ?_
    refine ld15 c A q X ?_; refine st15 c A q X ?_
    exact h

/-! ## After the loop -/

/-- The update at the last rows, when the number of rows' tiles below the diagonal is odd. -/
def lastSt (X : Ins F) (i : grid0.Coords) (s : St F) : St F :=
  if k0_cond3 i = 1#1 then
    upd id X ![3584, 0] inb_S4096x128_S512x128_3584_0 ![0, 3584, 0] inb_S2x4096x128_S1x512x128_0_3584_0 ![1, 3584, 0]
      inb_S2x4096x128_S1x512x128_1_3584_0 s
  else s

/-- The gradients of the tile's keys and values. -/
def outTile (s : St F) : St F :=
  (s.put10 rW (k0_pay131 k0_pay92 (View.ld s.x16 rK0) (View.ld s.x16 rK1))).put11 rW (k0_pay132 (View.ld s.x17 rW))

set_option maxRecDepth 4096 in
set_option maxHeartbeats 1000000 in
theorem part19_run (i : grid0.Coords) (arg1 v145 : BitVec 32) {α : Type} {Q : α → sProp 𝕄} {kk} (s : St F)
    (h : Own c A q X (outTile (lastSt X i s)) ⊢
      WP c (kk ⟨Scalar.muli arg1 512#32, k0_pay133 (View.ld (outTile (lastSt X i s)).x13 (Rect.unit (s := S4096x128) (k0_off1 i) S512x128.size (k0_off1_inb i))),
        k0_pay134 (View.ld (outTile (lastSt X i s)).x16 rK0)⟩) Q) :
    Own c A q X s ⊢ WP c (k0_part19 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg1 k0_pay92 k0_pay93 v145 >>= kk) Q := by
  rw [k0_part19_eq_skeleton]
  unfold k0_part19_skel
  unfold lastSt at h
  by_cases h3 : k0_cond3 i = 1#1
  · rw [k0_part11_eq_skeleton, k0_part12_eq_skeleton]
    unfold k0_part11_skel k0_part12_skel
    rw [if_pos h3] at h
    simp only [dif_pos h3, Prog.lift, Prog.bind_op, Prog.bind_ret, Prog.pure_eq_ret, Prog.bind_assoc]
    refine ld2 c A q X ?_; refine ld5 c A q X ?_; refine ld6 c A q X ?_; refine ld8 c A q X ?_; refine ld14 c A q X ?_
    refine ld14 c A q X ?_; refine ld15 c A q X ?_; refine ld15 c A q X ?_; refine ld16 c A q X ?_; refine ld16 c A q X ?_
    refine st16 c A q X ?_; refine ld18 c A q X ?_; refine ld14 c A q X ?_; refine ld18 c A q X ?_; refine st18 c A q X ?_
    refine ld16 c A q X ?_; refine ld16 c A q X ?_; refine st16 c A q X ?_; refine ld18 c A q X ?_; refine ld14 c A q X ?_
    refine ld18 c A q X ?_; refine st18 c A q X ?_; refine ld17 c A q X ?_; refine ld17 c A q X ?_; refine st17 c A q X ?_
    refine own_congr (s' := upd id X ![3584, 0] inb_S4096x128_S512x128_3584_0 ![0, 3584, 0] inb_S2x4096x128_S1x512x128_0_3584_0 ![1, 3584, 0]
      inb_S2x4096x128_S1x512x128_1_3584_0 s) rfl ?_
    generalize upd id X ![3584, 0] inb_S4096x128_S512x128_3584_0 ![0, 3584, 0] inb_S2x4096x128_S1x512x128_0_3584_0 ![1, 3584, 0]
      inb_S2x4096x128_S1x512x128_1_3584_0 s = s1 at h ⊢
    refine ld16 c A q X ?_; refine ld16 c A q X ?_; refine ld10 c A q X ?_; refine st10 c A q X ?_; refine ld17 c A q X ?_
    refine ld11 c A q X ?_; refine st11 c A q X ?_; refine ld13 c A q X ?_; refine ld16 c A q X ?_
    exact h
  · rw [if_neg h3] at h
    simp only [dif_neg h3, Prog.lift, Prog.bind_op, Prog.bind_ret, Prog.pure_eq_ret, Prog.bind_assoc]
    refine ld16 c A q X ?_; refine ld16 c A q X ?_; refine ld10 c A q X ?_; refine st10 c A q X ?_; refine ld17 c A q X ?_
    refine ld11 c A q X ?_; refine st11 c A q X ?_; refine ld13 c A q X ?_; refine ld16 c A q X ?_
    exact h

/-- The tile's column sums in the shared array. -/
def outCols (i : grid0.Coords) (s : St F) : St F :=
  s.put13 (Rect.unit (s := S4096x128) (k0_off1 i) S512x128.size (k0_off1_inb i))
    (k0_pay1 (BitVec.ofNat 32 (i 0).val) (k0_pay133 (View.ld s.x13 (Rect.unit (s := S4096x128) (k0_off1 i) S512x128.size (k0_off1_inb i))))
      (k0_pay134 (View.ld s.x16 rK0)) (View.ld s.x16 rK1))

abbrev rA0 : Rect S2x4096x128 := Rect.unit (s := S2x4096x128) ![0, 0, 0] S1x4096x128.size inb_S2x4096x128_S1x4096x128_0_0_0
abbrev rA1 : Rect S2x4096x128 := Rect.unit (s := S2x4096x128) ![1, 0, 0] S1x4096x128.size inb_S2x4096x128_S1x4096x128_1_0_0

/-- The pair's query gradients and row sums, at its last tile. -/
def outPair (i : grid0.Coords) (s : St F) : St F :=
  if k0_cond4 i = 1#1 then
    (s.put9 rQ (k0_pay90 (View.ld s.x18 rA0) (View.ld s.x18 rA1))).put12 rQ
      (k0_pay91 (BitVec.ofNat 32 (i 0).val) (View.ld s.x12 rQ) (View.ld s.x18 rA0) (View.ld s.x18 rA1))
  else s

/-- The whole body, as a function of the contents it starts from. -/
def bodySt (X : Ins F) (i : grid0.Coords) (s : St F) : St F :=
  outPair i (outCols i (outTile (lastSt X i (tripsSt X i (diagSt X i (setTile X (zeroDq i (zeroSums i s)))) (k0_t1_loop i).trips))))

set_option maxRecDepth 4096 in
set_option maxHeartbeats 4000000 in
theorem body_run (i : grid0.Coords) (s : St F) {Q : PUnit → sProp 𝕄} (h : Own c A q X (bodySt X i s) ⊢ Q ⟨⟩) :
    Own c A q X s ⊢ WP c (cc0_attn_bwd (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18) Q := by
  rw [cc0_attn_bwd_eq_skeleton]
  unfold cc0_attn_bwd_skel
  refine part14_run i s ?_
  unfold bodySt at h
  generalize zeroDq i (zeroSums i s) = s0 at h ⊢
  rw [k0_part15_eq_skeleton, k0_part16_eq_skeleton, k0_part17_eq_skeleton, k0_part18_eq_skeleton]
  unfold k0_part15_skel
  simp only [Prog.lift, Prog.bind_op, Prog.bind_ret, Prog.pure_eq_ret, Prog.bind_assoc]
  refine ld3 c A q X ?_; refine ld7 c A q X ?_; refine ld14 c A q X ?_; refine st14 c A q X ?_; refine ld4 c A q X ?_
  refine ld15 c A q X ?_; refine st15 c A q X ?_; refine ld16 c A q X ?_; refine st16 c A q X ?_; refine ld17 c A q X ?_
  refine st17 c A q X ?_
  refine own_congr (s' := setTile X s0) rfl ?_
  generalize setTile X s0 = s1 at h ⊢
  refine ld2 c A q X ?_; refine ld5 c A q X ?_; refine ld6 c A q X ?_
  unfold k0_part16_skel k0_part17_skel k0_part18_skel
  simp only [Prog.lift, Prog.bind_op, Prog.bind_ret, Prog.pure_eq_ret, Prog.bind_assoc]
  refine ld8 c A q X ?_; refine ld14 c A q X ?_; refine ld14 c A q X ?_; refine ld15 c A q X ?_; refine ld15 c A q X ?_
  refine ld16 c A q X ?_; refine ld16 c A q X ?_; refine st16 c A q X ?_; refine ld18 c A q X ?_; refine ld14 c A q X ?_
  refine ld18 c A q X ?_; refine st18 c A q X ?_; refine ld16 c A q X ?_; refine ld16 c A q X ?_; refine st16 c A q X ?_
  refine ld18 c A q X ?_; refine ld14 c A q X ?_; refine ld18 c A q X ?_; refine st18 c A q X ?_; refine ld17 c A q X ?_
  refine ld17 c A q X ?_; refine st17 c A q X ?_
  refine own_congr (s' := diagSt X i s1) rfl ?_
  generalize diagSt X i s1 = s2 at h ⊢
  refine loop1_run i _ _ _ _ _ s2 ?_
  refine loop2_run i _ _ _ _ _ _ _ ?_
  refine part19_run i _ _ _ ?_
  generalize outTile (lastSt X i (tripsSt X i s2 (k0_t1_loop i).trips)) = s3 at h ⊢
  simp only [Prog.lift, Prog.bind_op, Prog.bind_ret, Prog.pure_eq_ret, Prog.bind_assoc]
  refine ld16 c A q X ?_; refine ld13 c A q X ?_; refine st13 c A q X ?_
  refine own_congr (s' := outCols i s3) rfl ?_
  generalize outCols i s3 = s4 at h ⊢
  unfold outPair at h
  by_cases h4 : k0_cond4 i = 1#1
  · rw [if_pos h4] at h
    rw [k0_part13_eq_skeleton]
    unfold k0_part13_skel
    simp only [dif_pos h4, Prog.lift, Prog.bind_op, Prog.bind_ret, Prog.pure_eq_ret, Prog.bind_assoc]
    refine ld18 c A q X ?_; refine ld18 c A q X ?_; refine ld9 c A q X ?_; refine st9 c A q X ?_; refine ld12 c A q X ?_
    refine ld18 c A q X ?_; refine ld18 c A q X ?_; refine ld12 c A q X ?_; refine st12 c A q X ?_
    exact own_ret h
  · rw [if_neg h4] at h
    simp only [dif_neg h4, Prog.lift, Prog.bind_op, Prog.bind_ret, Prog.pure_eq_ret, Prog.bind_assoc]
    exact own_ret h

end Cert.Proof.PI

end
-- ==== Proof.PI.Carry.lean ====
/-
  What the body leaves, buffer by buffer, free of whatever a buffer held before it was first written: the tile's
  accumulators depend on the input blocks and the queries' accumulator alone (`accSt`), and the results' blocks on
  those and the shared sums. What passes from one grid point to the next is three arrays, built point by point.
-/
module

public import proofs.«01_k».proof.Proof.PI.Body

@[expose] public section

noncomputable section

namespace Cert.Proof.PI

open Cert.KernelIdeal Cert.KernelIdeal.Gen
open Idealize.ShloMosaic Idealize.ShloMosaic.TcCoe
open Idealize.SL Idealize.SL.Sem
open Idealize.ShloMosaic.Pipeline

variable {F : FTy → Type} [FloatOps F] [Named F]

/-! ## Overwriting a whole buffer, and its two halves -/

theorem overlay_all {s : Shape} {α : Type} {off : Fin s.rank → Nat} (h : off = fun _ => 0) (inb : ∀ a, off a + s.size a ≤ s.size a)
    (d : s.Idx → α) (w : s.Idx → α) : (Rect.unit (s := s) off s.size inb).overlay d w = w := by
  subst h
  funext x
  have := (Rect.whole s).overlay_emb d w x
  rw [Rect.emb_whole_apply] at this
  exact this

theorem ld_all {s : Shape} {V : EltTy → Type} {e : EltTy} {off : Fin s.rank → Nat} (h : off = fun _ => 0) (inb : ∀ a, off a + s.size a ≤ s.size a)
    (X : s.Idx → V e) : View.ld X (Rect.unit (s := s) off s.size inb) = X := by
  subst h; funext x; show X ((Rect.whole s).emb x) = X x; rw [Rect.emb_whole_apply]

theorem z2 : (![0, 0] : Fin 2 → Nat) = fun _ => 0 := by decide
theorem z3 : (![0, 0, 0] : Fin 3 → Nat) = fun _ => 0 := by decide

/-- Every place of a pair's buffer is in head 0's half or head 1's. -/
theorem halves_cover (y : S2x512x128.Idx) : y ∈ rK0.set ∨ y ∈ rK1.set := by
  rcases y with y
  have h0 : (y 0).val < 2 := (y 0).isLt
  have h1 : (y 1).val < 512 := (y 1).isLt
  have h2 : (y 2).val < 128 := (y 2).isLt
  rcases (by omega : (y 0).val = 0 ∨ (y 0).val = 1) with e | e
  · left
    refine LoadRect.mem_set _ |>.mpr ?_
    intro a
    match a with
    | ⟨0, _⟩ => exact ⟨0, Nat.one_pos, by show (y 0).val = 0 + 1 * 0; omega⟩
    | ⟨1, _⟩ => exact ⟨(y 1).val, h1, by show (y 1).val = 0 + 1 * (y 1).val; omega⟩
    | ⟨2, _⟩ => exact ⟨(y 2).val, h2, by show (y 2).val = 0 + 1 * (y 2).val; omega⟩
  · right
    refine LoadRect.mem_set _ |>.mpr ?_
    intro a
    match a with
    | ⟨0, _⟩ => exact ⟨0, Nat.one_pos, by show (y 0).val = 1 + 1 * 0; omega⟩
    | ⟨1, _⟩ => exact ⟨(y 1).val, h1, by show (y 1).val = 0 + 1 * (y 1).val; omega⟩
    | ⟨2, _⟩ => exact ⟨(y 2).val, h2, by show (y 2).val = 0 + 1 * (y 2).val; omega⟩

/-- Both halves overwritten: nothing of the buffer before is left. -/
theorem overlay_halves {α : Type} (d d' : S2x512x128.Idx → α) (a : rK0.shape.Idx → α) (b : rK1.shape.Idx → α) :
    rK1.overlay (rK0.overlay d a) b = rK1.overlay (rK0.overlay d' a) b := by
  funext y
  by_cases h1 : y ∈ rK1.set
  · obtain ⟨j, rfl⟩ := rK1.exists_idx_of_mem h1
    exact (rK1.overlay_emb _ b j).trans (rK1.overlay_emb _ b j).symm
  · rw [rK1.overlay_of_not_mem _ _ h1, rK1.overlay_of_not_mem _ _ h1]
    obtain ⟨j, rfl⟩ := rK0.exists_idx_of_mem ((halves_cover y).resolve_right h1)
    exact (rK0.overlay_emb _ a j).trans (rK0.overlay_emb _ a j).symm

/-! ## The body's results -/

/-- `s` with the results' blocks replaced. -/
def St.withOut (s : St F) (o : St F) : St F := { s with x9 := o.x9, x10 := o.x10, x11 := o.x11, x12 := o.x12, x13 := o.x13 }

/-- The buffers with the tile's keys and values set, empty accumulators for them, and the queries' accumulator `d`. -/
def tileSt (X : Ins F) (d : S2x4096x128.Idx → Elt F .f32) : St F where
  x9 := k0_pay90 (View.ld d rA0) (View.ld d rA1)
  x10 := zb
  x11 := zb
  x12 := k0_pay94
  x13 := k0_pay95
  x14 := rK1.overlay (rK0.overlay (fun _ => Scalar.ofBits .bf16 0x0000#16) (k0_pay98 (View.ld X.x3 rW) (View.ld X.x7 rW)))
    (k0_pay100 k0_pay93 (View.ld X.x3 rW) (View.ld X.x7 rW))
  x15 := rK1.overlay (rK0.overlay (fun _ => Scalar.ofBits .bf16 0x0000#16) (k0_pay99 (View.ld X.x4 rW)))
    (k0_pay101 k0_pay93 (k0_pay97 (F := F)) (View.ld X.x4 rW))
  x16 := k0_pay102 (F := F)
  x17 := k0_pay103 (F := F)
  x18 := d

/-- The buffers after all the point's updates. -/
def accSt (X : Ins F) (i : grid0.Coords) (d : S2x4096x128.Idx → Elt F .f32) : St F :=
  lastSt X i (tripsSt X i (diagSt X i (tileSt X d)) (k0_t1_loop i).trips)

/-- The queries' accumulator a point starts from. -/
def dqIn (i : grid0.Coords) (d : S2x4096x128.Idx → Elt F .f32) : S2x4096x128.Idx → Elt F .f32 :=
  if cond2 i = 1#1 then k0_pay96 else d

/-- The shared row sums and column sums a point starts from. -/
def rowsIn (i : grid0.Coords) (d : S4096x128.Idx → Elt F .f32) : S4096x128.Idx → Elt F .f32 :=
  if k0_cond1 i = 1#1 then k0_pay94 else d
def colsIn (i : grid0.Coords) (d : S4096x128.Idx → Elt F .f32) : S4096x128.Idx → Elt F .f32 :=
  if k0_cond1 i = 1#1 then k0_pay95 else d

/-- The results' blocks of a point, from the buffers after its updates. -/
def dkOut (s : St F) : S512x128.Idx → Elt F .bf16 := k0_pay131 k0_pay92 (View.ld s.x16 rK0) (View.ld s.x16 rK1)
def dvOut (s : St F) : S512x128.Idx → Elt F .bf16 := k0_pay132 (View.ld s.x17 rW)
def dqOut (s : St F) : S4096x128.Idx → Elt F .bf16 := k0_pay90 (View.ld s.x18 rA0) (View.ld s.x18 rA1)
def colsOut (i : grid0.Coords) (s : St F) (d : S4096x128.Idx → Elt F .f32) : S4096x128.Idx → Elt F .f32 :=
  (Rect.unit (s := S4096x128) (k0_off1 i) S512x128.size (k0_off1_inb i)).overlay d
    (k0_pay1 (BitVec.ofNat 32 (i 0).val) (k0_pay133 (View.ld d (Rect.unit (s := S4096x128) (k0_off1 i) S512x128.size (k0_off1_inb i))))
      (k0_pay134 (View.ld s.x16 rK0)) (View.ld s.x16 rK1))
def rowsOut (i : grid0.Coords) (s : St F) (d : S4096x128.Idx → Elt F .f32) : S4096x128.Idx → Elt F .f32 :=
  if k0_cond4 i = 1#1 then k0_pay91 (BitVec.ofNat 32 (i 0).val) d (View.ld s.x18 rA0) (View.ld s.x18 rA1) else d

section WithOut
variable (s t : St F)
theorem wo14 : (s.withOut t).x14 = s.x14 := rfl
theorem wo15 : (s.withOut t).x15 = s.x15 := rfl
theorem wo16 : (s.withOut t).x16 = s.x16 := rfl
theorem wo17 : (s.withOut t).x17 = s.x17 := rfl
theorem wo18 : (s.withOut t).x18 = s.x18 := rfl
theorem put16_wo (r w) : (s.withOut t).put16 r w = (s.put16 r w).withOut t := rfl
theorem put17_wo (r w) : (s.withOut t).put17 r w = (s.put17 r w).withOut t := rfl
theorem put18_wo (r w) : (s.withOut t).put18 r w = (s.put18 r w).withOut t := rfl
end WithOut

theorem upd_withOut (mk : FVec F S512x512 .f32 → FVec F S512x512 .f32) (X : Ins F) (o ho o0 h0 o1 h1) (s t : St F) :
    upd mk X o ho o0 h0 o1 h1 (s.withOut t) = (upd mk X o ho o0 h0 o1 h1 s).withOut t := by
  unfold upd
  simp only [wo14, wo15, wo16, wo17, wo18, put16_wo, put17_wo, put18_wo]

theorem trips_withOut (X : Ins F) (i : grid0.Coords) (s t : St F) : ∀ n, tripsSt X i (s.withOut t) n = (tripsSt X i s n).withOut t
  | 0 => rfl
  | n + 1 => by
      unfold tripsSt
      rw [trips_withOut X i s t n]
      split
      · unfold trip; rw [upd_withOut, upd_withOut]
      · rfl

theorem last_withOut (X : Ins F) (i : grid0.Coords) (s t : St F) : lastSt X i (s.withOut t) = (lastSt X i s).withOut t := by
  unfold lastSt
  split
  · rw [upd_withOut]
  · rfl

/-- The buffers a point's updates start from. -/
theorem start_eq (X : Ins F) (i : grid0.Coords) (s : St F) :
    setTile X (zeroDq i (zeroSums i s)) = (tileSt X (dqIn i s.x18)).withOut { s with x12 := rowsIn i s.x12, x13 := colsIn i s.x13 } := by
  have e12 : (zeroDq i (zeroSums i s)).x12 = rowsIn i s.x12 := by
    unfold zeroDq zeroSums rowsIn; split <;> split <;> first | rfl | exact overlay_all z2 _ _ _
  have e13 : (zeroDq i (zeroSums i s)).x13 = colsIn i s.x13 := by
    unfold zeroDq zeroSums colsIn; split <;> split <;> first | rfl | exact overlay_all z2 _ _ _
  have e18 : (zeroDq i (zeroSums i s)).x18 = dqIn i s.x18 := by
    unfold zeroDq zeroSums dqIn; split <;> split <;> first | rfl | exact overlay_all z3 _ _ _
  have e9 : (zeroDq i (zeroSums i s)).x9 = s.x9 := by unfold zeroDq zeroSums; split <;> split <;> rfl
  have e10 : (zeroDq i (zeroSums i s)).x10 = s.x10 := by unfold zeroDq zeroSums; split <;> split <;> rfl
  have e11 : (zeroDq i (zeroSums i s)).x11 = s.x11 := by unfold zeroDq zeroSums; split <;> split <;> rfl
  generalize zeroDq i (zeroSums i s) = s0 at *
  unfold St.withOut setTile
  apply St.ext
  · dsimp only [St.put14, St.put15, St.put16, St.put17]; exact e9
  · dsimp only [St.put14, St.put15, St.put16, St.put17]; exact e10
  · dsimp only [St.put14, St.put15, St.put16, St.put17]; exact e11
  · dsimp only [St.put14, St.put15, St.put16, St.put17]; exact e12
  · dsimp only [St.put14, St.put15, St.put16, St.put17]; exact e13
  · dsimp only [St.put14, St.put15, St.put16, St.put17, tileSt]; exact overlay_halves s0.x14 _ _ _
  · dsimp only [St.put14, St.put15, St.put16, St.put17, tileSt]; exact overlay_halves s0.x15 _ _ _
  · dsimp only [St.put14, St.put15, St.put16, St.put17, tileSt]; exact overlay_all z3 _ s0.x16 _
  · dsimp only [St.put14, St.put15, St.put16, St.put17, tileSt]; exact overlay_all z2 _ s0.x17 _
  · dsimp only [St.put14, St.put15, St.put16, St.put17, tileSt]; exact e18

theorem body_eq (X : Ins F) (i : grid0.Coords) (s : St F) :
    bodySt X i s = outPair i (outCols i (outTile ((accSt X i (dqIn i s.x18)).withOut
      { s with x12 := rowsIn i s.x12, x13 := colsIn i s.x13 }))) := by
  unfold bodySt
  rw [start_eq, show ∀ t, diagSt X i ((tileSt X (dqIn i s.x18)).withOut t) = (diagSt X i (tileSt X (dqIn i s.x18))).withOut t from fun t => upd_withOut _ _ _ _ _ _ _ _ _ _,
    trips_withOut, last_withOut]
  unfold accSt
  rfl

theorem body_x10 (X : Ins F) (i : grid0.Coords) (s : St F) : (bodySt X i s).x10 = dkOut (accSt X i (dqIn i s.x18)) := by
  rw [body_eq]; unfold outPair; split <;> exact overlay_all z2 _ _ _
theorem body_x11 (X : Ins F) (i : grid0.Coords) (s : St F) : (bodySt X i s).x11 = dvOut (accSt X i (dqIn i s.x18)) := by
  rw [body_eq]; unfold outPair; split <;> exact overlay_all z2 _ _ _
theorem body_x13 (X : Ins F) (i : grid0.Coords) (s : St F) :
    (bodySt X i s).x13 = colsOut i (accSt X i (dqIn i s.x18)) (colsIn i s.x13) := by
  rw [body_eq]; unfold outPair; split <;> rfl
theorem body_x18 (X : Ins F) (i : grid0.Coords) (s : St F) : (bodySt X i s).x18 = (accSt X i (dqIn i s.x18)).x18 := by
  rw [body_eq]; unfold outPair; split <;> rfl
theorem body_x9 (X : Ins F) (i : grid0.Coords) (s : St F) (h : k0_cond4 i = 1#1) :
    (bodySt X i s).x9 = dqOut (accSt X i (dqIn i s.x18)) := by
  rw [body_eq]; unfold outPair; rw [if_pos h]; exact overlay_all z2 _ _ _
theorem body_x9_idle (X : Ins F) (i : grid0.Coords) (s : St F) (h : ¬ k0_cond4 i = 1#1) : (bodySt X i s).x9 = s.x9 := by
  rw [body_eq]; unfold outPair; rw [if_neg h]; rfl
theorem body_x12 (X : Ins F) (i : grid0.Coords) (s : St F) :
    (bodySt X i s).x12 = rowsOut i (accSt X i (dqIn i s.x18)) (rowsIn i s.x12) := by
  rw [body_eq]; unfold outPair rowsOut
  split
  · refine (overlay_all z2 _ _ _).trans ?_
    show k0_pay91 _ (View.ld (rowsIn i s.x12) rQ) _ _ = _
    rw [ld_all z2]
    rfl
  · rfl

/-! ## What passes from point to point -/

/-- The input blocks at each point. -/
abbrev Blocks (F : FTy → Type) := Fin grid0.N → Ins F

/-- The queries' accumulator after `n` points. -/
def dqAt (B : Blocks F) : Nat → S2x4096x128.Idx → Elt F .f32
  | 0 => k0_pay96
  | n + 1 => if h : n < grid0.N then (accSt (B ⟨n, h⟩) (grid0.coords ⟨n, h⟩) (dqIn (grid0.coords ⟨n, h⟩) (dqAt B n))).x18 else dqAt B n

/-- The buffers after the updates of point `t`. -/
def accAt (B : Blocks F) (t : Fin grid0.N) : St F := accSt (B t) (grid0.coords t) (dqIn (grid0.coords t) (dqAt B t))

/-- The shared row sums, and the shared column sums, after `n` points. -/
def rowsAt (B : Blocks F) : Nat → S4096x128.Idx → Elt F .f32
  | 0 => k0_pay94
  | n + 1 => if h : n < grid0.N then rowsOut (grid0.coords ⟨n, h⟩) (accAt B ⟨n, h⟩) (rowsIn (grid0.coords ⟨n, h⟩) (rowsAt B n)) else rowsAt B n
def colsAt (B : Blocks F) : Nat → S4096x128.Idx → Elt F .f32
  | 0 => k0_pay95
  | n + 1 => if h : n < grid0.N then colsOut (grid0.coords ⟨n, h⟩) (accAt B ⟨n, h⟩) (colsIn (grid0.coords ⟨n, h⟩) (colsAt B n)) else colsAt B n

theorem dqAt_succ (B : Blocks F) (t : Fin grid0.N) : dqAt B (t.val + 1) = (accAt B t).x18 := by
  rw [dqAt, dif_pos t.isLt]; rfl
theorem rowsAt_succ (B : Blocks F) (t : Fin grid0.N) :
    rowsAt B (t.val + 1) = rowsOut (grid0.coords t) (accAt B t) (rowsIn (grid0.coords t) (rowsAt B t)) := by
  rw [rowsAt, dif_pos t.isLt]
theorem colsAt_succ (B : Blocks F) (t : Fin grid0.N) :
    colsAt B (t.val + 1) = colsOut (grid0.coords t) (accAt B t) (colsIn (grid0.coords t) (colsAt B t)) := by
  rw [colsAt, dif_pos t.isLt]

/-! ## Where the body's conditions hold -/

theorem cond1_iff : ∀ t : Fin grid0.N, k0_cond1 (grid0.coords t) = 1#1 ↔ t.val = 0 := by decide +kernel
theorem cond2_iff : ∀ t : Fin grid0.N, cond2 (grid0.coords t) = 1#1 ↔ t.val % 8 = 0 := by decide +kernel
theorem cond4_iff : ∀ t : Fin grid0.N, k0_cond4 (grid0.coords t) = 1#1 ↔ t.val % 8 = 7 := by decide +kernel

theorem dqIn_first {t : Fin grid0.N} (h : t.val % 8 = 0) (d d' : S2x4096x128.Idx → Elt F .f32) :
    dqIn (grid0.coords t) d = dqIn (grid0.coords t) d' := by
  unfold dqIn; rw [if_pos ((cond2_iff t).mpr h), if_pos ((cond2_iff t).mpr h)]

/-- A point where the row sums are neither emptied nor written leaves them. -/
theorem rowsAt_idle (B : Blocks F) (t : Fin grid0.N) (h1 : t.val ≠ 0) (h4 : t.val % 8 ≠ 7) : rowsAt B (t.val + 1) = rowsAt B t := by
  rw [rowsAt_succ, rowsOut, rowsIn, if_neg (fun h => h4 ((cond4_iff t).mp h)), if_neg (fun h => h1 ((cond1_iff t).mp h))]

end Cert.Proof.PI

end
-- ==== Proof.PI.Run.lean ====
/-
  The whole program's run: at every grid point the pipeline hands the body its blocks, the body leaves the blocks
  `Carry` names, and the queries' accumulator and the shared sums pass on as `dqAt`, `rowsAt` and `colsAt` say.
-/
module

public import proofs.«01_k».proof.Proof.PI.Carry
public import proofs.«01_k».proof.Proof.Gen.KernelIdeal.Points

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks of each point. -/
def blocks (c : Dev nD) : Blocks F := fun t =>
  { x2 := iblk m c 0 t, x3 := iblk m c 1 t, x4 := iblk m c 2 t, x5 := iblk m c 3 t, x6 := iblk m c 4 t, x7 := iblk m c 5 t, x8 := iblk m c 6 t }

/-- The scratch buffers before point `n`: the queries' accumulator at what has been summed so far, unless a new pair begins. -/
def scr (c : Dev nD) (n : Nat) : sProp 𝕄 :=
  iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ ∃ d, ⌜n % 8 ≠ 0 → d = dqAt (blocks m c) n⌝ ∗ owns (c : Thread nD τ) (Memref.whole cc0_scratch4) fullShare d)

/-- The pipeline's proof data: every block's contents after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOut (accAt (blocks m c) t)
    | ⟨8, _⟩ => dkOut (accAt (blocks m c) t)
    | ⟨9, _⟩ => dvOut (accAt (blocks m c) t)
    | ⟨10, _⟩ => rowsAt (blocks m c) (t.val + 1)
    | ⟨11, _⟩ => colsAt (blocks m c) (t.val + 1)
  Φ n := iprop(scr m c n.val ∗ ∃ r, prngReg c r)
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = dqOut (accAt (blocks m c) t) := by dsimp only [dats]
theorem after8 (c : Dev nD) (t : Fin cfg0.N) : (dats m 0 c).after 8 t = dkOut (accAt (blocks m c) t) := by dsimp only [dats]
theorem after9 (c : Dev nD) (t : Fin cfg0.N) : (dats m 0 c).after 9 t = dvOut (accAt (blocks m c) t) := by dsimp only [dats]
theorem after10 (c : Dev nD) (t : Fin cfg0.N) : (dats m 0 c).after 10 t = rowsAt (blocks m c) (t.val + 1) := by dsimp only [dats]
theorem after11 (c : Dev nD) (t : Fin cfg0.N) : (dats m 0 c).after 11 t = colsAt (blocks m c) (t.val + 1) := by dsimp only [dats]

/-! ## What the body finds -/

theorem fetch10 : ∀ t : Fin cfg0.N, (cfg0.win 10).fetch t = false :=
  (by decide +kernel : ∀ t : Fin grid0.N, win0_10.fetch t = false)
theorem fetch11 : ∀ t : Fin cfg0.N, (cfg0.win 11).fetch t = false :=
  (by decide +kernel : ∀ t : Fin grid0.N, win0_11.fetch t = false)
theorem idle7 : ∀ t : Fin cfg0.N, cfg0.idle 7 (cfg0.grid.coords t) = !decide (t.val % 8 = 7) :=
  (by decide +kernel : ∀ t : Fin grid0.N, idle0 7 (grid0.coords t) = !decide (t.val % 8 = 7))
theorem idle10 : ∀ t : Fin cfg0.N, cfg0.idle 10 (cfg0.grid.coords t) = (!decide (t.val = 0) && !decide (t.val % 8 = 7)) :=
  (by decide +kernel : ∀ t : Fin grid0.N, idle0 10 (grid0.coords t) = (!decide (t.val = 0) && !decide (t.val % 8 = 7)))

theorem lt32 (t : Fin cfg0.N) : t.val < 32 := lt_of_lt_of_eq t.isLt N_0

/-- The shared column sums' buffer holds what the points before have left. -/
theorem before11 (c : Dev nD) (t : Fin cfg0.N) (ht : t.val ≠ 0) (d) : (dats m 0 c).before 11 t d = colsAt (blocks m c) t.val := by
  have hl := lt32 t
  rw [(dats m 0 c).before_of_pos 11 t ht (fetch11 t),
    if_neg (by rw [flush0_11]; show ¬ (t.val - 1) % 32 = 31; omega)]
  show (dats m 0 c).after 11 _ = _
  rw [after11]
  show colsAt _ (t.val - 1 + 1) = _
  rw [Nat.sub_add_cancel (Nat.pos_of_ne_zero ht)]

/-- The shared row sums' buffer holds what the points before have left. -/
theorem before10 (c : Dev nD) (d) : ∀ (n : Nat) (h : n < cfg0.N), n ≠ 0 → (dats m 0 c).before 10 ⟨n, h⟩ d = rowsAt (blocks m c) n
  | 0, _, h0 => absurd rfl h0
  | n + 1, h, _ => by
      have hl : n + 1 < 32 := lt_of_lt_of_eq h N_0
      have hn : n < cfg0.N := Nat.lt_of_succ_lt h
      rw [(dats m 0 c).before_of_pos 10 ⟨n + 1, h⟩ (Nat.succ_ne_zero n) (fetch10 _),
        if_neg (by rw [flush0_10]; show ¬ (n + 1 - 1) % 32 = 31; omega)]
      show (dats m 0 c).left 10 ⟨n, hn⟩ d = _
      have hi := idle10 ⟨n, hn⟩
      unfold Dat.left
      by_cases h0 : n = 0
      · rw [hi, show (!decide ((⟨n, hn⟩ : Fin cfg0.N).val = 0) && !decide ((⟨n, hn⟩ : Fin cfg0.N).val % 8 = 7)) = false by
          subst h0; rfl]
        exact after10 m c ⟨n, hn⟩
      by_cases h7 : n % 8 = 7
      · rw [hi, show (!decide ((⟨n, hn⟩ : Fin cfg0.N).val = 0) && !decide ((⟨n, hn⟩ : Fin cfg0.N).val % 8 = 7)) = false by
          simp only [h7, decide_true, Bool.not_true, Bool.and_false]]
        exact after10 m c ⟨n, hn⟩
      · rw [hi, show (!decide ((⟨n, hn⟩ : Fin cfg0.N).val = 0) && !decide ((⟨n, hn⟩ : Fin cfg0.N).val % 8 = 7)) = true by
          simp only [h0, h7, decide_false, Bool.not_false, Bool.and_true]]
        show (dats m 0 c).before 10 ⟨n, hn⟩ d = _
        rw [before10 c d n hn h0]
        exact (rowsAt_idle (blocks m c) ⟨n, hn⟩ h0 h7).symm

/-! ## The body at a point -/

/-- The body's memrefs at point `t`. -/
def argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := Memref.whole cc0_scratch0
  h14 := Memref.isWhole_whole _
  a15 := Memref.whole cc0_scratch1
  h15 := Memref.isWhole_whole _
  a16 := Memref.whole cc0_scratch2
  h16 := Memref.isWhole_whole _
  a17 := Memref.whole cc0_scratch3
  h17 := Memref.isWhole_whole _
  a18 := Memref.whole cc0_scratch4
  h18 := Memref.isWhole_whole _

/-- Every block is handed to the body whole. -/
def sharesFull : Shares := ⟨fullShare, fullShare, fullShare, fullShare, fullShare, fullShare, fullShare⟩

/-- The buffer of window `w` after point `t`, as the pipeline asks it back. -/
def leaves (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_of (c : Dev nD) (t : Fin cfg0.N) (w : Fin cfg0.W) (h : cfg0.idle w (cfg0.grid.coords t) = false) :
    owns (c : Thread nD τ) ((cfg0.win w).stage (cfg0.slots t w)) fullShare ((dats m 0 c).after w t) ⊢ leaves m c t w := by
  unfold leaves; rw [h]
theorem leaves_idle (c : Dev nD) (t : Fin cfg0.N) (w : Fin cfg0.W) (h : cfg0.idle w (cfg0.grid.coords t) = true)
    (hf : (cfg0.win w).flush t = false) (d) :
    owns (c : Thread nD τ) ((cfg0.win w).stage (cfg0.slots t w)) fullShare ((dats m 0 c).before w t d) ⊢ leaves m c t w := by
  unfold leaves; rw [h, hf]
  iintro H
  iexists d
  iexact H

section Leave
variable (c : Dev nD) (t : Fin cfg0.N) (s : St F)

theorem acc_eq (hd : t.val % 8 ≠ 0 → s.x18 = dqAt (blocks m c) t.val) :
    accSt (blocks m c t) (grid0.coords t) (dqIn (grid0.coords t) s.x18) = accAt (blocks m c) t := by
  unfold accAt
  by_cases h : t.val % 8 = 0
  · rw [dqIn_first h s.x18]
  · rw [hd h]

theorem leave7 (hd : t.val % 8 ≠ 0 → s.x18 = dqAt (blocks m c) t.val) (d) (h9 : s.x9 = (dats m 0 c).before 7 t d) :
    owns (c : Thread nD τ) (argsAt t).a9 fullShare (bodySt (blocks m c t) (grid0.coords t) s).x9 ⊢ leaves m c t 7 := by
  by_cases h7 : t.val % 8 = 7
  · rw [body_x9 _ _ _ ((cond4_iff t).mpr h7), acc_eq m c t s hd, ← after7]
    exact leaves_of m c t 7 (by rw [idle7, h7]; rfl)
  · rw [body_x9_idle _ _ _ (fun h => h7 ((cond4_iff t).mp h)), h9]
    exact leaves_idle m c t 7 (by rw [idle7]; simp only [h7, decide_false, Bool.not_false])
      (Bool.eq_false_iff.mpr fun h => h7 ((flush0_7 t).mp h)) d

theorem leave10 (hd : t.val % 8 ≠ 0 → s.x18 = dqAt (blocks m c) t.val) (d) (h12 : s.x12 = (dats m 0 c).before 10 t d) :
    owns (c : Thread nD τ) (argsAt t).a12 fullShare (bodySt (blocks m c t) (grid0.coords t) s).x12 ⊢ leaves m c t 10 := by
  have hl := lt32 t
  rw [body_x12, acc_eq m c t s hd]
  by_cases h0 : t.val = 0
  · rw [show rowsIn (grid0.coords t) s.x12 = rowsIn (grid0.coords t) (rowsAt (blocks m c) t) by
      unfold rowsIn; rw [if_pos ((cond1_iff t).mpr h0), if_pos ((cond1_iff t).mpr h0)], ← rowsAt_succ, ← after10]
    exact leaves_of m c t 10 (by rw [idle10]; simp only [h0, decide_true, Bool.not_true, Bool.false_and])
  by_cases h7 : t.val % 8 = 7
  · rw [h12, before10 m c d t.val t.isLt h0, ← rowsAt_succ, ← after10]
    exact leaves_of m c t 10 (by rw [idle10]; simp only [h7, decide_true, Bool.not_true, Bool.and_false])
  · rw [rowsOut, rowsIn, if_neg (fun h => h7 ((cond4_iff t).mp h)), if_neg (fun h => h0 ((cond1_iff t).mp h)), h12]
    exact leaves_idle m c t 10 (by rw [idle10]; simp only [h0, h7, decide_false, Bool.not_false, Bool.and_true])
      (Bool.eq_false_iff.mpr fun h => by rw [flush0_10] at h; omega) d

theorem left11 (hd : t.val % 8 ≠ 0 → s.x18 = dqAt (blocks m c) t.val) (d) (h13 : s.x13 = (dats m 0 c).before 11 t d) :
    (bodySt (blocks m c t) (grid0.coords t) s).x13 = (dats m 0 c).after 11 t := by
  rw [body_x13, acc_eq m c t s hd, after11, colsAt_succ]
  by_cases h0 : t.val = 0
  · unfold colsIn; rw [if_pos ((cond1_iff t).mpr h0), if_pos ((cond1_iff t).mpr h0)]
  · rw [h13, before11 m c t h0]

theorem left18 (hd : t.val % 8 ≠ 0 → s.x18 = dqAt (blocks m c) t.val) :
    (bodySt (blocks m c t) (grid0.coords t) s).x18 = dqAt (blocks m c) (t.val + 1) := by
  rw [body_x18, acc_eq m c t s hd, dqAt_succ]

end Leave

def bodyPre (c : Dev nD) (t : Fin cfg0.N) : sProp 𝕄 :=
  iprop((dats m 0 c).Φ t.castSucc ∗ (dats m 0 c).owesAt () t.castSucc
    ∗ (∃ d, owns (c : Thread nD τ) (argsAt t).a2 fullShare ((dats m 0 c).before 0 t d)) ∗ (∃ d, owns (c : Thread nD τ) (argsAt t).a3 fullShare ((dats m 0 c).before 1 t d))
    ∗ (∃ d, owns (c : Thread nD τ) (argsAt t).a4 fullShare ((dats m 0 c).before 2 t d)) ∗ (∃ d, owns (c : Thread nD τ) (argsAt t).a5 fullShare ((dats m 0 c).before 3 t d))
    ∗ (∃ d, owns (c : Thread nD τ) (argsAt t).a6 fullShare ((dats m 0 c).before 4 t d)) ∗ (∃ d, owns (c : Thread nD τ) (argsAt t).a7 fullShare ((dats m 0 c).before 5 t d))
    ∗ (∃ d, owns (c : Thread nD τ) (argsAt t).a8 fullShare ((dats m 0 c).before 6 t d)) ∗ (∃ d, owns (c : Thread nD τ) (argsAt t).a9 fullShare ((dats m 0 c).before 7 t d))
    ∗ (∃ d, owns (c : Thread nD τ) (argsAt t).a10 fullShare ((dats m 0 c).before 8 t d)) ∗ (∃ d, owns (c : Thread nD τ) (argsAt t).a11 fullShare ((dats m 0 c).before 9 t d))
    ∗ (∃ d, owns (c : Thread nD τ) (argsAt t).a12 fullShare ((dats m 0 c).before 10 t d)) ∗ (∃ d, owns (c : Thread nD τ) (argsAt t).a13 fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (argsAt t).a2 fullShare ((dats m 0 c).after 0 t) ∗ owns (c : Thread nD τ) (argsAt t).a3 fullShare ((dats m 0 c).after 1 t)
    ∗ owns (c : Thread nD τ) (argsAt t).a4 fullShare ((dats m 0 c).after 2 t) ∗ owns (c : Thread nD τ) (argsAt t).a5 fullShare ((dats m 0 c).after 3 t)
    ∗ owns (c : Thread nD τ) (argsAt t).a6 fullShare ((dats m 0 c).after 4 t) ∗ owns (c : Thread nD τ) (argsAt t).a7 fullShare ((dats m 0 c).after 5 t)
    ∗ owns (c : Thread nD τ) (argsAt t).a8 fullShare ((dats m 0 c).after 6 t) ∗ leaves m c t 7
    ∗ owns (c : Thread nD τ) (argsAt t).a10 fullShare ((dats m 0 c).after 8 t) ∗ owns (c : Thread nD τ) (argsAt t).a11 fullShare ((dats m 0 c).after 9 t)
    ∗ leaves m c t 10 ∗ owns (c : Thread nD τ) (argsAt t).a13 fullShare ((dats m 0 c).after 11 t))

/-- What the body leaves at a point, as the pipeline asks it back. -/
def atPost (c : Dev nD) (t : Fin cfg0.N) : sProp 𝕄 :=
  iprop(scr m c (t.val + 1)
    ∗ owns (c : Thread nD τ) (argsAt t).a2 fullShare ((dats m 0 c).after 0 t) ∗ owns (c : Thread nD τ) (argsAt t).a3 fullShare ((dats m 0 c).after 1 t)
    ∗ owns (c : Thread nD τ) (argsAt t).a4 fullShare ((dats m 0 c).after 2 t) ∗ owns (c : Thread nD τ) (argsAt t).a5 fullShare ((dats m 0 c).after 3 t)
    ∗ owns (c : Thread nD τ) (argsAt t).a6 fullShare ((dats m 0 c).after 4 t) ∗ owns (c : Thread nD τ) (argsAt t).a7 fullShare ((dats m 0 c).after 5 t)
    ∗ owns (c : Thread nD τ) (argsAt t).a8 fullShare ((dats m 0 c).after 6 t) ∗ leaves m c t 7
    ∗ owns (c : Thread nD τ) (argsAt t).a10 fullShare ((dats m 0 c).after 8 t) ∗ owns (c : Thread nD τ) (argsAt t).a11 fullShare ((dats m 0 c).after 9 t)
    ∗ leaves m c t 10 ∗ owns (c : Thread nD τ) (argsAt t).a13 fullShare ((dats m 0 c).after 11 t))

set_option maxHeartbeats 4000000 in
/-- The body's run at a point, from contents of its buffers to what the pipeline asks back. -/
theorem point_run (c : Dev nD) (t : Fin cfg0.N) (s : St F) (hd : t.val % 8 ≠ 0 → s.x18 = dqAt (blocks m c) t.val)
    (d9 d12 d13) (h9 : s.x9 = (dats m 0 c).before 7 t d9) (h12 : s.x12 = (dats m 0 c).before 10 t d12) (h13 : s.x13 = (dats m 0 c).before 11 t d13) :
    Own c (argsAt t) sharesFull (blocks m c t) (bodySt (blocks m c t) (grid0.coords t) s)
      ⊢ atPost m c t := by
  have e10 : (bodySt (blocks m c t) (grid0.coords t) s).x10 = (dats m 0 c).after 8 t := by
    rw [body_x10, acc_eq m c t s hd, after8]
  have e11 : (bodySt (blocks m c t) (grid0.coords t) s).x11 = (dats m 0 c).after 9 t := by
    rw [body_x11, acc_eq m c t s hd, after9]
  have l7 := leave7 m c t s hd d9 h9
  have l10 := leave10 m c t s hd d12 h12
  have e13 := left11 m c t s hd d13 h13
  have e18 := left18 m c t s hd
  generalize bodySt (blocks m c t) (grid0.coords t) s = r at e10 e11 l7 l10 e13 e18 ⊢
  unfold Own atPost scr
  rw [e10, e11, e13, after0, after1, after2, after3, after4, after5, after6]
  iintro ⟨H2, H3, H4, H5, H6, H7, H8, H9, H10, H11, H12, H13, H14, H15, H16, H17, H18⟩
  isplitl [H14 H15 H16 H17 H18]
  · isplitl [H14]; · iexists _; iexact H14
    isplitl [H15]; · iexists _; iexact H15
    isplitl [H16]; · iexists _; iexact H16
    isplitl [H17]; · iexists _; iexact H17
    iexists _; isplitr; swap; · iexact H18
    ipureintro; exact fun _ => e18
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply l7; iexact H9
  isplitl [H10]; · iexact H10
  isplitl [H11]; · iexact H11
  isplitl [H12]; · iapply l10; iexact H12
  iexact H13

set_option maxHeartbeats 4000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.castSucc = iprop(scr m c t.val ∗ ∃ r, prngReg c r) from rfl,
    show (dats m 0 c).Φ t.succ = iprop(scr m c (t.val + 1) ∗ ∃ r, prngReg c r) from rfl]
  unfold Dat.owesAt Pipeline.owesWithin
  rw [show (dats m 0 c).owed t.castSucc = 0 from rfl, show (dats m 0 c).owed t.succ = 0 from rfl]
  rw [show scr m c t.val = iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ ∃ d, ⌜t.val % 8 ≠ 0 → d = dqAt (blocks m c) t.val⌝ ∗ owns (c : Thread nD τ) (Memref.whole cc0_scratch4) fullShare d) from rfl]
  iintro ⟨⟨⟨⟨%d14, H14⟩, ⟨%d15, H15⟩, ⟨%d16, H16⟩, ⟨%d17, H17⟩, ⟨%d18, %hd, H18⟩⟩, Hg⟩, ⟨%W, -, HW⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c),
    before0_6_of m (dats m 0 c) (A_eq m c 6) (after6 m c)]
  have hr := body_run (c := c) (A := argsAt t) (q := sharesFull) (X := blocks m c t) (grid0.coords t)
    { x9 := (dats m 0 c).before 7 t d9, x10 := (dats m 0 c).before 8 t d10, x11 := (dats m 0 c).before 9 t d11,
      x12 := (dats m 0 c).before 10 t d12, x13 := (dats m 0 c).before 11 t d13,
      x14 := d14, x15 := d15, x16 := d16, x17 := d17, x18 := d18 }
    (Q := fun _ => atPost m c t) (point_run m c t _ hd d9 d12 d13 rfl rfl rfl)
  iapply wp_wand $$ [H2 H3 H4 H5 H6 H7 H8 H9 H10 H11 H12 H13 H14 H15 H16 H17 H18]
  · iapply hr
    unfold Own
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro %_ H
  unfold atPost
  icases H with ⟨HS, H2, H3, H4, H5, H6, H7, H8, H9, H10, H11, H12, H13⟩
  isplitl [HS Hg]
  · isplitl [HS]; · iexact HS
    iexact Hg
  isplitl [HW]
  · iexists W; isplitr; · ipureintro; exact fun _ _ => Or.inl trivial
    iexact HW
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem scr_start (c : Dev nD) : Pipeline.ΦA (τ := τ) (U := UR sig nD τ) (Val := Elt F) spec0 c ⊢ (dats m 0 c).Φ 0 := by
  show _ ⊢ iprop(scr m c 0 ∗ ∃ r, prngReg c r)
  unfold Pipeline.ΦA scr
  rw [scopedRest0_eq]
  simp only [owns_whole]
  iintro ⟨⟨⟨%f0, H0⟩, ⟨%f1, H1⟩, ⟨%f2, H2⟩, ⟨%f3, H3⟩, ⟨%f4, H4⟩⟩, Hg⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; isplitr; swap; · iexact H4
    ipureintro; exact fun h => absurd rfl h
  iexact Hg

theorem scr_end (c : Dev nD) : (dats m 0 c).Φ (Fin.last cfg0.N) ⊢ Pipeline.ΦA (τ := τ) (U := UR sig nD τ) (Val := Elt F) spec0 c := by
  show iprop(scr m c cfg0.N ∗ ∃ r, prngReg c r) ⊢ _
  unfold Pipeline.ΦA scr
  rw [scopedRest0_eq]
  simp only [owns_whole]
  iintro ⟨⟨⟨%f0, H0⟩, ⟨%f1, H1⟩, ⟨%f2, H2⟩, ⟨%f3, H3⟩, ⟨%f4, -, H4⟩⟩, Hg⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  iexact Hg

set_option backward.isDefEq.respectTransparency.types false in
/-- The whole program runs, and ends with its result arrays at what the points' write-backs have left and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m)
    (hin := scr_start m) (hout := scr_end m) (Q' := fun r => Pipeline.FramePost cfgs (dats m) 0 (V m) r ∧ r.2.sem = fun _ => 0)
    (hQ' := fun _ h => h)

variable {m} in
/-- What the run leaves of the arguments. -/
theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c)⟩

/-- Every run leaves the arguments as they were, and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of h.1, h.2⟩) (run_main m ρ)

end Cert.Proof.PI

end
-- ==== Proof.PI.Word.lean ====
/-
  The kernel is its ideal form's text with the mask's name read as its word, so its frame is the ideal form's at that reading.
-/
module

public import proofs.«01_k».proof.Defs
public import proofs.«01_k».proof.Proof.Gen.Kernel
public import proofs.«01_k».proof.Proof.PI.Run

@[expose] public section

set_option maxRecDepth 65536

noncomputable section

namespace Cert.Proof.PI

open Idealize.ShloMosaic Idealize.ShloMosaic.TcCoe
open Idealize.SL Idealize.SL.Sem

/-- A named constant read as its word. -/
local instance word : Named Bits := ⟨fun _ _ {φ} w => Scalar.ofBits φ w⟩

/-- The ideal form's frame at that reading. -/
def Frame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frame : Frame := fun m g _ => frame_args (F := Bits) m g

theorem frame_eq : Frame = Cert.quiescent_Kernel (hKernel := Cert.Kernel.Gen.facts) := by sl_kernel_rfl

theorem frame_word : Cert.quiescent_Kernel (hKernel := Cert.Kernel.Gen.facts) := frame_eq.mp frame

end Cert.Proof.PI

end
-- ==== Proof.Value.Tile.lean ====
/-
  One grid point over the extended reals: what an update adds to the accumulators, written with the point's rows and
  lanes, and what the accumulators hold after the updates of all the row tiles at or below the key tile.
-/
module

public import proofs.«01_k».proof.Proof.PI.Run
public import Idealize.ShloMosaic.Lib.Pointwise
public import Idealize.ShloMosaic.Lib.WordCmp

@[expose] public section

set_option maxRecDepth 16384

noncomputable section

namespace Cert.Proof.PI

open Cert.KernelIdeal Cert.KernelIdeal.Gen
open Idealize.ShloMosaic Idealize.ShloMosaic.TcCoe
open Idealize.SL Idealize.SL.Sem
open Idealize.ShloMosaic.Pipeline

/-! ## The rows and lanes of a point -/

/-- Lane `l` of a pair belongs to head `a`. -/
abbrev hv (a : Fin 2) (l : Fin 128) : Prop := l.val / 64 = a.val

/-- The query rows of head `a` with their extra lanes; the key rows; the value rows; the rows of the output's gradient. -/
def qa (X : Ins Ideal) (a : Fin 2) (t : Fin 4096) (l : Fin 128) : EReal :=
  if hv a l then X.x2 (ix2 t l) * Ideal.ofBits .bf16 0x3E00#16 else X.x6 (ix2 t l)
def km (X : Ins Ideal) (a : Fin 2) (s : Fin 512) (l : Fin 128) : EReal :=
  if hv a l then X.x3 (ix2 s l) else X.x7 (ix2 s l)
def vm (X : Ins Ideal) (a : Fin 2) (s : Fin 512) (l : Fin 128) : EReal :=
  if hv a l then X.x4 (ix2 s l) else if l.val % 64 < 3 then 1 else 0
def oa (X : Ins Ideal) (a : Fin 2) (t : Fin 4096) (l : Fin 128) : EReal :=
  if hv a l then X.x5 (ix2 t l) else X.x8 (ix2 t l)

/-- The weight of row `t` on key `s` of tile `j`, and the gradient of its logit. -/
def pw (X : Ins Ideal) (j : Nat) (a : Fin 2) (t : Fin 4096) (s : Fin 512) : EReal :=
  Ideal.exp (if 512 * j + s.val ≤ t.val then ∑ l, qa X a t l * km X a s l else ⊥)
def dg (X : Ins Ideal) (j : Nat) (a : Fin 2) (t : Fin 4096) (s : Fin 512) : EReal :=
  pw X j a t s * ∑ l, oa X a t l * vm X a s l

/-- Row `t`'s part of the values' gradient. -/
def pv (X : Ins Ideal) (j : Nat) (t : Fin 4096) (s : Fin 512) (l : Fin 128) : EReal :=
  (if hv 0 l then pw X j 0 t s * X.x5 (ix2 t l) else 0) + (if hv 1 l then pw X j 1 t s * X.x5 (ix2 t l) else 0)

/-- Row `x` of row tile `i`. -/
abbrev rowOf (i : Nat) (hi : i < 8) (x : Fin 512) : Fin 4096 := ⟨512 * i + x.val, by omega⟩

/-! ## The masks at an index -/

theorem sel92 {α : Type} (x : Fin 512) (l : Fin 128) (u v : α) : Scalar.select (k0_pay92 (ix2 x l)) u v = if hv 0 l then u else v := by
  have h : k0_pay92 (ix2 x l) = BitVec.ofBool (decide (l.val < 64)) := by
    pointwise [k0_pay92]
    exact WordCmp.cmpi_slt_ofNat (w := 32) (by have := l.isLt; omega) (by decide)
  rw [h]
  by_cases hl : l.val < 64
  · rw [if_pos (show hv 0 l from Nat.div_eq_of_lt hl)]; simp [hl, Scalar.select]
  · rw [if_neg (show ¬ hv 0 l from fun e => hl (by have : l.val / 64 = 0 := e; omega))]; simp [hl, Scalar.select]

theorem sel93 {α : Type} (x : Fin 512) (l : Fin 128) (u v : α) : Scalar.select (k0_pay93 (ix2 x l)) u v = if hv 1 l then u else v := by
  have h : k0_pay93 (ix2 x l) = BitVec.ofBool (decide (64 ≤ l.val)) := by
    pointwise [k0_pay93]
    exact WordCmp.cmpi_sge_ofNat (w := 32) (by have := l.isLt; omega) (by decide)
  rw [h]
  have := l.isLt
  by_cases hl : 64 ≤ l.val
  · rw [if_pos (show hv 1 l from (by omega : l.val / 64 = 1))]; simp [hl, Scalar.select]
  · rw [if_neg (show ¬ hv 1 l from fun e => hl (by have : l.val / 64 = 1 := e; omega))]; simp [hl, Scalar.select]

theorem ones_apply (x : Fin 512) (l : Fin 128) : (k0_pay97 (F := Ideal)) (ix2 x l) = if l.val % 64 < 3 then (1 : EReal) else 0 := by
  pointwise [k0_pay97]
  have h : (BitVec.setWidth 32 (IntOp.cmpi CmpIPredicate.slt (IntOp.andi (BitVec.ofNat 32 l.val) 63#32) 3#32)).toInt = if l.val % 64 < 3 then 1 else 0 := by
    revert l; decide +kernel
  show (((BitVec.setWidth 32 (IntOp.cmpi CmpIPredicate.slt (IntOp.andi (BitVec.ofNat 32 l.val) 63#32) 3#32)).toInt : ℝ) : EReal) = _
  rw [h]; split <;> simp

theorem maskDiag_apply (x : S512x512.Idx → EReal) (r c : Fin 512) : maskDiag (F := Ideal) x (ix2 r c) = if c.val ≤ r.val then x (ix2 r c) else ⊥ := by
  pointwise [maskDiag, k0_pay107]
  rw [WordCmp.cmpi_sge_ofNat (w := 32) (by have := r.isLt; omega) (by have := c.isLt; omega)]
  by_cases h : c.val ≤ r.val
  · simp [h, Scalar.select]
  · simp only [h, decide_false, if_false]; rfl

/-! ## Overwritten parts at an index -/

theorem ovK0 {α : Type} (d : S2x512x128.Idx → α) (w : rK0.shape.Idx → α) (a : Fin 2) (s : Fin 512) (l : Fin 128) :
    rK0.overlay d w (ix3 a s l) = if a = 0 then w (ix3 0 s l) else d (ix3 a s l) := by
  by_cases h : a = 0
  · subst h
    rw [if_pos rfl]
    refine Eq.trans (congrArg _ ?_) (rK0.overlay_emb d w (ix3 0 s l))
    funext b; apply Fin.ext
    match b with
    | ⟨0, _⟩ => rfl
    | ⟨1, _⟩ => show s.val = 0 + 1 * s.val; omega
    | ⟨2, _⟩ => show l.val = 0 + 1 * l.val; omega
  · rw [if_neg h]
    refine rK0.overlay_of_not_mem _ _ fun hm => h ?_
    obtain ⟨i, hi, e⟩ := LoadRect.mem_set _ |>.mp hm 0
    apply Fin.ext
    have e' : a.val = 0 + 1 * i := e
    have hi' : i < 1 := hi
    show a.val = 0; omega

theorem ovK1 {α : Type} (d : S2x512x128.Idx → α) (w : rK1.shape.Idx → α) (a : Fin 2) (s : Fin 512) (l : Fin 128) :
    rK1.overlay d w (ix3 a s l) = if a = 1 then w (ix3 0 s l) else d (ix3 a s l) := by
  by_cases h : a = 1
  · subst h
    rw [if_pos rfl]
    refine Eq.trans (congrArg _ ?_) (rK1.overlay_emb d w (ix3 0 s l))
    funext b; apply Fin.ext
    match b with
    | ⟨0, _⟩ => rfl
    | ⟨1, _⟩ => show s.val = 0 + 1 * s.val; omega
    | ⟨2, _⟩ => show l.val = 0 + 1 * l.val; omega
  · rw [if_neg h]
    refine rK1.overlay_of_not_mem _ _ fun hm => h ?_
    obtain ⟨i, hi, e⟩ := LoadRect.mem_set _ |>.mp hm 0
    apply Fin.ext
    have e' : a.val = 1 + 1 * i := e
    have hi' : i < 1 := hi
    show a.val = 1; omega

theorem ovR {α : Type} (h m : Nat) (inb) (d : S2x4096x128.Idx → α)
    (w : (Rect.unit (s := S2x4096x128) ![h, 512 * m, 0] S1x512x128.size inb).shape.Idx → α) (a : Fin 2) (t : Fin 4096) (l : Fin 128) :
    (Rect.unit (s := S2x4096x128) ![h, 512 * m, 0] S1x512x128.size inb).overlay d w (ix3 a t l) =
      if hh : a.val = h ∧ 512 * m ≤ t.val ∧ t.val < 512 * m + 512 then w (ix3 0 (⟨t.val - 512 * m, by omega⟩ : Fin 512) l) else d (ix3 a t l) := by
  by_cases hh : a.val = h ∧ 512 * m ≤ t.val ∧ t.val < 512 * m + 512
  · rw [dif_pos hh]
    refine Eq.trans (congrArg _ ?_) (Rect.overlay_emb _ d w (ix3 0 (⟨t.val - 512 * m, by omega⟩ : Fin 512) l))
    funext b; apply Fin.ext
    match b with
    | ⟨0, _⟩ => show a.val = h + 1 * 0; omega
    | ⟨1, _⟩ => show t.val = 512 * m + 1 * (t.val - 512 * m); omega
    | ⟨2, _⟩ => show l.val = 0 + 1 * l.val; omega
  · rw [dif_neg hh]
    refine Rect.overlay_of_not_mem _ _ _ fun hm => hh ?_
    have hm := LoadRect.mem_set _ |>.mp hm
    obtain ⟨i, hi, e⟩ := hm 0
    obtain ⟨i', hi', e2⟩ := hm 1
    have e' : a.val = h + 1 * i := e
    have hi : i < 1 := hi
    have e2' : t.val = 512 * m + 1 * i' := e2
    have hi' : i' < 512 := hi'
    omega

theorem ov2 {α : Type} (m : Nat) (inb) (d : S4096x128.Idx → α)
    (w : (Rect.unit (s := S4096x128) ![512 * m, 0] S512x128.size inb).shape.Idx → α) (t : Fin 4096) (l : Fin 128) :
    (Rect.unit (s := S4096x128) ![512 * m, 0] S512x128.size inb).overlay d w (ix2 t l) =
      if hh : 512 * m ≤ t.val ∧ t.val < 512 * m + 512 then w (ix2 (⟨t.val - 512 * m, by omega⟩ : Fin 512) l) else d (ix2 t l) := by
  by_cases hh : 512 * m ≤ t.val ∧ t.val < 512 * m + 512
  · rw [dif_pos hh]
    refine Eq.trans (congrArg _ ?_) (Rect.overlay_emb _ d w (ix2 (⟨t.val - 512 * m, by omega⟩ : Fin 512) l))
    funext b; apply Fin.ext
    match b with
    | ⟨0, _⟩ => show t.val = 512 * m + 1 * (t.val - 512 * m); omega
    | ⟨1, _⟩ => show l.val = 0 + 1 * l.val; omega
  · rw [dif_neg hh]
    refine Rect.overlay_of_not_mem _ _ _ fun hm => hh ?_
    have hm := LoadRect.mem_set _ |>.mp hm
    obtain ⟨i', hi', e2⟩ := hm 0
    have e2' : t.val = 512 * m + 1 * i' := e2
    have hi' : i' < 512 := hi'
    omega

/-! ## Sums over the rows of the tiles done -/

/-- One tile more: the sum over the rows below grows by that tile's rows. -/
theorem sum_tile (j n : Nat) (h : j + n < 8) (f : Fin 4096 → EReal) :
    (∑ t, if 512 * j ≤ t.val ∧ t.val < 512 * (j + (n + 1)) then f t else 0) =
      (∑ t, if 512 * j ≤ t.val ∧ t.val < 512 * (j + n) then f t else 0) + ∑ x : Fin 512, f (rowOf (j + n) h x) := by
  have e : (∑ x : Fin 512, f (rowOf (j + n) h x)) = ∑ t : Fin 4096, if 512 * (j + n) ≤ t.val ∧ t.val < 512 * (j + n) + 512 then f t else 0 := by
    rw [← Finset.sum_filter]
    refine Finset.sum_bij (fun x _ => rowOf (j + n) h x) ?_ ?_ ?_ ?_
    · intro x _; simp only [Finset.mem_filter, Finset.mem_univ, true_and]; have := x.isLt; omega
    · intro x _ y _ e; apply Fin.ext; have := congrArg Fin.val e; simp only at this; omega
    · intro t ht
      simp only [Finset.mem_filter, Finset.mem_univ, true_and] at ht
      exact ⟨⟨t.val - 512 * (j + n), by omega⟩, Finset.mem_univ _, Fin.ext (by show 512 * (j + n) + (t.val - 512 * (j + n)) = t.val; omega)⟩
    · intro x _; rfl
  rw [e, ← Finset.sum_add_distrib]
  refine Finset.sum_congr rfl fun t _ => ?_
  by_cases h1 : 512 * j ≤ t.val ∧ t.val < 512 * (j + n)
  · rw [if_pos h1, if_pos (by omega), if_neg (by omega), add_zero]
  · rw [if_neg h1]
    by_cases h2 : 512 * (j + n) ≤ t.val ∧ t.val < 512 * (j + n) + 512
    · rw [if_pos h2, if_pos (by omega), zero_add]
    · rw [if_neg h2, if_neg (by omega), add_zero]

end Cert.Proof.PI

end
-- ==== Proof.Value.Update.lean ====
/-
  What a grid point's accumulators hold: after `n` updates, the sums over the rows of the `n` row tiles done (`Acc`),
  one update at a time.
-/
module

public import proofs.«01_k».proof.Proof.Value.Tile

@[expose] public section

set_option maxRecDepth 16384

noncomputable section

namespace Cert.Proof.PI

open Cert.KernelIdeal Cert.KernelIdeal.Gen
open Idealize.ShloMosaic Idealize.ShloMosaic.TcCoe
open Idealize.SL Idealize.SL.Sem
open Idealize.ShloMosaic.Pipeline

/-- Row `t` is in one of the `n` row tiles from `j` on. -/
abbrev inT (j n : Nat) (t : Fin 4096) : Prop := 512 * j ≤ t.val ∧ t.val < 512 * (j + n)

/-- The accumulators of key tile `j` after the updates of `n` row tiles, `d` the queries' accumulator before them. -/
structure Acc (X : Ins Ideal) (j n : Nat) (d : S2x4096x128.Idx → EReal) (s : St Ideal) : Prop where
  k : ∀ a x l, s.x14 (ix3 a x l) = km X a x l
  v : ∀ a x l, s.x15 (ix3 a x l) = vm X a x l
  dk : ∀ a x l, s.x16 (ix3 a x l) = ∑ t, if inT j n t then dg X j a t x * qa X a t l else 0
  dv : ∀ x l, s.x17 (ix2 x l) = ∑ t, if inT j n t then pv X j t x l else 0
  dq : ∀ a t l, s.x18 (ix3 a t l) = d (ix3 a t l) + if inT j n t then ∑ x, dg X j a t x * km X a x l else 0

section Step
variable {X : Ins Ideal} {j n : Nat} (hn : j + n < 8) (ho : ∀ a, ![512 * (j + n), 0] a + S512x128.size a ≤ S4096x128.size a)

/-- The rows of an array at row tile `j + n`. -/
abbrev rowsAtT (A : S4096x128.Idx → EReal) (j n : Nat) (ho : ∀ a, ![512 * (j + n), 0] a + S512x128.size a ≤ S4096x128.size a) : S512x128.Idx → EReal :=
  View.ld (Val := Elt Ideal) (e' := .bf16) A (Rect.unit (s := S4096x128) ![512 * (j + n), 0] S512x128.size ho)

theorem ld_rows (A : S4096x128.Idx → EReal) (x : Fin 512) (l : Fin 128) : rowsAtT A j n ho (ix2 x l) = A (ix2 (rowOf (j + n) hn x) l) := by
  unfold rowsAtT
  pointwise

theorem ldK0 {e : EltTy} (A : S2x512x128.Idx → Elt Ideal e) (x : Fin 512) (l : Fin 128) : View.ld A rK0 (ix3 0 x l) = A (ix3 0 x l) := by pointwise
theorem ldK1 {e : EltTy} (A : S2x512x128.Idx → Elt Ideal e) (x : Fin 512) (l : Fin 128) : View.ld A rK1 (ix3 0 x l) = A (ix3 1 x l) := by pointwise
theorem ldR {e : EltTy} (h : Fin 2) (m : Nat) (inb) (A : S2x4096x128.Idx → Elt Ideal e) (x : Fin 512) (t : Fin 4096) (hx : t.val = 512 * m + x.val) (l : Fin 128) :
    View.ld A (Rect.unit (s := S2x4096x128) ![h.val, 512 * m, 0] S1x512x128.size inb) (ix3 0 x l) = A (ix3 h t l) := by
  refine congrArg A ?_
  funext b; apply Fin.ext
  match b with
  | ⟨0, _⟩ => show h.val + 1 * 0 = h.val; omega
  | ⟨1, _⟩ => show 512 * m + 1 * x.val = t.val; omega
  | ⟨2, _⟩ => show 0 + 1 * l.val = l.val; omega

theorem qs0_apply (x : Fin 512) (l : Fin 128) :
    qsOf (F := Ideal) k0_pay92 (rowsAtT X.x2 j n ho) (rowsAtT X.x6 j n ho) (ix2 x l) = qa X 0 (rowOf (j + n) hn x) l := by
  have h1 := ld_rows hn ho X.x2 x l
  have h2 := ld_rows hn ho X.x6 x l
  generalize rowsAtT X.x2 j n ho = A at h1 ⊢
  generalize rowsAtT X.x6 j n ho = B at h2 ⊢
  pointwise [qsOf]
  rw [sel92, h1, h2]; rfl
theorem qs1_apply (x : Fin 512) (l : Fin 128) :
    qsOf (F := Ideal) k0_pay93 (rowsAtT X.x2 j n ho) (rowsAtT X.x6 j n ho) (ix2 x l) = qa X 1 (rowOf (j + n) hn x) l := by
  have h1 := ld_rows hn ho X.x2 x l
  have h2 := ld_rows hn ho X.x6 x l
  generalize rowsAtT X.x2 j n ho = A at h1 ⊢
  generalize rowsAtT X.x6 j n ho = B at h2 ⊢
  pointwise [qsOf]
  rw [sel93, h1, h2]; rfl

/-- The weights of an update. -/
theorem p_apply (mk : FVec Ideal S512x512 .f32 → FVec Ideal S512x512 .f32)
    (hmk : ∀ (z : S512x512.Idx → EReal) (r c : Fin 512), mk z (ix2 r c) = if 512 * j + c.val ≤ 512 * (j + n) + r.val then z (ix2 r c) else ⊥)
    (a : Fin 2) (q : S512x128.Idx → EReal) (K : S1x512x128.Idx → EReal) (hq : ∀ x l, q (ix2 x l) = qa X a (rowOf (j + n) hn x) l)
    (hK : ∀ x l, K (ix3 0 x l) = km X a x l) (r c : Fin 512) :
    pOf (F := Ideal) mk q K (ix2 r c) = pw X j a (rowOf (j + n) hn r) c := by
  show Ideal.exp (mk (rowsBy q K) (ix2 r c)) = _
  rw [hmk, pw]
  congr 1
  refine if_congr Iff.rfl ?_ rfl
  pointwise [rowsBy]
  exact Finset.sum_congr rfl fun l _ => by rw [hq, hK]

theorem ds_apply (a : Fin 2) (m : IVec S512x128 1) (hm : ∀ (x : Fin 512) (l : Fin 128) (u v : EReal), Scalar.select (m (ix2 x l)) u v = if hv a l then u else v)
    (p : S512x512.Idx → EReal) (hp : ∀ r c, p (ix2 r c) = pw X j a (rowOf (j + n) hn r) c)
    (VM : S1x512x128.Idx → EReal) (hV : ∀ x l, VM (ix3 0 x l) = vm X a x l) (r c : Fin 512) :
    dsOf (F := Ideal) m p (rowsAtT X.x5 j n ho) (rowsAtT X.x8 j n ho) VM (ix2 r c) = dg X j a (rowOf (j + n) hn r) c := by
  have h1 := fun x l => ld_rows hn ho X.x5 x l
  have h2 := fun x l => ld_rows hn ho X.x8 x l
  generalize rowsAtT X.x5 j n ho = A at h1 ⊢
  generalize rowsAtT X.x8 j n ho = B at h2 ⊢
  pointwise [dsOf, rowsBy]
  rw [hp, dg]
  congr 1
  exact Finset.sum_congr rfl fun l _ => by rw [hm, h1, h2, hV]; rfl

theorem dk_apply (a : Fin 2) (ds : S512x512.Idx → EReal) (q : S512x128.Idx → EReal) (old : S1x512x128.Idx → EReal)
    (hds : ∀ r c, ds (ix2 r c) = dg X j a (rowOf (j + n) hn r) c) (hq : ∀ x l, q (ix2 x l) = qa X a (rowOf (j + n) hn x) l)
    (hold : ∀ x l, old (ix3 0 x l) = ∑ t, if inT j n t then dg X j a t x * qa X a t l else 0) (x : Fin 512) (l : Fin 128) :
    dkNew (F := Ideal) ds q old (ix3 0 x l) = ∑ t, if inT j (n + 1) t then dg X j a t x * qa X a t l else 0 := by
  pointwise [dkNew, colsBy]
  rw [hold]
  refine Eq.trans ?_ (sum_tile j n hn fun t => dg X j a t x * qa X a t l).symm
  congr 1
  exact Finset.sum_congr rfl fun r _ => by rw [hds, hq]

theorem dq_apply (a : Fin 2) (ds : S512x512.Idx → EReal) (K old : S1x512x128.Idx → EReal)
    (hds : ∀ r c, ds (ix2 r c) = dg X j a (rowOf (j + n) hn r) c) (hK : ∀ x l, K (ix3 0 x l) = km X a x l) (r : Fin 512) (l : Fin 128) :
    dqNew (F := Ideal) ds K old (ix3 0 r l) = old (ix3 0 r l) + ∑ x, dg X j a (rowOf (j + n) hn r) x * km X a x l := by
  pointwise [dqNew]
  congr 1
  exact Finset.sum_congr rfl fun x _ => by rw [hds, hK]

theorem dv_apply (p0 p1 : S512x512.Idx → EReal) (old : S512x128.Idx → EReal)
    (h0 : ∀ r c, p0 (ix2 r c) = pw X j 0 (rowOf (j + n) hn r) c) (h1 : ∀ r c, p1 (ix2 r c) = pw X j 1 (rowOf (j + n) hn r) c)
    (hold : ∀ x l, old (ix2 x l) = ∑ t, if inT j n t then pv X j t x l else 0) (x : Fin 512) (l : Fin 128) :
    dvNew (F := Ideal) p0 p1 (rowsAtT X.x5 j n ho) old (ix2 x l) = ∑ t, if inT j (n + 1) t then pv X j t x l else 0 := by
  have h5 := fun x l => ld_rows hn ho X.x5 x l
  generalize rowsAtT X.x5 j n ho = A at h5 ⊢
  pointwise [dvNew, colsBy, zb]
  rw [hold]
  refine Eq.trans ?_ (sum_tile j n hn fun t => pv X j t x l).symm
  congr 1
  rw [← Finset.sum_add_distrib]
  exact Finset.sum_congr rfl fun r _ => by rw [sel92, sel93, h0, h1, h5]; rfl

end Step

/-- The keys' accumulator after an update of one head, the queries', and the values'. -/
def dk0 (ds : S512x512.Idx → EReal) (q : S512x128.Idx → EReal) (A : S2x512x128.Idx → EReal) : S2x512x128.Idx → EReal :=
  rK0.overlay A (dkNew (F := Ideal) ds q (View.ld (Val := Elt Ideal) (e' := .f32) A rK0))
def dk1 (ds : S512x512.Idx → EReal) (q : S512x128.Idx → EReal) (A : S2x512x128.Idx → EReal) : S2x512x128.Idx → EReal :=
  rK1.overlay A (dkNew (F := Ideal) ds q (View.ld (Val := Elt Ideal) (e' := .f32) A rK1))
def dqH (h : Nat) (i : Nat) (inb : ∀ a, ![h, 512 * i, 0] a + S1x512x128.size a ≤ S2x4096x128.size a) (ds : S512x512.Idx → EReal)
    (K : S1x512x128.Idx → EReal) (A : S2x4096x128.Idx → EReal) : S2x4096x128.Idx → EReal :=
  (Rect.unit (s := S2x4096x128) ![h, 512 * i, 0] S1x512x128.size inb).overlay A
    (dqNew (F := Ideal) ds K (View.ld (Val := Elt Ideal) (e' := .f32) A (Rect.unit (s := S2x4096x128) ![h, 512 * i, 0] S1x512x128.size inb)))
def dvU (p0 p1 : S512x512.Idx → EReal) (v5 : S512x128.Idx → EReal) (A : S512x128.Idx → EReal) : S512x128.Idx → EReal :=
  rW.overlay A (dvNew (F := Ideal) p0 p1 v5 (View.ld (Val := Elt Ideal) (e' := .f32) A rW))

theorem dqH_apply {X : Ins Ideal} {j n : Nat} (hn : j + n < 8) (h : Fin 2) (hN : Nat) (e : h.val = hN) (inb) (ds : S512x512.Idx → EReal)
    (K : S1x512x128.Idx → EReal) (B : S2x4096x128.Idx → EReal)
    (hds : ∀ r c, ds (ix2 r c) = dg X j h (rowOf (j + n) hn r) c) (hK : ∀ x l, K (ix3 0 x l) = km X h x l) (a : Fin 2) (t : Fin 4096) (l : Fin 128) :
    dqH hN (j + n) inb ds K B (ix3 a t l) =
      B (ix3 a t l) + if a = h ∧ 512 * (j + n) ≤ t.val ∧ t.val < 512 * (j + n) + 512 then ∑ x, dg X j h t x * km X h x l else 0 := by
  subst e
  unfold dqH
  rw [ovR h.val (j + n) inb _ _ a t l]
  by_cases c : a = h ∧ 512 * (j + n) ≤ t.val ∧ t.val < 512 * (j + n) + 512
  · have hr : rowOf (j + n) hn ⟨t.val - 512 * (j + n), by omega⟩ = t := Fin.ext (by show 512 * (j + n) + (t.val - 512 * (j + n)) = t.val; omega)
    rw [dif_pos ⟨congrArg Fin.val c.1, c.2⟩, if_pos c, dq_apply hn h _ _ _ hds hK, hr,
      ldR (e := .f32) h (j + n) inb B _ t (by show t.val = 512 * (j + n) + (t.val - 512 * (j + n)); omega), c.1]
  · rw [dif_neg (fun c' => c ⟨Fin.ext c'.1, c'.2⟩), if_neg c, add_zero]

theorem fin2_eq {a : Fin 2} (h : ¬ a = 1) : a = 0 := by fin_cases a <;> simp_all

section With
variable {X : Ins Ideal} {j n : Nat} (hn : j + n < 8) {d : S2x4096x128.Idx → EReal} {s : St Ideal} (H : Acc X j n d s)
include H

theorem dk_with (ds0 ds1 : S512x512.Idx → EReal) (q0 q1 : S512x128.Idx → EReal)
    (hq0 : ∀ x l, q0 (ix2 x l) = qa X 0 (rowOf (j + n) hn x) l) (hq1 : ∀ x l, q1 (ix2 x l) = qa X 1 (rowOf (j + n) hn x) l)
    (hd0 : ∀ r c, ds0 (ix2 r c) = dg X j 0 (rowOf (j + n) hn r) c) (hd1 : ∀ r c, ds1 (ix2 r c) = dg X j 1 (rowOf (j + n) hn r) c)
    (a : Fin 2) (x : Fin 512) (l : Fin 128) :
    dk1 ds1 q1 (dk0 ds0 q0 s.x16) (ix3 a x l) = ∑ t, if inT j (n + 1) t then dg X j a t x * qa X a t l else 0 := by
  have e0 : ∀ x l, dk0 ds0 q0 s.x16 (ix3 0 x l) = _ := fun x l => (ovK0 _ _ 0 x l).trans ((if_pos rfl).trans
    (dk_apply hn 0 _ _ _ hd0 hq0 (fun x l => (ldK0 s.x16 x l).trans (H.dk 0 x l)) x l))
  have e1 : ∀ x l, dk0 ds0 q0 s.x16 (ix3 1 x l) = _ := fun x l => (ovK0 _ _ 1 x l).trans ((if_neg (by decide)).trans (H.dk 1 x l))
  generalize dk0 ds0 q0 s.x16 = A at e0 e1 ⊢
  unfold dk1
  rw [ovK1 _ _ a x l]
  by_cases ha : a = 1
  · subst ha
    rw [if_pos rfl]
    exact dk_apply hn 1 _ _ _ hd1 hq1 (fun x l => (ldK1 (e := .f32) A x l).trans (e1 x l)) x l
  · rw [if_neg ha]
    cases fin2_eq ha
    exact e0 x l

theorem dv_with (ho : ∀ a, ![512 * (j + n), 0] a + S512x128.size a ≤ S4096x128.size a) (p0 p1 : S512x512.Idx → EReal)
    (hp0 : ∀ r c, p0 (ix2 r c) = pw X j 0 (rowOf (j + n) hn r) c) (hp1 : ∀ r c, p1 (ix2 r c) = pw X j 1 (rowOf (j + n) hn r) c) (x : Fin 512) (l : Fin 128) :
    dvU p0 p1 (rowsAtT X.x5 j n ho) s.x17 (ix2 x l) = ∑ t, if inT j (n + 1) t then pv X j t x l else 0 := by
  unfold dvU
  rw [overlay_all z2, ld_all z2]
  exact dv_apply hn ho _ _ _ hp0 hp1 H.dv x l

theorem dq_with (ds0 ds1 : S512x512.Idx → EReal) (K0 K1 : S1x512x128.Idx → EReal) (h0) (h1)
    (hd0 : ∀ r c, ds0 (ix2 r c) = dg X j 0 (rowOf (j + n) hn r) c) (hd1 : ∀ r c, ds1 (ix2 r c) = dg X j 1 (rowOf (j + n) hn r) c)
    (hK0 : ∀ x l, K0 (ix3 0 x l) = km X 0 x l) (hK1 : ∀ x l, K1 (ix3 0 x l) = km X 1 x l) (a : Fin 2) (t : Fin 4096) (l : Fin 128) :
    dqH 1 (j + n) h1 ds1 K1 (dqH 0 (j + n) h0 ds0 K0 s.x18) (ix3 a t l) =
      d (ix3 a t l) + if inT j (n + 1) t then ∑ x, dg X j a t x * km X a x l else 0 := by
  rw [dqH_apply hn 1 1 rfl h1 ds1 K1 _ hd1 hK1, dqH_apply hn 0 0 rfl h0 ds0 K0 _ hd0 hK0, H.dq, add_assoc, add_assoc]
  congr 1
  by_cases ht : inT j n t
  · have hnt : ¬ (512 * (j + n) ≤ t.val ∧ t.val < 512 * (j + n) + 512) := by omega
    rw [if_pos ht, if_neg (fun c => hnt c.2), if_neg (fun c => hnt c.2), if_pos (by omega), add_zero, add_zero]
  · rw [if_neg ht, zero_add]
    by_cases hnt : 512 * (j + n) ≤ t.val ∧ t.val < 512 * (j + n) + 512
    · rw [if_pos (by omega : inT j (n + 1) t)]
      by_cases ha : a = 1
      · subst ha
        rw [if_neg (fun c => absurd c.1 (by decide)), if_pos ⟨rfl, hnt⟩, zero_add]
      · cases fin2_eq ha
        rw [if_pos ⟨rfl, hnt⟩, if_neg (fun c => absurd c.1 (by decide)), add_zero]
    · rw [if_neg (fun c => hnt c.2), if_neg (fun c => hnt c.2), if_neg (by omega : ¬ inT j (n + 1) t), add_zero]

end With

section Fields
variable (mk : FVec Ideal S512x512 .f32 → FVec Ideal S512x512 .f32) (X : Ins Ideal) (i : Nat) (ho) (h0) (h1) (s : St Ideal)

/-- The values an update adds. -/
def uq0 : S512x128.Idx → EReal := qsOf (F := Ideal) k0_pay92 (View.ld X.x2 (Rect.unit (s := S4096x128) ![512 * i, 0] S512x128.size ho)) (View.ld X.x6 (Rect.unit (s := S4096x128) ![512 * i, 0] S512x128.size ho))
def uq1 : S512x128.Idx → EReal := qsOf (F := Ideal) k0_pay93 (View.ld X.x2 (Rect.unit (s := S4096x128) ![512 * i, 0] S512x128.size ho)) (View.ld X.x6 (Rect.unit (s := S4096x128) ![512 * i, 0] S512x128.size ho))
def up0 : S512x512.Idx → EReal := pOf mk (uq0 X i ho) (View.ld s.x14 rK0)
def up1 : S512x512.Idx → EReal := pOf mk (uq1 X i ho) (View.ld s.x14 rK1)
def ud0 : S512x512.Idx → EReal := dsOf (F := Ideal) k0_pay92 (up0 mk X i ho s) (View.ld X.x5 (Rect.unit (s := S4096x128) ![512 * i, 0] S512x128.size ho)) (View.ld X.x8 (Rect.unit (s := S4096x128) ![512 * i, 0] S512x128.size ho)) (View.ld s.x15 rK0)
def ud1 : S512x512.Idx → EReal := dsOf (F := Ideal) k0_pay93 (up1 mk X i ho s) (View.ld X.x5 (Rect.unit (s := S4096x128) ![512 * i, 0] S512x128.size ho)) (View.ld X.x8 (Rect.unit (s := S4096x128) ![512 * i, 0] S512x128.size ho)) (View.ld s.x15 rK1)

theorem upd16 : (upd mk X ![512 * i, 0] ho ![0, 512 * i, 0] h0 ![1, 512 * i, 0] h1 s).x16 =
    dk1 (ud1 mk X i ho s) (uq1 X i ho) (dk0 (ud0 mk X i ho s) (uq0 X i ho) s.x16) := by
  unfold upd dk1 dk0 ud1 ud0 up1 up0 uq0 uq1
  dsimp only [St.put16, St.put17, St.put18]
theorem upd17 : (upd mk X ![512 * i, 0] ho ![0, 512 * i, 0] h0 ![1, 512 * i, 0] h1 s).x17 =
    dvU (up0 mk X i ho s) (up1 mk X i ho s) (View.ld X.x5 (Rect.unit (s := S4096x128) ![512 * i, 0] S512x128.size ho)) s.x17 := by
  unfold upd dvU up1 up0 uq0 uq1
  dsimp only [St.put16, St.put17, St.put18]
theorem upd18 : (upd mk X ![512 * i, 0] ho ![0, 512 * i, 0] h0 ![1, 512 * i, 0] h1 s).x18 =
    dqH 1 i h1 (ud1 mk X i ho s) (View.ld s.x14 rK1) (dqH 0 i h0 (ud0 mk X i ho s) (View.ld s.x14 rK0) s.x18) := by
  unfold upd dqH ud1 ud0 up1 up0 uq0 uq1
  dsimp only [St.put16, St.put17, St.put18]
theorem upd14 {o ho' o0 h0' o1 h1'} : (upd mk X o ho' o0 h0' o1 h1' s).x14 = s.x14 := by
  unfold upd
  dsimp only [St.put16, St.put17, St.put18]
theorem upd15 {o ho' o0 h0' o1 h1'} : (upd mk X o ho' o0 h0' o1 h1' s).x15 = s.x15 := by
  unfold upd
  dsimp only [St.put16, St.put17, St.put18]

end Fields

/-- An update of the next row tile. -/
theorem acc_upd {X : Ins Ideal} {j n : Nat} (hn : j + n < 8) {d : S2x4096x128.Idx → EReal} {s : St Ideal} (H : Acc X j n d s)
    (mk : FVec Ideal S512x512 .f32 → FVec Ideal S512x512 .f32)
    (hmk : ∀ (z : S512x512.Idx → EReal) (r c : Fin 512), mk z (ix2 r c) = if 512 * j + c.val ≤ 512 * (j + n) + r.val then z (ix2 r c) else ⊥)
    {o : Fin 2 → Nat} (ho) {o0 : Fin 3 → Nat} (h0) {o1 : Fin 3 → Nat} (h1)
    (eo : o = ![512 * (j + n), 0]) (e0 : o0 = ![0, 512 * (j + n), 0]) (e1 : o1 = ![1, 512 * (j + n), 0]) :
    Acc X j (n + 1) d (upd mk X o ho o0 h0 o1 h1 s) := by
  subst eo; subst e0; subst e1
  have hK0 : ∀ x l, View.ld s.x14 rK0 (ix3 0 x l) = km X 0 x l := fun x l => (ldK0 s.x14 x l).trans (H.k 0 x l)
  have hK1 : ∀ x l, View.ld s.x14 rK1 (ix3 0 x l) = km X 1 x l := fun x l => (ldK1 s.x14 x l).trans (H.k 1 x l)
  have hV0 : ∀ x l, View.ld s.x15 rK0 (ix3 0 x l) = vm X 0 x l := fun x l => (ldK0 s.x15 x l).trans (H.v 0 x l)
  have hV1 : ∀ x l, View.ld s.x15 rK1 (ix3 0 x l) = vm X 1 x l := fun x l => (ldK1 s.x15 x l).trans (H.v 1 x l)
  have hq0 : ∀ x l, uq0 X (j + n) ho (ix2 x l) = _ := qs0_apply (X := X) hn ho
  have hq1 : ∀ x l, uq1 X (j + n) ho (ix2 x l) = _ := qs1_apply (X := X) hn ho
  have hp0 : ∀ x l, up0 mk X (j + n) ho s (ix2 x l) = _ := p_apply (X := X) hn mk hmk 0 _ _ hq0 hK0
  have hp1 : ∀ x l, up1 mk X (j + n) ho s (ix2 x l) = _ := p_apply (X := X) hn mk hmk 1 _ _ hq1 hK1
  have hd0 : ∀ x l, ud0 mk X (j + n) ho s (ix2 x l) = _ := ds_apply (X := X) hn ho 0 k0_pay92 (fun x l u v => sel92 x l u v) _ hp0 _ hV0
  have hd1 : ∀ x l, ud1 mk X (j + n) ho s (ix2 x l) = _ := ds_apply (X := X) hn ho 1 k0_pay93 (fun x l u v => sel93 x l u v) _ hp1 _ hV1
  refine ⟨?_, ?_, ?_, ?_, ?_⟩
  · rw [upd14]; exact H.k
  · rw [upd15]; exact H.v
  · rw [upd16]; exact dk_with hn H _ _ _ _ hq0 hq1 hd0 hd1
  · rw [upd17]; exact dv_with hn H ho _ _ hp0 hp1
  · rw [upd18]; exact dq_with hn H _ _ _ _ h0 h1 hd0 hd1 hK0 hK1

end Cert.Proof.PI

end
-- ==== Proof.Value.Point.lean ====
/-
  One grid point over the extended reals: what its accumulators hold after all its updates, as sums over the rows at or
  below the key tile, and the blocks of the results it writes.
-/
module

public import proofs.«01_k».proof.Proof.Value.Update

@[expose] public section

set_option maxRecDepth 16384

noncomputable section

namespace Cert.Proof.PI

open Cert.KernelIdeal Cert.KernelIdeal.Gen
open Idealize.ShloMosaic Idealize.ShloMosaic.TcCoe
open Idealize.SL Idealize.SL.Sem
open Idealize.ShloMosaic.Pipeline

/-! ## The updates' places -/

theorem off4_1 : ∀ (i : grid0.Coords) (k : Fin (k0_t1_loop i).trips), k0_off4 i k 1#32 = ![512 * ((i 1).val + (1 + 2 * k.val)), 0] := by decide +kernel
theorem off4_2 : ∀ (i : grid0.Coords) (k : Fin (k0_t1_loop i).trips), k0_off4 i k 2#32 = ![512 * ((i 1).val + (1 + 2 * k.val + 1)), 0] := by decide +kernel
theorem off5_1 : ∀ (i : grid0.Coords) (k : Fin (k0_t1_loop i).trips), k0_off5 i k 1#32 = ![0, 512 * ((i 1).val + (1 + 2 * k.val)), 0] := by decide +kernel
theorem off5_2 : ∀ (i : grid0.Coords) (k : Fin (k0_t1_loop i).trips), k0_off5 i k 2#32 = ![0, 512 * ((i 1).val + (1 + 2 * k.val + 1)), 0] := by decide +kernel
theorem off6_1 : ∀ (i : grid0.Coords) (k : Fin (k0_t1_loop i).trips), k0_off6 i k 1#32 = ![1, 512 * ((i 1).val + (1 + 2 * k.val)), 0] := by decide +kernel
theorem off6_2 : ∀ (i : grid0.Coords) (k : Fin (k0_t1_loop i).trips), k0_off6 i k 2#32 = ![1, 512 * ((i 1).val + (1 + 2 * k.val + 1)), 0] := by decide +kernel
theorem trips1 : ∀ i : grid0.Coords, (k0_t1_loop i).trips = (7 - (i 1).val) / 2 := by decide +kernel
theorem cond3_iff : ∀ i : grid0.Coords, k0_cond3 i = 1#1 ↔ (7 - (i 1).val) % 2 = 1 := by decide +kernel

/-! ## From the empty accumulators to the full sums -/

theorem acc_tile (X : Ins Ideal) (j : Nat) (d : S2x4096x128.Idx → EReal) : Acc X j 0 d (tileSt (F := Ideal) X d) := by
  have no : ∀ t : Fin 4096, ¬ inT j 0 t := fun t h => by unfold inT at h; omega
  refine ⟨fun a x l => ?_, fun a x l => ?_, fun a x l => ?_, fun x l => ?_, fun a t l => ?_⟩
  · show rK1.overlay (rK0.overlay _ (k0_pay98 (View.ld X.x3 rW) (View.ld X.x7 rW))) (k0_pay100 k0_pay93 (View.ld X.x3 rW) (View.ld X.x7 rW)) (ix3 a x l) = _
    rw [ovK1, ovK0, ld_all z2, ld_all z2]
    by_cases ha : a = 1
    · subst ha
      rw [if_pos rfl]
      pointwise [k0_pay100]
      rw [sel93]; rfl
    · cases fin2_eq ha
      rw [if_neg ha, if_pos rfl]
      pointwise [k0_pay98]
      exact sel92 x l _ _
  · show rK1.overlay (rK0.overlay _ (k0_pay99 (View.ld X.x4 rW))) (k0_pay101 k0_pay93 (k0_pay97 (F := Ideal)) (View.ld X.x4 rW)) (ix3 a x l) = _
    rw [ovK1, ovK0, ld_all z2]
    by_cases ha : a = 1
    · subst ha
      rw [if_pos rfl]
      have h := ones_apply x l
      generalize k0_pay97 (F := Ideal) = O at h ⊢
      pointwise [k0_pay101]
      rw [sel93, h]; rfl
    · cases fin2_eq ha
      rw [if_neg ha, if_pos rfl]
      have h := ones_apply x l
      refine Eq.trans (?_ : _ = Scalar.select (k0_pay92 (ix2 x l)) (X.x4 (ix2 x l)) (k0_pay97 (F := Ideal) (ix2 x l))) ?_
      · pointwise [k0_pay99]
      · rw [sel92, h]; rfl
  · show k0_pay102 (F := Ideal) (ix3 a x l) = _
    rw [Finset.sum_congr rfl fun t _ => if_neg (no t), Finset.sum_const_zero]
    pointwise [k0_pay102]
  · show k0_pay103 (F := Ideal) (ix2 x l) = _
    rw [Finset.sum_congr rfl fun t _ => if_neg (no t), Finset.sum_const_zero]
    pointwise [k0_pay103]
  · show d (ix3 a t l) = _
    rw [if_neg (no t), add_zero]

theorem keep_id {j n : Nat} (h : 0 < n) (z : S512x512.Idx → EReal) (r c : Fin 512) :
    (id z : S512x512.Idx → EReal) (ix2 r c) = if 512 * j + c.val ≤ 512 * (j + n) + r.val then z (ix2 r c) else ⊥ := by
  rw [if_pos (by have := c.isLt; omega)]; rfl

theorem acc_diag (X : Ins Ideal) (i : grid0.Coords) (d : S2x4096x128.Idx → EReal) :
    Acc X (i 1).val 1 d (diagSt (F := Ideal) X i (tileSt X d)) := by
  have h1 : (i 1).val < 8 := (i 1).isLt
  have H := acc_tile X (i 1).val d
  generalize tileSt (F := Ideal) X d = s at H ⊢
  unfold diagSt
  exact acc_upd (n := 0) h1 H _ (fun z r c => by
    rw [maskDiag_apply]
    exact if_congr (by omega) rfl rfl) _ _ _ (k0_off1_eq i) (k0_off2_eq i) (k0_off3_eq i)

theorem acc_trips {X : Ins Ideal} (i : grid0.Coords) {d : S2x4096x128.Idx → EReal} {s : St Ideal} (H : Acc X (i 1).val 1 d s) :
    ∀ n, n ≤ (k0_t1_loop i).trips → Acc X (i 1).val (1 + 2 * n) d (tripsSt (F := Ideal) X i s n)
  | 0, _ => H
  | n + 1, hn => by
      have h := acc_trips i H n (Nat.le_of_succ_le hn)
      have ht := trips1 i
      rw [tripsSt, dif_pos (show n < (k0_t1_loop i).trips from hn)]
      generalize tripsSt (F := Ideal) X i s n = s1 at h ⊢
      unfold trip
      have h2 := acc_upd (by omega) h id (keep_id (by omega)) (k0_off4_inb i ⟨n, hn⟩ 0) (k0_off5_inb i ⟨n, hn⟩ 0) (k0_off6_inb i ⟨n, hn⟩ 0)
        (off4_1 i ⟨n, hn⟩) (off5_1 i ⟨n, hn⟩) (off6_1 i ⟨n, hn⟩)
      generalize upd id X (k0_off4 i ⟨n, hn⟩ 1#32) (k0_off4_inb i ⟨n, hn⟩ 0) (k0_off5 i ⟨n, hn⟩ 1#32) (k0_off5_inb i ⟨n, hn⟩ 0) (k0_off6 i ⟨n, hn⟩ 1#32)
        (k0_off6_inb i ⟨n, hn⟩ 0) s1 = s2 at h2 ⊢
      exact acc_upd (by omega) h2 id (keep_id (by omega)) (k0_off4_inb i ⟨n, hn⟩ 1) (k0_off5_inb i ⟨n, hn⟩ 1) (k0_off6_inb i ⟨n, hn⟩ 1)
        (off4_2 i ⟨n, hn⟩) (off5_2 i ⟨n, hn⟩) (off6_2 i ⟨n, hn⟩)

theorem acc_point (X : Ins Ideal) (i : grid0.Coords) (d : S2x4096x128.Idx → EReal) :
    Acc X (i 1).val (8 - (i 1).val) d (accSt (F := Ideal) X i d) := by
  have h1 : (i 1).val < 8 := (i 1).isLt
  have h := acc_trips i (acc_diag X i d) (k0_t1_loop i).trips le_rfl
  have ht := trips1 i
  unfold accSt
  generalize tripsSt (F := Ideal) X i (diagSt X i (tileSt X d)) (k0_t1_loop i).trips = s at h ⊢
  rw [ht] at h
  unfold lastSt
  by_cases h3 : k0_cond3 i = 1#1
  · have h4 := (cond3_iff i).mp h3
    rw [if_pos h3]
    obtain ⟨n, hn⟩ : ∃ n, n = 1 + 2 * ((7 - (i 1).val) / 2) := ⟨_, rfl⟩
    rw [← hn] at h
    rw [show 8 - (i 1).val = n + 1 by omega]
    have e : 512 * ((i 1).val + n) = 3584 := by omega
    exact acc_upd (by omega) h id (keep_id (by omega)) _ _ _ (by rw [e]) (by rw [e]) (by rw [e])
  · rw [if_neg h3]
    have h4 : ¬ (7 - (i 1).val) % 2 = 1 := fun h => h3 ((cond3_iff i).mpr h)
    rw [show 8 - (i 1).val = 1 + 2 * ((7 - (i 1).val) / 2) by omega]
    exact h

/-- Above the key tile the weights are zero, so a sum over the rows done is a sum over all rows. -/
theorem pw_above {X : Ins Ideal} {j : Nat} {t : Fin 4096} (h : ¬ inT j (8 - j) t) (a : Fin 2) (s : Fin 512) : pw X j a t s = 0 := by
  have := t.isLt
  rw [pw, if_neg (by unfold inT at h; omega)]
  exact Ideal.exp_bot
theorem dg_above {X : Ins Ideal} {j : Nat} {t : Fin 4096} (h : ¬ inT j (8 - j) t) (a : Fin 2) (s : Fin 512) : dg X j a t s = 0 := by
  rw [dg, pw_above h, zero_mul]

section Full
variable (X : Ins Ideal) (i : grid0.Coords) (d : S2x4096x128.Idx → EReal)

theorem point_dk (a : Fin 2) (x : Fin 512) (l : Fin 128) :
    (accSt (F := Ideal) X i d).x16 (ix3 a x l) = ∑ t, dg X (i 1).val a t x * qa X a t l :=
  ((acc_point X i d).dk a x l).trans (Finset.sum_congr rfl fun t _ => by
    split
    · rfl
    · next h => rw [dg_above h, zero_mul])
theorem point_dv (x : Fin 512) (l : Fin 128) : (accSt (F := Ideal) X i d).x17 (ix2 x l) = ∑ t, pv X (i 1).val t x l :=
  ((acc_point X i d).dv x l).trans (Finset.sum_congr rfl fun t _ => by
    split
    · rfl
    · next h => rw [pv, pw_above h, pw_above h, zero_mul, ite_self, ite_self, add_zero])
theorem point_dq (a : Fin 2) (t : Fin 4096) (l : Fin 128) :
    (accSt (F := Ideal) X i d).x18 (ix3 a t l) = d (ix3 a t l) + ∑ x, dg X (i 1).val a t x * km X a x l := by
  rw [(acc_point X i d).dq a t l]
  congr 1
  split
  · rfl
  · next h => exact (Finset.sum_eq_zero fun x _ => by rw [dg_above h, zero_mul]).symm

end Full

/-! ## The blocks a point writes -/

/-- The head a lane of a pair belongs to. -/
abbrev hd (l : Fin 128) : Fin 2 := ⟨l.val / 64, by omega⟩

theorem hv_hd (l : Fin 128) : hv (hd l) l := rfl

theorem sel_head {α : Type} (l : Fin 128) (A : Fin 2 → α) : (if hv 0 l then A 0 else A 1) = A (hd l) := by
  have := l.isLt
  by_cases h : hv 0 l
  · rw [if_pos h]; exact congrArg A (Fin.ext h.symm)
  · rw [if_neg h]
    refine congrArg A (Fin.ext ?_)
    have h' : ¬ l.val / 64 = 0 := h
    show 1 = l.val / 64
    omega

theorem selQ {α : Type} (t : Fin 4096) (l : Fin 128) (u v : α) :
    Scalar.select (IntOp.cmpi CmpIPredicate.slt (BitVec.ofNat 32 l.val) 64#32) u v = if hv 0 l then u else v := by
  rw [show (64#32 : BitVec 32) = BitVec.ofNat 32 64 from rfl, WordCmp.cmpi_slt_ofNat (w := 32) (by have := l.isLt; omega) (by decide)]
  by_cases hl : l.val < 64
  · rw [if_pos (show hv 0 l from Nat.div_eq_of_lt hl)]; simp [hl, Scalar.select]
  · rw [if_neg (show ¬ hv 0 l from fun e => hl (by have : l.val / 64 = 0 := e; omega))]; simp [hl, Scalar.select]

theorem dkOut_apply (s : St Ideal) (x : Fin 512) (l : Fin 128) : dkOut (F := Ideal) s (ix2 x l) = s.x16 (ix3 (hd l) x l) := by
  unfold dkOut
  have h0 := ldK0 (e := .f32) s.x16 x l
  have h1 := ldK1 (e := .f32) s.x16 x l
  generalize View.ld s.x16 rK0 = A at h0 ⊢
  generalize View.ld s.x16 rK1 = B at h1 ⊢
  pointwise [k0_pay131]
  rw [sel92, h0, h1]
  exact sel_head l fun a => s.x16 (ix3 a x l)

theorem dvOut_apply (s : St Ideal) (x : Fin 512) (l : Fin 128) : dvOut (F := Ideal) s (ix2 x l) = s.x17 (ix2 x l) := by
  unfold dvOut
  rw [ld_all z2]
  pointwise [k0_pay132]

theorem ldA0 {e : EltTy} (A : S2x4096x128.Idx → Elt Ideal e) (x : Fin 4096) (l : Fin 128) : View.ld A rA0 (ix3 0 x l) = A (ix3 0 x l) := by pointwise
theorem ldA1 {e : EltTy} (A : S2x4096x128.Idx → Elt Ideal e) (x : Fin 4096) (l : Fin 128) : View.ld A rA1 (ix3 0 x l) = A (ix3 1 x l) := by pointwise

theorem dqOut_apply (s : St Ideal) (t : Fin 4096) (l : Fin 128) :
    dqOut (F := Ideal) s (ix2 t l) = s.x18 (ix3 (hd l) t l) * Ideal.ofBits .f32 0x3E000000#32 := by
  unfold dqOut
  have h0 := ldA0 (e := .f32) s.x18 t l
  have h1 := ldA1 (e := .f32) s.x18 t l
  generalize View.ld s.x18 rA0 = A at h0 ⊢
  generalize View.ld s.x18 rA1 = B at h1 ⊢
  pointwise [k0_pay90]
  rw [selQ t, h0, h1]
  exact congrArg (· * _) (sel_head l fun a => s.x18 (ix3 a t l))

theorem lane0 : ∀ (p : Fin 4) (l : Fin 128), IntOp.cmpi CmpIPredicate.eq (IntOp.subi (BitVec.ofNat 32 l.val) (Scalar.muli 2#32 (BitVec.ofNat 32 p.val))) 0#32 =
    BitVec.ofBool (decide (l.val = 2 * p.val)) := by decide +kernel
theorem lane1 : ∀ (p : Fin 4) (l : Fin 128), IntOp.cmpi CmpIPredicate.eq (IntOp.subi (BitVec.ofNat 32 l.val) (Scalar.muli 2#32 (BitVec.ofNat 32 p.val))) 1#32 =
    BitVec.ofBool (decide (l.val = 2 * p.val + 1)) := by decide +kernel
theorem sel_dec {α : Type} (P : Prop) [Decidable P] (u v : α) : Scalar.select (BitVec.ofBool (decide P)) u v = if P then u else v := by
  by_cases h : P <;> simp [h, Scalar.select]

theorem pay91_apply (p : Fin 4) (d : S4096x128.Idx → EReal) (A B : S1x4096x128.Idx → EReal) (t : Fin 4096) (l : Fin 128) :
    k0_pay91 (F := Ideal) (BitVec.ofNat 32 p.val) d A B (ix2 t l) =
      if l.val = 2 * p.val then A (ix3 0 t 64) else if l.val = 2 * p.val + 1 then B (ix3 0 t 0) else d (ix2 t l) := by
  pointwise [k0_pay91]
  rw [lane0, lane1, sel_dec, sel_dec]
theorem pay1_apply (p : Fin 4) (d : S512x128.Idx → EReal) (A B : S1x512x128.Idx → EReal) (t : Fin 512) (l : Fin 128) :
    k0_pay1 (F := Ideal) (BitVec.ofNat 32 p.val) d (k0_pay134 A) B (ix2 t l) =
      if l.val = 2 * p.val then A (ix3 0 t 67) else if l.val = 2 * p.val + 1 then B (ix3 0 t 3) else d (ix2 t l) := by
  pointwise [k0_pay1, k0_pay134]
  rw [lane0, lane1, sel_dec, sel_dec]

end Cert.Proof.PI

end
-- ==== Proof.Value.Pair.lean ====
/-
  All the grid points: with each pair of heads' rows named once (`Rows`), what the points' blocks of the results hold, as
  sums over all the rows and all the keys.
-/
module

public import proofs.«01_k».proof.Proof.Value.Point

@[expose] public section

set_option maxRecDepth 16384

noncomputable section

namespace Cert.Proof.PI

open Cert.KernelIdeal Cert.KernelIdeal.Gen
open Idealize.ShloMosaic Idealize.ShloMosaic.TcCoe
open Idealize.SL Idealize.SL.Sem
open Idealize.ShloMosaic.Pipeline

/-- The rows of a pair: queries, keys, values and the output's gradient, and the extra lanes of the queries, of the keys
    and of the output's gradient. -/
structure Rows where
  (q k v o qx kx ox : Fin 4096 → Fin 128 → EReal)

namespace Rows
variable (g : Rows) (a : Fin 2)

def Q (t : Fin 4096) (l : Fin 128) : EReal := if hv a l then g.q t l * Ideal.ofBits .bf16 0x3E00#16 else g.qx t l
def K (s : Fin 4096) (l : Fin 128) : EReal := if hv a l then g.k s l else g.kx s l
def V (s : Fin 4096) (l : Fin 128) : EReal := if hv a l then g.v s l else if l.val % 64 < 3 then 1 else 0
def O (t : Fin 4096) (l : Fin 128) : EReal := if hv a l then g.o t l else g.ox t l

/-- The weight of row `t` on key `s`, and the gradient of its logit. -/
def W (t s : Fin 4096) : EReal := Ideal.exp (if s ≤ t then ∑ l, g.Q a t l * g.K a s l else ⊥)
def D (t s : Fin 4096) : EReal := g.W a t s * ∑ l, g.O a t l * g.V a s l

/-- Lane `l` of the gradients of query `t` and of key `s`, before the queries' scale. -/
def dq (t : Fin 4096) (l : Fin 128) : EReal := ∑ s, g.D a t s * g.K a s l
def dk (s : Fin 4096) (l : Fin 128) : EReal := ∑ t, g.D a t s * g.Q a t l

end Rows

/-- The blocks are the tiles of the pairs' rows. -/
structure Fits (B : Blocks Ideal) (G : Fin 4 → Rows) : Prop where
  x2 : ∀ (p : Fin 4) (n : Fin grid0.N), n.val / 8 = p.val → ∀ t l, (B n).x2 (ix2 t l) = (G p).q t l
  x3 : ∀ (p : Fin 4) (n : Fin grid0.N), n.val / 8 = p.val → ∀ x l, (B n).x3 (ix2 x l) = (G p).k (rowOf (n.val % 8) (Nat.mod_lt _ (by decide)) x) l
  x4 : ∀ (p : Fin 4) (n : Fin grid0.N), n.val / 8 = p.val → ∀ x l, (B n).x4 (ix2 x l) = (G p).v (rowOf (n.val % 8) (Nat.mod_lt _ (by decide)) x) l
  x5 : ∀ (p : Fin 4) (n : Fin grid0.N), n.val / 8 = p.val → ∀ t l, (B n).x5 (ix2 t l) = (G p).o t l
  x6 : ∀ (p : Fin 4) (n : Fin grid0.N), n.val / 8 = p.val → ∀ t l, (B n).x6 (ix2 t l) = (G p).qx t l
  x7 : ∀ (p : Fin 4) (n : Fin grid0.N), n.val / 8 = p.val → ∀ x l, (B n).x7 (ix2 x l) = (G p).kx (rowOf (n.val % 8) (Nat.mod_lt _ (by decide)) x) l
  x8 : ∀ (p : Fin 4) (n : Fin grid0.N), n.val / 8 = p.val → ∀ t l, (B n).x8 (ix2 t l) = (G p).ox t l

theorem coord0 : ∀ n : Fin grid0.N, ((grid0.coords n) 0).val = n.val / 8 := by decide +kernel
theorem coord1 : ∀ n : Fin grid0.N, ((grid0.coords n) 1).val = n.val % 8 := by decide +kernel

/-- Key `x` of point `n`'s tile. -/
abbrev keyOf (n : Fin grid0.N) (x : Fin 512) : Fin 4096 := rowOf (n.val % 8) (Nat.mod_lt _ (by decide)) x

section Fit
variable {B : Blocks Ideal} {G : Fin 4 → Rows} (f : Fits B G) {p : Fin 4} {n : Fin grid0.N} (hp : n.val / 8 = p.val)
include f hp

theorem fit_qa (a : Fin 2) (t : Fin 4096) (l : Fin 128) : qa (B n) a t l = (G p).Q a t l := by
  rw [qa, Rows.Q, f.x2 p n hp, f.x6 p n hp]
theorem fit_km (a : Fin 2) (x : Fin 512) (l : Fin 128) : km (B n) a x l = (G p).K a (keyOf n x) l := by
  rw [km, Rows.K, f.x3 p n hp, f.x7 p n hp]
theorem fit_vm (a : Fin 2) (x : Fin 512) (l : Fin 128) : vm (B n) a x l = (G p).V a (keyOf n x) l := by
  rw [vm, Rows.V, f.x4 p n hp]
theorem fit_oa (a : Fin 2) (t : Fin 4096) (l : Fin 128) : oa (B n) a t l = (G p).O a t l := by
  rw [oa, Rows.O, f.x5 p n hp, f.x8 p n hp]
theorem fit_pw (a : Fin 2) (t : Fin 4096) (x : Fin 512) : pw (B n) (n.val % 8) a t x = (G p).W a t (keyOf n x) := by
  rw [pw, Rows.W]
  refine congrArg Ideal.exp (if_congr Iff.rfl (Finset.sum_congr rfl fun l _ => ?_) rfl)
  rw [fit_qa f hp, fit_km f hp]
theorem fit_dg (a : Fin 2) (t : Fin 4096) (x : Fin 512) : dg (B n) (n.val % 8) a t x = (G p).D a t (keyOf n x) := by
  rw [dg, Rows.D, fit_pw f hp]
  refine congrArg _ (Finset.sum_congr rfl fun l _ => ?_)
  rw [fit_oa f hp, fit_vm f hp]

theorem acc_dk (a : Fin 2) (x : Fin 512) (l : Fin 128) : (accAt B n).x16 (ix3 a x l) = (G p).dk a (keyOf n x) l := by
  unfold accAt
  rw [point_dk, coord1]
  exact Finset.sum_congr rfl fun t _ => by rw [fit_dg f hp, fit_qa f hp]
theorem acc_dv (x : Fin 512) (l : Fin 128) : (accAt B n).x17 (ix2 x l) = ∑ t, (G p).W (hd l) t (keyOf n x) * (G p).o t l := by
  unfold accAt
  rw [point_dv, coord1]
  refine Finset.sum_congr rfl fun t _ => ?_
  have hl := l.isLt
  rw [pv, f.x5 p n hp, fit_pw f hp, fit_pw f hp]
  by_cases h : hv 0 l
  · rw [if_pos h, if_neg (show ¬ hv 1 l from fun h' => by have h : l.val / 64 = 0 := h; have h' : l.val / 64 = 1 := h'; omega), add_zero,
      show hd l = 0 from Fin.ext h]
  · have h1 : hv 1 l := by
      have h : ¬ l.val / 64 = 0 := h
      show l.val / 64 = 1; omega
    rw [if_neg h, if_pos h1, zero_add, show hd l = 1 from Fin.ext h1]

end Fit

/-! ## The queries' accumulator -/

/-- The keys of the tiles up to `j`. -/
theorem sum_keys (j : Nat) (hj : j < 8) (h : Fin 4096 → EReal) :
    (∑ s : Fin 4096, if s.val < 512 * (j + 1) then h s else 0) =
      (∑ s : Fin 4096, if s.val < 512 * j then h s else 0) + ∑ x : Fin 512, h (rowOf j hj x) := by
  have e := sum_tile 0 j (by omega) h
  have e1 : ∀ n, (∑ s : Fin 4096, if s.val < 512 * n then h s else 0) = ∑ s : Fin 4096, if 512 * 0 ≤ s.val ∧ s.val < 512 * (0 + n) then h s else 0 :=
    fun n => Finset.sum_congr rfl fun s _ => if_congr (by omega) rfl rfl
  have e2 : (∑ x : Fin 512, h (rowOf j hj x)) = ∑ x : Fin 512, h (rowOf (0 + j) (by omega) x) :=
    Finset.sum_congr rfl fun x _ => congrArg h (Fin.ext (by show 512 * j + x.val = 512 * (0 + j) + x.val; omega))
  rw [e1, e1, e2]
  exact e

theorem dqAt_apply {B : Blocks Ideal} {G : Fin 4 → Rows} (f : Fits B G) (p : Fin 4) (a : Fin 2) (t : Fin 4096) (l : Fin 128) :
    ∀ j, j < 8 → dqAt B (8 * p.val + (j + 1)) (ix3 a t l) = ∑ s : Fin 4096, if s.val < 512 * (j + 1) then (G p).D a t s * (G p).K a s l else 0 := by
  intro j
  induction j with
  | zero =>
    intro _
    have hN : 8 * p.val < grid0.N := by rw [show grid0.N = 32 from N_0]; omega
    have hp : (⟨8 * p.val, hN⟩ : Fin grid0.N).val / 8 = p.val := by show 8 * p.val / 8 = p.val; omega
    have e := dqAt_succ B ⟨8 * p.val, hN⟩
    rw [show 8 * p.val + (0 + 1) = 8 * p.val + 1 by omega, e]
    unfold accAt
    rw [point_dq, coord1, sum_keys 0 (by omega)]
    have hm : (⟨8 * p.val, hN⟩ : Fin grid0.N).val % 8 = 0 := by show 8 * p.val % 8 = 0; omega
    refine congrArg₂ (· + ·) ?_ ?_
    · rw [dqIn, if_pos ((cond2_iff _).mpr hm), Finset.sum_congr rfl fun s _ => if_neg (by omega), Finset.sum_const_zero]
      pointwise [k0_pay96]
    · refine Finset.sum_congr rfl fun x _ => ?_
      rw [fit_dg f hp, fit_km f hp]
      have : keyOf ⟨8 * p.val, hN⟩ x = rowOf 0 (by omega) x := Fin.ext (by show 512 * (8 * p.val % 8) + x.val = 512 * 0 + x.val; omega)
      rw [this]
  | succ j ih =>
    intro hj
    have hN : 8 * p.val + (j + 1) < grid0.N := by rw [show grid0.N = 32 from N_0]; omega
    have hp : (⟨8 * p.val + (j + 1), hN⟩ : Fin grid0.N).val / 8 = p.val := by show (8 * p.val + (j + 1)) / 8 = p.val; omega
    have e := dqAt_succ B ⟨8 * p.val + (j + 1), hN⟩
    rw [show 8 * p.val + (j + 1 + 1) = 8 * p.val + (j + 1) + 1 by omega, e]
    unfold accAt
    rw [point_dq, coord1, sum_keys (j + 1) hj, ← ih (by omega)]
    have hm : ¬ (⟨8 * p.val + (j + 1), hN⟩ : Fin grid0.N).val % 8 = 0 := by show ¬ (8 * p.val + (j + 1)) % 8 = 0; omega
    refine congrArg₂ (· + ·) ?_ ?_
    · rw [dqIn, if_neg (fun h => hm ((cond2_iff _).mp h))]
    · refine Finset.sum_congr rfl fun x _ => ?_
      rw [fit_dg f hp, fit_km f hp]
      have : keyOf ⟨8 * p.val + (j + 1), hN⟩ x = rowOf (j + 1) hj x :=
        Fin.ext (by show 512 * ((8 * p.val + (j + 1)) % 8) + x.val = 512 * (j + 1) + x.val; omega)
      rw [this]

section Outs
variable {B : Blocks Ideal} {G : Fin 4 → Rows} (f : Fits B G) {p : Fin 4} {n : Fin grid0.N} (hp : n.val / 8 = p.val)
include f hp

/-- The pair's query gradients, after its last tile. -/
theorem acc_dq (h7 : n.val % 8 = 7) (a : Fin 2) (t : Fin 4096) (l : Fin 128) : (accAt B n).x18 (ix3 a t l) = (G p).dq a t l := by
  rw [← dqAt_succ, show n.val + 1 = 8 * p.val + (7 + 1) by omega, dqAt_apply f p a t l 7 (by omega)]
  exact Finset.sum_congr rfl fun s _ => if_pos s.isLt

theorem out_dk (x : Fin 512) (l : Fin 128) : dkOut (F := Ideal) (accAt B n) (ix2 x l) = (G p).dk (hd l) (keyOf n x) l := by
  rw [dkOut_apply, acc_dk f hp]
theorem out_dv (x : Fin 512) (l : Fin 128) :
    dvOut (F := Ideal) (accAt B n) (ix2 x l) = ∑ t, (G p).W (hd l) t (keyOf n x) * (G p).o t l := by
  rw [dvOut_apply, acc_dv f hp]
theorem out_dq (h7 : n.val % 8 = 7) (t : Fin 4096) (l : Fin 128) :
    dqOut (F := Ideal) (accAt B n) (ix2 t l) = (G p).dq (hd l) t l * Ideal.ofBits .f32 0x3E000000#32 := by
  rw [dqOut_apply, acc_dq f hp h7]

end Outs

/-! ## The shared sums -/

/-- The pair and the head of a lane of the shared sums, and that head's lane of the row sums and of the column sums. -/
abbrev pairOf (l : Fin 128) : Fin 4 := ⟨l.val / 2 % 4, Nat.mod_lt _ (by decide)⟩
abbrev headOf (l : Fin 128) : Fin 2 := ⟨l.val % 2, Nat.mod_lt _ (by decide)⟩
abbrev rowLane (a : Fin 2) : Fin 128 := ⟨64 * (1 - a.val), by omega⟩
abbrev colLane (a : Fin 2) : Fin 128 := ⟨64 * (1 - a.val) + 3, by omega⟩

theorem rowsAt_apply {B : Blocks Ideal} {G : Fin 4 → Rows} (f : Fits B G) (t : Fin 4096) (l : Fin 128) :
    ∀ n, n ≤ 32 → rowsAt B n (ix2 t l) = if l.val < 2 * (n / 8) then (G (pairOf l)).dq (headOf l) t (rowLane (headOf l)) else 0
  | 0, _ => by
    rw [if_neg (by omega), rowsAt]
    pointwise [k0_pay94]
  | n + 1, hn => by
    have hN : n < grid0.N := by rw [show grid0.N = 32 from N_0]; omega
    have ih := rowsAt_apply f t l n (by omega)
    have e := rowsAt_succ B ⟨n, hN⟩
    have hin : rowsIn (F := Ideal) (grid0.coords ⟨n, hN⟩) (rowsAt B n) (ix2 t l) = rowsAt B n (ix2 t l) := by
      unfold rowsIn
      by_cases h0 : n = 0
      · subst h0; rw [if_pos ((cond1_iff _).mpr rfl)]; rfl
      · rw [if_neg (fun h => h0 ((cond1_iff _).mp h))]
    rw [show rowsAt B (n + 1) = _ from e, rowsOut]
    by_cases h7 : n % 8 = 7
    · rw [if_pos ((cond4_iff _).mpr h7)]
      have hpl : n / 8 < 4 := by omega
      have c0 : (BitVec.ofNat 32 ((grid0.coords ⟨n, hN⟩) 0).val) = BitVec.ofNat 32 (⟨n / 8, hpl⟩ : Fin 4).val := congrArg _ (coord0 ⟨n, hN⟩)
      rw [c0, pay91_apply, ldA0 (e := .f32), ldA1 (e := .f32), hin, ih,
        acc_dq f (p := ⟨n / 8, hpl⟩) (n := ⟨n, hN⟩) rfl h7, acc_dq f (p := ⟨n / 8, hpl⟩) (n := ⟨n, hN⟩) rfl h7]
      by_cases e0 : l.val = 2 * (n / 8)
      · rw [if_pos e0, if_pos (by omega), show pairOf l = ⟨n / 8, hpl⟩ from Fin.ext (by show l.val / 2 % 4 = n / 8; omega),
          show headOf l = 0 from Fin.ext (by show l.val % 2 = 0; omega)]
        rfl
      · rw [if_neg e0]
        by_cases e1 : l.val = 2 * (n / 8) + 1
        · rw [if_pos e1, if_pos (by omega), show pairOf l = ⟨n / 8, hpl⟩ from Fin.ext (by show l.val / 2 % 4 = n / 8; omega),
            show headOf l = 1 from Fin.ext (by show l.val % 2 = 1; omega)]
          rfl
        · rw [if_neg e1]
          exact if_congr (by omega) rfl rfl
    · rw [if_neg (fun h => h7 ((cond4_iff _).mp h)), hin, ih]
      exact if_congr (by omega) rfl rfl

theorem colsAt_apply {B : Blocks Ideal} {G : Fin 4 → Rows} (f : Fits B G) (s : Fin 4096) (l : Fin 128) :
    ∀ n, n ≤ 32 → colsAt B n (ix2 s l) =
      if 8 * (l.val / 2) + s.val / 512 < n then (G (pairOf l)).dk (headOf l) s (colLane (headOf l)) else 0
  | 0, _ => by
    rw [if_neg (by omega), colsAt]
    pointwise [k0_pay95]
  | n + 1, hn => by
    have hN : n < grid0.N := by rw [show grid0.N = 32 from N_0]; omega
    have hs := s.isLt
    have ih := colsAt_apply f s l n (by omega)
    have e := colsAt_succ B ⟨n, hN⟩
    have hin : ∀ y, colsIn (F := Ideal) (grid0.coords ⟨n, hN⟩) (colsAt B n) y = colsAt B n y := by
      intro y
      unfold colsIn
      by_cases h0 : n = 0
      · subst h0; rw [if_pos ((cond1_iff _).mpr rfl)]; rfl
      · rw [if_neg (fun h => h0 ((cond1_iff _).mp h))]
    have hin := funext hin
    rw [show colsAt B (n + 1) = _ from e, hin]
    unfold colsOut
    have hpl : n / 8 < 4 := by omega
    have c0 : (BitVec.ofNat 32 ((grid0.coords ⟨n, hN⟩) 0).val) = BitVec.ofNat 32 (⟨n / 8, hpl⟩ : Fin 4).val := congrArg _ (coord0 ⟨n, hN⟩)
    have o1 : k0_off1 (grid0.coords ⟨n, hN⟩) = ![512 * (n % 8), 0] := by rw [k0_off1_eq, coord1]
    have key : ∀ (o : Fin 2 → Nat) (ho) (_ : o = ![512 * (n % 8), 0]), (Rect.unit (s := S4096x128) o S512x128.size ho).overlay (colsAt B n)
        (k0_pay1 (F := Ideal) (BitVec.ofNat 32 (⟨n / 8, hpl⟩ : Fin 4).val) (k0_pay133 (View.ld (colsAt B n) (Rect.unit (s := S4096x128) o S512x128.size ho)))
          (k0_pay134 (View.ld (accAt B ⟨n, hN⟩).x16 rK0)) (View.ld (accAt B ⟨n, hN⟩).x16 rK1)) (ix2 s l) =
        if 8 * (l.val / 2) + s.val / 512 < n + 1 then (G (pairOf l)).dk (headOf l) s (colLane (headOf l)) else 0 := by
      intro o ho e
      subst e
      rw [ov2 (n % 8) ho]
      by_cases hh : 512 * (n % 8) ≤ s.val ∧ s.val < 512 * (n % 8) + 512
      · have hk : keyOf ⟨n, hN⟩ (⟨s.val - 512 * (n % 8), by omega⟩ : Fin 512) = s := Fin.ext (by
          show 512 * (n % 8) + (s.val - 512 * (n % 8)) = s.val; omega)
        rw [dif_pos hh, pay1_apply, ldK0 (e := .f32), ldK1 (e := .f32), acc_dk f (p := ⟨n / 8, hpl⟩) (n := ⟨n, hN⟩) rfl,
          acc_dk f (p := ⟨n / 8, hpl⟩) (n := ⟨n, hN⟩) rfl, hk]
        by_cases e0 : l.val = 2 * (n / 8)
        · rw [if_pos e0, if_pos (by omega), show pairOf l = ⟨n / 8, hpl⟩ from Fin.ext (by show l.val / 2 % 4 = n / 8; omega),
            show headOf l = 0 from Fin.ext (by show l.val % 2 = 0; omega)]
          rfl
        · rw [if_neg e0]
          by_cases e1 : l.val = 2 * (n / 8) + 1
          · rw [if_pos e1, if_pos (by omega), show pairOf l = ⟨n / 8, hpl⟩ from Fin.ext (by show l.val / 2 % 4 = n / 8; omega),
              show headOf l = 1 from Fin.ext (by show l.val % 2 = 1; omega)]
            rfl
          · rw [if_neg e1]
            have hold : k0_pay133 (F := Ideal) (View.ld (colsAt B n) (Rect.unit (s := S4096x128) ![512 * (n % 8), 0] S512x128.size ho))
                (ix2 (⟨s.val - 512 * (n % 8), by omega⟩ : Fin 512) l) = colsAt B n (ix2 s l) := by
              generalize colsAt B n = A
              have hA : View.ld (Val := Elt Ideal) (e' := .f32) A (Rect.unit (s := S4096x128) ![512 * (n % 8), 0] S512x128.size ho)
                  (ix2 (⟨s.val - 512 * (n % 8), by omega⟩ : Fin 512) l) = A (ix2 s l) := by
                refine congrArg A ?_
                funext b; apply Fin.ext
                match b with
                | ⟨0, _⟩ => show 512 * (n % 8) + 1 * (s.val - 512 * (n % 8)) = s.val; omega
                | ⟨1, _⟩ => show 0 + 1 * l.val = l.val; omega
              generalize View.ld (Val := Elt Ideal) (e' := .f32) A (Rect.unit (s := S4096x128) ![512 * (n % 8), 0] S512x128.size ho) = C at hA ⊢
              pointwise [k0_pay133]
              exact hA
            rw [hold, ih]
            exact if_congr (by omega) rfl rfl
      · rw [dif_neg hh, ih]
        exact if_congr (by omega) rfl rfl
    have := key _ (k0_off1_inb (grid0.coords ⟨n, hN⟩)) o1
    rw [← c0] at this
    exact this

end Cert.Proof.PI

end
-- ==== Proof.Value.Arrays.lean ====
/-
  The pipeline's arrays over the extended reals: the input blocks are tiles of the pairs' rows, and the results' arrays
  at an index.
-/
module

public import proofs.«01_k».proof.Proof.Value.Pair
public import Idealize.ShloMosaic.Lib.Pipeline.ValueKit

@[expose] public section

set_option maxRecDepth 16384

noncomputable section

namespace Cert.Proof.PI

open Cert.KernelIdeal Cert.KernelIdeal.Gen
open Idealize.ShloMosaic Idealize.ShloMosaic.TcCoe
open Idealize.SL Idealize.SL.Sem
open Idealize.ShloMosaic.Pipeline

/-- The pairs' rows, in the arrays the kernel reads. -/
def rowsOf (a0 : S4096x3072.Idx → EReal) (a1 : S4096x1024.Idx → EReal) (x6 x7 x8 : S4096x512.Idx → EReal) (p : Fin 4) : Rows where
  q t l := a0 (ix2 t ⟨1024 + 128 * p.val + l.val, by omega⟩)
  k t l := a0 (ix2 t ⟨1536 + 128 * p.val + l.val, by omega⟩)
  v t l := a0 (ix2 t ⟨2048 + 128 * p.val + l.val, by omega⟩)
  o t l := a1 (ix2 t ⟨512 + 128 * p.val + l.val, by omega⟩)
  qx t l := x6 (ix2 t ⟨128 * p.val + l.val, by omega⟩)
  kx t l := x7 (ix2 t ⟨128 * p.val + l.val, by omega⟩)
  ox t l := x8 (ix2 t ⟨128 * p.val + l.val, by omega⟩)

variable (m : (ℓ : Loc nD τ sig) → Buf (Elt Ideal) ℓ) (c : Dev nD)

def G (p : Fin 4) : Rows :=
  rowsOf (V m c main_arg0) (V m c main_arg1) (V m c main_v84) (V m c main_v99) (V m c main_v115) p

theorem wi0 : ∀ n : Fin grid0.N, win0_0.index n 0 = 0 ∧ win0_0.index n 1 = 8 + n.val / 8 := by decide +kernel
theorem wi1 : ∀ n : Fin grid0.N, win0_1.index n 0 = n.val % 8 ∧ win0_1.index n 1 = 12 + n.val / 8 := by decide +kernel
theorem wi2 : ∀ n : Fin grid0.N, win0_2.index n 0 = n.val % 8 ∧ win0_2.index n 1 = 16 + n.val / 8 := by decide +kernel
theorem wi3 : ∀ n : Fin grid0.N, win0_3.index n 0 = 0 ∧ win0_3.index n 1 = 4 + n.val / 8 := by decide +kernel
theorem wi4 : ∀ n : Fin grid0.N, win0_4.index n 0 = 0 ∧ win0_4.index n 1 = n.val / 8 := by decide +kernel
theorem wi5 : ∀ n : Fin grid0.N, win0_5.index n 0 = n.val % 8 ∧ win0_5.index n 1 = n.val / 8 := by decide +kernel
theorem wi6 : ∀ n : Fin grid0.N, win0_6.index n 0 = 0 ∧ win0_6.index n 1 = n.val / 8 := by decide +kernel
theorem wi7 : ∀ n : Fin grid0.N, win0_7.index n 0 = 0 ∧ win0_7.index n 1 = n.val / 8 := by decide +kernel
theorem wi8 : ∀ n : Fin grid0.N, win0_8.index n 0 = n.val % 8 ∧ win0_8.index n 1 = n.val / 8 := by decide +kernel
theorem wi9 : ∀ n : Fin grid0.N, win0_9.index n 0 = n.val % 8 ∧ win0_9.index n 1 = n.val / 8 := by decide +kernel
theorem wi10 : ∀ n : Fin grid0.N, win0_10.index n 0 = 0 ∧ win0_10.index n 1 = 0 := by decide +kernel
theorem wi11 : ∀ n : Fin grid0.N, win0_11.index n 0 = 0 ∧ win0_11.index n 1 = 0 := by decide +kernel

theorem blk0 (n : Fin grid0.N) (p : Fin 4) (h : n.val / 8 = p.val) (t : Fin 4096) (l : Fin 128) :
    (blocks m c n).x2 (ix2 t l) = V m c main_arg0 (ix2 t ⟨1024 + 128 * p.val + l.val, by omega⟩) := by
  obtain ⟨e0, e1⟩ := wi0 n
  show iblk m c 0 n (ix2 t l) = _
  unfold iblk
  generalize V m c = A
  blk_simp
  refine congrArg (A main_arg0) ?_
  funext b; apply Fin.ext
  match b with
  | ⟨0, _⟩ => blk_simp [e0]
  | ⟨1, _⟩ => blk_simp [e1]; show _ = 1024 + 128 * p.val + l.val; omega
theorem blk1 (n : Fin grid0.N) (p : Fin 4) (h : n.val / 8 = p.val) (x : Fin 512) (l : Fin 128) :
    (blocks m c n).x3 (ix2 x l) = V m c main_arg0 (ix2 (keyOf n x) ⟨1536 + 128 * p.val + l.val, by omega⟩) := by
  obtain ⟨e0, e1⟩ := wi1 n
  show iblk m c 1 n (ix2 x l) = _
  unfold iblk
  generalize V m c = A
  blk_simp
  refine congrArg (A main_arg0) ?_
  funext b; apply Fin.ext
  match b with
  | ⟨0, _⟩ => blk_simp [e0]; show _ = 512 * (n.val % 8) + x.val; omega
  | ⟨1, _⟩ => blk_simp [e1]; show _ = 1536 + 128 * p.val + l.val; omega
theorem blk2 (n : Fin grid0.N) (p : Fin 4) (h : n.val / 8 = p.val) (x : Fin 512) (l : Fin 128) :
    (blocks m c n).x4 (ix2 x l) = V m c main_arg0 (ix2 (keyOf n x) ⟨2048 + 128 * p.val + l.val, by omega⟩) := by
  obtain ⟨e0, e1⟩ := wi2 n
  show iblk m c 2 n (ix2 x l) = _
  unfold iblk
  generalize V m c = A
  blk_simp
  refine congrArg (A main_arg0) ?_
  funext b; apply Fin.ext
  match b with
  | ⟨0, _⟩ => blk_simp [e0]; show _ = 512 * (n.val % 8) + x.val; omega
  | ⟨1, _⟩ => blk_simp [e1]; show _ = 2048 + 128 * p.val + l.val; omega
theorem blk3 (n : Fin grid0.N) (p : Fin 4) (h : n.val / 8 = p.val) (t : Fin 4096) (l : Fin 128) :
    (blocks m c n).x5 (ix2 t l) = V m c main_arg1 (ix2 t ⟨512 + 128 * p.val + l.val, by omega⟩) := by
  obtain ⟨e0, e1⟩ := wi3 n
  show iblk m c 3 n (ix2 t l) = _
  unfold iblk
  generalize V m c = A
  blk_simp
  refine congrArg (A main_arg1) ?_
  funext b; apply Fin.ext
  match b with
  | ⟨0, _⟩ => blk_simp [e0]
  | ⟨1, _⟩ => blk_simp [e1]; show _ = 512 + 128 * p.val + l.val; omega
theorem blk4 (n : Fin grid0.N) (p : Fin 4) (h : n.val / 8 = p.val) (t : Fin 4096) (l : Fin 128) :
    (blocks m c n).x6 (ix2 t l) = V m c main_v84 (ix2 t ⟨128 * p.val + l.val, by omega⟩) := by
  obtain ⟨e0, e1⟩ := wi4 n
  show iblk m c 4 n (ix2 t l) = _
  unfold iblk
  generalize V m c = A
  blk_simp
  refine congrArg (A main_v84) ?_
  funext b; apply Fin.ext
  match b with
  | ⟨0, _⟩ => blk_simp [e0]
  | ⟨1, _⟩ => blk_simp [e1]; show _ = 128 * p.val + l.val; omega
theorem blk5 (n : Fin grid0.N) (p : Fin 4) (h : n.val / 8 = p.val) (x : Fin 512) (l : Fin 128) :
    (blocks m c n).x7 (ix2 x l) = V m c main_v99 (ix2 (keyOf n x) ⟨128 * p.val + l.val, by omega⟩) := by
  obtain ⟨e0, e1⟩ := wi5 n
  show iblk m c 5 n (ix2 x l) = _
  unfold iblk
  generalize V m c = A
  blk_simp
  refine congrArg (A main_v99) ?_
  funext b; apply Fin.ext
  match b with
  | ⟨0, _⟩ => blk_simp [e0]; show _ = 512 * (n.val % 8) + x.val; omega
  | ⟨1, _⟩ => blk_simp [e1]; show _ = 128 * p.val + l.val; omega
theorem blk6 (n : Fin grid0.N) (p : Fin 4) (h : n.val / 8 = p.val) (t : Fin 4096) (l : Fin 128) :
    (blocks m c n).x8 (ix2 t l) = V m c main_v115 (ix2 t ⟨128 * p.val + l.val, by omega⟩) := by
  obtain ⟨e0, e1⟩ := wi6 n
  show iblk m c 6 n (ix2 t l) = _
  unfold iblk
  generalize V m c = A
  blk_simp
  refine congrArg (A main_v115) ?_
  funext b; apply Fin.ext
  match b with
  | ⟨0, _⟩ => blk_simp [e0]
  | ⟨1, _⟩ => blk_simp [e1]; show _ = 128 * p.val + l.val; omega

theorem G_q (p : Fin 4) (t : Fin 4096) (l : Fin 128) : (G m c p).q t l = V m c main_arg0 (ix2 t ⟨1024 + 128 * p.val + l.val, by omega⟩) := by
  unfold G
  generalize V m c = A
  rfl
theorem G_k (p : Fin 4) (t : Fin 4096) (l : Fin 128) : (G m c p).k t l = V m c main_arg0 (ix2 t ⟨1536 + 128 * p.val + l.val, by omega⟩) := by
  unfold G
  generalize V m c = A
  rfl
theorem G_v (p : Fin 4) (t : Fin 4096) (l : Fin 128) : (G m c p).v t l = V m c main_arg0 (ix2 t ⟨2048 + 128 * p.val + l.val, by omega⟩) := by
  unfold G
  generalize V m c = A
  rfl
theorem G_o (p : Fin 4) (t : Fin 4096) (l : Fin 128) : (G m c p).o t l = V m c main_arg1 (ix2 t ⟨512 + 128 * p.val + l.val, by omega⟩) := by
  unfold G
  generalize V m c = A
  rfl
theorem G_qx (p : Fin 4) (t : Fin 4096) (l : Fin 128) : (G m c p).qx t l = V m c main_v84 (ix2 t ⟨128 * p.val + l.val, by omega⟩) := by
  unfold G
  generalize V m c = A
  rfl
theorem G_kx (p : Fin 4) (t : Fin 4096) (l : Fin 128) : (G m c p).kx t l = V m c main_v99 (ix2 t ⟨128 * p.val + l.val, by omega⟩) := by
  unfold G
  generalize V m c = A
  rfl
theorem G_ox (p : Fin 4) (t : Fin 4096) (l : Fin 128) : (G m c p).ox t l = V m c main_v115 (ix2 t ⟨128 * p.val + l.val, by omega⟩) := by
  unfold G
  generalize V m c = A
  rfl

theorem fits : Fits (blocks m c) (G m c) :=
  ⟨fun p n h t l => (blk0 m c n p h t l).trans (G_q m c p _ l).symm,
    fun p n h t l => (blk1 m c n p h t l).trans (G_k m c p _ l).symm,
    fun p n h t l => (blk2 m c n p h t l).trans (G_v m c p _ l).symm,
    fun p n h t l => (blk3 m c n p h t l).trans (G_o m c p _ l).symm,
    fun p n h t l => (blk4 m c n p h t l).trans (G_qx m c p _ l).symm,
    fun p n h t l => (blk5 m c n p h t l).trans (G_kx m c p _ l).symm,
    fun p n h t l => (blk6 m c n p h t l).trans (G_ox m c p _ l).symm⟩

/-! ## The results' arrays -/

/-- The pair and the lane of a column. -/
abbrev cp (y : Fin 512) : Fin 4 := ⟨y.val / 128, by omega⟩
abbrev cl (y : Fin 512) : Fin 128 := ⟨y.val % 128, Nat.mod_lt _ (by decide)⟩

def resDq (g : Fin 4 → Rows) (t : Fin 4096) (y : Fin 512) : EReal := (g (cp y)).dq (hd (cl y)) t (cl y) * Ideal.ofBits .f32 0x3E000000#32
def resDk (g : Fin 4 → Rows) (s : Fin 4096) (y : Fin 512) : EReal := (g (cp y)).dk (hd (cl y)) s (cl y)
def resDv (g : Fin 4 → Rows) (s : Fin 4096) (y : Fin 512) : EReal := ∑ t, (g (cp y)).W (hd (cl y)) t s * (g (cp y)).o t (cl y)
def resRows (g : Fin 4 → Rows) (t : Fin 4096) (l : Fin 128) : EReal :=
  if l.val < 8 then (g (pairOf l)).dq (headOf l) t (rowLane (headOf l)) else 0
def resCols (g : Fin 4 → Rows) (s : Fin 4096) (l : Fin 128) : EReal :=
  if l.val < 8 then (g (pairOf l)).dk (headOf l) s (colLane (headOf l)) else 0

section Blocks
variable {m c} {n : Fin grid0.N}

theorem at7 (h7 : n.val % 8 = 7) (y : S4096x128.Idx) (z : S4096x512.Idx) (h0 : (z 0).val = (y 0).val) (h1 : (z 1).val = 128 * (n.val / 8) + (y 1).val) :
    dqOut (F := Ideal) (accAt (blocks m c) n) y = resDq (G m c) (z 0) (z 1) := by
  idx_vars y
  idx_vars z
  have h0 : z0 = y0 := Fin.ext h0
  have h1 : z1.val = 128 * (n.val / 8) + y1.val := h1
  subst h0
  have hn : n.val / 8 < 4 := by have := lt32 n; omega
  show dqOut (F := Ideal) (accAt (blocks m c) n) (ix2 z0 y1) = resDq (G m c) z0 z1
  have hy := y1.isLt
  rw [out_dq (fits m c) (p := ⟨n.val / 8, hn⟩) (n := n) rfl h7, resDq, show cl z1 = y1 from Fin.ext (by show z1.val % 128 = y1.val; omega),
    show cp z1 = ⟨n.val / 8, hn⟩ from Fin.ext (by show z1.val / 128 = n.val / 8; omega)]

theorem at8 (y : S512x128.Idx) (z : S4096x512.Idx) (h0 : (z 0).val = 512 * (n.val % 8) + (y 0).val) (h1 : (z 1).val = 128 * (n.val / 8) + (y 1).val) :
    dkOut (F := Ideal) (accAt (blocks m c) n) y = resDk (G m c) (z 0) (z 1) := by
  idx_vars y
  idx_vars z
  have h1 : z1.val = 128 * (n.val / 8) + y1.val := h1
  have hn : n.val / 8 < 4 := by have := lt32 n; omega
  show dkOut (F := Ideal) (accAt (blocks m c) n) (ix2 y0 y1) = resDk (G m c) z0 z1
  have hy := y1.isLt
  rw [out_dk (fits m c) (p := ⟨n.val / 8, hn⟩) (n := n) rfl, resDk, show cl z1 = y1 from Fin.ext (by show z1.val % 128 = y1.val; omega),
    show cp z1 = ⟨n.val / 8, hn⟩ from Fin.ext (by show z1.val / 128 = n.val / 8; omega), show keyOf n y0 = z0 from Fin.ext h0.symm]

theorem at9 (y : S512x128.Idx) (z : S4096x512.Idx) (h0 : (z 0).val = 512 * (n.val % 8) + (y 0).val) (h1 : (z 1).val = 128 * (n.val / 8) + (y 1).val) :
    dvOut (F := Ideal) (accAt (blocks m c) n) y = resDv (G m c) (z 0) (z 1) := by
  idx_vars y
  idx_vars z
  have h1 : z1.val = 128 * (n.val / 8) + y1.val := h1
  have hn : n.val / 8 < 4 := by have := lt32 n; omega
  show dvOut (F := Ideal) (accAt (blocks m c) n) (ix2 y0 y1) = resDv (G m c) z0 z1
  have hy := y1.isLt
  rw [out_dv (fits m c) (p := ⟨n.val / 8, hn⟩) (n := n) rfl, resDv, show cl z1 = y1 from Fin.ext (by show z1.val % 128 = y1.val; omega),
    show cp z1 = ⟨n.val / 8, hn⟩ from Fin.ext (by show z1.val / 128 = n.val / 8; omega), show keyOf n y0 = z0 from Fin.ext h0.symm]

theorem at10 (h : n.val % 32 = 31) (y z : S4096x128.Idx) (e : z = y) : rowsAt (blocks m c) (n.val + 1) y = resRows (G m c) (z 0) (z 1) := by
  subst e
  idx_vars z
  have hn := lt32 n
  show rowsAt (blocks m c) (n.val + 1) (ix2 z0 z1) = resRows (G m c) z0 z1
  rw [rowsAt_apply (fits m c) z0 z1 _ (by omega), resRows]
  exact if_congr (by omega) rfl rfl

theorem at11 (h : n.val % 32 = 31) (y z : S4096x128.Idx) (e : z = y) : colsAt (blocks m c) (n.val + 1) y = resCols (G m c) (z 0) (z 1) := by
  subst e
  idx_vars z
  have hn := lt32 n
  have hz := z0.isLt
  show colsAt (blocks m c) (n.val + 1) (ix2 z0 z1) = resCols (G m c) z0 z1
  rw [colsAt_apply (fits m c) z0 z1 _ (by omega), resCols]
  exact if_congr (by omega) rfl rfl

end Blocks

theorem arr7 : (dats m 0 c).arrAt 7 cfg0.N = fun y => resDq (G m c) (y 0) (y 1) := by
  refine (dats m 0 c).arrAt_eq_of_covers 7 _ (by decide +kernel) fun t hf y => ?_
  have h7 : t.val % 8 = 7 := (flush0_7 t).mp hf
  obtain ⟨e0, e1⟩ := wi7 t
  blk_simp
  rw [after7]
  exact at7 h7 _ _ (by blk_simp [e0]) (by blk_simp [e1]; omega)

theorem arr8 : (dats m 0 c).arrAt 8 cfg0.N = fun y => resDk (G m c) (y 0) (y 1) := by
  refine (dats m 0 c).arrAt_eq_of_covers 8 _ (by decide +kernel) fun t hf y => ?_
  obtain ⟨e0, e1⟩ := wi8 t
  blk_simp
  rw [after8]
  exact at8 _ _ (by blk_simp [e0]; omega) (by blk_simp [e1]; omega)

theorem arr9 : (dats m 0 c).arrAt 9 cfg0.N = fun y => resDv (G m c) (y 0) (y 1) := by
  refine (dats m 0 c).arrAt_eq_of_covers 9 _ (by decide +kernel) fun t hf y => ?_
  obtain ⟨e0, e1⟩ := wi9 t
  blk_simp
  rw [after9]
  exact at9 _ _ (by blk_simp [e0]; omega) (by blk_simp [e1]; omega)

theorem arr10 : (dats m 0 c).arrAt 10 cfg0.N = fun y => resRows (G m c) (y 0) (y 1) := by
  refine (dats m 0 c).arrAt_eq_of_covers 10 _ (by decide +kernel) fun t hf y => ?_
  obtain ⟨e0, e1⟩ := wi10 t
  blk_simp
  rw [after10]
  exact at10 ((flush0_10 t).mp hf) _ _ (by funext a; apply Fin.ext; match a with | ⟨0, _⟩ => blk_simp [e0] | ⟨1, _⟩ => blk_simp [e1])

theorem arr11 : (dats m 0 c).arrAt 11 cfg0.N = fun y => resCols (G m c) (y 0) (y 1) := by
  refine (dats m 0 c).arrAt_eq_of_covers 11 _ (by decide +kernel) fun t hf y => ?_
  obtain ⟨e0, e1⟩ := wi11 t
  blk_simp
  rw [after11]
  exact at11 ((flush0_11 t).mp hf) _ _ (by funext a; apply Fin.ext; match a with | ⟨0, _⟩ => blk_simp [e0] | ⟨1, _⟩ => blk_simp [e1])

end Cert.Proof.PI

end
-- ==== Proof.Value.Host.lean ====
/-
  What the host line of the program hands to the kernel: the extra rows, over the sums of the forward pass.
-/
module

public import proofs.«01_k».proof.Proof.Value.Arrays
public import Idealize.ShloMosaic.Lib.StableHlo.ReadAt
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe
open Idealize.SL Idealize.SL.Sem
open Idealize.ShloMosaic.Pipeline

theorem after_append (A B : List (HloOp τ sig (Elt Ideal))) (X : Valuation τ sig (Elt Ideal)) :
    StableHlo.after (A ++ B) X = StableHlo.after B (StableHlo.after A X) := by
  induction A generalizing X with
  | nil => rfl
  | cons o A ih => exact ih (o.result X)

/-- An array of numbers per row and head, at a row and a head. -/
def at2 (A : S4096x8.Idx → EReal) (t : Fin 4096) (h : Fin 8) : EReal := A (ix2 t h)

/-- The second and the third part of a number split in three. -/
def lo1 (x : EReal) : EReal := x - x
def lo2 (x : EReal) : EReal := lo1 x - lo1 x

/-- The `k` operations of the host line that follow its first `n`. -/
def seg (n k : ℕ) : List (HloOp τ sig (Elt Ideal)) := (hostOps0.drop n).take k

/-- The buffers after the first `n` operations of the host line. -/
def At (m : (ℓ : Loc nD τ sig) → Buf (Elt Ideal) ℓ) (c : Dev nD) (n : ℕ) : Valuation τ sig (Elt Ideal) :=
  StableHlo.after (hostOps0.take n) (fun b => m (c, b))

theorem At_add (m : (ℓ : Loc nD τ sig) → Buf (Elt Ideal) ℓ) (c : Dev nD) (n k : ℕ) :
    At m c (n + k) = StableHlo.after (seg n k) (At m c n) := by
  unfold At seg
  rw [List.take_add, after_append]

/-- The head whose extra numbers lie in column `y` of an extra array, and their place. -/
def hf (y : Fin 512) : Fin 8 := ⟨y.val / 128 * 2 + (1 - y.val / 64 % 2), by omega⟩
def kf (y : Fin 512) : Fin 64 := ⟨y.val % 64, by omega⟩

set_option maxHeartbeats 4000000 in
theorem turn_v84 (X : Valuation τ sig (Elt Ideal)) (t : Fin 4096) (y : Fin 512) :
    (StableHlo.after (seg 88 37) X main_v84 : S4096x512.Idx → EReal) (ix2 t y) =
      (X main_v80 : S4096x8x64.Idx → EReal) (ix3 t (hf y) (kf y)) := by
  simp only [seg, hostOps0, List.drop_succ_cons, List.drop_zero, List.take_succ_cons, List.take_zero]
  after_reads_at
  refine congrArg (X main_v80) ?_
  funext b
  apply Fin.ext
  fin_cases b
  · rfl
  · show y.val / 128 * 2 + (2 - (y.val / 64 % 2 + 1)) = y.val / 128 * 2 + (1 - y.val / 64 % 2)
    omega
  · rfl

set_option maxHeartbeats 4000000 in
theorem turn_v99 (X : Valuation τ sig (Elt Ideal)) (t : Fin 4096) (y : Fin 512) :
    (StableHlo.after (seg 104 21) X main_v99 : S4096x512.Idx → EReal) (ix2 t y) =
      (X main_v95 : S4096x8x64.Idx → EReal) (ix3 t (hf y) (kf y)) := by
  simp only [seg, hostOps0, List.drop_succ_cons, List.drop_zero, List.take_succ_cons, List.take_zero]
  after_reads_at
  refine congrArg (X main_v95) ?_
  funext b
  apply Fin.ext
  fin_cases b
  · rfl
  · show y.val / 128 * 2 + (2 - (y.val / 64 % 2 + 1)) = y.val / 128 * 2 + (1 - y.val / 64 % 2)
    omega
  · rfl

set_option maxHeartbeats 4000000 in
theorem turn_v115 (X : Valuation τ sig (Elt Ideal)) (t : Fin 4096) (y : Fin 512) :
    (StableHlo.after (seg 121 4) X main_v115 : S4096x512.Idx → EReal) (ix2 t y) =
      (X main_v111 : S4096x8x64.Idx → EReal) (ix3 t (hf y) (kf y)) := by
  simp only [seg, hostOps0, List.drop_succ_cons, List.drop_zero, List.take_succ_cons, List.take_zero]
  after_reads_at
  refine congrArg (X main_v111) ?_
  funext b
  apply Fin.ext
  fin_cases b
  · rfl
  · show y.val / 128 * 2 + (2 - (y.val / 64 % 2 + 1)) = y.val / 128 * 2 + (1 - y.val / 64 % 2)
    omega
  · rfl

theorem cat_v80 (X : Valuation τ sig (Elt Ideal)) :
    (StableHlo.after (seg 87 1) X main_v80 : S4096x8x64.Idx → EReal) =
      concatenate S4096x8x64 2 [⟨S4096x8x1, (X main_v70 : S4096x8x1.Idx → EReal)⟩,
        ⟨S4096x8x1, (X main_v71 : S4096x8x1.Idx → EReal)⟩,
        ⟨S4096x8x1, (X main_v72 : S4096x8x1.Idx → EReal)⟩,
        ⟨S4096x8x1, (X main_v73 : S4096x8x1.Idx → EReal)⟩,
        ⟨S4096x8x1, (X main_v74 : S4096x8x1.Idx → EReal)⟩,
        ⟨S4096x8x1, (X main_v75 : S4096x8x1.Idx → EReal)⟩,
        ⟨S4096x8x1, (X main_v76 : S4096x8x1.Idx → EReal)⟩,
        ⟨S4096x8x1, (X main_v77 : S4096x8x1.Idx → EReal)⟩,
        ⟨S4096x8x1, (X main_v78 : S4096x8x1.Idx → EReal)⟩,
        ⟨S4096x8x55, (X main_v79 : S4096x8x55.Idx → EReal)⟩]
        concatenates_S4096x8x1_S4096x8x1_S4096x8x1_S4096x8x1_S4096x8x1_S4096x8x1_S4096x8x1_S4096x8x1_S4096x8x1_S4096x8x55_S4096x8x64_d2 := by
  simp only [seg, hostOps0, List.drop_succ_cons, List.drop_zero, List.take_succ_cons, List.take_zero]
  rw [StableHlo.after_cons, StableHlo.after_nil]
  exact StableHlo.nary_result' _ _ _ _ _

theorem cat_v95 (X : Valuation τ sig (Elt Ideal)) :
    (StableHlo.after (seg 103 1) X main_v95 : S4096x8x64.Idx → EReal) =
      concatenate S4096x8x64 2 [⟨S4096x8x1, (X main_v85 : S4096x8x1.Idx → EReal)⟩,
        ⟨S4096x8x1, (X main_v86 : S4096x8x1.Idx → EReal)⟩,
        ⟨S4096x8x1, (X main_v87 : S4096x8x1.Idx → EReal)⟩,
        ⟨S4096x8x1, (X main_v88 : S4096x8x1.Idx → EReal)⟩,
        ⟨S4096x8x1, (X main_v89 : S4096x8x1.Idx → EReal)⟩,
        ⟨S4096x8x1, (X main_v90 : S4096x8x1.Idx → EReal)⟩,
        ⟨S4096x8x1, (X main_v91 : S4096x8x1.Idx → EReal)⟩,
        ⟨S4096x8x1, (X main_v92 : S4096x8x1.Idx → EReal)⟩,
        ⟨S4096x8x1, (X main_v93 : S4096x8x1.Idx → EReal)⟩,
        ⟨S4096x8x55, (X main_v94 : S4096x8x55.Idx → EReal)⟩]
        concatenates_S4096x8x1_S4096x8x1_S4096x8x1_S4096x8x1_S4096x8x1_S4096x8x1_S4096x8x1_S4096x8x1_S4096x8x1_S4096x8x55_S4096x8x64_d2 := by
  simp only [seg, hostOps0, List.drop_succ_cons, List.drop_zero, List.take_succ_cons, List.take_zero]
  rw [StableHlo.after_cons, StableHlo.after_nil]
  exact StableHlo.nary_result' _ _ _ _ _

theorem cat_v111 (X : Valuation τ sig (Elt Ideal)) :
    (StableHlo.after (seg 120 1) X main_v111 : S4096x8x64.Idx → EReal) =
      concatenate S4096x8x64 2 [⟨S4096x8x1, (X main_v107 : S4096x8x1.Idx → EReal)⟩,
        ⟨S4096x8x1, (X main_v108 : S4096x8x1.Idx → EReal)⟩,
        ⟨S4096x8x1, (X main_v109 : S4096x8x1.Idx → EReal)⟩,
        ⟨S4096x8x61, (X main_v110 : S4096x8x61.Idx → EReal)⟩]
        concatenates_S4096x8x1_S4096x8x1_S4096x8x1_S4096x8x61_S4096x8x64_d2 := by
  simp only [seg, hostOps0, List.drop_succ_cons, List.drop_zero, List.take_succ_cons, List.take_zero]
  rw [StableHlo.after_cons, StableHlo.after_nil]
  exact StableHlo.nary_result' _ _ _ _ _

set_option maxHeartbeats 4000000 in
theorem parts_v80 (X : Valuation τ sig (Elt Ideal)) (t : Fin 4096) (h : Fin 8) :
    (StableHlo.after (seg 54 33) X main_v70 : S4096x8x1.Idx → EReal) (ix3 t h 0) = (at2 (X main_arg2) t h : EReal) ∧
    (StableHlo.after (seg 54 33) X main_v71 : S4096x8x1.Idx → EReal) (ix3 t h 0) = (lo1 (at2 (X main_arg2) t h) : EReal) ∧
    (StableHlo.after (seg 54 33) X main_v72 : S4096x8x1.Idx → EReal) (ix3 t h 0) = (lo2 (at2 (X main_arg2) t h) : EReal) ∧
    (StableHlo.after (seg 54 33) X main_v73 : S4096x8x1.Idx → EReal) (ix3 t h 0) = ((1 : EReal) : EReal) ∧
    (StableHlo.after (seg 54 33) X main_v74 : S4096x8x1.Idx → EReal) (ix3 t h 0) = ((1 : EReal) : EReal) ∧
    (StableHlo.after (seg 54 33) X main_v75 : S4096x8x1.Idx → EReal) (ix3 t h 0) = ((1 : EReal) : EReal) ∧
    (StableHlo.after (seg 54 33) X main_v76 : S4096x8x1.Idx → EReal) (ix3 t h 0) = (-at2 (X main_v46) t h : EReal) ∧
    (StableHlo.after (seg 54 33) X main_v77 : S4096x8x1.Idx → EReal) (ix3 t h 0) = (lo1 (-at2 (X main_v46) t h) : EReal) ∧
    (StableHlo.after (seg 54 33) X main_v78 : S4096x8x1.Idx → EReal) (ix3 t h 0) = (lo2 (-at2 (X main_v46) t h) : EReal) ∧
    (StableHlo.after (seg 54 33) X main_v79 : S4096x8x55.Idx → EReal) = fun _ => (0 : EReal) := by
  simp only [seg, hostOps0, List.drop_succ_cons, List.drop_zero, List.take_succ_cons, List.take_zero]
  unfold at2
  refine ⟨?_, ?_, ?_, ?_, ?_, ?_, ?_, ?_, ?_, ?_⟩
  all_goals first
    | (after_reads_at; done)
    | (after_reads_at; first | rfl | exact Ideal.ofBits_zero_f32 | exact Ideal.ofBits_one_f32)
    | (funext j; after_reads_at; done)
    | (funext j; after_reads_at; exact Ideal.ofBits_zero_f32)

set_option maxHeartbeats 4000000 in
theorem parts_v95 (X : Valuation τ sig (Elt Ideal)) (t : Fin 4096) (h : Fin 8) :
    (StableHlo.after (seg 54 49) X main_v85 : S4096x8x1.Idx → EReal) (ix3 t h 0) = ((1 : EReal) : EReal) ∧
    (StableHlo.after (seg 54 49) X main_v86 : S4096x8x1.Idx → EReal) (ix3 t h 0) = ((1 : EReal) : EReal) ∧
    (StableHlo.after (seg 54 49) X main_v87 : S4096x8x1.Idx → EReal) (ix3 t h 0) = ((1 : EReal) : EReal) ∧
    (StableHlo.after (seg 54 49) X main_v88 : S4096x8x1.Idx → EReal) (ix3 t h 0) = (-at2 (X main_arg2) t h : EReal) ∧
    (StableHlo.after (seg 54 49) X main_v89 : S4096x8x1.Idx → EReal) (ix3 t h 0) = (lo1 (-at2 (X main_arg2) t h) : EReal) ∧
    (StableHlo.after (seg 54 49) X main_v90 : S4096x8x1.Idx → EReal) (ix3 t h 0) = (lo2 (-at2 (X main_arg2) t h) : EReal) ∧
    (StableHlo.after (seg 54 49) X main_v91 : S4096x8x1.Idx → EReal) (ix3 t h 0) = ((1 : EReal) : EReal) ∧
    (StableHlo.after (seg 54 49) X main_v92 : S4096x8x1.Idx → EReal) (ix3 t h 0) = ((1 : EReal) : EReal) ∧
    (StableHlo.after (seg 54 49) X main_v93 : S4096x8x1.Idx → EReal) (ix3 t h 0) = ((1 : EReal) : EReal) ∧
    (StableHlo.after (seg 54 49) X main_v94 : S4096x8x55.Idx → EReal) = fun _ => (0 : EReal) := by
  simp only [seg, hostOps0, List.drop_succ_cons, List.drop_zero, List.take_succ_cons, List.take_zero]
  unfold at2
  refine ⟨?_, ?_, ?_, ?_, ?_, ?_, ?_, ?_, ?_, ?_⟩
  all_goals first
    | (after_reads_at; done)
    | (after_reads_at; first | rfl | exact Ideal.ofBits_zero_f32 | exact Ideal.ofBits_one_f32)
    | (funext j; after_reads_at; done)
    | (funext j; after_reads_at; exact Ideal.ofBits_zero_f32)

set_option maxHeartbeats 4000000 in
theorem parts_v111 (X : Valuation τ sig (Elt Ideal)) (t : Fin 4096) (h : Fin 8) :
    (StableHlo.after (seg 54 66) X main_v107 : S4096x8x1.Idx → EReal) (ix3 t h 0) = (-at2 (X main_v48) t h : EReal) ∧
    (StableHlo.after (seg 54 66) X main_v108 : S4096x8x1.Idx → EReal) (ix3 t h 0) = (lo1 (-at2 (X main_v48) t h) : EReal) ∧
    (StableHlo.after (seg 54 66) X main_v109 : S4096x8x1.Idx → EReal) (ix3 t h 0) = (lo2 (-at2 (X main_v48) t h) : EReal) ∧
    (StableHlo.after (seg 54 66) X main_v110 : S4096x8x61.Idx → EReal) = fun _ => (0 : EReal) := by
  simp only [seg, hostOps0, List.drop_succ_cons, List.drop_zero, List.take_succ_cons, List.take_zero]
  unfold at2
  refine ⟨?_, ?_, ?_, ?_⟩
  all_goals first
    | (after_reads_at; done)
    | (after_reads_at; first | rfl | exact Ideal.ofBits_zero_f32 | exact Ideal.ofBits_one_f32)
    | (funext j; after_reads_at; done)
    | (funext j; after_reads_at; exact Ideal.ofBits_zero_f32)

/-- A masked array of numbers per head, row and column, and one per row, head and lane, at an index. -/
def at3 (A : S8x4096x4096.Idx → EReal) (h : Fin 8) (t s : Fin 4096) : EReal := A (ix3 h t s)
def atd (A : S4096x8x64.Idx → EReal) (t : Fin 4096) (h : Fin 8) (d : Fin 64) : EReal := A (ix3 t h d)
def atr (A : S8x4096.Idx → EReal) (h : Fin 8) (t : Fin 4096) : EReal := A (ix2 h t)
def atp (A : S4096x3072.Idx → EReal) (t : Fin 4096) (y : Fin 3072) : EReal := A (ix2 t y)
def ata (A : S4096x1024.Idx → EReal) (t : Fin 4096) (y : Fin 1024) : EReal := A (ix2 t y)

/-- The columns of head `h`, lane `d`, in the arrays of the arguments. -/
def cq (h : Fin 8) (d : Fin 64) : Fin 3072 := ⟨1024 + (h.val * 64 + d.val), by omega⟩
def ck (h : Fin 8) (d : Fin 64) : Fin 3072 := ⟨1536 + (h.val * 64 + d.val), by omega⟩
def cv (h : Fin 8) (d : Fin 64) : Fin 3072 := ⟨2048 + (h.val * 64 + d.val), by omega⟩
def co (h : Fin 8) (d : Fin 64) : Fin 1024 := ⟨512 + (h.val * 64 + d.val), by omega⟩

/-- The logit of row `t` and column `s`, masked. -/
def logit (P : S4096x3072.Idx → EReal) (C : S4096x8.Idx → EReal) (h : Fin 8) (t s : Fin 4096) : EReal :=
  Scalar.select (IntOp.cmpi CmpIPredicate.sge (BitVec.ofNat 32 t.val) (BitVec.ofNat 32 s.val))
    ((∑ d : Fin 64, atp P t (cq h d) * atp P s (ck h d)) * Ideal.ofBits .f32 0x3E000000#32 + (at2 C t h - at2 C s h))
    (Ideal.ofBits .f32 0xFF800000#32)

set_option maxHeartbeats 4000000 in
theorem stage1 (X : Valuation τ sig (Elt Ideal)) (h : Fin 8) (t s : Fin 4096) (d : Fin 64) :
    atd (StableHlo.after (seg 0 35) X main_v8) t h d = atp (X main_arg0) t (cv h d) ∧
    atd (StableHlo.after (seg 0 35) X main_v11) t h d = ata (X main_arg1) t (co h d) ∧
    at3 (StableHlo.after (seg 0 35) X main_v32) h t s = logit (X main_arg0) (X main_arg2) h t s := by
  simp only [seg, hostOps0, List.drop_succ_cons, List.drop_zero, List.take_succ_cons, List.take_zero]
  simp only [logit, at2, at3, atd, atr, atp, ata]
  refine ⟨?_, ?_, ?_⟩
  all_goals first | (after_reads_at; done) | (after_reads_at; rfl)

set_option maxHeartbeats 4000000 in
theorem stage2 (X : Valuation τ sig (Elt Ideal)) (h : Fin 8) (t s : Fin 4096) (d : Fin 64) :
    atd (StableHlo.after (seg 35 2) X main_v8) t h d = atd (X main_v8) t h d ∧
    atd (StableHlo.after (seg 35 2) X main_v11) t h d = atd (X main_v11) t h d ∧
    at3 (StableHlo.after (seg 35 2) X main_v32) h t s = at3 (X main_v32) h t s ∧
    atr (StableHlo.after (seg 35 2) X main_v33) h t = Finset.fold max (Ideal.ofBits .f32 0xFF800000#32) (fun s => at3 (X main_v32) h t s) Finset.univ := by
  simp only [seg, hostOps0, List.drop_succ_cons, List.drop_zero, List.take_succ_cons, List.take_zero]
  simp only [at2, at3, atd, atr, atp, ata]
  refine ⟨?_, ?_, ?_, ?_⟩
  all_goals first | (after_reads_at; done) | (after_reads_at; rfl)

set_option maxHeartbeats 4000000 in
theorem stage3 (X : Valuation τ sig (Elt Ideal)) (h : Fin 8) (t s : Fin 4096) (d : Fin 64) :
    atd (StableHlo.after (seg 37 6) X main_v8) t h d = atd (X main_v8) t h d ∧
    atd (StableHlo.after (seg 37 6) X main_v11) t h d = atd (X main_v11) t h d ∧
    atr (StableHlo.after (seg 37 6) X main_v33) h t = atr (X main_v33) h t ∧
    at3 (StableHlo.after (seg 37 6) X main_v37) h t s = Ideal.exp (at3 (X main_v32) h t s - atr (X main_v33) h t) ∧
    atr (StableHlo.after (seg 37 6) X main_v38) h t = ∑ s, Ideal.exp (at3 (X main_v32) h t s - atr (X main_v33) h t) := by
  simp only [seg, hostOps0, List.drop_succ_cons, List.drop_zero, List.take_succ_cons, List.take_zero]
  simp only [at2, at3, atd, atr, atp, ata]
  refine ⟨?_, ?_, ?_, ?_, ?_⟩
  all_goals first | (after_reads_at; done) | (after_reads_at; rfl)

set_option maxHeartbeats 4000000 in
theorem stage4 (X : Valuation τ sig (Elt Ideal)) (h : Fin 8) (t : Fin 4096) :
    at2 (StableHlo.after (seg 43 11) X main_v46) t h = atr (X main_v33) h t + Ideal.log (atr (X main_v38) h t) ∧
    at2 (StableHlo.after (seg 43 11) X main_v48) t h = ∑ d : Fin 64, atd (X main_v11) t h d *
        ∑ s : Fin 4096, atd (X main_v8) s h d * Ideal.div (at3 (X main_v37) h t s) (atr (X main_v38) h t) := by
  simp only [seg, hostOps0, List.drop_succ_cons, List.drop_zero, List.take_succ_cons, List.take_zero]
  simp only [at2, at3, atd, atr, atp, ata]
  refine ⟨?_, ?_⟩
  all_goals first | (after_reads_at; done) | (after_reads_at; rfl)

theorem keep_arg2 (X : Valuation τ sig (Elt Ideal)) : StableHlo.after (seg 0 54) X main_arg2 = X main_arg2 :=
  StableHlo.after_of_forall_not_mem (b := Proc.devRef .tc main_arg2) _ _ (List.forall_iff_forall_mem.mp (by
    simp only [seg, hostOps0, List.drop_zero, List.take_succ_cons, List.take_zero, List.Forall, StableHlo.nullary_writes,
      StableHlo.unary_writes, StableHlo.binary_writes, StableHlo.ternary_writes, StableHlo.reshape_writes,
      StableHlo.nary_writes, Finset.mem_singleton]
    repeat' apply And.intro
    all_goals exact StableHlo.devRef_ne_of_ne (by decide)))

set_option maxHeartbeats 4000000 in
theorem cat9_apply (x0 x1 x2 x3 x4 x5 x6 x7 x8 : S4096x8x1.Idx → EReal) (t : Fin 4096) (h : Fin 8) (k : Fin 64) :
    (concatenate S4096x8x64 2 [⟨S4096x8x1, x0⟩, ⟨S4096x8x1, x1⟩, ⟨S4096x8x1, x2⟩, ⟨S4096x8x1, x3⟩, ⟨S4096x8x1, x4⟩, ⟨S4096x8x1, x5⟩, ⟨S4096x8x1, x6⟩, ⟨S4096x8x1, x7⟩, ⟨S4096x8x1, x8⟩, ⟨S4096x8x55, fun _ => 0⟩]
      concatenates_S4096x8x1_S4096x8x1_S4096x8x1_S4096x8x1_S4096x8x1_S4096x8x1_S4096x8x1_S4096x8x1_S4096x8x1_S4096x8x55_S4096x8x64_d2 : S4096x8x64.Idx → EReal) (ix3 t h k) =
    if k.val = 0 then x0 (ix3 t h 0) else if k.val = 1 then x1 (ix3 t h 0) else if k.val = 2 then x2 (ix3 t h 0) else if k.val = 3 then x3 (ix3 t h 0) else if k.val = 4 then x4 (ix3 t h 0) else if k.val = 5 then x5 (ix3 t h 0) else if k.val = 6 then x6 (ix3 t h 0) else if k.val = 7 then x7 (ix3 t h 0) else if k.val = 8 then x8 (ix3 t h 0) else 0 := by
  pointwise
  fin_vals k with hk
  all_goals simp only [hk, Nat.reduceSub, Nat.reduceLT, Nat.reduceEqDiff, OfNat.ofNat_ne_zero, OfNat.ofNat_ne_one, ↓reduceDIte, ↓reduceIte]
  all_goals first | rfl | simp

set_option maxHeartbeats 4000000 in
theorem cat3_apply (x0 x1 x2 : S4096x8x1.Idx → EReal) (t : Fin 4096) (h : Fin 8) (k : Fin 64) :
    (concatenate S4096x8x64 2 [⟨S4096x8x1, x0⟩, ⟨S4096x8x1, x1⟩, ⟨S4096x8x1, x2⟩, ⟨S4096x8x61, fun _ => 0⟩]
      concatenates_S4096x8x1_S4096x8x1_S4096x8x1_S4096x8x61_S4096x8x64_d2 : S4096x8x64.Idx → EReal) (ix3 t h k) =
    if k.val = 0 then x0 (ix3 t h 0) else if k.val = 1 then x1 (ix3 t h 0) else if k.val = 2 then x2 (ix3 t h 0) else 0 := by
  pointwise
  fin_vals k with hk
  all_goals simp only [hk, Nat.reduceSub, Nat.reduceLT, Nat.reduceEqDiff, OfNat.ofNat_ne_zero, OfNat.ofNat_ne_one, ↓reduceDIte, ↓reduceIte]
  all_goals first | rfl | simp

section Values

variable (m : (ℓ : Loc nD τ sig) → Buf (Elt Ideal) ℓ) (c : Dev nD)

/-- The greatest logit of a row, the row's sum of exponentials, its log-sum, and the sum of the row's `do * o`. -/
def mx (P : S4096x3072.Idx → EReal) (C : S4096x8.Idx → EReal) (h : Fin 8) (t : Fin 4096) : EReal :=
  Finset.fold max (Ideal.ofBits .f32 0xFF800000#32) (fun s => logit P C h t s) Finset.univ
def den (P : S4096x3072.Idx → EReal) (C : S4096x8.Idx → EReal) (h : Fin 8) (t : Fin 4096) : EReal :=
  ∑ s : Fin 4096, Ideal.exp (logit P C h t s - mx P C h t)
def lse (P : S4096x3072.Idx → EReal) (C : S4096x8.Idx → EReal) (h : Fin 8) (t : Fin 4096) : EReal :=
  mx P C h t + Ideal.log (den P C h t)
def dsm (P : S4096x3072.Idx → EReal) (A : S4096x1024.Idx → EReal) (C : S4096x8.Idx → EReal) (h : Fin 8) (t : Fin 4096) : EReal :=
  ∑ d : Fin 64, ata A t (co h d) *
    ∑ s : Fin 4096, atp P s (cv h d) * Ideal.div (Ideal.exp (logit P C h t s - mx P C h t)) (den P C h t)

/-- The numbers of the extra lanes: those of the queries, of the keys and of the output's gradients. -/
def slotQ (x z : EReal) (k : Fin 64) : EReal :=
  if k.val = 0 then x else if k.val = 1 then lo1 x else if k.val = 2 then lo2 x else if k.val = 3 then 1 else
  if k.val = 4 then 1 else if k.val = 5 then 1 else if k.val = 6 then z else if k.val = 7 then lo1 z else if k.val = 8 then lo2 z else 0
def slotK (x : EReal) (k : Fin 64) : EReal :=
  if k.val = 0 then 1 else if k.val = 1 then 1 else if k.val = 2 then 1 else if k.val = 3 then x else
  if k.val = 4 then lo1 x else if k.val = 5 then lo2 x else if k.val = 6 then 1 else if k.val = 7 then 1 else if k.val = 8 then 1 else 0
def slotO (x : EReal) (k : Fin 64) : EReal :=
  if k.val = 0 then x else if k.val = 1 then lo1 x else if k.val = 2 then lo2 x else 0

theorem at54 (t : Fin 4096) (h : Fin 8) :
    at2 (At m c 54 main_v46) t h = lse (At m c 0 main_arg0) (At m c 0 main_arg2) h t ∧
    at2 (At m c 54 main_v48) t h = dsm (At m c 0 main_arg0) (At m c 0 main_arg1) (At m c 0 main_arg2) h t := by
  have e1 : At m c 35 = StableHlo.after (seg 0 35) (At m c 0) := At_add m c 0 35
  have e2 : At m c 37 = StableHlo.after (seg 35 2) (At m c 35) := At_add m c 35 2
  have e3 : At m c 43 = StableHlo.after (seg 37 6) (At m c 37) := At_add m c 37 6
  have e4 : At m c 54 = StableHlo.after (seg 43 11) (At m c 43) := At_add m c 43 11
  have x32 : ∀ s, at3 (At m c 37 main_v32) h t s = logit (At m c 0 main_arg0) (At m c 0 main_arg2) h t s := fun s => by
    rw [e2, (stage2 _ h t s 0).2.2.1, e1, (stage1 _ h t s 0).2.2]
  have x33 : atr (At m c 37 main_v33) h t = mx (At m c 0 main_arg0) (At m c 0 main_arg2) h t := by
    rw [e2, (stage2 _ h t 0 0).2.2.2, e1]
    simp only [(stage1 _ h t _ 0).2.2]
    rfl
  have y33 : atr (At m c 43 main_v33) h t = mx (At m c 0 main_arg0) (At m c 0 main_arg2) h t := by
    rw [e3, (stage3 _ h t 0 0).2.2.1, x33]
  have y37 : ∀ s, at3 (At m c 43 main_v37) h t s =
      Ideal.exp (logit (At m c 0 main_arg0) (At m c 0 main_arg2) h t s - mx (At m c 0 main_arg0) (At m c 0 main_arg2) h t) := fun s => by
    rw [e3, (stage3 _ h t s 0).2.2.2.1, x33, x32]
  have y38 : atr (At m c 43 main_v38) h t = den (At m c 0 main_arg0) (At m c 0 main_arg2) h t := by
    rw [e3, (stage3 _ h t 0 0).2.2.2.2, x33]
    simp only [x32]
    rfl
  have y8 : ∀ s d, atd (At m c 43 main_v8) s h d = atp (At m c 0 main_arg0) s (cv h d) := fun s d => by
    rw [e3, (stage3 _ h s 0 d).1, e2, (stage2 _ h s 0 d).1, e1, (stage1 _ h s 0 d).1]
  have y11 : ∀ d, atd (At m c 43 main_v11) t h d = ata (At m c 0 main_arg1) t (co h d) := fun d => by
    rw [e3, (stage3 _ h t 0 d).2.1, e2, (stage2 _ h t 0 d).2.1, e1, (stage1 _ h t 0 d).2.1]
  constructor
  · rw [e4, (stage4 _ h t).1, y33, y38]
    rfl
  · rw [e4, (stage4 _ h t).2]
    simp only [y8, y11, y37, y38]
    rfl

theorem V_eq (b : Ref sig .tc) : V m c b = At m c 125 b := rfl

theorem at54_c (t : Fin 4096) (h : Fin 8) : at2 (At m c 54 main_arg2) t h = at2 (At m c 0 main_arg2) t h := by
  rw [show At m c 54 = StableHlo.after (seg 0 54) (At m c 0) from At_add m c 0 54, keep_arg2]

theorem v84_apply (t : Fin 4096) (y : Fin 512) :
    (V m c main_v84 : S4096x512.Idx → EReal) (ix2 t y) = slotQ (at2 (At m c 0 main_arg2) t (hf y)) (-lse (At m c 0 main_arg0) (At m c 0 main_arg2) (hf y) t) (kf y) := by
  have e1 : At m c 125 = StableHlo.after (seg 88 37) (At m c 88) := At_add m c 88 37
  have e2 : At m c 88 = StableHlo.after (seg 87 1) (At m c 87) := At_add m c 87 1
  have e3 : At m c 87 = StableHlo.after (seg 54 33) (At m c 54) := At_add m c 54 33
  obtain ⟨p0, p1, p2, p3, p4, p5, p6, p7, p8, pz⟩ := parts_v80 (At m c 54) t (hf y)
  rw [← e3] at p0 p1 p2 p3 p4 p5 p6 p7 p8 pz
  rw [V_eq, e1, turn_v84, e2, cat_v80, pz]
  refine (cat9_apply (At m c 87 main_v70) (At m c 87 main_v71) (At m c 87 main_v72) (At m c 87 main_v73) (At m c 87 main_v74) (At m c 87 main_v75) (At m c 87 main_v76) (At m c 87 main_v77) (At m c 87 main_v78) t (hf y) (kf y)).trans ?_
  rw [p0, p1, p2, p3, p4, p5, p6, p7, p8]
  rw [at54_c, (at54 m c t (hf y)).1]
  rfl

theorem v99_apply (t : Fin 4096) (y : Fin 512) :
    (V m c main_v99 : S4096x512.Idx → EReal) (ix2 t y) = slotK (-at2 (At m c 0 main_arg2) t (hf y)) (kf y) := by
  have e1 : At m c 125 = StableHlo.after (seg 104 21) (At m c 104) := At_add m c 104 21
  have e2 : At m c 104 = StableHlo.after (seg 103 1) (At m c 103) := At_add m c 103 1
  have e3 : At m c 103 = StableHlo.after (seg 54 49) (At m c 54) := At_add m c 54 49
  obtain ⟨p0, p1, p2, p3, p4, p5, p6, p7, p8, pz⟩ := parts_v95 (At m c 54) t (hf y)
  rw [← e3] at p0 p1 p2 p3 p4 p5 p6 p7 p8 pz
  rw [V_eq, e1, turn_v99, e2, cat_v95, pz]
  refine (cat9_apply (At m c 103 main_v85) (At m c 103 main_v86) (At m c 103 main_v87) (At m c 103 main_v88) (At m c 103 main_v89) (At m c 103 main_v90) (At m c 103 main_v91) (At m c 103 main_v92) (At m c 103 main_v93) t (hf y) (kf y)).trans ?_
  rw [p0, p1, p2, p3, p4, p5, p6, p7, p8]
  rw [at54_c]
  rfl

theorem v115_apply (t : Fin 4096) (y : Fin 512) :
    (V m c main_v115 : S4096x512.Idx → EReal) (ix2 t y) = slotO (-dsm (At m c 0 main_arg0) (At m c 0 main_arg1) (At m c 0 main_arg2) (hf y) t) (kf y) := by
  have e1 : At m c 125 = StableHlo.after (seg 121 4) (At m c 121) := At_add m c 121 4
  have e2 : At m c 121 = StableHlo.after (seg 120 1) (At m c 120) := At_add m c 120 1
  have e3 : At m c 120 = StableHlo.after (seg 54 66) (At m c 54) := At_add m c 54 66
  obtain ⟨p0, p1, p2, pz⟩ := parts_v111 (At m c 54) t (hf y)
  rw [← e3] at p0 p1 p2 pz
  rw [V_eq, e1, turn_v115, e2, cat_v111, pz]
  refine (cat3_apply (At m c 120 main_v107) (At m c 120 main_v108) (At m c 120 main_v109) t (hf y) (kf y)).trans ?_
  rw [p0, p1, p2]
  rw [(at54 m c t (hf y)).2]
  rfl

end Values

end Cert.Proof.PI
-- ==== Proof.Value.Ref.lean ====
/-
  The reference's results over the extended reals, read at an index.
-/
module

public import proofs.«01_k».proof.Proof.Value.Host
public import proofs.«01_k».proof.Proof.Gen.ReferenceIdeal.Run
public import Idealize.ShloMosaic.Lib.StableHlo.ReadAt

@[expose] public section

set_option maxRecDepth 16384

noncomputable section

namespace Cert.Proof.RI

open Cert.ReferenceIdeal Cert.ReferenceIdeal.Gen Cert.ReferenceIdeal.Value
open Idealize.ShloMosaic Idealize.ShloMosaic.TcCoe
open Idealize.SL Idealize.SL.Sem
open Cert.Proof.PI (at2 at3 atd atr atp ata cq ck cv co logit)

theorem after_append (A B : List (HloOp τ sig (Elt Ideal))) (X : Valuation τ sig (Elt Ideal)) :
    StableHlo.after (A ++ B) X = StableHlo.after B (StableHlo.after A X) := by
  induction A generalizing X with
  | nil => rfl
  | cons o A ih => exact ih (o.result X)

/-- The `k` operations of the reference that follow its first `n`. -/
def seg (n k : ℕ) : List (HloOp τ sig (Elt Ideal)) := (ops.drop n).take k

/-- The buffers after the first `n` operations of the reference. -/
def At (m : (ℓ : Loc nD τ sig) → Buf (Elt Ideal) ℓ) (c : Dev nD) (n : ℕ) : Valuation τ sig (Elt Ideal) :=
  StableHlo.after (ops.take n) (fun b => m (c, b))

theorem At_add (m : (ℓ : Loc nD τ sig) → Buf (Elt Ideal) ℓ) (c : Dev nD) (n k : ℕ) :
    At m c (n + k) = StableHlo.after (seg n k) (At m c n) := by
  unfold At seg
  rw [List.take_add, after_append]

/-- The mask's word at row `t` and column `s`. -/
def keepW (t s : Fin 4096) : BitVec 1 := IntOp.cmpi CmpIPredicate.sge (BitVec.ofNat 32 t.val) (BitVec.ofNat 32 s.val)
def atm (A : S8x4096x4096.Idx → BitVec 1) (h : Fin 8) (t s : Fin 4096) : BitVec 1 := A (ix3 h t s)
def atw (A : S4096x512.Idx → EReal) (t : Fin 4096) (y : Fin 512) : EReal := A (ix2 t y)
def atl (A : S4096x128.Idx → EReal) (t : Fin 4096) (y : Fin 128) : EReal := A (ix2 t y)
def atz (A : S8x4096x1.Idx → EReal) (h : Fin 8) (t : Fin 4096) : EReal := A (ix3 h t 0)

/-- The head and the lane of column `y`. -/
def hy (y : Fin 512) : Fin 8 := ⟨y.val / 64, by omega⟩
def dy (y : Fin 512) : Fin 64 := ⟨y.val % 64, by omega⟩
/-- The column of the output's gradient at head `h`, lane `d`, in an array of 512 columns. -/
def cw (h : Fin 8) (d : Fin 64) : Fin 512 := ⟨h.val * 64 + d.val, by omega⟩

theorem sitofp0 : (FloatOps.sitofp .f32 0#32 : Ideal .f32) = (0 : EReal) := by
  show (((0#32 : BitVec 32).toInt : ℝ) : EReal) = 0
  simp

set_option maxHeartbeats 4000000 in
theorem stage1 (X : Valuation τ sig (Elt Ideal)) (h : Fin 8) (t s : Fin 4096) (d : Fin 64) :
    at3 (StableHlo.after (seg 0 34) X main_v28_0) h t s = logit (X main_arg0) (X main_arg2) h t s ∧
    atm (StableHlo.after (seg 0 34) X main_v28_1) h t s = keepW t s ∧
    atd (StableHlo.after (seg 0 34) X main_v6) t h d = atp (X main_arg0) t (cq h d) ∧
    atd (StableHlo.after (seg 0 34) X main_v7) t h d = atp (X main_arg0) t (ck h d) ∧
    atd (StableHlo.after (seg 0 34) X main_v8) t h d = atp (X main_arg0) t (cv h d) ∧
    atw (StableHlo.after (seg 0 34) X main_v5) t (cw h d) = ata (X main_arg1) t (co h d) := by
  simp only [seg, ops, List.drop_succ_cons, List.drop_zero, List.take_succ_cons, List.take_zero]
  simp only [keepW, logit, at2, at3, atd, atr, atp, ata, atm, atw, atl, atz]
  refine ⟨?_, ?_, ?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

set_option maxHeartbeats 4000000 in
theorem stage2 (X : Valuation τ sig (Elt Ideal)) (h : Fin 8) (t s : Fin 4096) (d : Fin 64) :
    atr (StableHlo.after (seg 34 4) X main_v29) h t = Finset.fold max (Ideal.ofBits .f32 0xFF800000#32) (fun s => at3 (X main_v28_0) h t s) Finset.univ ∧
    at3 (StableHlo.after (seg 34 4) X main_v28_0) h t s = at3 (X main_v28_0) h t s ∧
    atm (StableHlo.after (seg 34 4) X main_v28_1) h t s = atm (X main_v28_1) h t s ∧
    atd (StableHlo.after (seg 34 4) X main_v6) t h d = atd (X main_v6) t h d ∧
    atd (StableHlo.after (seg 34 4) X main_v7) t h d = atd (X main_v7) t h d ∧
    atd (StableHlo.after (seg 34 4) X main_v8) t h d = atd (X main_v8) t h d ∧
    atw (StableHlo.after (seg 34 4) X main_v5) t (cw h d) = atw (X main_v5) t (cw h d) := by
  simp only [seg, ops, List.drop_succ_cons, List.drop_zero, List.take_succ_cons, List.take_zero]
  simp only [keepW, logit, at2, at3, atd, atr, atp, ata, atm, atw, atl, atz]
  refine ⟨?_, ?_, ?_, ?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

set_option maxHeartbeats 4000000 in
theorem stage3 (X : Valuation τ sig (Elt Ideal)) (h : Fin 8) (t s : Fin 4096) (d : Fin 64) :
    at3 (StableHlo.after (seg 38 27) X main_v49) h t s = Ideal.exp (at3 (X main_v28_0) h t s - max (Ideal.ofBits .f32 0xFF800000#32) (atr (X main_v29) h t)) ∧
    atm (StableHlo.after (seg 38 27) X main_v28_1) h t s = atm (X main_v28_1) h t s ∧
    atd (StableHlo.after (seg 38 27) X main_v6) t h d = atd (X main_v6) t h d ∧
    atd (StableHlo.after (seg 38 27) X main_v7) t h d = atd (X main_v7) t h d ∧
    atd (StableHlo.after (seg 38 27) X main_v8) t h d = atd (X main_v8) t h d ∧
    atw (StableHlo.after (seg 38 27) X main_v5) t (cw h d) = atw (X main_v5) t (cw h d) := by
  simp only [seg, ops, List.drop_succ_cons, List.drop_zero, List.take_succ_cons, List.take_zero]
  simp only [keepW, logit, at2, at3, atd, atr, atp, ata, atm, atw, atl, atz]
  refine ⟨?_, ?_, ?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

set_option maxHeartbeats 4000000 in
theorem stage4 (X : Valuation τ sig (Elt Ideal)) (h : Fin 8) (t s : Fin 4096) (d : Fin 64) :
    atz (StableHlo.after (seg 65 9) X main_v51) h t = ∑ s, at3 (X main_v49) h t s ∧
    at3 (StableHlo.after (seg 65 9) X main_v53) h t s = Ideal.div (at3 (X main_v49) h t s) (∑ s, at3 (X main_v49) h t s) ∧
    atz (StableHlo.after (seg 65 9) X main_v56) h t = Ideal.div 1 ((∑ s, at3 (X main_v49) h t s) * (∑ s, at3 (X main_v49) h t s)) ∧
    atm (StableHlo.after (seg 65 9) X main_v28_1) h t s = atm (X main_v28_1) h t s ∧
    at3 (StableHlo.after (seg 65 9) X main_v49) h t s = at3 (X main_v49) h t s ∧
    atd (StableHlo.after (seg 65 9) X main_v6) t h d = atd (X main_v6) t h d ∧
    atd (StableHlo.after (seg 65 9) X main_v7) t h d = atd (X main_v7) t h d ∧
    atd (StableHlo.after (seg 65 9) X main_v8) t h d = atd (X main_v8) t h d ∧
    atw (StableHlo.after (seg 65 9) X main_v5) t (cw h d) = atw (X main_v5) t (cw h d) := by
  simp only [seg, ops, List.drop_succ_cons, List.drop_zero, List.take_succ_cons, List.take_zero]
  simp only [keepW, logit, at2, at3, atd, atr, atp, ata, atm, atw, atl, atz]
  refine ⟨?_, ?_, ?_, ?_, ?_, ?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

set_option maxHeartbeats 4000000 in
theorem stage5 (X : Valuation τ sig (Elt Ideal)) (h : Fin 8) (t s : Fin 4096) (d : Fin 64) :
    at3 (StableHlo.after (seg 74 8) X main_v62) h t s = ∑ d : Fin 64, atw (X main_v5) t (cw h d) * atd (X main_v8) s h d ∧
    atd (StableHlo.after (seg 74 8) X main_v64) s h d = ∑ t : Fin 4096, atw (X main_v5) t (cw h d) * at3 (X main_v53) h t s ∧
    atm (StableHlo.after (seg 74 8) X main_v28_1) h t s = atm (X main_v28_1) h t s ∧
    at3 (StableHlo.after (seg 74 8) X main_v49) h t s = at3 (X main_v49) h t s ∧
    atd (StableHlo.after (seg 74 8) X main_v6) t h d = atd (X main_v6) t h d ∧
    atd (StableHlo.after (seg 74 8) X main_v7) t h d = atd (X main_v7) t h d ∧
    atz (StableHlo.after (seg 74 8) X main_v51) h t = atz (X main_v51) h t ∧
    atz (StableHlo.after (seg 74 8) X main_v56) h t = atz (X main_v56) h t := by
  simp only [seg, ops, List.drop_succ_cons, List.drop_zero, List.take_succ_cons, List.take_zero]
  simp only [keepW, logit, at2, at3, atd, atr, atp, ata, atm, atw, atl, atz]
  refine ⟨?_, ?_, ?_, ?_, ?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

set_option maxHeartbeats 4000000 in
theorem stage6 (X : Valuation τ sig (Elt Ideal)) (h : Fin 8) (t s : Fin 4096) (d : Fin 64) :
    at3 (StableHlo.after (seg 82 14) X main_v76) h t s = (Ideal.div (at3 (X main_v62) h t s) (atz (X main_v51) h t) +
      -(∑ s : Fin 4096, at3 (X main_v62) h t s * atz (X main_v56) h t * at3 (X main_v49) h t s)) * at3 (X main_v49) h t s ∧
    atm (StableHlo.after (seg 82 14) X main_v28_1) h t s = atm (X main_v28_1) h t s ∧
    atd (StableHlo.after (seg 82 14) X main_v6) t h d = atd (X main_v6) t h d ∧
    atd (StableHlo.after (seg 82 14) X main_v7) t h d = atd (X main_v7) t h d ∧
    atd (StableHlo.after (seg 82 14) X main_v64) t h d = atd (X main_v64) t h d := by
  simp only [seg, ops, List.drop_succ_cons, List.drop_zero, List.take_succ_cons, List.take_zero]
  simp only [keepW, logit, at2, at3, atd, atr, atp, ata, atm, atw, atl, atz]
  refine ⟨?_, ?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

set_option maxHeartbeats 4000000 in
theorem stage7 (X : Valuation τ sig (Elt Ideal)) (h : Fin 8) (t s : Fin 4096) (d : Fin 64) :
    at3 (StableHlo.after (seg 96 3) X main_v77) h t s = Scalar.select (atm (X main_v28_1) h t s) (at3 (X main_v76) h t s) 0 ∧
    atd (StableHlo.after (seg 96 3) X main_v6) t h d = atd (X main_v6) t h d ∧
    atd (StableHlo.after (seg 96 3) X main_v7) t h d = atd (X main_v7) t h d ∧
    atd (StableHlo.after (seg 96 3) X main_v64) t h d = atd (X main_v64) t h d := by
  simp only [seg, ops, List.drop_succ_cons, List.drop_zero, List.take_succ_cons, List.take_zero]
  simp only [keepW, logit, at2, at3, atd, atr, atp, ata, atm, atw, atl, atz]
  refine ⟨?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

set_option maxHeartbeats 4000000 in
theorem stage8 (X : Valuation τ sig (Elt Ideal)) (t : Fin 4096) (y : Fin 512) (l : Fin 128) :
    atw (StableHlo.after (seg 99 33) X main_v96) t y = ∑ s : Fin 4096, at3 (X main_v77) (hy y) t s * Ideal.ofBits .f32 0x3E000000#32 * atd (X main_v7) s (hy y) (dy y) ∧
    atw (StableHlo.after (seg 99 33) X main_v97) t y = ∑ s : Fin 4096, at3 (X main_v77) (hy y) s t * Ideal.ofBits .f32 0x3E000000#32 * atd (X main_v6) s (hy y) (dy y) ∧
    atw (StableHlo.after (seg 99 33) X main_v98) t y = atd (X main_v64) t (hy y) (dy y) ∧
    atl (StableHlo.after (seg 99 33) X main_v99) t l = (if hl : l.val < 8 then ∑ s : Fin 4096, at3 (X main_v77) ⟨l.val, hl⟩ t s else 0) ∧
    atl (StableHlo.after (seg 99 33) X main_v101) t l = (if hl : l.val < 8 then -(∑ s : Fin 4096, -at3 (X main_v77) ⟨l.val, hl⟩ s t) else 0) := by
  simp only [seg, ops, List.drop_succ_cons, List.drop_zero, List.take_succ_cons, List.take_zero]
  simp only [keepW, logit, at2, at3, atd, atr, atp, ata, atm, atw, atl, atz]
  refine ⟨?_, ?_, ?_, ?_, ?_⟩
  all_goals first | (after_reads_at; done) | (after_reads_at; rfl) | (after_reads_at; simp only [Finset.univ_unique, Finset.sum_singleton]; done) |
    (after_reads_at; simp only [Finset.univ_unique, Finset.sum_singleton, sitofp0]; done) |
    (after_reads_at; simp only [Finset.univ_unique, Finset.sum_singleton, sitofp0]; rfl)

section Values

variable (m : (ℓ : Loc nD τ sig) → Buf (Elt Ideal) ℓ) (c : Dev nD)

/-- The reference's exponentials, their row sums, the gradient of the probabilities, and that of the logits. -/
def rE (P : S4096x3072.Idx → EReal) (C : S4096x8.Idx → EReal) (h : Fin 8) (t s : Fin 4096) : EReal :=
  Ideal.exp (logit P C h t s - max (Ideal.ofBits .f32 0xFF800000#32) (Cert.Proof.PI.mx P C h t))
def rL (P : S4096x3072.Idx → EReal) (C : S4096x8.Idx → EReal) (h : Fin 8) (t : Fin 4096) : EReal :=
  ∑ s : Fin 4096, rE P C h t s
def dP (P : S4096x3072.Idx → EReal) (A : S4096x1024.Idx → EReal) (h : Fin 8) (t s : Fin 4096) : EReal :=
  ∑ d : Fin 64, ata A t (co h d) * atp P s (cv h d)
def rDS (P : S4096x3072.Idx → EReal) (A : S4096x1024.Idx → EReal) (C : S4096x8.Idx → EReal) (h : Fin 8) (t s : Fin 4096) : EReal :=
  Scalar.select (keepW t s)
    ((Ideal.div (dP P A h t s) (rL P C h t) +
      -(∑ s' : Fin 4096, dP P A h t s' * Ideal.div 1 (rL P C h t * rL P C h t) * rE P C h t s')) * rE P C h t s) 0

theorem at99 (h : Fin 8) (t s : Fin 4096) (d : Fin 64) :
    at3 (At m c 99 main_v77) h t s = rDS (At m c 0 main_arg0) (At m c 0 main_arg1) (At m c 0 main_arg2) h t s ∧
    atd (At m c 99 main_v6) t h d = atp (At m c 0 main_arg0) t (cq h d) ∧
    atd (At m c 99 main_v7) t h d = atp (At m c 0 main_arg0) t (ck h d) ∧
    atd (At m c 99 main_v64) s h d = ∑ t : Fin 4096, ata (At m c 0 main_arg1) t (co h d) *
      Ideal.div (rE (At m c 0 main_arg0) (At m c 0 main_arg2) h t s) (rL (At m c 0 main_arg0) (At m c 0 main_arg2) h t) := by
  have e1 : At m c 34 = StableHlo.after (seg 0 34) (At m c 0) := At_add m c 0 34
  have e2 : At m c 38 = StableHlo.after (seg 34 4) (At m c 34) := At_add m c 34 4
  have e3 : At m c 65 = StableHlo.after (seg 38 27) (At m c 38) := At_add m c 38 27
  have e4 : At m c 74 = StableHlo.after (seg 65 9) (At m c 65) := At_add m c 65 9
  have e5 : At m c 82 = StableHlo.after (seg 74 8) (At m c 74) := At_add m c 74 8
  have e6 : At m c 96 = StableHlo.after (seg 82 14) (At m c 82) := At_add m c 82 14
  have e7 : At m c 99 = StableHlo.after (seg 96 3) (At m c 96) := At_add m c 96 3
  generalize At m c 99 = X7 at *
  generalize At m c 96 = X6 at *
  generalize At m c 82 = X5 at *
  generalize At m c 74 = X4 at *
  generalize At m c 65 = X3 at *
  generalize At m c 38 = X2 at *
  generalize At m c 34 = X1 at *
  generalize At m c 0 = X0 at *
  have a1 := fun h t s d => stage1 X0 h t s d
  have a2 := fun h t s d => stage2 X1 h t s d
  have a3 := fun h t s d => stage3 X2 h t s d
  have a4 := fun h t s d => stage4 X3 h t s d
  have a5 := fun h t s d => stage5 X4 h t s d
  have a6 := fun h t s d => stage6 X5 h t s d
  have a7 := fun h t s d => stage7 X6 h t s d
  rw [← e1] at a1
  rw [← e2] at a2
  rw [← e3] at a3
  rw [← e4] at a4
  rw [← e5] at a5
  rw [← e6] at a6
  rw [← e7] at a7
  have b28 : ∀ h t s, at3 (X2 main_v28_0) h t s = logit (X0 main_arg0) (X0 main_arg2) h t s := fun h t s => by
    rw [(a2 h t s 0).2.1, (a1 h t s 0).1]
  have b29 : ∀ h t, atr (X2 main_v29) h t = Cert.Proof.PI.mx (X0 main_arg0) (X0 main_arg2) h t := fun h t => by
    rw [(a2 h t 0 0).1]
    simp only [(a1 h t _ 0).1]
    rfl
  have b49 : ∀ h t s, at3 (X3 main_v49) h t s = rE (X0 main_arg0) (X0 main_arg2) h t s := fun h t s => by
    rw [(a3 h t s 0).1, b28, b29]
    rfl
  have c49 : ∀ h t s, at3 (X5 main_v49) h t s = rE (X0 main_arg0) (X0 main_arg2) h t s := fun h t s => by
    rw [(a5 h t s 0).2.2.2.1, (a4 h t s 0).2.2.2.2.1, b49]
  have b51 : ∀ h t, atz (X4 main_v51) h t = rL (X0 main_arg0) (X0 main_arg2) h t := fun h t => by
    rw [(a4 h t 0 0).1]
    simp only [b49]
    rfl
  have c51 : ∀ h t, atz (X5 main_v51) h t = rL (X0 main_arg0) (X0 main_arg2) h t := fun h t => by
    rw [(a5 h t 0 0).2.2.2.2.2.2.1, b51]
  have c56 : ∀ h t, atz (X5 main_v56) h t =
      Ideal.div 1 (rL (X0 main_arg0) (X0 main_arg2) h t * rL (X0 main_arg0) (X0 main_arg2) h t) := fun h t => by
    rw [(a5 h t 0 0).2.2.2.2.2.2.2, (a4 h t 0 0).2.2.1]
    simp only [b49]
    rfl
  have b53 : ∀ h t s, at3 (X4 main_v53) h t s =
      Ideal.div (rE (X0 main_arg0) (X0 main_arg2) h t s) (rL (X0 main_arg0) (X0 main_arg2) h t) := fun h t s => by
    rw [(a4 h t s 0).2.1]
    simp only [b49]
    rfl
  have b5 : ∀ h t d, atw (X4 main_v5) t (cw h d) = ata (X0 main_arg1) t (co h d) := fun h t d => by
    rw [(a4 h t 0 d).2.2.2.2.2.2.2.2, (a3 h t 0 d).2.2.2.2.2, (a2 h t 0 d).2.2.2.2.2.2, (a1 h t 0 d).2.2.2.2.2]
  have b8 : ∀ h t d, atd (X4 main_v8) t h d = atp (X0 main_arg0) t (cv h d) := fun h t d => by
    rw [(a4 h t 0 d).2.2.2.2.2.2.2.1, (a3 h t 0 d).2.2.2.2.1, (a2 h t 0 d).2.2.2.2.2.1, (a1 h t 0 d).2.2.2.2.1]
  have b62 : ∀ h t s, at3 (X5 main_v62) h t s = dP (X0 main_arg0) (X0 main_arg1) h t s := fun h t s => by
    rw [(a5 h t s 0).1]
    simp only [b5, b8]
    rfl
  have bm : ∀ h t s, atm (X6 main_v28_1) h t s = keepW t s := fun h t s => by
    rw [(a6 h t s 0).2.1, (a5 h t s 0).2.2.1, (a4 h t s 0).2.2.2.1, (a3 h t s 0).2.1, (a2 h t s 0).2.2.1, (a1 h t s 0).2.1]
  refine ⟨?_, ?_, ?_, ?_⟩
  · rw [(a7 h t s 0).1, bm, (a6 h t s 0).1]
    simp only [b62, c49, c51, c56]
    rfl
  · rw [(a7 h t 0 d).2.1, (a6 h t 0 d).2.2.1, (a5 h t 0 d).2.2.2.2.1, (a4 h t 0 d).2.2.2.2.2.1, (a3 h t 0 d).2.2.1,
      (a2 h t 0 d).2.2.2.1, (a1 h t 0 d).2.2.1]
  · rw [(a7 h t 0 d).2.2.1, (a6 h t 0 d).2.2.2.1, (a5 h t 0 d).2.2.2.2.2.1, (a4 h t 0 d).2.2.2.2.2.2.1, (a3 h t 0 d).2.2.2.1,
      (a2 h t 0 d).2.2.2.2.1, (a1 h t 0 d).2.2.2.1]
  · rw [(a7 h s 0 d).2.2.2, (a6 h s 0 d).2.2.2.2, (a5 h 0 s d).2.1]
    simp only [b5, b53]

/-- The reference's five results. -/
theorem results (t : Fin 4096) (y : Fin 512) (l : Fin 128) :
    atw (At m c 132 main_v96) t y = ∑ s : Fin 4096, rDS (At m c 0 main_arg0) (At m c 0 main_arg1) (At m c 0 main_arg2) (hy y) t s *
      Ideal.ofBits .f32 0x3E000000#32 * atp (At m c 0 main_arg0) s (ck (hy y) (dy y)) ∧
    atw (At m c 132 main_v97) t y = ∑ s : Fin 4096, rDS (At m c 0 main_arg0) (At m c 0 main_arg1) (At m c 0 main_arg2) (hy y) s t *
      Ideal.ofBits .f32 0x3E000000#32 * atp (At m c 0 main_arg0) s (cq (hy y) (dy y)) ∧
    atw (At m c 132 main_v98) t y = ∑ s : Fin 4096, ata (At m c 0 main_arg1) s (co (hy y) (dy y)) *
      Ideal.div (rE (At m c 0 main_arg0) (At m c 0 main_arg2) (hy y) s t) (rL (At m c 0 main_arg0) (At m c 0 main_arg2) (hy y) s) ∧
    atl (At m c 132 main_v99) t l = (if hl : l.val < 8 then
      ∑ s : Fin 4096, rDS (At m c 0 main_arg0) (At m c 0 main_arg1) (At m c 0 main_arg2) ⟨l.val, hl⟩ t s else 0) ∧
    atl (At m c 132 main_v101) t l = (if hl : l.val < 8 then
      -(∑ s : Fin 4096, -rDS (At m c 0 main_arg0) (At m c 0 main_arg1) (At m c 0 main_arg2) ⟨l.val, hl⟩ s t) else 0) := by
  have e8 : At m c 132 = StableHlo.after (seg 99 33) (At m c 99) := At_add m c 99 33
  obtain ⟨f1, f2, f3, f4, f5⟩ := stage8 (At m c 99) t y l
  rw [← e8] at f1 f2 f3 f4 f5
  refine ⟨f1.trans ?_, f2.trans ?_, f3.trans ?_, f4.trans ?_, f5.trans ?_⟩
  · simp only [(at99 m c _ t _ 0).1, (at99 m c (hy y) _ 0 (dy y)).2.2.1]
  · simp only [(at99 m c _ _ t 0).1, (at99 m c (hy y) _ 0 (dy y)).2.1]
  · exact (at99 m c (hy y) 0 t (dy y)).2.2.2
  · simp only [(at99 m c _ t _ 0).1]
  · simp only [(at99 m c _ _ t 0).1]

end Values

end Cert.Proof.RI
-- ==== Proof.Value.Real.lean ====
/-
  The forward pass over finite arguments: its logits, its weights and its sums as real numbers.
-/
module

public import proofs.«01_k».proof.Proof.Value.Ref

@[expose] public section

noncomputable section

namespace Cert.Proof.PI

open Cert.KernelIdeal Cert.KernelIdeal.Gen
open Idealize.ShloMosaic

theorem eighth_f32 : Ideal.ofBits .f32 0x3E000000#32 = ((1 / 8 : ℝ) : EReal) := by
  simp [Ideal.ofBits, Ideal.ieee, -EReal.coe_mul]
  norm_num

theorem eighth_bf16 : Ideal.ofBits .bf16 0x3E00#16 = ((1 / 8 : ℝ) : EReal) := by
  simp [Ideal.ofBits, Ideal.ieee, -EReal.coe_mul]
  norm_num

theorem negInf : Ideal.ofBits .f32 0xFF800000#32 = (⊥ : EReal) := by
  simp [Ideal.ofBits, Ideal.ieee]

theorem coe_sum {ι : Type} [Fintype ι] (f : ι → ℝ) : ∑ i, (f i : EReal) = ((∑ i, f i : ℝ) : EReal) := by
  classical
  refine Finset.induction_on (motive := fun z => ∑ i ∈ z, (f i : EReal) = ((∑ i ∈ z, f i : ℝ) : EReal)) Finset.univ (by simp) fun i z hi e => ?_
  rw [Finset.sum_insert hi, Finset.sum_insert hi, e, EReal.coe_add]

/-- A sum of numbers each of which is real. -/
theorem sum_of {ι : Type} [Fintype ι] {F : ι → EReal} {f : ι → ℝ} (h : ∀ i, F i = (f i : EReal)) : ∑ i, F i = ((∑ i, f i : ℝ) : EReal) :=
  (Finset.sum_congr rfl fun i _ => h i).trans (coe_sum f)

theorem keep_word {α : Type} (t s : Fin 4096) (u v : α) :
    Scalar.select (IntOp.cmpi CmpIPredicate.sge (BitVec.ofNat 32 t.val) (BitVec.ofNat 32 s.val)) u v = if s ≤ t then u else v := by
  have e := WordCmp.cmpi_sge_ofNat (w := 32) (a := t.val) (b := s.val) (by have := t.isLt; omega) (by have := s.isLt; omega)
  rw [e]
  by_cases h : s ≤ t
  · rw [if_pos h, decide_eq_true (Fin.le_def.mp h)]
    rfl
  · rw [if_neg h, decide_eq_false fun e1 => h (Fin.le_def.mpr e1)]
    rfl

/-- The largest logit of row `t`. -/
def peak (P : S4096x3072.Idx → EReal) (C : S4096x8.Idx → EReal) (h : Fin 8) (t : Fin 4096) : ℝ := (mx P C h t).toReal

/-- The arguments of the step, finite: their numbers as real numbers. -/
structure Finite (P : S4096x3072.Idx → EReal) (A : S4096x1024.Idx → EReal) (C : S4096x8.Idx → EReal) where
  p : Fin 4096 → Fin 3072 → ℝ
  a : Fin 4096 → Fin 1024 → ℝ
  b : Fin 4096 → Fin 8 → ℝ
  hp : ∀ t y, atp P t y = (p t y : EReal)
  ha : ∀ t y, ata A t y = (a t y : EReal)
  hb : ∀ t h, at2 C t h = (b t h : EReal)

namespace Finite

variable {P : S4096x3072.Idx → EReal} {A : S4096x1024.Idx → EReal} {C : S4096x8.Idx → EReal} (r : Finite P A C)
include r

/-- The logit of row `t` and column `s`, before the mask. -/
def lg (h : Fin 8) (t s : Fin 4096) : ℝ := (∑ d : Fin 64, r.p t (cq h d) * r.p s (ck h d)) * (1 / 8) + (r.b t h - r.b s h)
/-- The exponential of the logit, its sum over the row, and the weight. -/
def e (h : Fin 8) (t s : Fin 4096) : ℝ := if s ≤ t then Real.exp (r.lg h t s - peak P C h t) else 0
def tot (h : Fin 8) (t : Fin 4096) : ℝ := ∑ s, r.e h t s
def w (h : Fin 8) (t s : Fin 4096) : ℝ := r.e h t s / r.tot h t
/-- The gradient of the weight, its mean over the row, and the gradient of the logit. -/
def dw (h : Fin 8) (t s : Fin 4096) : ℝ := ∑ d : Fin 64, r.a t (co h d) * r.p s (cv h d)
def mean (h : Fin 8) (t : Fin 4096) : ℝ := ∑ s, r.dw h t s * r.w h t s
def ds (h : Fin 8) (t s : Fin 4096) : ℝ := r.w h t s * (r.dw h t s - r.mean h t)

theorem logit_eq (h : Fin 8) (t s : Fin 4096) : logit P C h t s = if s ≤ t then (r.lg h t s : EReal) else ⊥ := by
  unfold logit
  rw [keep_word, negInf, eighth_f32, sum_of (f := fun d => r.p t (cq h d) * r.p s (ck h d)) (fun d => by rw [r.hp, r.hp, EReal.coe_mul]),
    r.hb, r.hb, ← EReal.coe_mul, ← EReal.coe_sub, ← EReal.coe_add]
  rfl

theorem mx_eq (h : Fin 8) (t : Fin 4096) : mx P C h t = (peak P C h t : EReal) := by
  have hb : mx P C h t ≠ ⊥ := by
    intro e
    have hl : logit P C h t t ≤ mx P C h t := by
      unfold mx
      exact (Finset.le_fold_max _).mpr (Or.inr ⟨t, Finset.mem_univ _, le_rfl⟩)
    rw [e, r.logit_eq, if_pos le_rfl] at hl
    exact EReal.coe_ne_bot _ (le_bot_iff.mp hl)
  have ht : mx P C h t ≠ ⊤ := by
    refine ne_of_lt ?_
    unfold mx
    refine (Finset.fold_max_lt _).mpr ⟨by rw [negInf]; exact bot_lt_top, fun s _ => ?_⟩
    rw [r.logit_eq]
    split
    · exact EReal.coe_lt_top _
    · exact bot_lt_top
  exact (EReal.coe_toReal ht hb).symm

theorem exp_eq (h : Fin 8) (t s : Fin 4096) : Ideal.exp (logit P C h t s - mx P C h t) = (r.e h t s : EReal) := by
  rw [r.logit_eq, r.mx_eq]
  unfold e
  by_cases hs : s ≤ t
  · rw [if_pos hs, if_pos hs, ← EReal.coe_sub, Ideal.exp_coe]
  · rw [if_neg hs, if_neg hs, EReal.bot_sub, Ideal.exp_bot, EReal.coe_zero]

theorem den_eq (h : Fin 8) (t : Fin 4096) : den P C h t = (r.tot h t : EReal) :=
  sum_of fun s => r.exp_eq h t s

theorem tot_pos (h : Fin 8) (t : Fin 4096) : 0 < r.tot h t := by
  refine Finset.sum_pos' (fun s _ => ?_) ⟨t, Finset.mem_univ _, ?_⟩
  · unfold e
    split
    · exact (Real.exp_pos _).le
    · exact le_rfl
  · unfold e
    rw [if_pos le_rfl]
    exact Real.exp_pos _

theorem lse_eq (h : Fin 8) (t : Fin 4096) : lse P C h t = ((peak P C h t + Real.log (r.tot h t) : ℝ) : EReal) := by
  unfold lse
  rw [r.mx_eq, r.den_eq, Ideal.log_coe, if_neg (not_le.mpr (r.tot_pos h t)), ← EReal.coe_add]

theorem quot_eq (h : Fin 8) (t s : Fin 4096) : Ideal.div (r.e h t s : EReal) (r.tot h t : EReal) = (r.w h t s : EReal) := by
  rw [Ideal.div_coe (r.tot_pos h t).ne', ← EReal.coe_mul]
  unfold w
  rw [mul_one_div]

/-- The weight from the sums of the forward pass. -/
theorem w_exp (h : Fin 8) (t s : Fin 4096) (hs : s ≤ t) : Real.exp (r.lg h t s - (peak P C h t + Real.log (r.tot h t))) = r.w h t s := by
  unfold w e
  rw [if_pos hs, ← sub_sub, Real.exp_sub, Real.exp_log (r.tot_pos h t)]

theorem w_zero (h : Fin 8) (t s : Fin 4096) (hs : ¬ s ≤ t) : r.w h t s = 0 := by
  unfold w e
  rw [if_neg hs, zero_div]

theorem dsm_eq (h : Fin 8) (t : Fin 4096) : dsm P A C h t = (r.mean h t : EReal) := by
  unfold dsm
  have e1 : ∀ d : Fin 64, ata A t (co h d) *
      (∑ s : Fin 4096, atp P s (cv h d) * Ideal.div (Ideal.exp (logit P C h t s - mx P C h t)) (den P C h t)) =
      ((r.a t (co h d) * ∑ s, r.p s (cv h d) * r.w h t s : ℝ) : EReal) := fun d => by
    rw [sum_of (f := fun s => r.p s (cv h d) * r.w h t s) (fun s => by rw [r.hp, r.exp_eq, r.den_eq, r.quot_eq, EReal.coe_mul]), r.ha, ← EReal.coe_mul]
  rw [sum_of e1]
  refine congrArg _ ?_
  unfold mean dw
  simp only [Finset.mul_sum, Finset.sum_mul]
  rw [Finset.sum_comm]
  exact Finset.sum_congr rfl fun s _ => Finset.sum_congr rfl fun d _ => by ring

/-! ### The reference's numbers -/

theorem rE_eq (h : Fin 8) (t s : Fin 4096) : RI.rE P C h t s = (r.e h t s : EReal) := by
  unfold RI.rE
  rw [negInf, max_eq_right bot_le, r.exp_eq]

theorem rL_eq (h : Fin 8) (t : Fin 4096) : RI.rL P C h t = (r.tot h t : EReal) :=
  sum_of fun s => r.rE_eq h t s

theorem dP_eq (h : Fin 8) (t s : Fin 4096) : RI.dP P A h t s = (r.dw h t s : EReal) :=
  sum_of fun d => by rw [r.ha, r.hp, EReal.coe_mul]

theorem rDS_eq (h : Fin 8) (t s : Fin 4096) : RI.rDS P A C h t s = (r.ds h t s : EReal) := by
  have hL := (r.tot_pos h t).ne'
  unfold RI.rDS RI.keepW
  rw [keep_word]
  by_cases hs : s ≤ t
  · rw [if_pos hs]
    have e1 : ∀ s' : Fin 4096, RI.dP P A h t s' * Ideal.div 1 (RI.rL P C h t * RI.rL P C h t) * RI.rE P C h t s' =
        ((r.dw h t s' * (1 / (r.tot h t * r.tot h t)) * r.e h t s' : ℝ) : EReal) := fun s' => by
      rw [r.dP_eq, r.rL_eq, r.rE_eq, ← EReal.coe_mul, Ideal.div_coe (mul_ne_zero hL hL), one_mul, ← EReal.coe_mul, ← EReal.coe_mul]
    rw [sum_of e1, r.dP_eq, r.rL_eq, r.rE_eq, Ideal.div_coe hL, ← EReal.coe_neg, ← EReal.coe_mul, ← EReal.coe_add, ← EReal.coe_mul]
    refine congrArg _ ?_
    have e2 : ∑ s', r.dw h t s' * (1 / (r.tot h t * r.tot h t)) * r.e h t s' = r.mean h t * (1 / r.tot h t) := by
      unfold mean w
      rw [Finset.sum_mul]
      exact Finset.sum_congr rfl fun s' _ => by field_simp
    rw [e2]
    unfold ds w
    field_simp
    ring
  · rw [if_neg hs]
    unfold ds
    rw [r.w_zero h t s hs, zero_mul, EReal.coe_zero]

end Finite

end Cert.Proof.PI

end
-- ==== Proof.Value.Tie.lean ====
/-
  Over finite arguments the kernel's results are the reference's.
-/
module

public import proofs.«01_k».proof.Proof.Value.Real

@[expose] public section

set_option maxRecDepth 16384

noncomputable section

namespace Cert.Proof.PI

open Cert.KernelIdeal Cert.KernelIdeal.Gen
open Idealize.ShloMosaic Idealize.ShloMosaic.TcCoe
open Idealize.SL Idealize.SL.Sem
open Idealize.ShloMosaic.Pipeline

/-! ### The lanes of a pair of heads -/

/-- Lane `d` of head `a`'s half, and lane `d` of the other half. -/
def own (a : Fin 2) (d : Fin 64) : Fin 128 := ⟨64 * a.val + d.val, by omega⟩
def oth (a : Fin 2) (d : Fin 64) : Fin 128 := ⟨64 * (1 - a.val) + d.val, by omega⟩
/-- Head `a` of pair `p`. -/
def hh (p : Fin 4) (a : Fin 2) : Fin 8 := ⟨2 * p.val + a.val, by omega⟩

theorem hv_own (a : Fin 2) (d : Fin 64) : hv a (own a d) := by show (64 * a.val + d.val) / 64 = a.val; omega
theorem hv_oth (a : Fin 2) (d : Fin 64) : ¬ hv a (oth a d) := by
  intro e
  have : (64 * (1 - a.val) + d.val) / 64 = a.val := e
  omega

theorem sum_halves (f : Fin 128 → EReal) : ∑ l, f l = ∑ d : Fin 64, f ⟨d.val, by omega⟩ + ∑ d : Fin 64, f ⟨64 + d.val, by omega⟩ :=
  Fin.sum_univ_add (a := 64) (b := 64) f

theorem sum_lanes (a : Fin 2) (f : Fin 128 → EReal) : ∑ l, f l = ∑ d, f (own a d) + ∑ d, f (oth a d) := by
  rw [sum_halves]
  match a with
  | ⟨0, _⟩ =>
    exact congrArg₂ (· + ·) (Finset.sum_congr rfl fun d _ => congrArg f (Fin.ext (by show d.val = 64 * 0 + d.val; omega)))
      (Finset.sum_congr rfl fun d _ => congrArg f (Fin.ext (by show 64 + d.val = 64 * (1 - 0) + d.val; omega)))
  | ⟨1, _⟩ =>
    rw [add_comm]
    exact congrArg₂ (· + ·) (Finset.sum_congr rfl fun d _ => congrArg f (Fin.ext (by show 64 + d.val = 64 * 1 + d.val; omega)))
      (Finset.sum_congr rfl fun d _ => congrArg f (Fin.ext (by show d.val = 64 * (1 - 1) + d.val; omega)))

/-! ### The extra lanes of real numbers -/

theorem lo1_coe (x : ℝ) : lo1 (x : EReal) = 0 := by
  unfold lo1
  rw [← EReal.coe_sub, sub_self, EReal.coe_zero]
theorem lo2_coe (x : ℝ) : lo2 (x : EReal) = 0 := by
  unfold lo2
  rw [lo1_coe, sub_zero]

theorem sum_first9 (f : Fin 64 → EReal) (h : ∀ k : Fin 64, 9 ≤ k.val → f k = 0) :
    ∑ k, f k = f 0 + f 1 + f 2 + f 3 + f 4 + f 5 + f 6 + f 7 + f 8 := by
  have e : ∑ k, f k = ∑ d : Fin 9, f ⟨d.val, by omega⟩ + ∑ d : Fin 55, f ⟨9 + d.val, by omega⟩ := Fin.sum_univ_add (a := 9) (b := 55) f
  rw [e, Finset.sum_eq_zero (f := fun d : Fin 55 => f ⟨9 + d.val, by omega⟩) (fun d _ => h _ (by show 9 ≤ 9 + d.val; omega)), add_zero]
  rw [Fin.sum_univ_castSucc, Fin.sum_univ_eight]
  rfl

/-- The extra lanes add the row's number, the key's and the row's second one. -/
theorem slots_qk (x z y : ℝ) : ∑ k, slotQ (x : EReal) (z : EReal) k * slotK (y : EReal) k = ((x + y + z : ℝ) : EReal) := by
  rw [sum_first9 _ fun k hk => by
    have : slotK (y : EReal) k = 0 := by
      unfold slotK
      simp [show k.val ≠ 0 by omega, show k.val ≠ 1 by omega, show k.val ≠ 2 by omega, show k.val ≠ 3 by omega, show k.val ≠ 4 by omega,
        show k.val ≠ 5 by omega, show k.val ≠ 6 by omega, show k.val ≠ 7 by omega, show k.val ≠ 8 by omega]
    rw [this, mul_zero]]
  simp [slotQ, slotK, lo1_coe, lo2_coe]

theorem slots_ov (x : ℝ) : ∑ k : Fin 64, slotO (x : EReal) k * (if k.val < 3 then 1 else 0) = (x : EReal) := by
  rw [sum_first9 _ fun k hk => by rw [if_neg (by omega), mul_zero]]
  simp [slotO, lo1_coe, lo2_coe]

/-! ### The kernel's rows -/

section Rows
variable {m : (ℓ : Loc nD τ sig) → Buf (Elt Ideal) ℓ} {c : Dev nD}

theorem col_p {t : Fin 4096} {y y' : Fin 3072} (h : y.val = y'.val) : V m c main_arg0 (ix2 t y) = atp (At m c 0 main_arg0) t y' := by
  rw [V_main_arg0, show y = y' from Fin.ext h]
  rfl
theorem col_a {t : Fin 4096} {y y' : Fin 1024} (h : y.val = y'.val) : V m c main_arg1 (ix2 t y) = ata (At m c 0 main_arg1) t y' := by
  rw [V_main_arg1, show y = y' from Fin.ext h]
  rfl

variable (r : Finite (At m c 0 main_arg0) (At m c 0 main_arg1) (At m c 0 main_arg2)) (p : Fin 4) (a : Fin 2)
include r

theorem q_own (t : Fin 4096) (d : Fin 64) : (G m c p).q t (own a d) = (r.p t (cq (hh p a) d) : EReal) := by
  rw [G_q, ← r.hp]
  exact col_p (by show 1024 + 128 * p.val + (64 * a.val + d.val) = 1024 + ((2 * p.val + a.val) * 64 + d.val); omega)
theorem k_own (t : Fin 4096) (d : Fin 64) : (G m c p).k t (own a d) = (r.p t (ck (hh p a) d) : EReal) := by
  rw [G_k, ← r.hp]
  exact col_p (by show 1536 + 128 * p.val + (64 * a.val + d.val) = 1536 + ((2 * p.val + a.val) * 64 + d.val); omega)
theorem v_own (t : Fin 4096) (d : Fin 64) : (G m c p).v t (own a d) = (r.p t (cv (hh p a) d) : EReal) := by
  rw [G_v, ← r.hp]
  exact col_p (by show 2048 + 128 * p.val + (64 * a.val + d.val) = 2048 + ((2 * p.val + a.val) * 64 + d.val); omega)
theorem o_own (t : Fin 4096) (d : Fin 64) : (G m c p).o t (own a d) = (r.a t (co (hh p a) d) : EReal) := by
  rw [G_o, ← r.ha]
  exact col_a (by show 512 + 128 * p.val + (64 * a.val + d.val) = 512 + ((2 * p.val + a.val) * 64 + d.val); omega)

omit r in
theorem hf_oth (d : Fin 64) (h : 128 * p.val + (oth a d).val < 512) : hf ⟨128 * p.val + (oth a d).val, h⟩ = hh p a :=
  Fin.ext (by
    show (128 * p.val + (64 * (1 - a.val) + d.val)) / 128 * 2 + (1 - (128 * p.val + (64 * (1 - a.val) + d.val)) / 64 % 2) = 2 * p.val + a.val
    omega)
omit r in
theorem kf_oth (d : Fin 64) (h : 128 * p.val + (oth a d).val < 512) : kf ⟨128 * p.val + (oth a d).val, h⟩ = d :=
  Fin.ext (by show (128 * p.val + (64 * (1 - a.val) + d.val)) % 64 = d.val; omega)

theorem qx_oth (t : Fin 4096) (d : Fin 64) : (G m c p).qx t (oth a d) = slotQ (r.b t (hh p a) : EReal)
    ((-(peak (At m c 0 main_arg0) (At m c 0 main_arg2) (hh p a) t + Real.log (r.tot (hh p a) t)) : ℝ) : EReal) d := by
  rw [G_qx]
  refine (v84_apply m c t _).trans ?_
  rw [hf_oth, kf_oth, r.hb, r.lse_eq, EReal.coe_neg]
theorem kx_oth (t : Fin 4096) (d : Fin 64) : (G m c p).kx t (oth a d) = slotK ((-r.b t (hh p a) : ℝ) : EReal) d := by
  rw [G_kx]
  refine (v99_apply m c t _).trans ?_
  rw [hf_oth, kf_oth, r.hb, EReal.coe_neg]
theorem ox_oth (t : Fin 4096) (d : Fin 64) : (G m c p).ox t (oth a d) = slotO ((-r.mean (hh p a) t : ℝ) : EReal) d := by
  rw [G_ox]
  refine (v115_apply m c t _).trans ?_
  rw [hf_oth, kf_oth, r.dsm_eq, EReal.coe_neg]

theorem Q_own (t : Fin 4096) (d : Fin 64) : (G m c p).Q a t (own a d) = ((r.p t (cq (hh p a) d) * (1 / 8) : ℝ) : EReal) := by
  unfold Rows.Q
  rw [if_pos (hv_own a d), q_own r, eighth_bf16, EReal.coe_mul]
theorem K_own (t : Fin 4096) (d : Fin 64) : (G m c p).K a t (own a d) = (r.p t (ck (hh p a) d) : EReal) := by
  unfold Rows.K
  rw [if_pos (hv_own a d), k_own r]

theorem W_eq (t s : Fin 4096) : (G m c p).W a t s = (r.w (hh p a) t s : EReal) := by
  unfold Rows.W
  by_cases hs : s ≤ t
  · rw [if_pos hs, sum_lanes a]
    have e1 : ∑ d, (G m c p).Q a t (own a d) * (G m c p).K a s (own a d) =
        ((∑ d : Fin 64, r.p t (cq (hh p a) d) * (1 / 8) * r.p s (ck (hh p a) d) : ℝ) : EReal) :=
      sum_of fun d => by rw [Q_own r, K_own r, ← EReal.coe_mul]
    have e2 : ∑ d, (G m c p).Q a t (oth a d) * (G m c p).K a s (oth a d) =
        ((r.b t (hh p a) + -r.b s (hh p a) + -(peak (At m c 0 main_arg0) (At m c 0 main_arg2) (hh p a) t + Real.log (r.tot (hh p a) t)) : ℝ) : EReal) := by
      refine (Finset.sum_congr rfl fun d _ => ?_).trans (slots_qk _ _ _)
      unfold Rows.Q Rows.K
      rw [if_neg (hv_oth a d), if_neg (hv_oth a d), qx_oth r, kx_oth r]
    rw [e1, e2, ← EReal.coe_add, Ideal.exp_coe, ← r.w_exp _ _ _ hs]
    refine congrArg (fun x : ℝ => (Real.exp x : EReal)) ?_
    unfold Finite.lg
    rw [Finset.sum_mul, Finset.sum_congr rfl fun d _ => mul_right_comm (r.p t (cq (hh p a) d)) (1 / 8) (r.p s (ck (hh p a) d))]
    ring
  · rw [if_neg hs, Ideal.exp_bot, r.w_zero _ _ _ hs, EReal.coe_zero]

theorem D_eq (t s : Fin 4096) : (G m c p).D a t s = (r.ds (hh p a) t s : EReal) := by
  unfold Rows.D
  rw [W_eq r, sum_lanes a]
  have e1 : ∑ d, (G m c p).O a t (own a d) * (G m c p).V a s (own a d) = (r.dw (hh p a) t s : EReal) :=
    sum_of fun d => by
      unfold Rows.O Rows.V
      rw [if_pos (hv_own a d), if_pos (hv_own a d), o_own r, v_own r, ← EReal.coe_mul]
  have e2 : ∑ d, (G m c p).O a t (oth a d) * (G m c p).V a s (oth a d) = ((-r.mean (hh p a) t : ℝ) : EReal) := by
    refine (Finset.sum_congr rfl fun d _ => ?_).trans (slots_ov _)
    unfold Rows.O Rows.V
    rw [if_neg (hv_oth a d), if_neg (hv_oth a d), ox_oth r]
    refine congrArg (HMul.hMul _) (if_congr ?_ rfl rfl)
    show (64 * (1 - a.val) + d.val) % 64 < 3 ↔ d.val < 3
    omega
  rw [e1, e2, ← EReal.coe_add, ← EReal.coe_mul]
  rfl

theorem dq_own (t : Fin 4096) (d : Fin 64) : (G m c p).dq a t (own a d) = ((∑ s, r.ds (hh p a) t s * r.p s (ck (hh p a) d) : ℝ) : EReal) :=
  sum_of fun s => by rw [D_eq r, K_own r, EReal.coe_mul]
theorem dk_own (s : Fin 4096) (d : Fin 64) : (G m c p).dk a s (own a d) = ((∑ t, r.ds (hh p a) t s * (r.p t (cq (hh p a) d) * (1 / 8)) : ℝ) : EReal) :=
  sum_of fun t => by rw [D_eq r, Q_own r, ← EReal.coe_mul]

theorem dq_row (t : Fin 4096) : (G m c p).dq a t (rowLane a) = ((∑ s, r.ds (hh p a) t s : ℝ) : EReal) :=
  sum_of fun s => by
    have e : rowLane a = oth a 0 := Fin.ext (by show 64 * (1 - a.val) = 64 * (1 - a.val) + 0; omega)
    unfold Rows.K
    rw [D_eq r, e, if_neg (hv_oth a 0), kx_oth r, show ∀ x, slotK x 0 = 1 from fun x => rfl, mul_one]
theorem dk_col (s : Fin 4096) : (G m c p).dk a s (colLane a) = ((∑ t, r.ds (hh p a) t s : ℝ) : EReal) :=
  sum_of fun t => by
    have e : colLane a = oth a 3 := Fin.ext rfl
    unfold Rows.Q
    rw [D_eq r, e, if_neg (hv_oth a 3), qx_oth r, show ∀ x z, slotQ x z 3 = 1 from fun x z => rfl, mul_one]

/-! ### The five results -/

omit r in
theorem lane (y : Fin 512) : cl y = own (hd (cl y)) (RI.dy y) :=
  Fin.ext (by show y.val % 128 = 64 * (y.val % 128 / 64) + y.val % 64; omega)
omit r in
theorem head (y : Fin 512) : hh (cp y) (hd (cl y)) = RI.hy y :=
  Fin.ext (by show 2 * (y.val / 128) + y.val % 128 / 64 = y.val / 64; omega)

theorem tie_dq (t : Fin 4096) (y : Fin 512) : resDq (G m c) t y = ∑ s, RI.rDS (At m c 0 main_arg0) (At m c 0 main_arg1) (At m c 0 main_arg2) (RI.hy y) t s *
    Ideal.ofBits .f32 0x3E000000#32 * atp (At m c 0 main_arg0) s (ck (RI.hy y) (RI.dy y)) := by
  unfold resDq
  generalize ha : hd (cl y) = a
  rw [show cl y = own a (RI.dy y) from ha ▸ lane y, dq_own r, show hh (cp y) a = RI.hy y from ha ▸ head y, eighth_f32, ← EReal.coe_mul,
    sum_of (f := fun s => r.ds (RI.hy y) t s * (1 / 8) * r.p s (ck (RI.hy y) (RI.dy y))) (fun s => by rw [r.rDS_eq, r.hp, ← EReal.coe_mul, ← EReal.coe_mul])]
  refine congrArg _ ?_
  rw [Finset.sum_mul]
  exact Finset.sum_congr rfl fun s _ => by ring

theorem tie_dk (s : Fin 4096) (y : Fin 512) : resDk (G m c) s y = ∑ t, RI.rDS (At m c 0 main_arg0) (At m c 0 main_arg1) (At m c 0 main_arg2) (RI.hy y) t s *
    Ideal.ofBits .f32 0x3E000000#32 * atp (At m c 0 main_arg0) t (cq (RI.hy y) (RI.dy y)) := by
  unfold resDk
  generalize ha : hd (cl y) = a
  rw [show cl y = own a (RI.dy y) from ha ▸ lane y, dk_own r, show hh (cp y) a = RI.hy y from ha ▸ head y, eighth_f32,
    sum_of (f := fun t => r.ds (RI.hy y) t s * (1 / 8) * r.p t (cq (RI.hy y) (RI.dy y))) (fun t => by rw [r.rDS_eq, r.hp, ← EReal.coe_mul, ← EReal.coe_mul])]
  refine congrArg _ ?_
  exact Finset.sum_congr rfl fun t _ => by ring

theorem tie_dv (s : Fin 4096) (y : Fin 512) : resDv (G m c) s y = ∑ t, ata (At m c 0 main_arg1) t (co (RI.hy y) (RI.dy y)) *
    Ideal.div (RI.rE (At m c 0 main_arg0) (At m c 0 main_arg2) (RI.hy y) t s) (RI.rL (At m c 0 main_arg0) (At m c 0 main_arg2) (RI.hy y) t) := by
  unfold resDv
  generalize ha : hd (cl y) = a
  refine Finset.sum_congr rfl fun t _ => ?_
  rw [show cl y = own a (RI.dy y) from ha ▸ lane y, W_eq r, o_own r, show hh (cp y) a = RI.hy y from ha ▸ head y, r.rE_eq, r.rL_eq, r.quot_eq, r.ha, mul_comm]

theorem tie_rows (t : Fin 4096) (l : Fin 128) : resRows (G m c) t l = if hl : l.val < 8 then
    ∑ s, RI.rDS (At m c 0 main_arg0) (At m c 0 main_arg1) (At m c 0 main_arg2) ⟨l.val, hl⟩ t s else 0 := by
  unfold resRows
  by_cases hl : l.val < 8
  · rw [if_pos hl, dif_pos hl, dq_row r, show hh (pairOf l) (headOf l) = ⟨l.val, hl⟩ from
      Fin.ext (by show 2 * (l.val / 2 % 4) + l.val % 2 = l.val; omega), sum_of fun s => r.rDS_eq _ t s]
  · rw [if_neg hl, dif_neg hl]

theorem tie_cols (s : Fin 4096) (l : Fin 128) : resCols (G m c) s l = if hl : l.val < 8 then
    -(∑ t, -RI.rDS (At m c 0 main_arg0) (At m c 0 main_arg1) (At m c 0 main_arg2) ⟨l.val, hl⟩ t s) else 0 := by
  unfold resCols
  by_cases hl : l.val < 8
  · rw [if_pos hl, dif_pos hl, dk_col r, show hh (pairOf l) (headOf l) = ⟨l.val, hl⟩ from
      Fin.ext (by show 2 * (l.val / 2 % 4) + l.val % 2 = l.val; omega),
      sum_of (f := fun t => -r.ds ⟨l.val, hl⟩ t s) (fun t => by rw [r.rDS_eq, EReal.coe_neg]), ← EReal.coe_neg, Finset.sum_neg_distrib, neg_neg]
  · rw [if_neg hl, dif_neg hl]

end Rows

end Cert.Proof.PI

end
-- ==== Proof.Value.Equal.lean ====
/-
  From memories with the same finite arguments the kernel and the reference end with the same results.
-/
module

public import proofs.«01_k».proof.Defs
public import proofs.«01_k».proof.Proof.PI.Run
public import proofs.«01_k».proof.Proof.Value.Tie
public import Idealize.ShloMosaic.Lib.ReduceAll

@[expose] public section

set_option maxRecDepth 16384

noncomputable section

namespace Cert.Proof

open Idealize.ShloMosaic Idealize.ShloMosaic.TcCoe
open Idealize.SL Idealize.SL.Sem

/-- The side conditions of the predicate that says "finite". -/
theorem finite_facts : Cert.Pre_finite.Facts where
  bitsLt_bf16_f32 := by decide
  bcast_S_S4096x3072 := by decide
  reducesTo_S4096x3072_S_d0_1 := by decide
  h_S_ := by decide
  bcast_S_S4096x1024 := by decide
  reducesTo_S4096x1024_S_d0_1 := by decide
  bcast_S_S4096x8 := by decide
  reducesTo_S4096x8_S_d0_1 := by decide

instance : Subsingleton Cert.Pre_finite.S_.Idx := ⟨fun _ _ => funext fun a => a.elim0⟩

/-- A number whose size is below infinity is real. -/
theorem real_of_lt (x : EReal) (h : Ideal.cmp .olt (max x (-x)) (Ideal.ofBits .f32 0x7F800000#32) = 1#1) : x = (x.toReal : EReal) := by
  have e : Ideal.ofBits .f32 0x7F800000#32 = (⊤ : EReal) := by simp [Ideal.ofBits, Ideal.ieee]
  have hlt : max x (-x) < ⊤ := by
    by_contra hn
    rw [e] at h
    unfold Ideal.cmp at h
    simp only [hn, decide_false] at h
    exact absurd h (by decide)
  obtain ⟨h1, h2⟩ := max_lt_iff.mp hlt
  exact (EReal.coe_toReal h1.ne fun hb => h2.ne (by rw [hb, EReal.neg_bot])).symm

theorem finite_of [Cert.Pre_finite.Facts] (P : Cert.Pre_finite.S4096x3072.Idx → EReal) (A : Cert.Pre_finite.S4096x1024.Idx → EReal)
    (C : Cert.Pre_finite.S4096x8.Idx → EReal) (h : Cert.Pre_finite.fn (F := Ideal) P A C = fun _ => 1#1) :
    (∀ i, P i = ((P i).toReal : EReal)) ∧ (∀ i, A i = ((A i).toReal : EReal)) ∧ ∀ i, C i = ((C i).toReal : EReal) := by
  have h0 := congrFun h (fun a => a.elim0)
  unfold Cert.Pre_finite.fn at h0
  obtain ⟨h1, h2⟩ := IntOp.andi_eq_one.mp h0
  obtain ⟨h2, h3⟩ := IntOp.andi_eq_one.mp h2
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

/-- The real numbers of finite arguments. -/
def finite_args [Cert.Pre_finite.Facts] (P : Cert.Pre_finite.S4096x3072.Idx → EReal) (A : Cert.Pre_finite.S4096x1024.Idx → EReal)
    (C : Cert.Pre_finite.S4096x8.Idx → EReal) (h : Cert.Pre_finite.fn (F := Ideal) P A C = fun _ => 1#1) : PI.Finite P A C where
  p t y := (P (ix2 t y)).toReal
  a t y := (A (ix2 t y)).toReal
  b t y := (C (ix2 t y)).toReal
  hp t y := (finite_of P A C h).1 (ix2 t y)
  ha t y := (finite_of P A C h).2.1 (ix2 t y)
  hb t y := (finite_of P A C h).2.2 (ix2 t y)

/-! ### The reference's run -/

namespace RI

open Cert.ReferenceIdeal Cert.ReferenceIdeal.Gen Cert.ReferenceIdeal.Value

variable (m : (ℓ : Loc nD τ sig) → Buf (Elt Ideal) ℓ) (ρ : Dev nD → PrngReg)

theorem keep_arg (b : Ref sig .tc) (hb : b = main_arg0 ∨ b = main_arg1 ∨ b = main_arg2) (X : Valuation τ sig (Elt Ideal)) :
    StableHlo.after ops X (Proc.devRef .tc b) = X (Proc.devRef .tc b) :=
  StableHlo.after_of_forall_not_mem (b := Proc.devRef .tc b) _ _ (List.forall_iff_forall_mem.mp (by
    rcases hb with rfl | rfl | rfl <;>
    · simp only [ops, List.Forall, StableHlo.nullary_writes,
        StableHlo.unary_writes, StableHlo.binary_writes, StableHlo.ternary_writes, StableHlo.reshape_writes,
        StableHlo.nary_writes, Finset.mem_singleton]
      repeat' apply And.intro
      all_goals exact StableHlo.devRef_ne_of_ne (by decide)))

theorem run_at : θ_run defs (onTc (τ := τ) (main (F := Ideal))) ⟨m, fun _ => 0, ρ⟩ (fun r => ∀ c : Dev nD,
      r.2.mem ((c.tc : Thread nD τ).loc main_v96) = At m c 132 main_v96
      ∧ r.2.mem ((c.tc : Thread nD τ).loc main_v97) = At m c 132 main_v97
      ∧ r.2.mem ((c.tc : Thread nD τ).loc main_v98) = At m c 132 main_v98
      ∧ r.2.mem ((c.tc : Thread nD τ).loc main_v99) = At m c 132 main_v99
      ∧ r.2.mem ((c.tc : Thread nD τ).loc main_v101) = At m c 132 main_v101
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have e : (ops : List (HloOp τ sig (Elt Ideal))).take 132 = ops := rfl
  have hA : ∀ c : Dev nD, At m c 132 = StableHlo.after ops (fun b => m (c, b)) := fun c => congrArg (fun o => StableHlo.after o (fun b => m (c, b))) e
  refine (θ_run defs _ _).mono (fun r h c => ?_) (StableHlo.run_seq scopedRefs_eq scopedSems_eq defs main (fun _ => ops) main_eq (fun _ => ops_sub) m ρ)
  rw [hA c]
  exact ⟨h c main_v96, h c main_v97, h c main_v98, h c main_v99, h c main_v101,
    (h c main_arg0).trans (keep_arg _ (Or.inl rfl) _), (h c main_arg1).trans (keep_arg _ (Or.inr (Or.inl rfl)) _),
    (h c main_arg2).trans (keep_arg _ (Or.inr (Or.inr rfl)) _)⟩

end RI

/-! ### The results of the two -/

section Equal
variable [Cert.Pre_finite.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem results_eq (c : Dev Cert.KernelIdeal.nD)
    (r : PI.Finite (PI.At m c 0 Cert.KernelIdeal.main_arg0) (PI.At m c 0 Cert.KernelIdeal.main_arg1) (PI.At m c 0 Cert.KernelIdeal.main_arg2))
    (h0 : (RI.At m' c 0 Cert.ReferenceIdeal.main_arg0 : Cert.KernelIdeal.S4096x3072.Idx → EReal) = PI.At m c 0 Cert.KernelIdeal.main_arg0)
    (h1 : (RI.At m' c 0 Cert.ReferenceIdeal.main_arg1 : Cert.KernelIdeal.S4096x1024.Idx → EReal) = PI.At m c 0 Cert.KernelIdeal.main_arg1)
    (h2 : (RI.At m' c 0 Cert.ReferenceIdeal.main_arg2 : Cert.KernelIdeal.S4096x8.Idx → EReal) = PI.At m c 0 Cert.KernelIdeal.main_arg2) :
    (∀ t y, RI.atw (RI.At m' c 132 Cert.ReferenceIdeal.main_v96) t y = PI.resDq (PI.G m c) t y) ∧
    (∀ t y, RI.atw (RI.At m' c 132 Cert.ReferenceIdeal.main_v97) t y = PI.resDk (PI.G m c) t y) ∧
    (∀ t y, RI.atw (RI.At m' c 132 Cert.ReferenceIdeal.main_v98) t y = PI.resDv (PI.G m c) t y) ∧
    (∀ t l, RI.atl (RI.At m' c 132 Cert.ReferenceIdeal.main_v99) t l = PI.resRows (PI.G m c) t l) ∧
    (∀ t l, RI.atl (RI.At m' c 132 Cert.ReferenceIdeal.main_v101) t l = PI.resCols (PI.G m c) t l) := by
  refine ⟨fun t y => ?_, fun t y => ?_, fun t y => ?_, fun t l => ?_, fun t l => ?_⟩
  · rw [PI.tie_dq r, (RI.results m' c t y 0).1, h0, h1, h2]
  · rw [PI.tie_dk r, (RI.results m' c t y 0).2.1, h0, h1, h2]
  · rw [PI.tie_dv r, (RI.results m' c t y 0).2.2.1, h0, h1, h2]
  · rw [PI.tie_rows r, (RI.results m' c t 0 l).2.2.2.1, h0, h1, h2]
  · rw [PI.tie_cols r, (RI.results m' c t 0 l).2.2.2.2, h0, h1, h2]

end Equal

section Arrays

/-- An array of two axes whose entries are those of a function of rows and columns. -/
theorem ext2 {n k : ℕ} {A : (⟨2, ![n, k]⟩ : Shape).Idx → EReal} {f : Fin n → Fin k → EReal} (h : ∀ t y, A (ix2 t y) = f t y) :
    A = fun i => f (i 0) (i 1) := by
  funext i
  have e : i = ix2 (i 0) (i 1) := by
    funext a
    match a with
    | ⟨0, _⟩ => rfl
    | ⟨1, _⟩ => rfl
  exact (congrArg A e).trans (h (i 0) (i 1))

end Arrays

theorem algebraic [Cert.Pre_finite.Facts] :
    Cert.algebraic_KernelIdeal_ReferenceIdeal_pre_finite (hKernelIdeal := Cert.KernelIdeal.Gen.facts) (hReferenceIdeal := Cert.ReferenceIdeal.Gen.facts) := by
  intro m g m' g' hm h
  refine ⟨fun c => (PI.dats m 0 c).arrAt 7 Cert.KernelIdeal.cfg0.N, fun c => (PI.dats m 0 c).arrAt 8 Cert.KernelIdeal.cfg0.N,
    fun c => (PI.dats m 0 c).arrAt 9 Cert.KernelIdeal.cfg0.N, fun c => (PI.dats m 0 c).arrAt 10 Cert.KernelIdeal.cfg0.N,
    fun c => (PI.dats m 0 c).arrAt 11 Cert.KernelIdeal.cfg0.N, ?_, ?_⟩
  · exact (θ_run Cert.KernelIdeal.defs _ _).mono (fun r hr c => ⟨(hr.1 c).1 7, (hr.1 c).1 8, (hr.1 c).1 9, (hr.1 c).1 10, (hr.1 c).1 11, PI.args_of hr.1 c⟩)
      (PI.run_main m g)
  · refine (θ_run Cert.ReferenceIdeal.defs _ _).mono (fun r hr c => ?_) (RI.run_at m' g')
    obtain ⟨e0, e1, e2, e3, e4, ea⟩ := hr c
    obtain ⟨f0, f1, f2, f3, f4⟩ := results_eq m m' c (finite_args _ _ _ (hm c)) (h c).1 (h c).2.1 (h c).2.2
    exact ⟨e0.trans ((ext2 f0).trans (PI.arr7 m c).symm), e1.trans ((ext2 f1).trans (PI.arr8 m c).symm), e2.trans ((ext2 f2).trans (PI.arr9 m c).symm),
      e3.trans ((ext2 f3).trans (PI.arr10 m c).symm), e4.trans ((ext2 f4).trans (PI.arr11 m c).symm), ea⟩

end Cert.Proof

end
-- ==== Proof.In.Tile.lean ====
/-
  The second call's values over the extended reals, one row tile at a time: what each stored value is at an index.
-/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem
open Idealize.ShloMosaic.Pipeline

/-! ## The 3200 columns: six sections of 512 and a last one of 128 -/

/-- Column `l` of section `s`, and column `l` of the last section. -/
def col (s : Fin 6) (l : Fin 512) : Fin 3200 := ⟨512 * s.val + l.val, by omega⟩
def colz (l : Fin 128) : Fin 3200 := ⟨3072 + l.val, by omega⟩

/-- A row of 3200 columns from its sections. -/
def row (f : Fin 6 → Fin 512 → EReal) (z : Fin 128 → EReal) (j : Fin 3200) : EReal :=
  if h : j.val < 3072 then f ⟨j.val / 512, by omega⟩ ⟨j.val % 512, by omega⟩ else z ⟨j.val - 3072, by omega⟩

theorem row_col (f : Fin 6 → Fin 512 → EReal) (z : Fin 128 → EReal) (s : Fin 6) (l : Fin 512) : row f z (col s l) = f s l := by
  have h : 512 * s.val + l.val < 3072 := by omega
  unfold row
  rw [dif_pos (show (col s l).val < 3072 from h)]
  congr 1
  · exact Fin.ext (show (512 * s.val + l.val) / 512 = s.val by omega)
  · exact Fin.ext (show (512 * s.val + l.val) % 512 = l.val by omega)
theorem row_colz (f : Fin 6 → Fin 512 → EReal) (z : Fin 128 → EReal) (l : Fin 128) : row f z (colz l) = z l := by
  unfold row
  rw [dif_neg (show ¬ (colz l).val < 3072 by show ¬ 3072 + l.val < 3072; omega)]
  congr 1
  exact Fin.ext (show 3072 + l.val - 3072 = l.val by omega)

theorem sum_cols (f : Fin 3200 → EReal) : ∑ j, f j = (∑ s, ∑ l, f (col s l)) + ∑ l, f (colz l) := by
  have e := Fin.sum_univ_add (a := 3072) (b := 128) (f : Fin (3072 + 128) → EReal)
  refine e.trans (congrArg₂ (· + ·) ?_ rfl)
  exact Fin.sum_divmod_congr (A := 6) (S := 512) (f := fun s l => f (col s l)) fun t _ _ => congrArg f (Fin.ext (Nat.div_add_mod t.val 512).symm)

/-! ## The weights' gradient: a section's columns -/

theorem pay3_apply (h : S512x1024.Idx → EReal) (o : S1024x128.Idx → EReal) (d : S512x128.Idx → EReal) (i : Fin 1024) (l : Fin 128) :
    k0_pay3 (F := Ideal) h o d (ix2 i l) = o (ix2 i l) + ∑ r : Fin 512, h (ix2 r i) * d (ix2 r l) := by pointwise [k0_pay3, k0_pay2]
theorem pay4_apply (h : S512x1024.Idx → EReal) (o : S1024x512.Idx → EReal) (d : S512x512.Idx → EReal) (i : Fin 1024) (l : Fin 512) :
    k0_pay4 (F := Ideal) h o d (ix2 i l) = o (ix2 i l) + ∑ r : Fin 512, h (ix2 r i) * d (ix2 r l) := by pointwise [k0_pay4, k0_pay2]
theorem pay5_apply (h : S512x1024.Idx → EReal) (o : S1024x512.Idx → EReal) (d : S512x512.Idx → EReal) (i : Fin 1024) (l : Fin 512) :
    k0_pay5 (F := Ideal) h o d (ix2 i l) = o (ix2 i l) + ∑ r : Fin 512, h (ix2 r i) * d (ix2 r l) := by pointwise [k0_pay5, k0_pay2]
theorem pay7_apply (h : S512x1024.Idx → EReal) (o : S1024x512.Idx → EReal) (d : S512x512.Idx → EReal) (i : Fin 1024) (l : Fin 512) :
    k0_pay7 (F := Ideal) (k0_pay2 (F := Ideal) h) (k0_pay6 (F := Ideal) o) d (ix2 i l) = o (ix2 i l) + ∑ r : Fin 512, h (ix2 r i) * d (ix2 r l) := by
  pointwise [k0_pay7, k0_pay6, k0_pay2]
theorem pay8_apply (h : S512x1024.Idx → EReal) (o : S1024x512.Idx → EReal) (d : S512x512.Idx → EReal) (i : Fin 1024) (l : Fin 512) :
    k0_pay8 (F := Ideal) (k0_pay2 (F := Ideal) h) o d (ix2 i l) = o (ix2 i l) + ∑ r : Fin 512, h (ix2 r i) * d (ix2 r l) := by pointwise [k0_pay8, k0_pay2]
theorem pay9_apply (h : S512x1024.Idx → EReal) (o : S1024x512.Idx → EReal) (d : S512x512.Idx → EReal) (i : Fin 1024) (l : Fin 512) :
    k0_pay9 (F := Ideal) (k0_pay2 (F := Ideal) h) o d (ix2 i l) = o (ix2 i l) + ∑ r : Fin 512, h (ix2 r i) * d (ix2 r l) := by pointwise [k0_pay9, k0_pay2]
theorem pay10_apply (h : S512x1024.Idx → EReal) (o : S1024x512.Idx → EReal) (d : S512x512.Idx → EReal) (i : Fin 1024) (l : Fin 512) :
    k0_pay10 (F := Ideal) (k0_pay2 (F := Ideal) h) o d (ix2 i l) = o (ix2 i l) + ∑ r : Fin 512, h (ix2 r i) * d (ix2 r l) := by pointwise [k0_pay10, k0_pay2]

/-! ## The normed input's gradient -/

theorem pay13_apply (z : S512x128.Idx → EReal) (wz : S1024x128.Idx → EReal) (d0 d1 d2 d3 d4 : S512x512.Idx → EReal) (w0 w1 w2 w3 w4 : S1024x512.Idx → EReal)
    (r : Fin 512) (i : Fin 1024) :
    k0_pay13 (F := Ideal) z wz d0 w0 d1 w1 d2 w2 d3 w3 d4 w4 (ix2 r i) =
      (∑ l : Fin 128, z (ix2 r l) * wz (ix2 i l)) + (∑ l : Fin 512, d0 (ix2 r l) * w0 (ix2 i l)) + (∑ l : Fin 512, d1 (ix2 r l) * w1 (ix2 i l)) +
      (∑ l : Fin 512, d2 (ix2 r l) * w2 (ix2 i l)) + (∑ l : Fin 512, d3 (ix2 r l) * w3 (ix2 i l)) + (∑ l : Fin 512, d4 (ix2 r l) * w4 (ix2 i l)) := by
  pointwise [k0_pay13]
theorem pay14_apply (p : S512x1024.Idx → EReal) (d : S512x512.Idx → EReal) (w : S1024x512.Idx → EReal) (r : Fin 512) (i : Fin 1024) :
    k0_pay14 (F := Ideal) p d w (ix2 r i) = p (ix2 r i) + ∑ l : Fin 512, d (ix2 r l) * w (ix2 i l) := by pointwise [k0_pay14]

/-- The reciprocal root of a row's mean square. -/
def rms (x : Fin 1024 → EReal) : EReal := Ideal.rsqrt (Ideal.div (∑ i, x i * x i) (Ideal.ofBits .f32 0x44800000#32) + Ideal.ofBits .f32 0x358637BD#32)

theorem pay15_apply (x : S512x1024.Idx → EReal) (r : Fin 512) : k0_pay15 (F := Ideal) x (ix2 r 0) = rms fun i => x (ix2 r i) := by
  pointwise [k0_pay15, rms]
theorem pay16_apply (x : S512x1024.Idx → EReal) (r : Fin 512) (i : Fin 1024) : k0_pay16 (F := Ideal) x (ix2 r i) = x (ix2 r i) * rms fun i => x (ix2 r i) := by
  have h := pay15_apply x r
  unfold k0_pay16
  generalize k0_pay15 (F := Ideal) x = q at h ⊢
  pointwise
  rw [h]
theorem pay17_apply (p : S512x1024.Idx → EReal) (d : S512x512.Idx → EReal) (w : S1024x512.Idx → EReal) (x : S512x1024.Idx → EReal) (o : S1x1024.Idx → EReal) (i : Fin 1024) :
    k0_pay17 (F := Ideal) p d w x o (ix2 0 i) =
      o (ix2 0 i) + ∑ r : Fin 512, k0_pay14 (F := Ideal) p d w (ix2 r i) * (x (ix2 r i) * rms fun i => x (ix2 r i)) := by
  have h := fun r => pay16_apply x r i
  unfold k0_pay17
  generalize k0_pay16 (F := Ideal) x = q at h ⊢
  generalize k0_pay14 (F := Ideal) p d w = y
  pointwise
  simp only [h]
theorem pay18_apply (p : S512x1024.Idx → EReal) (d : S512x512.Idx → EReal) (w : S1024x512.Idx → EReal) (x : S512x1024.Idx → EReal) (a : S1x1024.Idx → EReal)
    (g : S512x1024.Idx → EReal) (r : Fin 512) (i : Fin 1024) :
    k0_pay18 (F := Ideal) p d w x a g (ix2 r i) =
      g (ix2 r i) + (rms fun i => x (ix2 r i)) * (k0_pay14 (F := Ideal) p d w (ix2 r i) * a (ix2 0 i) -
        x (ix2 r i) * (rms fun i => x (ix2 r i)) *
          Ideal.div (∑ i : Fin 1024, k0_pay14 (F := Ideal) p d w (ix2 r i) * a (ix2 0 i) * (x (ix2 r i) * rms fun i => x (ix2 r i))) (Ideal.ofBits .f32 0x44800000#32)) := by
  have h := fun i => pay16_apply x r i
  have h' := pay15_apply x r
  unfold k0_pay18
  generalize k0_pay16 (F := Ideal) x = q at h ⊢
  generalize k0_pay15 (F := Ideal) x = q' at h' ⊢
  generalize k0_pay14 (F := Ideal) p d w = y
  pointwise
  simp only [h, h']

/-! ## The sections stored over an array -/

/-- The seven stores of a row tile, whatever was stored before them. -/
theorem canon7 (Z : List (View.Piece (Elt Ideal) S1024x3200 .f32)) (p0 : S1024x128.Idx → EReal) (p1 p2 p3 p4 p5 p6 : S1024x512.Idx → EReal) (G : Fin 1024 → Fin 3200 → EReal)
    (h0 : ∀ i l, p0 (ix2 i l) = G i (colz l)) (h1 : ∀ i l, p1 (ix2 i l) = G i (col 0 l)) (h2 : ∀ i l, p2 (ix2 i l) = G i (col 1 l))
    (h3 : ∀ i l, p3 (ix2 i l) = G i (col 2 l)) (h4 : ∀ i l, p4 (ix2 i l) = G i (col 3 l)) (h5 : ∀ i l, p5 (ix2 i l) = G i (col 4 l))
    (h6 : ∀ i l, p6 (ix2 i l) = G i (col 5 l)) (i : Fin 1024) (j : Fin 3200) :
    View.canon (Val := Elt Ideal) (s := S1024x3200) (e := .f32)
      (⟨Rect.unit ![0, 2560] ![1024, 512] inb_S1024x3200_S1024x512_0_2560, p6⟩ :: ⟨Rect.unit ![0, 2048] ![1024, 512] inb_S1024x3200_S1024x512_0_2048, p5⟩ ::
        ⟨Rect.unit ![0, 1536] ![1024, 512] inb_S1024x3200_S1024x512_0_1536, p4⟩ :: ⟨Rect.unit ![0, 1024] ![1024, 512] inb_S1024x3200_S1024x512_0_1024, p3⟩ ::
        ⟨Rect.unit ![0, 512] ![1024, 512] inb_S1024x3200_S1024x512_0_512, p2⟩ :: ⟨Rect.unit ![0, 0] ![1024, 512] inb_S1024x3200_S1024x512_0_0, p1⟩ ::
        ⟨Rect.unit ![0, 3072] ![1024, 128] inb_S1024x3200_S1024x128_0_3072, p0⟩ :: Z) (ix2 i j) = G i j := by
  refine View.canon_append_of_piecesOf (fun y => G (y 0) (y 1)) Z
      [⟨Rect.unit ![0, 2560] ![1024, 512] inb_S1024x3200_S1024x512_0_2560, p6⟩, ⟨Rect.unit ![0, 2048] ![1024, 512] inb_S1024x3200_S1024x512_0_2048, p5⟩,
        ⟨Rect.unit ![0, 1536] ![1024, 512] inb_S1024x3200_S1024x512_0_1536, p4⟩, ⟨Rect.unit ![0, 1024] ![1024, 512] inb_S1024x3200_S1024x512_0_1024, p3⟩,
        ⟨Rect.unit ![0, 512] ![1024, 512] inb_S1024x3200_S1024x512_0_512, p2⟩, ⟨Rect.unit ![0, 0] ![1024, 512] inb_S1024x3200_S1024x512_0_0, p1⟩,
        ⟨Rect.unit ![0, 3072] ![1024, 128] inb_S1024x3200_S1024x128_0_3072, p0⟩] ?_ (ix2 i j) ?_
  · have key : ∀ (a b : Nat) (inb : ∀ k, ![0, a] k + ![1024, b] k ≤ S1024x3200.size k) (p : (⟨2, ![1024, b]⟩ : Shape).Idx → EReal) (cc : Fin b → Fin 3200)
        (hc : ∀ l, (cc l).val = a + l.val) (h : ∀ i l, p (ix2 i l) = G i (cc l)) (x : (Rect.unit (s := S1024x3200) ![0, a] ![1024, b] inb).shape.Idx),
        p x = (fun y : S1024x3200.Idx => G (y 0) (y 1)) ((Rect.unit (s := S1024x3200) ![0, a] ![1024, b] inb).emb x) := by
      intro a b inb p cc hc h x
      have ex : (ix2 (x 0) (x 1) : (⟨2, ![1024, b]⟩ : Shape).Idx) = x := by funext k; fin_cases k <;> rfl
      refine ((congrArg p ex).symm.trans (h (x 0) (x 1))).trans ?_
      show G _ _ = G _ _
      congr 1
      · exact Fin.ext (show (x 0).val = 0 + 1 * (x 0).val by omega)
      · exact Fin.ext ((hc (x 1)).trans (show a + (x 1).val = a + 1 * (x 1).val by omega))
    exact ⟨key _ _ inb_S1024x3200_S1024x512_0_2560 p6 _ (fun l => rfl) h6, key _ _ inb_S1024x3200_S1024x512_0_2048 p5 _ (fun l => rfl) h5,
      key _ _ inb_S1024x3200_S1024x512_0_1536 p4 _ (fun l => rfl) h4, key _ _ inb_S1024x3200_S1024x512_0_1024 p3 _ (fun l => rfl) h3,
      key _ _ inb_S1024x3200_S1024x512_0_512 p2 _ (fun l => rfl) h2, key _ _ inb_S1024x3200_S1024x512_0_0 p1 _ (fun l => rfl) h1,
      key _ _ inb_S1024x3200_S1024x128_0_3072 p0 _ (fun l => rfl) h0, trivial⟩
  · exact View.cover_of_tiledBy _ ![1024, 128] (by sl_kernel_rfl) _

end Cert.Proof.In

end
-- ==== Proof.In.Point.lean ====
/-
  What each grid point of the second call leaves in its results' buffers, over the extended reals: the weights' gradient
  and the gains' gradient grow by the row tile's sums, and the input's gradient is the row tile's.
-/
module

public import proofs.«01_k».proof.Proof.In.Tile

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem
open Idealize.ShloMosaic.Pipeline

/-- A section of an array of 3200 columns, at an index. -/
theorem ld_sec {a : Nat} (o : S1024x3200.Idx → EReal) (inb : ∀ k, ![0, a] k + ![1024, 512] k ≤ S1024x3200.size k) (s : Fin 6) (h : a = 512 * s.val) (i : Fin 1024) (l : Fin 512) :
    View.ld (Val := Elt Ideal) (e' := .f32) o (Rect.unit (s := S1024x3200) ![0, a] ![1024, 512] inb) (ix2 i l) = o (ix2 i (col s l)) := by
  refine congrArg o ?_
  funext k; apply Fin.ext
  match k with
  | ⟨0, _⟩ => show 0 + 1 * i.val = i.val; omega
  | ⟨1, _⟩ => show a + 1 * l.val = 512 * s.val + l.val; omega
theorem ld_secz (o : S1024x3200.Idx → EReal) (inb : ∀ k, ![0, 3072] k + ![1024, 128] k ≤ S1024x3200.size k) (i : Fin 1024) (l : Fin 128) :
    View.ld (Val := Elt Ideal) (e' := .f32) o (Rect.unit (s := S1024x3200) ![0, 3072] ![1024, 128] inb) (ix2 i l) = o (ix2 i (colz l)) := by
  refine congrArg o ?_
  funext k; apply Fin.ext
  match k with
  | ⟨0, _⟩ => show 0 + 1 * i.val = i.val; omega
  | ⟨1, _⟩ => show 3072 + 1 * l.val = 3072 + l.val; omega
/-- A section of the projection's weights. -/
theorem ld_wsec {a : Nat} (o : S1024x3072.Idx → EReal) (inb : ∀ k, ![0, a] k + ![1024, 512] k ≤ S1024x3072.size k) (i : Fin 1024) (l : Fin 512) (h : a + l.val < 3072) :
    View.ld (Val := Elt Ideal) (e' := .bf16) o (Rect.unit (s := S1024x3072) ![0, a] ![1024, 512] inb) (ix2 i l) = o (ix2 i ⟨a + l.val, h⟩) := by
  refine congrArg o ?_
  funext k; apply Fin.ext
  match k with
  | ⟨0, _⟩ => show 0 + 1 * i.val = i.val; omega
  | ⟨1, _⟩ => show a + 1 * l.val = a + l.val; omega

variable (m : (ℓ : Loc nD τ sig) → Buf (Elt Ideal) ℓ) (c : Dev nD)

/-- Section `s` of the projection's gradient, at a row of tile `t`. -/
def sec (t : Fin cfg0.N) (r : Fin 512) (s : Fin 6) (l : Fin 512) : EReal :=
  (match s with
   | 0 => (iblk m c 1 t : S512x512.Idx → EReal)
   | 1 => (iblk m c 2 t : S512x512.Idx → EReal)
   | 2 => (iblk m c 3 t : S512x512.Idx → EReal)
   | 3 => (iblk m c 4 t : S512x512.Idx → EReal)
   | 4 => (iblk m c 5 t : S512x512.Idx → EReal)
   | 5 => (iblk m c 6 t : S512x512.Idx → EReal)) (ix2 r l)
/-- The projection's gradient at a row of tile `t`. -/
def drow (t : Fin cfg0.N) (r : Fin 512) : Fin 3200 → EReal := row (sec m c t r) fun l => (iblk m c 0 t : S512x128.Idx → EReal) (ix2 r l)
/-- The normed input at a row of tile `t`, its weights, and the input. -/
def hrow (t : Fin cfg0.N) (r : Fin 512) (i : Fin 1024) : EReal := (iblk m c 7 t : S512x1024.Idx → EReal) (ix2 r i)
def wrow (t : Fin cfg0.N) (i : Fin 1024) : Fin 3200 → EReal :=
  row (fun s l => (X0_8 m c t : S1024x3072.Idx → EReal) (ix2 i ⟨512 * s.val + l.val, by omega⟩)) fun l => (iblk m c 9 t : S1024x128.Idx → EReal) (ix2 i l)
def xrow (t : Fin cfg0.N) (r : Fin 512) (i : Fin 1024) : EReal := (iblk m c 10 t : S512x1024.Idx → EReal) (ix2 r i)
/-- The gains, and the gradient that passes the layer by. -/
def gam (t : Fin cfg0.N) (i : Fin 1024) : EReal := (iblk m c 11 t : S1x1024.Idx → EReal) (ix2 0 i)
def grow (t : Fin cfg0.N) (r : Fin 512) (i : Fin 1024) : EReal := (iblk m c 12 t : S512x1024.Idx → EReal) (ix2 r i)
/-- The normed input's gradient at a row of tile `t`. -/
def dhrow (t : Fin cfg0.N) (r : Fin 512) (i : Fin 1024) : EReal := ∑ j, drow m c t r j * wrow m c t i j

/-! ## The weights' gradient -/

theorem acc7 (t : Fin cfg0.N) (Z : List (View.Piece (Elt Ideal) S1024x3200 .f32)) (o : S1024x3200.Idx → EReal) (o0 : S1024x128.Idx → EReal) (o1 o2 o3 o4 o5 o6 : S1024x512.Idx → EReal)
    (e0 : ∀ i l, o0 (ix2 i l) = o (ix2 i (colz l))) (e1 : ∀ i l, o1 (ix2 i l) = o (ix2 i (col 0 l))) (e2 : ∀ i l, o2 (ix2 i l) = o (ix2 i (col 1 l)))
    (e3 : ∀ i l, o3 (ix2 i l) = o (ix2 i (col 2 l))) (e4 : ∀ i l, o4 (ix2 i l) = o (ix2 i (col 3 l))) (e5 : ∀ i l, o5 (ix2 i l) = o (ix2 i (col 4 l)))
    (e6 : ∀ i l, o6 (ix2 i l) = o (ix2 i (col 5 l))) (i : Fin 1024) (j : Fin 3200) :
    View.canon (Val := Elt Ideal) (s := S1024x3200) (e := .f32)
      (⟨Rect.unit ![0, 2560] ![1024, 512] inb_S1024x3200_S1024x512_0_2560, k0_pay10 (F := Ideal) (k0_pay2 (F := Ideal) (iblk m c 7 t)) o6 (iblk m c 6 t)⟩ ::
        ⟨Rect.unit ![0, 2048] ![1024, 512] inb_S1024x3200_S1024x512_0_2048, k0_pay9 (F := Ideal) (k0_pay2 (F := Ideal) (iblk m c 7 t)) o5 (iblk m c 5 t)⟩ ::
        ⟨Rect.unit ![0, 1536] ![1024, 512] inb_S1024x3200_S1024x512_0_1536, k0_pay8 (F := Ideal) (k0_pay2 (F := Ideal) (iblk m c 7 t)) o4 (iblk m c 4 t)⟩ ::
        ⟨Rect.unit ![0, 1024] ![1024, 512] inb_S1024x3200_S1024x512_0_1024, k0_pay7 (F := Ideal) (k0_pay2 (F := Ideal) (iblk m c 7 t)) (k0_pay6 (F := Ideal) o3) (iblk m c 3 t)⟩ ::
        ⟨Rect.unit ![0, 512] ![1024, 512] inb_S1024x3200_S1024x512_0_512, k0_pay5 (F := Ideal) (iblk m c 7 t) o2 (iblk m c 2 t)⟩ ::
        ⟨Rect.unit ![0, 0] ![1024, 512] inb_S1024x3200_S1024x512_0_0, k0_pay4 (F := Ideal) (iblk m c 7 t) o1 (iblk m c 1 t)⟩ ::
        ⟨Rect.unit ![0, 3072] ![1024, 128] inb_S1024x3200_S1024x128_0_3072, k0_pay3 (F := Ideal) (iblk m c 7 t) o0 (iblk m c 0 t)⟩ :: Z) (ix2 i j) =
      o (ix2 i j) + ∑ r, hrow m c t r i * drow m c t r j := by
  refine canon7 Z _ _ _ _ _ _ _ (fun i j => o (ix2 i j) + ∑ r, hrow m c t r i * drow m c t r j) ?_ ?_ ?_ ?_ ?_ ?_ ?_ i j
  · intro i l; rw [pay3_apply, e0]; simp only [drow, row_colz]; rfl
  · intro i l; rw [pay4_apply, e1]; simp only [drow, row_col]; rfl
  · intro i l; rw [pay5_apply, e2]; simp only [drow, row_col]; rfl
  · intro i l; rw [pay7_apply, e3]; simp only [drow, row_col]; rfl
  · intro i l; rw [pay8_apply, e4]; simp only [drow, row_col]; rfl
  · intro i l; rw [pay9_apply, e5]; simp only [drow, row_col]; rfl
  · intro i l; rw [pay10_apply, e6]; simp only [drow, row_col]; rfl

theorem dw_first (t : Fin cfg0.N) (h0 : t.val % 8 = 0) (i : Fin 1024) (j : Fin 3200) :
    (outsAt0 m c t.val t.isLt).1 (ix2 i j) = 0 + ∑ r, hrow m c t r i * drow m c t r j := by
  rw [outsAt0_A m c t h0 (by omega) h0]
  frame_out [↓View.readCov_skip, View.readCov_fill]
  have z : ∀ i j, k0_pay1 (F := Ideal) (ix2 i j) = (0 : EReal) := fun i j => by pointwise [k0_pay1]
  refine (acc7 m c t _ (k0_pay1 (F := Ideal)) _ _ _ _ _ _ _ ?_ ?_ ?_ ?_ ?_ ?_ ?_ i j).trans (by rw [z])
  · exact ld_secz _ _
  · exact ld_sec _ _ 0 rfl
  · exact ld_sec _ _ 1 rfl
  · exact ld_sec _ _ 2 rfl
  · exact ld_sec _ _ 3 rfl
  · exact ld_sec _ _ 4 rfl
  · exact ld_sec _ _ 5 rfl

theorem dw_next (t : Fin cfg0.N) (h0 : ¬ t.val % 8 = 0) (i : Fin 1024) (j : Fin 3200) :
    (outsAt0 m c t.val t.isLt).1 (ix2 i j) = (outsAt0 m c (t.val - 1) (by omega)).1 (ix2 i j) + ∑ r, hrow m c t r i * drow m c t r j := by
  by_cases h7 : t.val % 8 = 7
  · rw [outsAt0_C m c t h0 h7 h0]
    frame_out
    exact acc7 m c t _ _ _ _ _ _ _ _ _ (ld_secz _ _) (ld_sec _ _ 0 rfl) (ld_sec _ _ 1 rfl) (ld_sec _ _ 2 rfl) (ld_sec _ _ 3 rfl) (ld_sec _ _ 4 rfl) (ld_sec _ _ 5 rfl) i j
  · rw [outsAt0_B m c t h0 h7 h0]
    frame_out
    exact acc7 m c t _ _ _ _ _ _ _ _ _ (ld_secz _ _) (ld_sec _ _ 0 rfl) (ld_sec _ _ 1 rfl) (ld_sec _ _ 2 rfl) (ld_sec _ _ 3 rfl) (ld_sec _ _ 4 rfl) (ld_sec _ _ 5 rfl) i j

theorem pay11_apply (A : S1024x3200.Idx → EReal) (i : Fin 1024) (j : Fin 3200) : k0_pay11 (F := Ideal) A (ix2 i j) = A (ix2 i j) := by pointwise [k0_pay11]
theorem idx_all (i : Fin 1024) (j : Fin 3200) : (Rect.unit (s := S1024x3200) ![0, 0] ![1024, 3200] inb_S1024x3200_S1024x3200_0_0).idx (ix2 i j) = ix2 i j := by
  funext k; apply Fin.ext
  match k with
  | ⟨0, _⟩ => show 0 + 1 * i.val = i.val; omega
  | ⟨1, _⟩ => show 0 + 1 * j.val = j.val; omega

/-- At the last point the narrow copy of the weights' gradient is the gradient. -/
theorem dwb_last (t : Fin cfg0.N) (h7 : t.val % 8 = 7) (i : Fin 1024) (j : Fin 3200) :
    (outsAt0 m c t.val t.isLt).2.1 (ix2 i j) = (outsAt0 m c t.val t.isLt).1 (ix2 i j) := by
  have e := dw_next m c t (by omega) i j
  rw [e, outsAt0_C m c t (by omega) h7 (by omega)]
  frame_out
  rw [View.readCov_eq_canon', pay11_apply]
  exact (congrArg _ (idx_all i j)).trans
    (acc7 m c t [] _ _ _ _ _ _ _ _ (ld_secz _ _) (ld_sec _ _ 0 rfl) (ld_sec _ _ 1 rfl) (ld_sec _ _ 2 rfl) (ld_sec _ _ 3 rfl) (ld_sec _ _ 4 rfl) (ld_sec _ _ 5 rfl) i j)

/-! ## The input's and the gains' gradients -/

theorem dh_sum (z : S512x128.Idx → EReal) (wz : S1024x128.Idx → EReal) (d0 d1 d2 d3 d4 d5 : S512x512.Idx → EReal) (w : S1024x3072.Idx → EReal)
    (f : Fin 6 → Fin 512 → EReal) (r : Fin 512) (i : Fin 1024)
    (h0 : ∀ l, f 0 l = d0 (ix2 r l)) (h1 : ∀ l, f 1 l = d1 (ix2 r l)) (h2 : ∀ l, f 2 l = d2 (ix2 r l)) (h3 : ∀ l, f 3 l = d3 (ix2 r l))
    (h4 : ∀ l, f 4 l = d4 (ix2 r l)) (h5 : ∀ l, f 5 l = d5 (ix2 r l)) :
    k0_pay14 (F := Ideal)
      (k0_pay13 (F := Ideal) z wz d0 (View.ld (Val := Elt Ideal) (e' := .bf16) w (Rect.unit (s := S1024x3072) ![0, 0] ![1024, 512] inb_S1024x3072_S1024x512_0_0))
        d1 (View.ld (Val := Elt Ideal) (e' := .bf16) w (Rect.unit (s := S1024x3072) ![0, 512] ![1024, 512] inb_S1024x3072_S1024x512_0_512))
        d2 (View.ld (Val := Elt Ideal) (e' := .bf16) w (Rect.unit (s := S1024x3072) ![0, 1024] ![1024, 512] inb_S1024x3072_S1024x512_0_1024))
        d3 (View.ld (Val := Elt Ideal) (e' := .bf16) w (Rect.unit (s := S1024x3072) ![0, 1536] ![1024, 512] inb_S1024x3072_S1024x512_0_1536))
        d4 (View.ld (Val := Elt Ideal) (e' := .bf16) w (Rect.unit (s := S1024x3072) ![0, 2048] ![1024, 512] inb_S1024x3072_S1024x512_0_2048)))
      d5 (View.ld (Val := Elt Ideal) (e' := .bf16) w (Rect.unit (s := S1024x3072) ![0, 2560] ![1024, 512] inb_S1024x3072_S1024x512_0_2560)) (ix2 r i) =
      ∑ j, row f (fun l => z (ix2 r l)) j * row (fun s l => w (ix2 i ⟨512 * s.val + l.val, by omega⟩)) (fun l => wz (ix2 i l)) j := by
  rw [pay14_apply, pay13_apply, sum_cols]
  simp only [row_col, row_colz, Fin.sum_univ_six]
  have e := fun (s : Fin 6) (a : Nat) (h : a = 512 * s.val) (inb) (l : Fin 512) =>
    (ld_wsec w (a := a) inb i l (by omega)).trans (congrArg (fun k => w (ix2 i k)) (Fin.ext (congrArg (· + l.val) h) : _ = (⟨512 * s.val + l.val, by omega⟩ : Fin 3072)))
  simp only [h0, h1, h2, h3, h4, h5, fun inb l => e 0 0 rfl inb l, fun inb l => e 1 512 rfl inb l, fun inb l => e 2 1024 rfl inb l, fun inb l => e 3 1536 rfl inb l,
    fun inb l => e 4 2048 rfl inb l, fun inb l => e 5 2560 rfl inb l]
  rw [add_comm _ (∑ l, z (ix2 r l) * wz (ix2 i l))]
  simp only [add_assoc]

theorem dh_apply (t : Fin cfg0.N) (r : Fin 512) (i : Fin 1024) :
    k0_pay14 (F := Ideal)
      (k0_pay13 (iblk m c 0 t) (iblk m c 9 t) (iblk m c 1 t)
        (View.ld (X0_8 m c t) (Rect.unit ![0, 0] ![1024, 512] inb_S1024x3072_S1024x512_0_0)) (iblk m c 2 t)
        (View.ld (X0_8 m c t) (Rect.unit ![0, 512] ![1024, 512] inb_S1024x3072_S1024x512_0_512)) (iblk m c 3 t)
        (View.ld (X0_8 m c t) (Rect.unit ![0, 1024] ![1024, 512] inb_S1024x3072_S1024x512_0_1024)) (iblk m c 4 t)
        (View.ld (X0_8 m c t) (Rect.unit ![0, 1536] ![1024, 512] inb_S1024x3072_S1024x512_0_1536)) (iblk m c 5 t)
        (View.ld (X0_8 m c t) (Rect.unit ![0, 2048] ![1024, 512] inb_S1024x3072_S1024x512_0_2048)))
      (iblk m c 6 t) (View.ld (X0_8 m c t) (Rect.unit ![0, 2560] ![1024, 512] inb_S1024x3072_S1024x512_0_2560)) (ix2 r i) = dhrow m c t r i :=
  dh_sum (iblk m c 0 t) (iblk m c 9 t) (iblk m c 1 t) (iblk m c 2 t) (iblk m c 3 t) (iblk m c 4 t) (iblk m c 5 t) (iblk m c 6 t) (X0_8 m c t) (sec m c t r) r i
    (fun _ => rfl) (fun _ => rfl) (fun _ => rfl) (fun _ => rfl) (fun _ => rfl) (fun _ => rfl)

theorem pay18_of (p : S512x1024.Idx → EReal) (d : S512x512.Idx → EReal) (w : S1024x512.Idx → EReal) (x : S512x1024.Idx → EReal) (a : S1x1024.Idx → EReal)
    (g : S512x1024.Idx → EReal) (r : Fin 512) (i : Fin 1024) (y : Fin 1024 → EReal) (hy : ∀ i, k0_pay14 (F := Ideal) p d w (ix2 r i) = y i) :
    k0_pay18 (F := Ideal) p d w x a g (ix2 r i) =
      g (ix2 r i) + (rms fun i => x (ix2 r i)) * (y i * a (ix2 0 i) - x (ix2 r i) * (rms fun i => x (ix2 r i)) *
        Ideal.div (∑ i : Fin 1024, y i * a (ix2 0 i) * (x (ix2 r i) * rms fun i => x (ix2 r i))) (Ideal.ofBits .f32 0x44800000#32)) := by
  rw [pay18_apply]
  simp only [hy]
theorem pay17_of (p : S512x1024.Idx → EReal) (d : S512x512.Idx → EReal) (w : S1024x512.Idx → EReal) (x : S512x1024.Idx → EReal) (o : S1x1024.Idx → EReal)
    (i : Fin 1024) (y : Fin 512 → EReal) (hy : ∀ r, k0_pay14 (F := Ideal) p d w (ix2 r i) = y r) :
    k0_pay17 (F := Ideal) p d w x o (ix2 0 i) = o (ix2 0 i) + ∑ r, y r * (x (ix2 r i) * rms fun i => x (ix2 r i)) := by
  rw [pay17_apply]
  simp only [hy]

theorem dx_point (t : Fin cfg0.N) (r : Fin 512) (i : Fin 1024) :
    (outsAt0 m c t.val t.isLt).2.2.1 (ix2 r i) = grow m c t r i +
      rms (xrow m c t r) * (dhrow m c t r i * gam m c t i -
        xrow m c t r i * rms (xrow m c t r) *
          Ideal.div (∑ i, dhrow m c t r i * gam m c t i * (xrow m c t r i * rms (xrow m c t r))) (Ideal.ofBits .f32 0x44800000#32)) := by
  by_cases h0 : t.val % 8 = 0
  · rw [outsAt0_A m c t h0 (by omega) h0]
    frame_out
    exact pay18_of _ _ _ _ _ _ r i _ (dh_apply m c t r)
  · by_cases h7 : t.val % 8 = 7
    · rw [outsAt0_C m c t h0 h7 h0]
      frame_out
      exact pay18_of _ _ _ _ _ _ r i _ (dh_apply m c t r)
    · rw [outsAt0_B m c t h0 h7 h0]
      frame_out
      exact pay18_of _ _ _ _ _ _ r i _ (dh_apply m c t r)

theorem dg_first (t : Fin cfg0.N) (h0 : t.val % 8 = 0) (i : Fin 1024) :
    (outsAt0 m c t.val t.isLt).2.2.2 (ix2 0 i) = 0 + ∑ r, dhrow m c t r i * (xrow m c t r i * rms (xrow m c t r)) := by
  rw [outsAt0_A m c t h0 (by omega) h0]
  frame_out
  have z : k0_pay12 (F := Ideal) (ix2 0 i) = (0 : EReal) := by pointwise [k0_pay12]
  exact (pay17_of _ _ _ _ _ i _ fun r => dh_apply m c t r i).trans (congrArg (· + ∑ r, dhrow m c t r i * (xrow m c t r i * rms (xrow m c t r))) z)
theorem dg_next (t : Fin cfg0.N) (h0 : ¬ t.val % 8 = 0) (i : Fin 1024) :
    (outsAt0 m c t.val t.isLt).2.2.2 (ix2 0 i) = (outsAt0 m c (t.val - 1) (by omega)).2.2.2 (ix2 0 i) + ∑ r, dhrow m c t r i * (xrow m c t r i * rms (xrow m c t r)) := by
  by_cases h7 : t.val % 8 = 7
  · rw [outsAt0_C m c t h0 h7 h0]
    frame_out
    exact pay17_of _ _ _ _ _ i _ fun r => dh_apply m c t r i
  · rw [outsAt0_B m c t h0 h7 h0]
    frame_out
    exact pay17_of _ _ _ _ _ i _ fun r => dh_apply m c t r i

end Cert.Proof.In

end
-- ==== Proof.In.Arrays.lean ====
/-
  The second call's arrays over the extended reals: its input blocks are tiles of the launched arrays, and its results'
  arrays at an index.
-/
module

public import proofs.«01_k».proof.Proof.In.Point

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem
open Idealize.ShloMosaic.Pipeline

/-! ## Rows by tiles -/

/-- Row `r` of tile `n`. -/
def rowT (n : Nat) (hn : n < 8) (r : Fin 512) : Fin 4096 := ⟨512 * n + r.val, by omega⟩

/-- Eight updates by the tiles' sums make the sum over all rows. -/
theorem sum_tiles (f : (n : Nat) → n < 8 → EReal) (F : Fin 4096 → EReal) (h0 : f 0 (by decide) = 0 + ∑ r, F (rowT 0 (by decide) r))
    (hs : ∀ n (h : n + 1 < 8), f (n + 1) h = f n (by omega) + ∑ r, F (rowT (n + 1) h r)) : f 7 (by decide) = ∑ T, F T := by
  rw [hs 6, hs 5, hs 4, hs 3, hs 2, hs 1, hs 0, h0, zero_add]
  refine Eq.symm ((Fin.sum_divmod_congr (A := 8) (S := 512) (f := fun a r => F (rowT a.val a.isLt r)) fun T _ _ =>
    congrArg F (Fin.ext (Nat.div_add_mod T.val 512).symm)).trans ?_)
  exact Fin.sum_univ_eight _

/-! ## The results, of the launched arrays -/

/-- The arrays the call reads. -/
@[ext] structure Args where
  dpu : Fin 4096 → Fin 512 → EReal
  dgate : Fin 4096 → Fin 1024 → EReal
  dq : Fin 4096 → Fin 512 → EReal
  dk : Fin 4096 → Fin 512 → EReal
  dv : Fin 4096 → Fin 512 → EReal
  dz : Fin 4096 → Fin 128 → EReal
  w : Fin 1024 → Fin 3200 → EReal
  x : Fin 4096 → Fin 1024 → EReal
  gam : Fin 1024 → EReal
  g : Fin 4096 → Fin 1024 → EReal
  h : Fin 4096 → Fin 1024 → EReal

namespace Args
variable (A : Args)

/-- The projection's gradient: section `s`, and all 3200 columns. -/
def sec (T : Fin 4096) (s : Fin 6) (l : Fin 512) : EReal :=
  match s with
  | 0 => A.dpu T l
  | 1 => A.dgate T ⟨l.val, by omega⟩
  | 2 => A.dq T l
  | 3 => A.dk T l
  | 4 => A.dv T l
  | 5 => A.dgate T ⟨512 + l.val, by omega⟩
def d (T : Fin 4096) : Fin 3200 → EReal := row (A.sec T) (A.dz T)
/-- The normed input's gradient. -/
def dh (T : Fin 4096) (i : Fin 1024) : EReal := ∑ j, A.d T j * A.w i j
/-- The normed input before the gains. -/
def xh (T : Fin 4096) (i : Fin 1024) : EReal := A.x T i * rms (A.x T)
/-- The gradients of the weights, of the gains and of the input. -/
def dw (i : Fin 1024) (j : Fin 3200) : EReal := ∑ T, A.h T i * A.d T j
def dgam (i : Fin 1024) : EReal := ∑ T, A.dh T i * A.xh T i
def dx (T : Fin 4096) (i : Fin 1024) : EReal :=
  A.g T i + rms (A.x T) * (A.dh T i * A.gam i - A.xh T i * Ideal.div (∑ i, A.dh T i * A.gam i * A.xh T i) (Ideal.ofBits .f32 0x44800000#32))
end Args

variable (m : (ℓ : Loc nD τ sig) → Buf (Elt Ideal) ℓ) (c : Dev nD)

/-- The launched arrays, and the normed input the host makes of them. -/
def args : Args where
  dpu T l := V m c main_arg0 (ix2 T l)
  dgate T l := V m c main_arg1 (ix2 T l)
  dq T l := V m c main_arg2 (ix2 T l)
  dk T l := V m c main_arg3 (ix2 T l)
  dv T l := V m c main_arg4 (ix2 T l)
  dz T l := V m c main_arg5 (ix2 T l)
  w i j := V m c main_arg6 (ix2 i j)
  x T i := V m c main_arg7 (ix2 T i)
  gam i := V m c main_arg8 (ix2 0 i)
  g T i := V m c main_arg9 (ix2 T i)
  h T i := V m c main_v12 (ix2 T i)

/-! ## The blocks -/

theorem lt8 (t : Fin cfg0.N) : t.val < 8 := lt_of_lt_of_eq t.isLt N_0

theorem wi0 : ∀ n : Fin grid0.N, win0_0.index n 0 = n.val ∧ win0_0.index n 1 = 0 := by decide +kernel
theorem wi1 : ∀ n : Fin grid0.N, win0_1.index n 0 = n.val ∧ win0_1.index n 1 = 0 := by decide +kernel
theorem wi2 : ∀ n : Fin grid0.N, win0_2.index n 0 = n.val ∧ win0_2.index n 1 = 0 := by decide +kernel
theorem wi3 : ∀ n : Fin grid0.N, win0_3.index n 0 = n.val ∧ win0_3.index n 1 = 0 := by decide +kernel
theorem wi4 : ∀ n : Fin grid0.N, win0_4.index n 0 = n.val ∧ win0_4.index n 1 = 0 := by decide +kernel
theorem wi5 : ∀ n : Fin grid0.N, win0_5.index n 0 = n.val ∧ win0_5.index n 1 = 0 := by decide +kernel
theorem wi6 : ∀ n : Fin grid0.N, win0_6.index n 0 = n.val ∧ win0_6.index n 1 = 1 := by decide +kernel
theorem wi7 : ∀ n : Fin grid0.N, win0_7.index n 0 = n.val ∧ win0_7.index n 1 = 0 := by decide +kernel
theorem wi8 : ∀ n : Fin grid0.N, win0_8.index n 0 = 0 ∧ win0_8.index n 1 = 0 := by decide +kernel
theorem wi9 : ∀ n : Fin grid0.N, win0_9.index n 0 = 0 ∧ win0_9.index n 1 = 24 := by decide +kernel
theorem wi10 : ∀ n : Fin grid0.N, win0_10.index n 0 = n.val ∧ win0_10.index n 1 = 0 := by decide +kernel
theorem wi11 : ∀ n : Fin grid0.N, win0_11.index n 0 = 0 ∧ win0_11.index n 1 = 0 := by decide +kernel
theorem wi12 : ∀ n : Fin grid0.N, win0_12.index n 0 = n.val ∧ win0_12.index n 1 = 0 := by decide +kernel
theorem wi13 : ∀ n : Fin grid0.N, win0_13.index n 0 = 0 ∧ win0_13.index n 1 = 0 := by decide +kernel
theorem wi14 : ∀ n : Fin grid0.N, win0_14.index n 0 = 0 ∧ win0_14.index n 1 = 0 := by decide +kernel
theorem wi15 : ∀ n : Fin grid0.N, win0_15.index n 0 = n.val ∧ win0_15.index n 1 = 0 := by decide +kernel
theorem wi16 : ∀ n : Fin grid0.N, win0_16.index n 0 = 0 ∧ win0_16.index n 1 = 0 := by decide +kernel

theorem blk0 (n : Fin cfg0.N) (r : Fin 512) (l : Fin 128) : iblk m c 0 n (ix2 r l) = V m c main_arg5 (ix2 (rowT n.val (lt8 n) r) l) := by
  obtain ⟨e0, e1⟩ := wi0 n
  unfold iblk
  generalize V m c = A
  blk_simp
  refine congrArg (A main_arg5) ?_
  funext b; apply Fin.ext
  match b with
  | ⟨0, _⟩ => blk_simp [e0]; show _ = 512 * n.val + r.val; omega
  | ⟨1, _⟩ => blk_simp [e1]
theorem blk1 (n : Fin cfg0.N) (r : Fin 512) (l : Fin 512) : iblk m c 1 n (ix2 r l) = V m c main_arg0 (ix2 (rowT n.val (lt8 n) r) l) := by
  obtain ⟨e0, e1⟩ := wi1 n
  unfold iblk
  generalize V m c = A
  blk_simp
  refine congrArg (A main_arg0) ?_
  funext b; apply Fin.ext
  match b with
  | ⟨0, _⟩ => blk_simp [e0]; show _ = 512 * n.val + r.val; omega
  | ⟨1, _⟩ => blk_simp [e1]
theorem blk2 (n : Fin cfg0.N) (r : Fin 512) (l : Fin 512) : iblk m c 2 n (ix2 r l) = V m c main_arg1 (ix2 (rowT n.val (lt8 n) r) ⟨l.val, by omega⟩) := by
  obtain ⟨e0, e1⟩ := wi2 n
  unfold iblk
  generalize V m c = A
  blk_simp
  refine congrArg (A main_arg1) ?_
  funext b; apply Fin.ext
  match b with
  | ⟨0, _⟩ => blk_simp [e0]; show _ = 512 * n.val + r.val; omega
  | ⟨1, _⟩ => blk_simp [e1]
theorem blk3 (n : Fin cfg0.N) (r : Fin 512) (l : Fin 512) : iblk m c 3 n (ix2 r l) = V m c main_arg2 (ix2 (rowT n.val (lt8 n) r) l) := by
  obtain ⟨e0, e1⟩ := wi3 n
  unfold iblk
  generalize V m c = A
  blk_simp
  refine congrArg (A main_arg2) ?_
  funext b; apply Fin.ext
  match b with
  | ⟨0, _⟩ => blk_simp [e0]; show _ = 512 * n.val + r.val; omega
  | ⟨1, _⟩ => blk_simp [e1]
theorem blk4 (n : Fin cfg0.N) (r : Fin 512) (l : Fin 512) : iblk m c 4 n (ix2 r l) = V m c main_arg3 (ix2 (rowT n.val (lt8 n) r) l) := by
  obtain ⟨e0, e1⟩ := wi4 n
  unfold iblk
  generalize V m c = A
  blk_simp
  refine congrArg (A main_arg3) ?_
  funext b; apply Fin.ext
  match b with
  | ⟨0, _⟩ => blk_simp [e0]; show _ = 512 * n.val + r.val; omega
  | ⟨1, _⟩ => blk_simp [e1]
theorem blk5 (n : Fin cfg0.N) (r : Fin 512) (l : Fin 512) : iblk m c 5 n (ix2 r l) = V m c main_arg4 (ix2 (rowT n.val (lt8 n) r) l) := by
  obtain ⟨e0, e1⟩ := wi5 n
  unfold iblk
  generalize V m c = A
  blk_simp
  refine congrArg (A main_arg4) ?_
  funext b; apply Fin.ext
  match b with
  | ⟨0, _⟩ => blk_simp [e0]; show _ = 512 * n.val + r.val; omega
  | ⟨1, _⟩ => blk_simp [e1]
theorem blk6 (n : Fin cfg0.N) (r : Fin 512) (l : Fin 512) : iblk m c 6 n (ix2 r l) = V m c main_arg1 (ix2 (rowT n.val (lt8 n) r) ⟨512 + l.val, by omega⟩) := by
  obtain ⟨e0, e1⟩ := wi6 n
  unfold iblk
  generalize V m c = A
  blk_simp
  refine congrArg (A main_arg1) ?_
  funext b; apply Fin.ext
  match b with
  | ⟨0, _⟩ => blk_simp [e0]; show _ = 512 * n.val + r.val; omega
  | ⟨1, _⟩ => blk_simp [e1]
theorem blk7 (n : Fin cfg0.N) (r : Fin 512) (l : Fin 1024) : iblk m c 7 n (ix2 r l) = V m c main_v12 (ix2 (rowT n.val (lt8 n) r) l) := by
  obtain ⟨e0, e1⟩ := wi7 n
  unfold iblk
  generalize V m c = A
  blk_simp
  refine congrArg (A main_v12) ?_
  funext b; apply Fin.ext
  match b with
  | ⟨0, _⟩ => blk_simp [e0]; show _ = 512 * n.val + r.val; omega
  | ⟨1, _⟩ => blk_simp [e1]
theorem blk9 (n : Fin cfg0.N) (r : Fin 1024) (l : Fin 128) : iblk m c 9 n (ix2 r l) = V m c main_arg6 (ix2 r ⟨3072 + l.val, by omega⟩) := by
  obtain ⟨e0, e1⟩ := wi9 n
  unfold iblk
  generalize V m c = A
  blk_simp
  refine congrArg (A main_arg6) ?_
  funext b; apply Fin.ext
  match b with
  | ⟨0, _⟩ => blk_simp [e0]
  | ⟨1, _⟩ => blk_simp [e1]
theorem blk10 (n : Fin cfg0.N) (r : Fin 512) (l : Fin 1024) : iblk m c 10 n (ix2 r l) = V m c main_arg7 (ix2 (rowT n.val (lt8 n) r) l) := by
  obtain ⟨e0, e1⟩ := wi10 n
  unfold iblk
  generalize V m c = A
  blk_simp
  refine congrArg (A main_arg7) ?_
  funext b; apply Fin.ext
  match b with
  | ⟨0, _⟩ => blk_simp [e0]; show _ = 512 * n.val + r.val; omega
  | ⟨1, _⟩ => blk_simp [e1]
theorem blk12 (n : Fin cfg0.N) (r : Fin 512) (l : Fin 1024) : iblk m c 12 n (ix2 r l) = V m c main_arg9 (ix2 (rowT n.val (lt8 n) r) l) := by
  obtain ⟨e0, e1⟩ := wi12 n
  unfold iblk
  generalize V m c = A
  blk_simp
  refine congrArg (A main_arg9) ?_
  funext b; apply Fin.ext
  match b with
  | ⟨0, _⟩ => blk_simp [e0]; show _ = 512 * n.val + r.val; omega
  | ⟨1, _⟩ => blk_simp [e1]
theorem blk11 (n : Fin cfg0.N) (i : Fin 1024) : iblk m c 11 n (ix2 0 i) = V m c main_arg8 (ix2 0 i) := by
  obtain ⟨e0, e1⟩ := wi11 n
  unfold iblk
  generalize V m c = A
  blk_simp
  refine congrArg (A main_arg8) ?_
  funext b; apply Fin.ext
  match b with
  | ⟨0, _⟩ => blk_simp [e0]
  | ⟨1, _⟩ => blk_simp [e1]
theorem blk8 (n : Fin cfg0.N) (i : Fin 1024) (l : Fin 3072) : X0_8 m c n (ix2 i l) = V m c main_arg6 (ix2 i ⟨l.val, by omega⟩) := by
  obtain ⟨e0, e1⟩ := wi8 n
  unfold X0_8 Pipeline.Window.fill
  rw [dif_pos (moved0_8 n _)]
  unfold iblk
  generalize V m c = A
  blk_simp
  refine congrArg (A main_arg6) ?_
  funext b; apply Fin.ext
  match b with
  | ⟨0, _⟩ => blk_simp [e0]
  | ⟨1, _⟩ => blk_simp [e1]

theorem args_w (i : Fin 1024) (t : Fin cfg0.N) (j : Fin 3200) : wrow m c t i j = (args m c).w i j := by
  unfold wrow row args
  dsimp only
  split
  · next h =>
    rw [blk8]
    exact congrArg (fun k => V m c main_arg6 (ix2 i k)) (Fin.ext (Nat.div_add_mod j.val 512))
  · next h =>
    rw [blk9]
    exact congrArg (fun k => V m c main_arg6 (ix2 i k)) (Fin.ext (show 3072 + (j.val - 3072) = j.val by omega))

theorem args_d (t : Fin cfg0.N) (r : Fin 512) : drow m c t r = (args m c).d (rowT t.val (lt8 t) r) := by
  unfold drow Args.d
  congr 1
  · funext s l
    match s with
    | 0 => exact blk1 m c t r l
    | 1 => exact blk2 m c t r l
    | 2 => exact blk3 m c t r l
    | 3 => exact blk4 m c t r l
    | 4 => exact blk5 m c t r l
    | 5 => exact blk6 m c t r l
  · funext l
    exact blk0 m c t r l

theorem args_dh (t : Fin cfg0.N) (r : Fin 512) : dhrow m c t r = (args m c).dh (rowT t.val (lt8 t) r) := by
  funext i
  unfold dhrow Args.dh
  rw [args_d]
  exact Finset.sum_congr rfl fun j _ => congrArg (HMul.hMul _) (args_w m c i t j)
theorem args_x (t : Fin cfg0.N) (r : Fin 512) : xrow m c t r = (args m c).x (rowT t.val (lt8 t) r) := funext fun i => blk10 m c t r i
theorem args_h (t : Fin cfg0.N) (r : Fin 512) : hrow m c t r = (args m c).h (rowT t.val (lt8 t) r) := funext fun i => blk7 m c t r i
theorem args_g (t : Fin cfg0.N) (r : Fin 512) : grow m c t r = (args m c).g (rowT t.val (lt8 t) r) := funext fun i => blk12 m c t r i
theorem args_gam (t : Fin cfg0.N) : gam m c t = (args m c).gam := funext fun i => blk11 m c t i

/-! ## The results' arrays -/

theorem lt' {n : Nat} (h : n < 8) : n < cfg0.N := lt_of_lt_of_eq h N_0.symm

theorem dw_term (n : Nat) (h : n < 8) (r : Fin 512) (i : Fin 1024) (j : Fin 3200) :
    hrow m c ⟨n, lt' h⟩ r i * drow m c ⟨n, lt' h⟩ r j = (args m c).h (rowT n h r) i * (args m c).d (rowT n h r) j :=
  congrArg₂ (· * ·) (congrFun (args_h m c ⟨n, lt' h⟩ r) i) (congrFun (args_d m c ⟨n, lt' h⟩ r) j)
theorem xh_row (t : Fin cfg0.N) (r : Fin 512) (i : Fin 1024) : xrow m c t r i * rms (xrow m c t r) = (args m c).xh (rowT t.val (lt8 t) r) i := by
  rw [args_x, Args.xh]
theorem dg_term (n : Nat) (h : n < 8) (r : Fin 512) (i : Fin 1024) :
    dhrow m c ⟨n, lt' h⟩ r i * (xrow m c ⟨n, lt' h⟩ r i * rms (xrow m c ⟨n, lt' h⟩ r)) = (args m c).dh (rowT n h r) i * (args m c).xh (rowT n h r) i :=
  congrArg₂ (· * ·) (congrFun (args_dh m c ⟨n, lt' h⟩ r) i) (xh_row m c ⟨n, lt' h⟩ r i)

theorem dw_last (i : Fin 1024) (j : Fin 3200) : (outsAt0 m c 7 (lt' (by decide))).1 (ix2 i j) = (args m c).dw i j :=
  sum_tiles (fun n h => (outsAt0 m c n (lt' h)).1 (ix2 i j)) (fun T => (args m c).h T i * (args m c).d T j)
    ((dw_first m c ⟨0, lt' (by decide)⟩ rfl i j).trans (congrArg (HAdd.hAdd 0) (Finset.sum_congr rfl fun r _ => dw_term m c 0 _ r i j)))
    (fun n h => (dw_next m c ⟨n + 1, lt' h⟩ (by show ¬ (n + 1) % 8 = 0; omega) i j).trans (congrArg (HAdd.hAdd _) (Finset.sum_congr rfl fun r _ => dw_term m c (n + 1) h r i j)))
theorem dg_last (i : Fin 1024) : (outsAt0 m c 7 (lt' (by decide))).2.2.2 (ix2 0 i) = (args m c).dgam i :=
  sum_tiles (fun n h => (outsAt0 m c n (lt' h)).2.2.2 (ix2 0 i)) (fun T => (args m c).dh T i * (args m c).xh T i)
    ((dg_first m c ⟨0, lt' (by decide)⟩ rfl i).trans (congrArg (HAdd.hAdd 0) (Finset.sum_congr rfl fun r _ => dg_term m c 0 _ r i)))
    (fun n h => (dg_next m c ⟨n + 1, lt' h⟩ (by show ¬ (n + 1) % 8 = 0; omega) i).trans (congrArg (HAdd.hAdd _) (Finset.sum_congr rfl fun r _ => dg_term m c (n + 1) h r i)))

theorem dx_tile (t : Fin cfg0.N) (r : Fin 512) (i : Fin 1024) : (outsAt0 m c t.val t.isLt).2.2.1 (ix2 r i) = (args m c).dx (rowT t.val (lt8 t) r) i := by
  rw [dx_point]
  simp only [xh_row]
  rw [args_x, args_dh, args_g, args_gam]
  rfl

theorem is7 (t : Fin cfg0.N) (h : t.val % 8 = 7) : t = ⟨7, lt' (by decide)⟩ := Fin.ext (by have := lt8 t; show t.val = 7; omega)

theorem dw_at (t : Fin cfg0.N) (h : t.val % 8 = 7) (i : Fin 1024) (j : Fin 3200) : (outsAt0 m c t.val t.isLt).1 (ix2 i j) = (args m c).dw i j := by
  rw [is7 t h]; exact dw_last m c i j
theorem dwb_at (t : Fin cfg0.N) (h : t.val % 8 = 7) (i : Fin 1024) (j : Fin 3200) : (outsAt0 m c t.val t.isLt).2.1 (ix2 i j) = (args m c).dw i j :=
  (dwb_last m c t h i j).trans (dw_at m c t h i j)
theorem dg_at (t : Fin cfg0.N) (h : t.val % 8 = 7) (i : Fin 1024) : (outsAt0 m c t.val t.isLt).2.2.2 (ix2 0 i) = (args m c).dgam i := by
  rw [is7 t h]; exact dg_last m c i

theorem arr13 : (dats m 0 c).arrAt 13 cfg0.N = fun y => (args m c).dw (y 0) (y 1) := by
  refine (dats m 0 c).arrAt_eq_of_covers 13 _ (by decide +kernel) fun t hf y => ?_
  obtain ⟨e0, e1⟩ := wi13 t
  have ht := (flush0_13 t).mp hf
  blk_simp
  rw [after0_13]
  idx_vars y
  refine (dw_at m c t ht y0 y1).trans (congrArg₂ _ (Fin.ext ?_) (Fin.ext ?_))
  · blk_simp [e0]
  · blk_simp [e1]

theorem arr14 : (dats m 0 c).arrAt 14 cfg0.N = fun y => (args m c).dw (y 0) (y 1) := by
  refine (dats m 0 c).arrAt_eq_of_covers 14 _ (by decide +kernel) fun t hf y => ?_
  obtain ⟨e0, e1⟩ := wi14 t
  have ht := (flush0_14 t).mp hf
  blk_simp
  rw [after0_14]
  idx_vars y
  refine (dwb_at m c t ht y0 y1).trans (congrArg₂ _ (Fin.ext ?_) (Fin.ext ?_))
  · blk_simp [e0]
  · blk_simp [e1]

theorem arr15 : (dats m 0 c).arrAt 15 cfg0.N = fun y => (args m c).dx (y 0) (y 1) := by
  refine (dats m 0 c).arrAt_eq_of_covers 15 _ (by decide +kernel) fun t hf y => ?_
  obtain ⟨e0, e1⟩ := wi15 t
  blk_simp
  rw [after0_15]
  idx_vars y
  refine (dx_tile m c t y0 y1).trans (congrArg₂ _ (Fin.ext ?_) (Fin.ext ?_))
  · blk_simp [e0]; show 512 * t.val + y0.val = _; omega
  · blk_simp [e1]

theorem arr16 : (dats m 0 c).arrAt 16 cfg0.N = fun y => (args m c).dgam (y 1) := by
  refine (dats m 0 c).arrAt_eq_of_covers 16 _ (by decide +kernel) fun t hf y => ?_
  obtain ⟨e0, e1⟩ := wi16 t
  have ht := (flush0_16 t).mp hf
  blk_simp
  rw [after0_16]
  idx_vars y
  obtain rfl : y0 = 0 := Subsingleton.elim _ _
  refine (dg_at m c t ht y1).trans (congrArg _ (Fin.ext ?_))
  blk_simp [e1]

end Cert.Proof.In

end
-- ==== Proof.In.Host.lean ====
/-
  What the host line of the second call hands to the kernel: the normed input.
-/
module

public import proofs.«01_k».proof.Proof.In.Arrays
public import Idealize.ShloMosaic.Lib.StableHlo.ReadAt

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem
open Idealize.ShloMosaic.Pipeline

/-- An array of the input's shape at a row and a column, a row of gains at a column. -/
def atx (A : S4096x1024.Idx → EReal) (T : Fin 4096) (i : Fin 1024) : EReal := A (ix2 T i)
def atg (A : S1x1024.Idx → EReal) (i : Fin 1024) : EReal := A (ix2 0 i)

set_option maxHeartbeats 4000000 in
theorem host_h (X : Valuation τ sig (Elt Ideal)) (T : Fin 4096) (i : Fin 1024) :
    atx (StableHlo.after hostOps0 X main_v12) T i = atx (X main_arg7) T i * rms (fun k => atx (X main_arg7) T k) * atg (X main_arg8) i := by
  simp only [hostOps0]
  simp only [atx, atg, rms]
  first | (after_reads_at; done) | (after_reads_at; rfl)

/-- The normed input. -/
theorem args_norm (m : (ℓ : Loc nD τ sig) → Buf (Elt Ideal) ℓ) (c : Dev nD) (T : Fin 4096) (i : Fin 1024) :
    (args m c).h T i = (args m c).xh T i * (args m c).gam i := by
  have e7 := V_main_arg7 m c
  have e8 := V_main_arg8 m c
  refine (host_h (fun b => m (c, b)) T i).trans ?_
  simp only [Args.xh, args]
  rw [e7, e8]
  rfl

end Cert.Proof.In

end
-- ==== Proof.In.Ref.lean ====
/-
  The reference of the second call over the extended reals, read at an index.
-/
module

public import proofs.«01_k».proof.Proof.In.Host
public import proofs.«01_k».proof.Proof.Gen.Reference2Ideal.Run
public import Idealize.ShloMosaic.Lib.StableHlo.ReadAt

@[expose] public section

set_option maxRecDepth 16384

noncomputable section

namespace Cert.Proof.RI2

open Cert.Reference2Ideal Cert.Reference2Ideal.Gen Cert.Reference2Ideal.Value
open Idealize.ShloMosaic Idealize.ShloMosaic.TcCoe
open Idealize.SL Idealize.SL.Sem
open Cert.Proof.In (Args rms row col colz atx atg)

theorem after_append (A B : List (HloOp τ sig (Elt Ideal))) (X : Valuation τ sig (Elt Ideal)) :
    StableHlo.after (A ++ B) X = StableHlo.after B (StableHlo.after A X) := by
  induction A generalizing X with
  | nil => rfl
  | cons o A ih => exact ih (o.result X)

/-- The `k` operations of the reference that follow its first `n`. -/
def seg (n k : ℕ) : List (HloOp τ sig (Elt Ideal)) := (ops.drop n).take k

/-- The buffers after the first `n` operations of the reference. -/
def At (m : (ℓ : Loc nD τ sig) → Buf (Elt Ideal) ℓ) (c : Dev nD) (n : ℕ) : Valuation τ sig (Elt Ideal) :=
  StableHlo.after (ops.take n) (fun b => m (c, b))

theorem At_add (m : (ℓ : Loc nD τ sig) → Buf (Elt Ideal) ℓ) (c : Dev nD) (n k : ℕ) :
    At m c (n + k) = StableHlo.after (seg n k) (At m c n) := by
  unfold At seg
  rw [List.take_add, after_append]

def atn (A : S4096x512.Idx → EReal) (T : Fin 4096) (l : Fin 512) : EReal := A (ix2 T l)
def atz (A : S4096x128.Idx → EReal) (T : Fin 4096) (l : Fin 128) : EReal := A (ix2 T l)
def atp (A : S4096x3200.Idx → EReal) (T : Fin 4096) (j : Fin 3200) : EReal := A (ix2 T j)
def atw (A : S1024x3200.Idx → EReal) (i : Fin 1024) (j : Fin 3200) : EReal := A (ix2 i j)
def atv (A : S3200x1024.Idx → EReal) (j : Fin 3200) (i : Fin 1024) : EReal := A (ix2 j i)
def ato (A : S4096x1.Idx → EReal) (T : Fin 4096) : EReal := A (ix2 T 0)

/-- The projection's gradient from its parts: section `s`. -/
def secOf (dpu : Fin 4096 → Fin 512 → EReal) (g0 : Fin 4096 → Fin 512 → EReal) (dq dk dv g1 : Fin 4096 → Fin 512 → EReal)
    (T : Fin 4096) (s : Fin 6) (l : Fin 512) : EReal :=
  match s with
  | 0 => dpu T l
  | 1 => g0 T l
  | 2 => dq T l
  | 3 => dk T l
  | 4 => dv T l
  | 5 => g1 T l

set_option maxHeartbeats 4000000 in
theorem stage0 (X : Valuation τ sig (Elt Ideal)) (T : Fin 4096) (l : Fin 512) :
    atn (StableHlo.after (seg 0 2) X main_v0) T l = atx (X main_arg1) T ⟨l.val, by omega⟩ ∧
    atn (StableHlo.after (seg 0 2) X main_v1) T l = atx (X main_arg1) T ⟨512 + l.val, by omega⟩ := by
  simp only [seg, ops, List.drop_succ_cons, List.drop_zero, List.take_succ_cons, List.take_zero]
  simp only [atn, atx]
  refine ⟨?_, ?_⟩
  all_goals first | (after_reads_at; done) | (after_reads_at; rfl)

/-- The row statistics of the norm. -/
def stat (x : Fin 1024 → EReal) : EReal := Ideal.div (∑ i, x i * x i) (Ideal.ofBits .f32 0x44800000#32) + Ideal.ofBits .f32 0x358637BD#32

set_option maxHeartbeats 4000000 in
theorem stage2 (X : Valuation τ sig (Elt Ideal)) (T : Fin 4096) (i : Fin 1024) (j : Fin 3200) :
    atp (StableHlo.after (seg 3 21) X main_v3) T j = atp (X main_v2) T j ∧
    atw (StableHlo.after (seg 3 21) X main_v4) i j = atw (X main_arg6) i j ∧
    ato (StableHlo.after (seg 3 21) X main_v12) T = rms (fun k => atx (X main_arg7) T k) ∧
    ato (StableHlo.after (seg 3 21) X main_v15) T = Ideal.ofBits .f32 0xBF000000#32 *
      Ideal.div (rms (fun k => atx (X main_arg7) T k)) (stat (fun k => atx (X main_arg7) T k)) ∧
    atx (StableHlo.after (seg 3 21) X main_v17) T i = atx (X main_arg7) T i * rms (fun k => atx (X main_arg7) T k) ∧
    atx (StableHlo.after (seg 3 21) X main_v19) T i = atx (X main_arg7) T i * rms (fun k => atx (X main_arg7) T k) * atg (X main_arg8) i := by
  simp only [seg, ops, List.drop_succ_cons, List.drop_zero, List.take_succ_cons, List.take_zero]
  simp only [atp, atw, ato, atx, atg, rms, stat]
  refine ⟨?_, ?_, ?_, ?_, ?_, ?_⟩
  all_goals first | (after_reads_at; done) | (after_reads_at; rfl)

/-- The gradient of the normed input from the projection's gradient and the weights. -/
def dhOf (D : S4096x3200.Idx → EReal) (W : S1024x3200.Idx → EReal) (T : Fin 4096) (i : Fin 1024) : EReal := ∑ j, atp D T j * atw W i j
/-- The part of the input's gradient that comes through the row's statistics. -/
def thru (D : S4096x3200.Idx → EReal) (W : S1024x3200.Idx → EReal) (x : S4096x1024.Idx → EReal) (gam : S1x1024.Idx → EReal) (q : S4096x1.Idx → EReal)
    (T : Fin 4096) : EReal :=
  Ideal.div ((∑ i, atx x T i * (dhOf D W T i * atg gam i)) * ato q T) (Ideal.ofBits .f32 0x44800000#32)

set_option maxHeartbeats 4000000 in
theorem stage3 (X : Valuation τ sig (Elt Ideal)) (T : Fin 4096) (i : Fin 1024) (j : Fin 3200) :
    atw (StableHlo.after (seg 24 29) X main_v22) i j = (∑ T, atp (X main_v3) T j * atx (X main_v19) T i) ∧
    atw (StableHlo.after (seg 24 29) X main_v44) i j = (∑ T, atp (X main_v3) T j * atx (X main_v19) T i) ∧
    atg (StableHlo.after (seg 24 29) X main_v26) i = (∑ T, atx (X main_v17) T i * dhOf (X main_v3) (X main_v4) T i) ∧
    atx (StableHlo.after (seg 24 29) X main_v43) T i = atx (X main_arg9) T i + dhOf (X main_v3) (X main_v4) T i * atg (X main_arg8) i * ato (X main_v12) T
      + atx (X main_arg7) T i * thru (X main_v3) (X main_v4) (X main_arg7) (X main_arg8) (X main_v15) T
      + thru (X main_v3) (X main_v4) (X main_arg7) (X main_arg8) (X main_v15) T * atx (X main_arg7) T i := by
  simp only [seg, ops, List.drop_succ_cons, List.drop_zero, List.take_succ_cons, List.take_zero]
  simp only [atp, atw, ato, atx, atg, dhOf, thru]
  refine ⟨?_, ?_, ?_, ?_⟩
  all_goals first | (after_reads_at; done) | (after_reads_at; rfl) | (after_reads_at; simp only [Finset.univ_unique, Finset.sum_singleton]; done) |
    (after_reads_at; simp only [Finset.univ_unique, Finset.sum_singleton]; rfl)

theorem cat_op (X : Valuation τ sig (Elt Ideal)) :
    StableHlo.after (seg 2 1) X main_v2 = fn_main_v2 (F := Ideal) (X main_arg0) (X main_v0) (X main_arg2) (X main_arg3) (X main_arg4) (X main_v1) (X main_arg5) := by
  simp only [seg, ops, List.drop_succ_cons, List.drop_zero, List.take_succ_cons, List.take_zero]
  rw [StableHlo.after_cons, StableHlo.after_nil]
  exact StableHlo.nary_result' _ _ _ _ _

theorem col_cases (j : Fin 3200) : (∃ s l, j = col s l) ∨ ∃ l, j = colz l := by
  by_cases h : j.val < 3072
  · exact Or.inl ⟨⟨j.val / 512, by omega⟩, ⟨j.val % 512, by omega⟩, Fin.ext (Nat.div_add_mod j.val 512).symm⟩
  · exact Or.inr ⟨⟨j.val - 3072, by omega⟩, Fin.ext (by show j.val = 3072 + (j.val - 3072); omega)⟩

theorem at_val {n : ℕ} (a : (⟨2, ![4096, n]⟩ : Shape).Idx → EReal) (T : Fin 4096) (k l : Fin n) (h : k.val = l.val) : a (ix2 T k) = a (ix2 T l) := by
  rw [Fin.ext h]

theorem cat_apply (a b c d e f : S4096x512.Idx → EReal) (z : S4096x128.Idx → EReal) (T : Fin 4096) (j : Fin 3200) :
    (fn_main_v2 (F := Ideal) a b c d e f z : S4096x3200.Idx → EReal) (ix2 T j) =
      row (secOf (atn a) (atn b) (atn c) (atn d) (atn e) (atn f) T) (atz z T) j := by
  unfold fn_main_v2
  pointwise
  rcases col_cases j with ⟨s, l, rfl⟩ | ⟨l, rfl⟩
  · rw [Cert.Proof.In.row_col]
    have hv : (col s l).val = 512 * s.val + l.val := rfl
    have hl := l.isLt
    generalize hj : col s l = j
    rw [hj] at hv
    match s, hv with
    | 0, hv | 1, hv | 2, hv | 3, hv | 4, hv | 5, hv =>
      simp only [Fin.isValue, Fin.val_zero, Fin.val_one, Fin.val_two, Fin.coe_ofNat_eq_mod] at hv
      split_ifs <;> first
        | (exfalso; omega)
        | exact at_val a T _ l (by dsimp only; omega)
        | exact at_val b T _ l (by dsimp only; omega)
        | exact at_val c T _ l (by dsimp only; omega)
        | exact at_val d T _ l (by dsimp only; omega)
        | exact at_val e T _ l (by dsimp only; omega)
        | exact at_val f T _ l (by dsimp only; omega)
  · rw [Cert.Proof.In.row_colz]
    have hv : (colz l).val = 3072 + l.val := rfl
    generalize hj : colz l = j
    rw [hj] at hv
    split_ifs <;> first
      | (exfalso; omega)
      | exact at_val z T _ l (by dsimp only; omega)

section Values

variable (m : (ℓ : Loc nD τ sig) → Buf (Elt Ideal) ℓ) (c : Dev nD)

/-- The reference's arguments, and the normed input. -/
def args : Args where
  dpu := atn (At m c 0 main_arg0)
  dgate := atx (At m c 0 main_arg1)
  dq := atn (At m c 0 main_arg2)
  dk := atn (At m c 0 main_arg3)
  dv := atn (At m c 0 main_arg4)
  dz := atz (At m c 0 main_arg5)
  w := atw (At m c 0 main_arg6)
  x := atx (At m c 0 main_arg7)
  gam := atg (At m c 0 main_arg8)
  g := atx (At m c 0 main_arg9)
  h T i := atx (At m c 0 main_arg7) T i * rms (fun k => atx (At m c 0 main_arg7) T k) * atg (At m c 0 main_arg8) i

/-- The input's gradient as the reference adds it up. -/
def _root_.Cert.Proof.In.Args.thru (A : Args) (T : Fin 4096) : EReal :=
  Ideal.div ((∑ i, A.x T i * (A.dh T i * A.gam i)) * (Ideal.ofBits .f32 0xBF000000#32 * Ideal.div (rms (A.x T)) (stat (A.x T)))) (Ideal.ofBits .f32 0x44800000#32)
def _root_.Cert.Proof.In.Args.dxSum (A : Args) (T : Fin 4096) (i : Fin 1024) : EReal :=
  A.g T i + A.dh T i * A.gam i * rms (A.x T) + A.x T i * A.thru T + A.thru T * A.x T i

def IsArg (b : Ref sig .tc) : Prop := b = main_arg0 ∨ b = main_arg1 ∨ b = main_arg2 ∨ b = main_arg3 ∨ b = main_arg4 ∨ b = main_arg5 ∨
  b = main_arg6 ∨ b = main_arg7 ∨ b = main_arg8 ∨ b = main_arg9

theorem not_written (b : Ref sig .tc) (hb : IsArg b) : ∀ o ∈ (ops : List (HloOp τ sig (Elt Ideal))), Proc.devRef .tc b ∉ o.writes :=
  List.forall_iff_forall_mem.mp (by
    unfold IsArg at hb
    rcases hb with rfl | rfl | rfl | rfl | rfl | rfl | rfl | rfl | rfl | rfl <;>
    · simp only [ops, List.Forall, StableHlo.nullary_writes,
        StableHlo.unary_writes, StableHlo.binary_writes, StableHlo.ternary_writes, StableHlo.reshape_writes,
        StableHlo.nary_writes, Finset.mem_singleton]
      repeat' apply And.intro
      all_goals exact StableHlo.devRef_ne_of_ne (by decide))

theorem keep_arg (b : Ref sig .tc) (hb : IsArg b) (n : ℕ) : At m c n (Proc.devRef .tc b) = At m c 0 (Proc.devRef .tc b) :=
  StableHlo.after_of_forall_not_mem (b := Proc.devRef .tc b) _ _ fun o ho => not_written b hb o (List.mem_of_mem_take ho)

theorem at24 (T : Fin 4096) (i : Fin 1024) (j : Fin 3200) :
    atp (At m c 24 main_v3) T j = (args m c).d T j ∧
    atw (At m c 24 main_v4) i j = (args m c).w i j ∧
    ato (At m c 24 main_v12) T = rms ((args m c).x T) ∧
    ato (At m c 24 main_v15) T = Ideal.ofBits .f32 0xBF000000#32 * Ideal.div (rms ((args m c).x T)) (stat ((args m c).x T)) ∧
    atx (At m c 24 main_v17) T i = (args m c).xh T i ∧
    atx (At m c 24 main_v19) T i = (args m c).h T i := by
  have e1 : At m c 2 = StableHlo.after (seg 0 2) (At m c 0) := At_add m c 0 2
  have e2 : At m c 3 = StableHlo.after (seg 2 1) (At m c 2) := At_add m c 2 1
  have e3 : At m c 24 = StableHlo.after (seg 3 21) (At m c 3) := At_add m c 3 21
  obtain ⟨f1, f2, f3, f4, f5, f6⟩ := stage2 (At m c 3) T i j
  rw [← e3] at f1 f2 f3 f4 f5 f6
  have g0 := fun l => stage0 (At m c 0) T l
  rw [← e1] at g0
  have k6 := keep_arg m c main_arg6 (by simp [IsArg]) 3
  have k7 := keep_arg m c main_arg7 (by simp [IsArg]) 3
  have k8 := keep_arg m c main_arg8 (by simp [IsArg]) 3
  rw [k7] at f3 f4 f5 f6
  rw [k8] at f6
  rw [k6] at f2
  refine ⟨f1.trans ?_, f2, f3, f4, f5, f6⟩
  have hc := cat_op (At m c 2)
  rw [← e2, keep_arg m c main_arg0 (by simp [IsArg]) 2, keep_arg m c main_arg2 (by simp [IsArg]) 2, keep_arg m c main_arg3 (by simp [IsArg]) 2,
    keep_arg m c main_arg4 (by simp [IsArg]) 2, keep_arg m c main_arg5 (by simp [IsArg]) 2] at hc
  refine (congrFun hc (ix2 T j)).trans ((cat_apply _ _ _ _ _ _ _ T j).trans ?_)
  refine congrFun (congrArg₂ row (funext fun s => funext fun l => ?_) rfl) j
  match s with
  | 0 => rfl
  | 1 => exact (g0 l).1
  | 2 => rfl
  | 3 => rfl
  | 4 => rfl
  | 5 => exact (g0 l).2

/-- The reference's four results. -/
theorem results (T : Fin 4096) (i : Fin 1024) (j : Fin 3200) :
    atw (At m c 53 main_v22) i j = (args m c).dw i j ∧
    atw (At m c 53 main_v44) i j = (args m c).dw i j ∧
    atg (At m c 53 main_v26) i = (args m c).dgam i ∧
    atx (At m c 53 main_v43) T i = (args m c).dxSum T i := by
  have e4 : At m c 53 = StableHlo.after (seg 24 29) (At m c 24) := At_add m c 24 29
  obtain ⟨f1, f2, f3, f4⟩ := stage3 (At m c 24) T i j
  rw [← e4] at f1 f2 f3 f4
  have k7 := keep_arg m c main_arg7 (by simp [IsArg]) 24
  have k8 := keep_arg m c main_arg8 (by simp [IsArg]) 24
  have k9 := keep_arg m c main_arg9 (by simp [IsArg]) 24
  have hdh : ∀ T i, dhOf (At m c 24 main_v3) (At m c 24 main_v4) T i = (args m c).dh T i := fun T i =>
    Finset.sum_congr rfl fun j _ => by rw [(at24 m c T i j).1, (at24 m c T i j).2.1]
  have hdw : (∑ T, atp (At m c 24 main_v3) T j * atx (At m c 24 main_v19) T i) = (args m c).dw i j :=
    Finset.sum_congr rfl fun T _ => by rw [(at24 m c T i j).1, (at24 m c T i j).2.2.2.2.2, mul_comm]
  have hth : thru (At m c 24 main_v3) (At m c 24 main_v4) (At m c 24 main_arg7) (At m c 24 main_arg8) (At m c 24 main_v15) T = (args m c).thru T := by
    unfold thru
    simp only [hdh]
    rw [k7, k8, (at24 m c T i j).2.2.2.1]
    rfl
  refine ⟨f1.trans hdw, f2.trans hdw, f3.trans ?_, f4.trans ?_⟩
  · exact Finset.sum_congr rfl fun T _ => by rw [(at24 m c T i j).2.2.2.2.1, hdh, mul_comm]
  · rw [hth, hdh, (at24 m c T i j).2.2.1, k7, k8, k9]
    rfl

end Values

end Cert.Proof.RI2

end
-- ==== Proof.In.Real.lean ====
/-
  The input's gradient over finite arguments: the kernel's sum and the reference's are the same real number.
-/
module

public import proofs.«01_k».proof.Proof.In.Ref
public import proofs.«01_k».proof.Proof.Value.Real

@[expose] public section

noncomputable section

namespace Cert.Proof.In

open Idealize.ShloMosaic
open Cert.Proof.PI (sum_of)
open Cert.Proof.RI2 (stat)

theorem word_1024 : Ideal.ofBits .f32 0x44800000#32 = ((1024 : ℝ) : EReal) := by
  simp [Ideal.ofBits, Ideal.ieee, -EReal.coe_mul]
  norm_num
theorem word_half : Ideal.ofBits .f32 0xBF000000#32 = ((-(1 / 2) : ℝ) : EReal) := by
  simp [Ideal.ofBits, Ideal.ieee, -EReal.coe_mul]
  norm_num
/-- The small number added to the mean of squares. -/
def eps : ℝ := 8796093 / 8796093022208
theorem word_eps : Ideal.ofBits .f32 0x358637BD#32 = ((eps : ℝ) : EReal) := by
  unfold eps
  simp [Ideal.ofBits, Ideal.ieee, -EReal.coe_mul]
  norm_num

/-- The mean of squares plus the small number, of a real row. -/
def st (x : Fin 1024 → ℝ) : ℝ := (∑ i, x i * x i) * (1 / 1024) + eps

theorem st_pos (x : Fin 1024 → ℝ) : 0 < st x := by
  have h : 0 ≤ ∑ i, x i * x i := Finset.sum_nonneg fun i _ => mul_self_nonneg (x i)
  have e : 0 < eps := by unfold eps; norm_num
  unfold st
  positivity

theorem stat_real (x : Fin 1024 → ℝ) : stat (fun i => (x i : EReal)) = (st x : EReal) := by
  unfold stat st
  rw [sum_of (f := fun i => x i * x i) fun i => (EReal.coe_mul _ _).symm, word_1024, word_eps, Ideal.div_coe (by norm_num), ← EReal.coe_mul, ← EReal.coe_add]

theorem rms_real (x : Fin 1024 → ℝ) : rms (fun i => (x i : EReal)) = (((√(st x))⁻¹ : ℝ) : EReal) := by
  refine (congrArg Ideal.rsqrt (stat_real x)).trans ?_
  have h := st_pos x
  show (if st x < 0 then (⊥ : EReal) else if st x = 0 then ⊤ else ((√(st x))⁻¹ : ℝ)) = _
  rw [if_neg h.le.not_gt, if_neg h.ne']

/-- The two sums, of real rows. -/
theorem dx_rows (G : EReal) (x u gam : Fin 1024 → ℝ) (i : Fin 1024) :
    G + (u i : EReal) * (gam i : EReal) * rms (fun i => (x i : EReal))
      + (x i : EReal) * Ideal.div ((∑ i, (x i : EReal) * ((u i : EReal) * (gam i : EReal))) *
          (Ideal.ofBits .f32 0xBF000000#32 * Ideal.div (rms (fun i => (x i : EReal))) (stat (fun i => (x i : EReal))))) (Ideal.ofBits .f32 0x44800000#32)
      + Ideal.div ((∑ i, (x i : EReal) * ((u i : EReal) * (gam i : EReal))) *
          (Ideal.ofBits .f32 0xBF000000#32 * Ideal.div (rms (fun i => (x i : EReal))) (stat (fun i => (x i : EReal))))) (Ideal.ofBits .f32 0x44800000#32) * (x i : EReal)
    = G + rms (fun i => (x i : EReal)) * ((u i : EReal) * (gam i : EReal) - (x i : EReal) * rms (fun i => (x i : EReal)) *
        Ideal.div (∑ i, (u i : EReal) * (gam i : EReal) * ((x i : EReal) * rms (fun i => (x i : EReal)))) (Ideal.ofBits .f32 0x44800000#32)) := by
  have hp := st_pos x
  rw [rms_real, stat_real, word_1024, word_half]
  have hq : (√(st x))⁻¹ * (√(st x))⁻¹ = 1 / st x := by
    rw [← mul_inv, Real.mul_self_sqrt hp.le, one_div]
  generalize (√(st x))⁻¹ = r at *
  rw [sum_of (f := fun i => x i * (u i * gam i)) fun i => by rw [EReal.coe_mul, EReal.coe_mul],
    sum_of (f := fun i => u i * gam i * (x i * r)) fun i => by rw [EReal.coe_mul, EReal.coe_mul, EReal.coe_mul],
    Ideal.div_coe hp.ne', Ideal.div_coe (by norm_num), Ideal.div_coe (by norm_num)]
  simp only [← EReal.coe_mul, ← EReal.coe_sub]
  rw [add_assoc, add_assoc]
  simp only [← EReal.coe_add]
  refine congrArg (fun z : ℝ => G + (z : EReal)) ?_
  have hs : ∑ i, u i * gam i * (x i * r) = (∑ i, x i * (u i * gam i)) * r := by
    rw [Finset.sum_mul]
    exact Finset.sum_congr rfl fun i _ => by ring
  rw [hs, ← hq]
  ring

/-- The arrays the input's gradient depends on hold real numbers. -/
structure Args.Finite (A : Args) : Prop where
  dpu : ∀ T l, A.dpu T l = ((A.dpu T l).toReal : EReal)
  dgate : ∀ T l, A.dgate T l = ((A.dgate T l).toReal : EReal)
  dq : ∀ T l, A.dq T l = ((A.dq T l).toReal : EReal)
  dk : ∀ T l, A.dk T l = ((A.dk T l).toReal : EReal)
  dv : ∀ T l, A.dv T l = ((A.dv T l).toReal : EReal)
  dz : ∀ T l, A.dz T l = ((A.dz T l).toReal : EReal)
  w : ∀ i j, A.w i j = ((A.w i j).toReal : EReal)
  x : ∀ T i, A.x T i = ((A.x T i).toReal : EReal)
  gam : ∀ i, A.gam i = ((A.gam i).toReal : EReal)

variable {A : Args}

theorem Args.Finite.d (r : A.Finite) (T : Fin 4096) (j : Fin 3200) : A.d T j = ((A.d T j).toReal : EReal) := by
  unfold Args.d row
  split
  · generalize (⟨j.val / 512, _⟩ : Fin 6) = s
    match s with
    | 0 => exact r.dpu T _
    | 1 => exact r.dgate T _
    | 2 => exact r.dq T _
    | 3 => exact r.dk T _
    | 4 => exact r.dv T _
    | 5 => exact r.dgate T _
  · exact r.dz T _

theorem Args.Finite.dh (r : A.Finite) (T : Fin 4096) (i : Fin 1024) :
    A.dh T i = ((∑ j, (A.d T j).toReal * (A.w i j).toReal : ℝ) : EReal) :=
  sum_of fun j => by rw [EReal.coe_mul, ← r.d T j, ← r.w i j]

theorem Args.Finite.dx_eq (r : A.Finite) (T : Fin 4096) (i : Fin 1024) : A.dxSum T i = A.dx T i := by
  obtain ⟨x, hx⟩ : ∃ x : Fin 1024 → ℝ, A.x T = fun i => (x i : EReal) := ⟨_, funext fun i => r.x T i⟩
  obtain ⟨u, hu⟩ : ∃ u : Fin 1024 → ℝ, A.dh T = fun i => (u i : EReal) := ⟨_, funext fun i => r.dh T i⟩
  obtain ⟨gam, hg⟩ : ∃ gam : Fin 1024 → ℝ, A.gam = fun i => (gam i : EReal) := ⟨_, funext fun i => r.gam i⟩
  unfold Args.dxSum Args.thru Args.dx Args.xh
  rw [hx, hu, hg]
  exact dx_rows _ x u gam i

end Cert.Proof.In

end
-- ==== Proof.In.Equal.lean ====
/-
  From memories with the same finite arguments the second call and its reference end with the same results.
-/
module

public import proofs.«01_k».proof.Defs
public import proofs.«01_k».proof.Proof.In.Real
public import proofs.«01_k».proof.Proof.Value.Equal
public import Idealize.ShloMosaic.Lib.ReduceAll

@[expose] public section

set_option maxRecDepth 16384

noncomputable section

namespace Cert.Proof.In

open Idealize.ShloMosaic Idealize.ShloMosaic.TcCoe
open Idealize.SL Idealize.SL.Sem

/-- The side conditions of the predicate that says "finite". -/
theorem finite_facts : Cert.Pre_finite2.Facts where
  bitsLt_bf16_f32 := by decide
  bcast_S_S4096x512 := by decide
  reducesTo_S4096x512_S_d0_1 := by decide
  h_S_ := by decide
  bcast_S_S4096x1024 := by decide
  reducesTo_S4096x1024_S_d0_1 := by decide
  bcast_S_S4096x128 := by decide
  reducesTo_S4096x128_S_d0_1 := by decide
  bcast_S_S1024x3200 := by decide
  reducesTo_S1024x3200_S_d0_1 := by decide
  bcast_S_S1x1024 := by decide
  reducesTo_S1x1024_S_d0_1 := by decide

instance : Subsingleton Cert.Pre_finite2.S_.Idx := ⟨fun _ _ => funext fun a => a.elim0⟩

/-- Every entry of an array is real. -/
def AllReal {s : Shape} (X : s.Idx → EReal) : Prop := ∀ i, X i = ((X i).toReal : EReal)

theorem real_at {a b : EReal} (e : a = b) (h : b = (b.toReal : EReal)) : a = (a.toReal : EReal) := by
  rw [e]; exact h

theorem finite_of [Cert.Pre_finite2.Facts]
    (dpu : Cert.Pre_finite2.S4096x512.Idx → EReal)
    (dgate : Cert.Pre_finite2.S4096x1024.Idx → EReal)
    (dq : Cert.Pre_finite2.S4096x512.Idx → EReal)
    (dk : Cert.Pre_finite2.S4096x512.Idx → EReal)
    (dv : Cert.Pre_finite2.S4096x512.Idx → EReal)
    (dz : Cert.Pre_finite2.S4096x128.Idx → EReal)
    (w : Cert.Pre_finite2.S1024x3200.Idx → EReal)
    (x : Cert.Pre_finite2.S4096x1024.Idx → EReal)
    (gam : Cert.Pre_finite2.S1x1024.Idx → EReal)
    (g : Cert.Pre_finite2.S4096x1024.Idx → EReal)
    (h : Cert.Pre_finite2.fn (F := Ideal) dpu dgate dq dk dv dz w x gam g = fun _ => 1#1) :
    (AllReal dpu ∧ AllReal dgate ∧ AllReal dq ∧ AllReal dk ∧ AllReal dv) ∧ AllReal dz ∧ AllReal w ∧ AllReal x ∧ AllReal gam := by
  have h0 := congrFun h (fun a => a.elim0)
  unfold Cert.Pre_finite2.fn Cert.Pre_finite2.fn_part1 Cert.Pre_finite2.fn_part2 at h0
  obtain ⟨h34, h49⟩ := IntOp.andi_eq_one.mp h0
  obtain ⟨h28, h5⟩ := IntOp.andi_eq_one.mp h34
  obtain ⟨h10, h27⟩ := IntOp.andi_eq_one.mp h28
  obtain ⟨h0, h1⟩ := IntOp.andi_eq_one.mp h10
  obtain ⟨h2, h26⟩ := IntOp.andi_eq_one.mp h27
  obtain ⟨h3, h4⟩ := IntOp.andi_eq_one.mp h26
  obtain ⟨h6, h48⟩ := IntOp.andi_eq_one.mp h49
  obtain ⟨h7, h8⟩ := IntOp.andi_eq_one.mp h48
  refine ⟨⟨fun i => ?_, fun i => ?_, fun i => ?_, fun i => ?_, fun i => ?_⟩, fun i => ?_, fun i => ?_, fun i => ?_, fun i => ?_⟩
  · exact real_of_lt _ (Host.reduce_andi_all _ _ _ _ _ h0 i)
  · exact real_of_lt _ (Host.reduce_andi_all _ _ _ _ _ h1 i)
  · exact real_of_lt _ (Host.reduce_andi_all _ _ _ _ _ h2 i)
  · exact real_of_lt _ (Host.reduce_andi_all _ _ _ _ _ h3 i)
  · exact real_of_lt _ (Host.reduce_andi_all _ _ _ _ _ h4 i)
  · exact real_of_lt _ (Host.reduce_andi_all _ _ _ _ _ h5 i)
  · exact real_of_lt _ (Host.reduce_andi_all _ _ _ _ _ h6 i)
  · exact real_of_lt _ (Host.reduce_andi_all _ _ _ _ _ h7 i)
  · exact real_of_lt _ (Host.reduce_andi_all _ _ _ _ _ h8 i)

/-! ### The reference's run -/

section RefRun

open Cert.Reference2Ideal Cert.Reference2Ideal.Gen Cert.Reference2Ideal.Value Cert.Proof.RI2

variable (m : (ℓ : Loc nD τ sig) → Buf (Elt Ideal) ℓ) (ρ : Dev nD → PrngReg)

/-- What the reference leaves of its arguments. -/
def KeptRef (s : MemSt nD τ sig (Elt Ideal)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)

theorem ref_run : θ_run defs (onTc (τ := τ) (main (F := Ideal))) ⟨m, fun _ => 0, ρ⟩ (fun r => ∀ c : Dev nD,
      (r.2.mem ((c.tc : Thread nD τ).loc main_v22) = At m c 53 main_v22
      ∧ r.2.mem ((c.tc : Thread nD τ).loc main_v44) = At m c 53 main_v44
      ∧ r.2.mem ((c.tc : Thread nD τ).loc main_v43) = At m c 53 main_v43
      ∧ r.2.mem ((c.tc : Thread nD τ).loc main_v26) = At m c 53 main_v26)
      ∧ KeptRef m r.2 c) := by
  have e : (ops : List (HloOp τ sig (Elt Ideal))).take 53 = ops := rfl
  have hA : ∀ c : Dev nD, At m c 53 = StableHlo.after ops (fun b => m (c, b)) := fun c => congrArg (fun o => StableHlo.after o (fun b => m (c, b))) e
  refine (θ_run defs _ _).mono (fun r h c => ?_) (StableHlo.run_seq scopedRefs_eq scopedSems_eq defs main (fun _ => ops) main_eq (fun _ => ops_sub) m ρ)
  have k : ∀ b : Ref sig .tc, IsArg b → r.2.mem ((c.tc : Thread nD τ).loc b) = m ((c.tc : Thread nD τ).loc b) := fun b hb =>
    (h c b).trans ((congrFun (hA c) _).symm.trans (keep_arg m c b hb 53))
  rw [hA c]
  exact ⟨⟨h c main_v22, h c main_v44, h c main_v43, h c main_v26⟩, k main_arg0 (by simp [IsArg]), k main_arg1 (by simp [IsArg]), k main_arg2 (by simp [IsArg]), k main_arg3 (by simp [IsArg]), k main_arg4 (by simp [IsArg]), k main_arg5 (by simp [IsArg]), k main_arg6 (by simp [IsArg]), k main_arg7 (by simp [IsArg]), k main_arg8 (by simp [IsArg]), k main_arg9 (by simp [IsArg])⟩

/-- The reference leaves its arguments as they were, and no counter. -/
theorem ref_frame : Cert.quiescent_Reference2Ideal (hReference2Ideal := Cert.Reference2Ideal.Gen.facts) :=
  fun m ρ _ => (θ_run Cert.Reference2Ideal.defs _ _).mono (fun r h => ⟨fun c => (h c).2, sem_eq_zero_of_no_sems (by decide) r.2⟩) (ref_run m ρ)

end RefRun

/-! ### The results of the two -/

section Equal

variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ)

/-- The two programs' arguments are the same arrays. -/
def Same (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
    ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
    ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
    ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
    ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
    ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
    ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
    ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
    ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
    ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)

theorem args_eq (c : Dev Cert.Kernel2Ideal.nD) (h : Same m m' c) : RI2.args m' c = args m c := by
  obtain ⟨h0, h1, h2, h3, h4, h5, h6, h7, h8, h9⟩ := h
  have e0 : (RI2.args m' c).dpu = (args m c).dpu := by
    funext T i
    exact congrFun (h0.trans (Cert.Kernel2Ideal.Gen.V_main_arg0 m c).symm) (ix2 T i)
  have e1 : (RI2.args m' c).dgate = (args m c).dgate := by
    funext T i
    exact congrFun (h1.trans (Cert.Kernel2Ideal.Gen.V_main_arg1 m c).symm) (ix2 T i)
  have e2 : (RI2.args m' c).dq = (args m c).dq := by
    funext T i
    exact congrFun (h2.trans (Cert.Kernel2Ideal.Gen.V_main_arg2 m c).symm) (ix2 T i)
  have e3 : (RI2.args m' c).dk = (args m c).dk := by
    funext T i
    exact congrFun (h3.trans (Cert.Kernel2Ideal.Gen.V_main_arg3 m c).symm) (ix2 T i)
  have e4 : (RI2.args m' c).dv = (args m c).dv := by
    funext T i
    exact congrFun (h4.trans (Cert.Kernel2Ideal.Gen.V_main_arg4 m c).symm) (ix2 T i)
  have e5 : (RI2.args m' c).dz = (args m c).dz := by
    funext T i
    exact congrFun (h5.trans (Cert.Kernel2Ideal.Gen.V_main_arg5 m c).symm) (ix2 T i)
  have e6 : (RI2.args m' c).w = (args m c).w := by
    funext i j
    exact congrFun (h6.trans (Cert.Kernel2Ideal.Gen.V_main_arg6 m c).symm) (ix2 i j)
  have e7 : (RI2.args m' c).x = (args m c).x := by
    funext T i
    exact congrFun (h7.trans (Cert.Kernel2Ideal.Gen.V_main_arg7 m c).symm) (ix2 T i)
  have e8 : (RI2.args m' c).gam = (args m c).gam := by
    funext i
    exact congrFun (h8.trans (Cert.Kernel2Ideal.Gen.V_main_arg8 m c).symm) (ix2 0 i)
  have e9 : (RI2.args m' c).g = (args m c).g := by
    funext T i
    exact congrFun (h9.trans (Cert.Kernel2Ideal.Gen.V_main_arg9 m c).symm) (ix2 T i)
  have eh : (RI2.args m' c).h = (args m c).h := by
    funext T i
    refine Eq.trans ?_ (args_norm m c T i).symm
    unfold Args.xh
    rw [← e7, ← e8]
    rfl
  exact Args.ext e0 e1 e2 e3 e4 e5 e6 e7 e8 e9 eh

/-- The second call's arguments are real numbers where the precondition holds. -/
theorem args_finite [Cert.Pre_finite2.Facts] (c : Dev Cert.Kernel2Ideal.nD)
    (h : Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) = fun _ => 1#1) : (args m c).Finite := by
  obtain ⟨⟨f0, f1, f2, f3, f4⟩, f5, f6, f7, f8⟩ := finite_of _ _ _ _ _ _ _ _ _ _ h
  have g0 := Cert.Kernel2Ideal.Gen.V_main_arg0 m c
  have g1 := Cert.Kernel2Ideal.Gen.V_main_arg1 m c
  have g2 := Cert.Kernel2Ideal.Gen.V_main_arg2 m c
  have g3 := Cert.Kernel2Ideal.Gen.V_main_arg3 m c
  have g4 := Cert.Kernel2Ideal.Gen.V_main_arg4 m c
  have g5 := Cert.Kernel2Ideal.Gen.V_main_arg5 m c
  have g6 := Cert.Kernel2Ideal.Gen.V_main_arg6 m c
  have g7 := Cert.Kernel2Ideal.Gen.V_main_arg7 m c
  have g8 := Cert.Kernel2Ideal.Gen.V_main_arg8 m c
  constructor
  · intro T i
    have e := congrFun g0 (ix2 T i)
    exact real_at e (f0 (ix2 T i))
  · intro T i
    have e := congrFun g1 (ix2 T i)
    exact real_at e (f1 (ix2 T i))
  · intro T i
    have e := congrFun g2 (ix2 T i)
    exact real_at e (f2 (ix2 T i))
  · intro T i
    have e := congrFun g3 (ix2 T i)
    exact real_at e (f3 (ix2 T i))
  · intro T i
    have e := congrFun g4 (ix2 T i)
    exact real_at e (f4 (ix2 T i))
  · intro T i
    have e := congrFun g5 (ix2 T i)
    exact real_at e (f5 (ix2 T i))
  · intro i j
    have e := congrFun g6 (ix2 i j)
    exact real_at e (f6 (ix2 i j))
  · intro T i
    have e := congrFun g7 (ix2 T i)
    exact real_at e (f7 (ix2 T i))
  · intro i
    have e := congrFun g8 (ix2 0 i)
    exact real_at e (f8 (ix2 0 i))

theorem algebraic [Cert.Pre_finite2.Facts] :
    Cert.algebraic_Kernel2Ideal_Reference2Ideal_pre_finite2 (hKernel2Ideal := Cert.Kernel2Ideal.Gen.facts) (hReference2Ideal := Cert.Reference2Ideal.Gen.facts) := by
  intro m g m' g' hm h
  refine ⟨fun c => (Cert.Kernel2Ideal.Gen.dats m 0 c).arrAt 13 Cert.Kernel2Ideal.cfg0.N, fun c => (Cert.Kernel2Ideal.Gen.dats m 0 c).arrAt 14 Cert.Kernel2Ideal.cfg0.N,
    fun c => (Cert.Kernel2Ideal.Gen.dats m 0 c).arrAt 15 Cert.Kernel2Ideal.cfg0.N, fun c => (Cert.Kernel2Ideal.Gen.dats m 0 c).arrAt 16 Cert.Kernel2Ideal.cfg0.N,
    Cert.Kernel2Ideal.Value.run_blocks m g, ?_⟩
  refine (θ_run Cert.Reference2Ideal.defs _ _).mono (fun r hr c => ?_) (ref_run m' g')
  obtain ⟨⟨e0, e1, e2, e3⟩, ea⟩ := hr c
  have hA := args_eq m m' c (h c)
  have hr2 := fun T i j => RI2.results m' c T i j
  rw [hA] at hr2
  have hf := args_finite m c (hm c)
  exact ⟨e0.trans ((ext2 fun i j => (hr2 0 i j).1).trans (arr13 m c).symm), e1.trans ((ext2 fun i j => (hr2 0 i j).2.1).trans (arr14 m c).symm),
    e2.trans ((ext2 fun T i => ((hr2 T i 0).2.2.2).trans (hf.dx_eq T i)).trans (arr15 m c).symm),
    e3.trans ((ext2 (f := fun _ i => (args m c).dgam i) fun z i => by
      obtain rfl : z = 0 := Subsingleton.elim _ _
      exact (hr2 0 i 0).2.2.1).trans (arr16 m c).symm), ea⟩

end Equal

end Cert.Proof.In

end
-- ==== Proof.Out.Tile.lean ====
/-
  The third call's values over the extended reals, one row tile at a time: what each stored value is at an index.
-/
module

public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Proof.Out

open Cert.Kernel3Ideal Cert.Kernel3Ideal.Gen
open Idealize.ShloMosaic Idealize.ShloMosaic.TcCoe
open Idealize.SL Idealize.SL.Sem
open Idealize.ShloMosaic.Pipeline

/-! ## The gates -/

/-- The logistic function. -/
def sg (x : EReal) : EReal := Ideal.div 1 (1 + Ideal.exp (0 - x))

theorem pay8_apply (x : S512x512.Idx → EReal) (r l : Fin 512) : k0_pay8 (F := Ideal) x (ix2 r l) = sg (x (ix2 r l)) := by
  pointwise [k0_pay8, k0_pay7, sg]
theorem pay16_apply (x : S512x512.Idx → EReal) (r l : Fin 512) : k0_pay16 (F := Ideal) x (ix2 r l) = sg (x (ix2 r l)) := by
  pointwise [k0_pay16, k0_pay15, sg]
theorem pay5_apply (g : S512x1024.Idx → EReal) (w : S512x1024.Idx → EReal) (r l : Fin 512) :
    k0_pay5 (F := Ideal) g w (ix2 r l) = ∑ k : Fin 1024, g (ix2 r k) * w (ix2 l k) := by
  pointwise [k0_pay5, k0_pay4]
theorem pay6_apply (g : S512x1024.Idx → EReal) (w : S512x1024.Idx → EReal) (r l : Fin 512) :
    k0_pay6 (F := Ideal) g w (ix2 r l) = ∑ k : Fin 1024, g (ix2 r k) * w (ix2 l k) := by
  pointwise [k0_pay6, k0_pay4]

/-- The two gates' values and their products with what they gate. -/
def silu (x : EReal) : EReal := x * sg x
/-- The factor of a gate's gradient. -/
def dsilu (x : EReal) : EReal := sg x * (1 + x * (1 - sg x))

theorem pay9_apply (x : S512x512.Idx → EReal) (r l : Fin 512) : k0_pay9 (F := Ideal) x (ix2 r l) = silu (x (ix2 r l)) := by
  have h := pay8_apply x r l
  unfold k0_pay9
  generalize k0_pay8 (F := Ideal) x = q at h ⊢
  pointwise [k0_pay7]
  rw [h]; rfl
theorem pay17_apply (x : S512x512.Idx → EReal) (r l : Fin 512) : k0_pay17 (F := Ideal) x (ix2 r l) = silu (x (ix2 r l)) := by
  have h := pay16_apply x r l
  unfold k0_pay17
  generalize k0_pay16 (F := Ideal) x = q at h ⊢
  pointwise [k0_pay15]
  rw [h]; rfl

/-! ## The weights' gradient -/

theorem pay11_apply (g : S512x1024.Idx → EReal) (x v : S512x512.Idx → EReal) (o : S512x1024.Idx → EReal) (i : Fin 512) (j : Fin 1024) :
    k0_pay11 (F := Ideal) g x v o (ix2 i j) = o (ix2 i j) + ∑ r : Fin 512, v (ix2 r i) * silu (x (ix2 r i)) * g (ix2 r j) := by
  have h := fun r l => pay9_apply x r l
  unfold k0_pay11
  generalize k0_pay9 (F := Ideal) x = q at h ⊢
  pointwise [k0_pay10, k0_pay4]
  simp only [h]
theorem pay19_apply (g : S512x1024.Idx → EReal) (x v : S512x512.Idx → EReal) (o : S512x1024.Idx → EReal) (i : Fin 512) (j : Fin 1024) :
    k0_pay19 (F := Ideal) (k0_pay4 (F := Ideal) g) x v o (ix2 i j) = o (ix2 i j) + ∑ r : Fin 512, v (ix2 r i) * silu (x (ix2 r i)) * g (ix2 r j) := by
  have h := fun r l => pay17_apply x r l
  unfold k0_pay19
  generalize k0_pay17 (F := Ideal) x = q at h ⊢
  pointwise [k0_pay18, k0_pay4]
  simp only [h]

/-! ## The mixed values' gradient, through the gates -/

theorem pay12_apply (g w : S512x1024.Idx → EReal) (x : S512x512.Idx → EReal) (r l : Fin 512) :
    k0_pay12 (F := Ideal) g w x (ix2 r l) = (∑ k : Fin 1024, g (ix2 r k) * w (ix2 l k)) * silu (x (ix2 r l)) := by
  have h := pay9_apply x r l
  have h' := pay5_apply g w r l
  unfold k0_pay12
  generalize k0_pay9 (F := Ideal) x = q at h ⊢
  generalize k0_pay5 (F := Ideal) g w = q' at h' ⊢
  pointwise
  rw [h, h']
theorem pay20_apply (g w : S512x1024.Idx → EReal) (x : S512x512.Idx → EReal) (r l : Fin 512) :
    k0_pay20 (F := Ideal) (k0_pay6 (F := Ideal) g w) x (ix2 r l) = (∑ k : Fin 1024, g (ix2 r k) * w (ix2 l k)) * silu (x (ix2 r l)) := by
  have h := pay17_apply x r l
  have h' := pay6_apply g w r l
  unfold k0_pay20
  generalize k0_pay17 (F := Ideal) x = q at h ⊢
  generalize k0_pay6 (F := Ideal) g w = q' at h' ⊢
  pointwise
  rw [h, h']
theorem pay14_apply (g w : S512x1024.Idx → EReal) (x v : S512x512.Idx → EReal) (r l : Fin 512) :
    k0_pay14 (F := Ideal) (k0_pay7 (F := Ideal) x) (k0_pay8 (F := Ideal) x) (k0_pay13 (F := Ideal) g w v) (ix2 r l) =
      (∑ k : Fin 1024, g (ix2 r k) * w (ix2 l k)) * v (ix2 r l) * dsilu (x (ix2 r l)) := by
  have h := pay8_apply x r l
  have h' := pay5_apply g w r l
  unfold k0_pay14 k0_pay13
  generalize k0_pay8 (F := Ideal) x = q at h ⊢
  generalize k0_pay5 (F := Ideal) g w = q' at h' ⊢
  pointwise [k0_pay7, k0_pay10]
  rw [h, h']; rfl
theorem pay23_apply (g w : S512x1024.Idx → EReal) (x v : S512x512.Idx → EReal) (r l : Fin 512) :
    k0_pay23 (F := Ideal) (k0_pay16 (F := Ideal) x) (k0_pay21 (F := Ideal) (k0_pay6 (F := Ideal) g w) v) (k0_pay22 (F := Ideal) x) (ix2 r l) =
      (∑ k : Fin 1024, g (ix2 r k) * w (ix2 l k)) * v (ix2 r l) * dsilu (x (ix2 r l)) := by
  have h := pay16_apply x r l
  have h' := pay6_apply g w r l
  unfold k0_pay23 k0_pay22 k0_pay21
  generalize k0_pay16 (F := Ideal) x = q at h ⊢
  generalize k0_pay6 (F := Ideal) g w = q' at h' ⊢
  pointwise [k0_pay15, k0_pay18]
  rw [h, h']; rfl

/-! ## The rows' sums, on the lanes of the neighbouring head -/

theorem sel24 {α : Type} (x : Fin 512) (l : Fin 128) (u v : α) : Scalar.select (k0_pay24 (ix2 x l)) u v = if l.val < 64 then u else v := by
  have h : k0_pay24 (ix2 x l) = BitVec.ofBool (decide (l.val < 64)) := by
    pointwise [k0_pay24]
    exact WordCmp.cmpi_slt_ofNat (w := 32) (by have := l.isLt; omega) (by decide)
  rw [h]
  by_cases hl : l.val < 64 <;> simp [hl, Scalar.select]
theorem sel25 {α : Type} (x : Fin 512) (l : Fin 128) (u v : α) : Scalar.select (k0_pay25 (ix2 x l)) u v = if l.val < 64 then v else u := by
  have h : k0_pay25 (ix2 x l) = BitVec.ofBool (!decide (l.val < 64)) := by
    pointwise [k0_pay25]
    refine (WordCmp.cmpi_sge_ofNat (w := 32) (b := 64) (by have := l.isLt; omega) (by decide)).trans (congrArg BitVec.ofBool ?_)
    by_cases hl : l.val < 64
    · simp [hl]
    · simp [hl, not_lt.mp hl]
  rw [h]
  by_cases hl : l.val < 64 <;> simp [hl, Scalar.select]

/-- A sum over the other half of a pair of heads' 128 columns. -/
def other (q : Fin 128 → EReal) (l : Fin 128) : EReal :=
  if l.val < 64 then ∑ k, (if k.val < 64 then 0 else q k) else ∑ k, (if k.val < 64 then q k else 0)

/-- The negated sum in a head's first three lanes: what it rounds to, what the rounding leaves, and what that leaves. -/
def slots (d : EReal) (l : Fin 128) : EReal :=
  if l.val % 64 = 2 then 0 - (d - d - (d - d)) else if l.val % 64 = 1 then 0 - (d - d) else if l.val % 64 = 0 then 0 - d else 0

theorem lane_eq (k : Fin 3) (l : Fin 128) : IntOp.cmpi CmpIPredicate.eq (IntOp.andi (BitVec.ofNat 32 l.val) 63#32) (BitVec.ofNat 32 k.val) = BitVec.ofBool (decide (l.val % 64 = k.val)) := by
  revert k l; decide +kernel
theorem sel26 {α : Type} (k : Fin 3) (x : Fin 512) (l : Fin 128) (u v : α) :
    Scalar.select (IntOp.cmpi CmpIPredicate.eq (k0_pay26 (ix2 x l)) (BitVec.ofNat 32 k.val)) u v = if l.val % 64 = k.val then u else v := by
  have h : k0_pay26 (ix2 x l) = IntOp.andi (BitVec.ofNat 32 l.val) 63#32 := by pointwise [k0_pay26]
  rw [h, lane_eq]
  by_cases hl : l.val % 64 = k.val <;> simp [hl, Scalar.select]
theorem slots_sel (x : Fin 512) (l : Fin 128) (d : EReal) :
    Scalar.select (IntOp.cmpi CmpIPredicate.eq (k0_pay26 (ix2 x l)) 2#32) (0 - (d - d - (d - d)))
      (Scalar.select (IntOp.cmpi CmpIPredicate.eq (k0_pay26 (ix2 x l)) 1#32) (0 - (d - d))
        (Scalar.select (IntOp.cmpi CmpIPredicate.eq (k0_pay26 (ix2 x l)) 0#32) (0 - d) 0)) = slots d l :=
  (sel26 2 x l _ _).trans (congrArg (fun z => if l.val % 64 = 2 then _ else z) ((sel26 1 x l _ _).trans (congrArg (fun z => if l.val % 64 = 1 then _ else z) (sel26 0 x l _ _))))

theorem pay27_apply (d : S512x512.Idx → EReal) (o : S512x128.Idx → EReal) (r : Fin 512) (l : Fin 128) :
    k0_pay27 (F := Ideal) d o (ix2 r l) = other (fun k => d (ix2 r ⟨k.val, by omega⟩) * o (ix2 r k)) l := by
  have h24 := fun l (u v : EReal) => sel24 r l u v
  have h25 := fun l (u v : EReal) => sel25 r l u v
  unfold k0_pay27
  generalize k0_pay24 = a at h24 ⊢
  generalize k0_pay25 = b at h25 ⊢
  pointwise
  simp only [h24, h25]
  rfl
theorem pay35_apply (d : S512x512.Idx → EReal) (o : S512x128.Idx → EReal) (r : Fin 512) (l : Fin 128) :
    k0_pay35 (F := Ideal) d k0_pay24 k0_pay25 o (ix2 r l) = other (fun k => d (ix2 r ⟨128 + k.val, by omega⟩) * o (ix2 r k)) l := by
  have h24 := fun l (u v : EReal) => sel24 r l u v
  have h25 := fun l (u v : EReal) => sel25 r l u v
  unfold k0_pay35
  generalize k0_pay24 = a at h24 ⊢
  generalize k0_pay25 = b at h25 ⊢
  pointwise
  simp only [h24, h25]
  rfl
theorem pay44_apply (d : S512x512.Idx → EReal) (o : S512x128.Idx → EReal) (r : Fin 512) (l : Fin 128) :
    k0_pay44 (F := Ideal) d k0_pay24 k0_pay25 o (ix2 r l) = other (fun k => d (ix2 r ⟨256 + k.val, by omega⟩) * o (ix2 r k)) l := by
  have h24 := fun l (u v : EReal) => sel24 r l u v
  have h25 := fun l (u v : EReal) => sel25 r l u v
  unfold k0_pay44
  generalize k0_pay24 = a at h24 ⊢
  generalize k0_pay25 = b at h25 ⊢
  pointwise
  simp only [h24, h25]
  rfl
theorem pay51_apply (d : S512x512.Idx → EReal) (o : S512x128.Idx → EReal) (r : Fin 512) (l : Fin 128) :
    k0_pay51 (F := Ideal) d k0_pay24 k0_pay25 o (ix2 r l) = other (fun k => d (ix2 r ⟨384 + k.val, by omega⟩) * o (ix2 r k)) l := by
  have h24 := fun l (u v : EReal) => sel24 r l u v
  have h25 := fun l (u v : EReal) => sel25 r l u v
  unfold k0_pay51
  generalize k0_pay24 = a at h24 ⊢
  generalize k0_pay25 = b at h25 ⊢
  pointwise
  simp only [h24, h25]
  rfl

theorem pair0 (d : S512x512.Idx → EReal) (o : S512x128.Idx → EReal) (r : Fin 512) (l : Fin 128) :
    k0_pay34 (F := Ideal) k0_pay26 (k0_pay30 (F := Ideal) d o) (k0_pay31 (F := Ideal) d o) (k0_pay32 (F := Ideal) d o) k0_pay33 (Scalar.ofBits .f32 0x00000000#32) (ix2 r l) =
      slots (other (fun k => d (ix2 r ⟨k.val, by omega⟩) * o (ix2 r k)) l) l := by
  have h := pay27_apply d o r l
  have h26 := slots_sel r l
  unfold k0_pay34 k0_pay33 k0_pay32 k0_pay31 k0_pay30 k0_pay29 k0_pay28
  generalize k0_pay27 (F := Ideal) d o = q at h ⊢
  generalize k0_pay26 = a at h26 ⊢
  pointwise
  rw [h]
  exact h26 _
theorem pair1 (d : S512x512.Idx → EReal) (o : S512x128.Idx → EReal) (r : Fin 512) (l : Fin 128) :
    k0_pay43 (F := Ideal) k0_pay26 (k0_pay39 (F := Ideal) d k0_pay24 k0_pay25 o) (k0_pay40 (F := Ideal) d k0_pay24 k0_pay25 k0_pay26 o) (k0_pay41 k0_pay26) (k0_pay42 (F := Ideal) d k0_pay24 k0_pay25 o) (ix2 r l) =
      slots (other (fun k => d (ix2 r ⟨128 + k.val, by omega⟩) * o (ix2 r k)) l) l := by
  have h := pay35_apply d o r l
  have h26 := slots_sel r l
  unfold k0_pay43 k0_pay42 k0_pay41 k0_pay40 k0_pay39 k0_pay38 k0_pay37 k0_pay36
  generalize k0_pay35 (F := Ideal) d k0_pay24 k0_pay25 o = q at h ⊢
  generalize k0_pay26 = a at h26 ⊢
  pointwise
  rw [h]
  exact h26 _
theorem pair2 (d : S512x512.Idx → EReal) (o : S512x128.Idx → EReal) (r : Fin 512) (l : Fin 128) :
    k0_pay50 (F := Ideal) k0_pay26 (k0_pay48 (F := Ideal) d k0_pay24 k0_pay25 o) (k0_pay49 (F := Ideal) d k0_pay24 k0_pay25 k0_pay26 o) 2#32 (ix2 r l) =
      slots (other (fun k => d (ix2 r ⟨256 + k.val, by omega⟩) * o (ix2 r k)) l) l := by
  have h := pay44_apply d o r l
  have h26 := slots_sel r l
  unfold k0_pay50 k0_pay49 k0_pay48 k0_pay47 k0_pay46 k0_pay45
  generalize k0_pay44 (F := Ideal) d k0_pay24 k0_pay25 o = q at h ⊢
  generalize k0_pay26 = a at h26 ⊢
  pointwise
  rw [h]
  exact h26 _
theorem pair3 (d : S512x512.Idx → EReal) (o : S512x128.Idx → EReal) (r : Fin 512) (l : Fin 128) :
    k0_pay1 (F := Ideal) (k0_pay55 (F := Ideal) d k0_pay24 k0_pay25 o) (k0_pay56 (F := Ideal) d k0_pay24 k0_pay25 k0_pay26 o) (k0_pay57 k0_pay26) (ix2 r l) =
      slots (other (fun k => d (ix2 r ⟨384 + k.val, by omega⟩) * o (ix2 r k)) l) l := by
  have h := pay51_apply d o r l
  have h26 := slots_sel r l
  unfold k0_pay1 k0_pay57 k0_pay56 k0_pay55 k0_pay54 k0_pay53 k0_pay52
  generalize k0_pay51 (F := Ideal) d k0_pay24 k0_pay25 o = q at h ⊢
  generalize k0_pay26 = a at h26 ⊢
  pointwise
  rw [h]
  exact h26 _

end Cert.Proof.Out

end
-- ==== Proof.Out.Point.lean ====
/-
  What each grid point of the third call leaves in its results' buffers, over the extended reals: the weights' gradient
  grows by the row tile's sums, and the other results are the row tile's.
-/
module

public import proofs.«01_k».proof.Proof.Out.Tile

@[expose] public section

set_option maxRecDepth 16384

noncomputable section

namespace Cert.Proof.Out

open Cert.Kernel3Ideal Cert.Kernel3Ideal.Gen
open Idealize.ShloMosaic Idealize.ShloMosaic.TcCoe
open Idealize.SL Idealize.SL.Sem
open Idealize.ShloMosaic.Pipeline

/-! ## The two halves of 1024, the four quarters of 512 -/

def lft (l : Fin 512) : Fin 1024 := ⟨l.val, by omega⟩
def rgt (l : Fin 512) : Fin 1024 := ⟨512 + l.val, by omega⟩
def quarter (q : Fin 4) (l : Fin 128) : Fin 512 := ⟨128 * q.val + l.val, by omega⟩

/-- A row of 1024 from its halves. -/
def both (a b : Fin 512 → EReal) (i : Fin 1024) : EReal := if h : i.val < 512 then a ⟨i.val, h⟩ else b ⟨i.val - 512, by omega⟩

theorem both_lft (a b : Fin 512 → EReal) (l : Fin 512) : both a b (lft l) = a l := dif_pos l.isLt
theorem both_rgt (a b : Fin 512 → EReal) (l : Fin 512) : both a b (rgt l) = b l := by
  unfold both
  rw [dif_neg (show ¬ (rgt l).val < 512 by show ¬ 512 + l.val < 512; omega)]
  exact congrArg b (Fin.ext (show 512 + l.val - 512 = l.val by omega))
theorem halves (i : Fin 1024) : (∃ l, i = lft l) ∨ ∃ l, i = rgt l := by
  by_cases h : i.val < 512
  · exact Or.inl ⟨⟨i.val, h⟩, rfl⟩
  · exact Or.inr ⟨⟨i.val - 512, by omega⟩, Fin.ext (by show i.val = 512 + (i.val - 512); omega)⟩

/-- An array of rows of halves, of rows stored half by half, and of rows stored quarter by quarter. -/
theorem canon_rows (Z : List (View.Piece (Elt Ideal) S1024x1024 .f32)) (p0 p1 : S512x1024.Idx → EReal) (G : Fin 1024 → Fin 1024 → EReal)
    (h0 : ∀ l j, p0 (ix2 l j) = G (lft l) j) (h1 : ∀ l j, p1 (ix2 l j) = G (rgt l) j) (i j : Fin 1024) :
    View.canon (Val := Elt Ideal) (s := S1024x1024) (e := .f32)
      (⟨Rect.unit ![512, 0] ![512, 1024] inb_S1024x1024_S512x1024_512_0, p1⟩ :: ⟨Rect.unit ![0, 0] ![512, 1024] inb_S1024x1024_S512x1024_0_0, p0⟩ :: Z) (ix2 i j) = G i j := by
  refine View.canon_append_of_piecesOf (fun y => G (y 0) (y 1)) Z
      [⟨Rect.unit ![512, 0] ![512, 1024] inb_S1024x1024_S512x1024_512_0, p1⟩, ⟨Rect.unit ![0, 0] ![512, 1024] inb_S1024x1024_S512x1024_0_0, p0⟩] ?_ (ix2 i j) ?_
  · have key : ∀ (a : Nat) (inb : ∀ k, ![a, 0] k + ![512, 1024] k ≤ S1024x1024.size k) (p : S512x1024.Idx → EReal) (cc : Fin 512 → Fin 1024)
        (hc : ∀ l, (cc l).val = a + l.val) (h : ∀ l j, p (ix2 l j) = G (cc l) j) (x : (Rect.unit (s := S1024x1024) ![a, 0] ![512, 1024] inb).shape.Idx),
        p x = (fun y : S1024x1024.Idx => G (y 0) (y 1)) ((Rect.unit (s := S1024x1024) ![a, 0] ![512, 1024] inb).emb x) := by
      intro a inb p cc hc h x
      have ex : (ix2 (x 0) (x 1) : S512x1024.Idx) = x := by funext k; fin_cases k <;> rfl
      refine ((congrArg p ex).symm.trans (h (x 0) (x 1))).trans ?_
      show G _ _ = G _ _
      congr 1
      · exact Fin.ext ((hc (x 0)).trans (show a + (x 0).val = a + 1 * (x 0).val by omega))
      · exact Fin.ext (show (x 1).val = 0 + 1 * (x 1).val by omega)
    exact ⟨key _ inb_S1024x1024_S512x1024_512_0 p1 _ (fun l => rfl) h1, key _ inb_S1024x1024_S512x1024_0_0 p0 _ (fun l => (Nat.zero_add _).symm) h0, trivial⟩
  · exact View.cover_of_tiledBy _ ![512, 1024] (by sl_kernel_rfl) _

theorem canon_cols (p0 p1 : S512x512.Idx → EReal) (G : Fin 512 → Fin 1024 → EReal)
    (h0 : ∀ r l, p0 (ix2 r l) = G r (lft l)) (h1 : ∀ r l, p1 (ix2 r l) = G r (rgt l)) (r : Fin 512) (j : Fin 1024) :
    View.canon (Val := Elt Ideal) (s := S512x1024) (e := .bf16)
      [⟨Rect.unit ![0, 512] ![512, 512] inb_S512x1024_S512x512_0_512, p1⟩, ⟨Rect.unit ![0, 0] ![512, 512] inb_S512x1024_S512x512_0_0, p0⟩] (ix2 r j) = G r j := by
  refine View.canon_append_of_piecesOf (fun y => G (y 0) (y 1)) ([] : List (View.Piece (Elt Ideal) S512x1024 .bf16))
      [⟨Rect.unit ![0, 512] ![512, 512] inb_S512x1024_S512x512_0_512, p1⟩, ⟨Rect.unit ![0, 0] ![512, 512] inb_S512x1024_S512x512_0_0, p0⟩] ?_ (ix2 r j) ?_
  · have key : ∀ (a : Nat) (inb : ∀ k, ![0, a] k + ![512, 512] k ≤ S512x1024.size k) (p : S512x512.Idx → EReal) (cc : Fin 512 → Fin 1024)
        (hc : ∀ l, (cc l).val = a + l.val) (h : ∀ r l, p (ix2 r l) = G r (cc l)) (x : (Rect.unit (s := S512x1024) ![0, a] ![512, 512] inb).shape.Idx),
        p x = (fun y : S512x1024.Idx => G (y 0) (y 1)) ((Rect.unit (s := S512x1024) ![0, a] ![512, 512] inb).emb x) := by
      intro a inb p cc hc h x
      have ex : (ix2 (x 0) (x 1) : S512x512.Idx) = x := by funext k; fin_cases k <;> rfl
      refine ((congrArg p ex).symm.trans (h (x 0) (x 1))).trans ?_
      show G _ _ = G _ _
      congr 1
      · exact Fin.ext (show (x 0).val = 0 + 1 * (x 0).val by omega)
      · exact Fin.ext ((hc (x 1)).trans (show a + (x 1).val = a + 1 * (x 1).val by omega))
    exact ⟨key _ inb_S512x1024_S512x512_0_512 p1 _ (fun l => rfl) h1, key _ inb_S512x1024_S512x512_0_0 p0 _ (fun l => (Nat.zero_add _).symm) h0, trivial⟩
  · exact View.cover_of_tiledBy _ ![512, 512] (by sl_kernel_rfl) _

theorem canon_quarters (p0 p1 p2 p3 : S512x128.Idx → EReal) (G : Fin 512 → Fin 512 → EReal)
    (h0 : ∀ r l, p0 (ix2 r l) = G r (quarter 0 l)) (h1 : ∀ r l, p1 (ix2 r l) = G r (quarter 1 l))
    (h2 : ∀ r l, p2 (ix2 r l) = G r (quarter 2 l)) (h3 : ∀ r l, p3 (ix2 r l) = G r (quarter 3 l)) (r j : Fin 512) :
    View.canon (Val := Elt Ideal) (s := S512x512) (e := .bf16)
      [⟨Rect.unit ![0, 384] ![512, 128] inb_S512x512_S512x128_0_384, p3⟩, ⟨Rect.unit ![0, 256] ![512, 128] inb_S512x512_S512x128_0_256, p2⟩,
        ⟨Rect.unit ![0, 128] ![512, 128] inb_S512x512_S512x128_0_128, p1⟩, ⟨Rect.unit ![0, 0] ![512, 128] inb_S512x512_S512x128_0_0, p0⟩] (ix2 r j) = G r j := by
  refine View.canon_append_of_piecesOf (fun y => G (y 0) (y 1)) ([] : List (View.Piece (Elt Ideal) S512x512 .bf16))
      [⟨Rect.unit ![0, 384] ![512, 128] inb_S512x512_S512x128_0_384, p3⟩, ⟨Rect.unit ![0, 256] ![512, 128] inb_S512x512_S512x128_0_256, p2⟩,
        ⟨Rect.unit ![0, 128] ![512, 128] inb_S512x512_S512x128_0_128, p1⟩, ⟨Rect.unit ![0, 0] ![512, 128] inb_S512x512_S512x128_0_0, p0⟩] ?_ (ix2 r j) ?_
  · have key : ∀ (a : Nat) (inb : ∀ k, ![0, a] k + ![512, 128] k ≤ S512x512.size k) (p : S512x128.Idx → EReal) (cc : Fin 128 → Fin 512)
        (hc : ∀ l, (cc l).val = a + l.val) (h : ∀ r l, p (ix2 r l) = G r (cc l)) (x : (Rect.unit (s := S512x512) ![0, a] ![512, 128] inb).shape.Idx),
        p x = (fun y : S512x512.Idx => G (y 0) (y 1)) ((Rect.unit (s := S512x512) ![0, a] ![512, 128] inb).emb x) := by
      intro a inb p cc hc h x
      have ex : (ix2 (x 0) (x 1) : S512x128.Idx) = x := by funext k; fin_cases k <;> rfl
      refine ((congrArg p ex).symm.trans (h (x 0) (x 1))).trans ?_
      show G _ _ = G _ _
      congr 1
      · exact Fin.ext (show (x 0).val = 0 + 1 * (x 0).val by omega)
      · exact Fin.ext ((hc (x 1)).trans (show a + (x 1).val = a + 1 * (x 1).val by omega))
    exact ⟨key _ inb_S512x512_S512x128_0_384 p3 _ (fun l => rfl) h3, key _ inb_S512x512_S512x128_0_256 p2 _ (fun l => rfl) h2,
      key _ inb_S512x512_S512x128_0_128 p1 _ (fun l => rfl) h1, key _ inb_S512x512_S512x128_0_0 p0 _ (fun l => rfl) h0, trivial⟩
  · exact View.cover_of_tiledBy _ ![512, 128] (by sl_kernel_rfl) _

/-- Half the rows of an array, and a quarter of a row, at an index. -/
theorem ld_lft {e : EltTy} (o : S1024x1024.Idx → Elt Ideal e) (inb : ∀ k, ![0, 0] k + ![512, 1024] k ≤ S1024x1024.size k) (l : Fin 512) (j : Fin 1024) :
    View.ld (Val := Elt Ideal) (e' := e) o (Rect.unit (s := S1024x1024) ![0, 0] ![512, 1024] inb) (ix2 l j) = o (ix2 (lft l) j) := by
  refine congrArg o ?_
  funext k; apply Fin.ext
  match k with
  | ⟨0, _⟩ => show 0 + 1 * l.val = l.val; omega
  | ⟨1, _⟩ => show 0 + 1 * j.val = j.val; omega
theorem ld_rgt {e : EltTy} (o : S1024x1024.Idx → Elt Ideal e) (inb : ∀ k, ![512, 0] k + ![512, 1024] k ≤ S1024x1024.size k) (l : Fin 512) (j : Fin 1024) :
    View.ld (Val := Elt Ideal) (e' := e) o (Rect.unit (s := S1024x1024) ![512, 0] ![512, 1024] inb) (ix2 l j) = o (ix2 (rgt l) j) := by
  refine congrArg o ?_
  funext k; apply Fin.ext
  match k with
  | ⟨0, _⟩ => show 512 + 1 * l.val = 512 + l.val; omega
  | ⟨1, _⟩ => show 0 + 1 * j.val = j.val; omega
theorem ld_quarter {a : Nat} (o : S512x512.Idx → EReal) (inb : ∀ k, ![0, a] k + ![512, 128] k ≤ S512x512.size k) (q : Fin 4) (h : a = 128 * q.val) (r : Fin 512) (l : Fin 128) :
    View.ld (Val := Elt Ideal) (e' := .bf16) o (Rect.unit (s := S512x512) ![0, a] ![512, 128] inb) (ix2 r l) = o (ix2 r (quarter q l)) := by
  refine congrArg o ?_
  funext k; apply Fin.ext
  match k with
  | ⟨0, _⟩ => show 0 + 1 * r.val = r.val; omega
  | ⟨1, _⟩ => show a + 1 * l.val = 128 * q.val + l.val; omega

variable (m : (ℓ : Loc nD τ sig) → Buf (Elt Ideal) ℓ) (c : Dev nD)

/-- The outgoing gradient at a row of tile `t`, and the weights. -/
def grow (t : Fin cfg0.N) (r : Fin 512) (k : Fin 1024) : EReal := (iblk m c 0 t : S512x1024.Idx → EReal) (ix2 r k)
def wrow (t : Fin cfg0.N) (i k : Fin 1024) : EReal := (iblk m c 1 t : S1024x1024.Idx → EReal) (ix2 i k)
/-- The pool's and the attention's values at a row of tile `t`, and their gates. -/
def val (t : Fin cfg0.N) (r : Fin 512) : Fin 1024 → EReal :=
  both (fun l => (iblk m c 2 t : S512x512.Idx → EReal) (ix2 r l)) fun l => (iblk m c 3 t : S512x512.Idx → EReal) (ix2 r l)
def gate (t : Fin cfg0.N) (r : Fin 512) : Fin 1024 → EReal :=
  both (fun l => (iblk m c 4 t : S512x512.Idx → EReal) (ix2 r l)) fun l => (iblk m c 5 t : S512x512.Idx → EReal) (ix2 r l)
/-- The mixed values, their gradient, the gradient of the values and the gradient of the gates. -/
def mix (t : Fin cfg0.N) (r : Fin 512) (i : Fin 1024) : EReal := val m c t r i * silu (gate m c t r i)
def dmix (t : Fin cfg0.N) (r : Fin 512) (i : Fin 1024) : EReal := ∑ k, grow m c t r k * wrow m c t i k
def dval (t : Fin cfg0.N) (r : Fin 512) (i : Fin 1024) : EReal := dmix m c t r i * silu (gate m c t r i)
def dgat (t : Fin cfg0.N) (r : Fin 512) (i : Fin 1024) : EReal := dmix m c t r i * val m c t r i * dsilu (gate m c t r i)
/-- The attention's row sums against its gradient, in the lanes of a row. -/
def daug (t : Fin cfg0.N) (r : Fin 512) (j : Fin 512) : EReal :=
  slots (other (fun k => dval m c t r (rgt (quarter ⟨j.val / 128, by omega⟩ k)) * val m c t r (rgt (quarter ⟨j.val / 128, by omega⟩ k))) ⟨j.val % 128, by omega⟩) ⟨j.val % 128, by omega⟩

theorem daug_quarter (t : Fin cfg0.N) (r : Fin 512) (q : Fin 4) (l : Fin 128) : daug m c t r (quarter q l) =
    slots (other (fun k => dval m c t r (rgt (quarter q k)) * val m c t r (rgt (quarter q k))) l) l := by
  have eq : (⟨(quarter q l).val / 128, by omega⟩ : Fin 4) = q := Fin.ext (show (128 * q.val + l.val) / 128 = q.val by omega)
  have el : (⟨(quarter q l).val % 128, by omega⟩ : Fin 128) = l := Fin.ext (show (128 * q.val + l.val) % 128 = l.val by omega)
  unfold daug
  rw [eq, el]

/-! ## The weights' gradient -/

theorem acc6 (t : Fin cfg0.N) (Z : List (View.Piece (Elt Ideal) S1024x1024 .f32)) (o : S1024x1024.Idx → EReal) (o0 o1 : S512x1024.Idx → EReal)
    (e0 : ∀ l j, o0 (ix2 l j) = o (ix2 (lft l) j)) (e1 : ∀ l j, o1 (ix2 l j) = o (ix2 (rgt l) j)) (i j : Fin 1024) :
    View.canon (Val := Elt Ideal) (s := S1024x1024) (e := .f32)
      (⟨Rect.unit ![512, 0] ![512, 1024] inb_S1024x1024_S512x1024_512_0, k0_pay19 (F := Ideal) (k0_pay4 (F := Ideal) (iblk m c 0 t)) (iblk m c 5 t) (iblk m c 3 t) o1⟩ ::
        ⟨Rect.unit ![0, 0] ![512, 1024] inb_S1024x1024_S512x1024_0_0, k0_pay11 (F := Ideal) (iblk m c 0 t) (iblk m c 4 t) (iblk m c 2 t) o0⟩ :: Z) (ix2 i j) =
      o (ix2 i j) + ∑ r, mix m c t r i * grow m c t r j := by
  refine canon_rows Z _ _ (fun i j => o (ix2 i j) + ∑ r, mix m c t r i * grow m c t r j) ?_ ?_ i j
  · intro l j; rw [pay11_apply, e0]; simp only [mix, val, gate, both_lft]; rfl
  · intro l j; rw [pay19_apply, e1]; simp only [mix, val, gate, both_rgt]; rfl

theorem dw_first (t : Fin cfg0.N) (h0 : t.val % 8 = 0) (i j : Fin 1024) :
    (outsAt0 m c t.val t.isLt).1 (ix2 i j) = 0 + ∑ r, mix m c t r i * grow m c t r j := by
  rw [outsAt0_A m c t h0 (by omega)]
  frame_out [↓View.readCov_skip, View.readCov_fill]
  have z : ∀ i j, k0_pay3 (F := Ideal) (ix2 i j) = (0 : EReal) := fun i j => by pointwise [k0_pay3]
  exact (acc6 m c t _ (k0_pay3 (F := Ideal)) _ _ (ld_lft _ _) (ld_rgt _ _) i j).trans (by rw [z])

theorem dw_next (t : Fin cfg0.N) (h0 : ¬ t.val % 8 = 0) (i j : Fin 1024) :
    (outsAt0 m c t.val t.isLt).1 (ix2 i j) = (outsAt0 m c (t.val - 1) (by omega)).1 (ix2 i j) + ∑ r, mix m c t r i * grow m c t r j := by
  by_cases h7 : t.val % 8 = 7
  · rw [outsAt0_C m c t h0 h7]
    frame_out
    exact acc6 m c t _ _ _ _ (ld_lft _ _) (ld_rgt _ _) i j
  · rw [outsAt0_B m c t h0 h7]
    frame_out
    exact acc6 m c t _ _ _ _ (ld_lft _ _) (ld_rgt _ _) i j

theorem pay2_apply (A : S1024x1024.Idx → EReal) (i j : Fin 1024) : k0_pay2 (F := Ideal) A (ix2 i j) = A (ix2 i j) := by pointwise [k0_pay2]
theorem idx_all (i j : Fin 1024) : (Rect.unit (s := S1024x1024) ![0, 0] ![1024, 1024] inb_S1024x1024_S1024x1024_0_0).idx (ix2 i j) = ix2 i j := by
  funext k; apply Fin.ext
  match k with
  | ⟨0, _⟩ => show 0 + 1 * i.val = i.val; omega
  | ⟨1, _⟩ => show 0 + 1 * j.val = j.val; omega

/-- At the last point the narrow copy of the weights' gradient is the gradient. -/
theorem dwb_last (t : Fin cfg0.N) (h7 : t.val % 8 = 7) (i j : Fin 1024) :
    (outsAt0 m c t.val t.isLt).2.1 (ix2 i j) = (outsAt0 m c t.val t.isLt).1 (ix2 i j) := by
  have e := dw_next m c t (by omega) i j
  rw [e, outsAt0_C m c t (by omega) h7]
  frame_out
  rw [View.readCov_eq_canon', pay2_apply]
  exact (congrArg _ (idx_all i j)).trans (acc6 m c t [] _ _ _ (ld_lft _ _) (ld_rgt _ _) i j)

/-! ## The gradients of the values and of the gates -/

section Blocks
variable (g : S512x1024.Idx → EReal) (w : S1024x1024.Idx → EReal) (x v : S512x512.Idx → EReal) (r l : Fin 512)

theorem da_lft : k0_pay12 (F := Ideal) g (View.ld (Val := Elt Ideal) (e' := .bf16) w (Rect.unit (s := S1024x1024) ![0, 0] ![512, 1024] inb_S1024x1024_S512x1024_0_0)) x (ix2 r l) =
    (∑ k : Fin 1024, g (ix2 r k) * w (ix2 (lft l) k)) * silu (x (ix2 r l)) := by
  rw [pay12_apply]
  exact congrArg (· * _) (Finset.sum_congr rfl fun k _ => congrArg (HMul.hMul _) (ld_lft (e := .bf16) w _ l k))
theorem da_rgt : k0_pay20 (F := Ideal) (k0_pay6 (F := Ideal) g (View.ld (Val := Elt Ideal) (e' := .bf16) w (Rect.unit (s := S1024x1024) ![512, 0] ![512, 1024] inb_S1024x1024_S512x1024_512_0))) x (ix2 r l) =
    (∑ k : Fin 1024, g (ix2 r k) * w (ix2 (rgt l) k)) * silu (x (ix2 r l)) := by
  rw [pay20_apply]
  exact congrArg (· * _) (Finset.sum_congr rfl fun k _ => congrArg (HMul.hMul _) (ld_rgt (e := .bf16) w _ l k))
theorem dg_lft : k0_pay14 (F := Ideal) (k0_pay7 (F := Ideal) x) (k0_pay8 (F := Ideal) x)
      (k0_pay13 (F := Ideal) g (View.ld (Val := Elt Ideal) (e' := .bf16) w (Rect.unit (s := S1024x1024) ![0, 0] ![512, 1024] inb_S1024x1024_S512x1024_0_0)) v) (ix2 r l) =
    (∑ k : Fin 1024, g (ix2 r k) * w (ix2 (lft l) k)) * v (ix2 r l) * dsilu (x (ix2 r l)) := by
  rw [pay14_apply]
  exact congrArg (· * v (ix2 r l) * dsilu (x (ix2 r l))) (Finset.sum_congr rfl fun k _ => congrArg (HMul.hMul _) (ld_lft (e := .bf16) w _ l k))
theorem dg_rgt : k0_pay23 (F := Ideal) (k0_pay16 (F := Ideal) x) (k0_pay21 (F := Ideal) (k0_pay6 (F := Ideal) g
      (View.ld (Val := Elt Ideal) (e' := .bf16) w (Rect.unit (s := S1024x1024) ![512, 0] ![512, 1024] inb_S1024x1024_S512x1024_512_0))) v) (k0_pay22 (F := Ideal) x) (ix2 r l) =
    (∑ k : Fin 1024, g (ix2 r k) * w (ix2 (rgt l) k)) * v (ix2 r l) * dsilu (x (ix2 r l)) := by
  rw [pay23_apply]
  exact congrArg (· * v (ix2 r l) * dsilu (x (ix2 r l))) (Finset.sum_congr rfl fun k _ => congrArg (HMul.hMul _) (ld_rgt (e := .bf16) w _ l k))
end Blocks

theorem gate_lft (t : Fin cfg0.N) (r l : Fin 512) : gate m c t r (lft l) = (iblk m c 4 t : S512x512.Idx → EReal) (ix2 r l) := both_lft _ _ l
theorem gate_rgt (t : Fin cfg0.N) (r l : Fin 512) : gate m c t r (rgt l) = (iblk m c 5 t : S512x512.Idx → EReal) (ix2 r l) := both_rgt _ _ l
theorem val_lft (t : Fin cfg0.N) (r l : Fin 512) : val m c t r (lft l) = (iblk m c 2 t : S512x512.Idx → EReal) (ix2 r l) := both_lft _ _ l
theorem val_rgt (t : Fin cfg0.N) (r l : Fin 512) : val m c t r (rgt l) = (iblk m c 3 t : S512x512.Idx → EReal) (ix2 r l) := both_rgt _ _ l

theorem dval_lft (t : Fin cfg0.N) (r l : Fin 512) : k0_pay12 (F := Ideal) (iblk m c 0 t)
      (View.ld (Val := Elt Ideal) (e' := .bf16) (iblk m c 1 t) (Rect.unit (s := S1024x1024) ![0, 0] ![512, 1024] inb_S1024x1024_S512x1024_0_0)) (iblk m c 4 t) (ix2 r l) = dval m c t r (lft l) :=
  (da_lft (iblk m c 0 t) (iblk m c 1 t) (iblk m c 4 t) r l).trans (congrArg (fun z => dmix m c t r (lft l) * silu z) (gate_lft m c t r l).symm)
theorem dval_rgt (t : Fin cfg0.N) (r l : Fin 512) : k0_pay20 (F := Ideal) (k0_pay6 (F := Ideal) (iblk m c 0 t)
      (View.ld (Val := Elt Ideal) (e' := .bf16) (iblk m c 1 t) (Rect.unit (s := S1024x1024) ![512, 0] ![512, 1024] inb_S1024x1024_S512x1024_512_0))) (iblk m c 5 t) (ix2 r l) = dval m c t r (rgt l) :=
  (da_rgt (iblk m c 0 t) (iblk m c 1 t) (iblk m c 5 t) r l).trans (congrArg (fun z => dmix m c t r (rgt l) * silu z) (gate_rgt m c t r l).symm)

theorem out8 (t : Fin cfg0.N) (r : Fin 512) (i : Fin 1024) :
    View.canon (Val := Elt Ideal) (s := S512x1024) (e := .bf16)
      [⟨Rect.unit ![0, 512] ![512, 512] inb_S512x1024_S512x512_0_512, k0_pay20 (F := Ideal) (k0_pay6 (F := Ideal) (iblk m c 0 t)
          (View.ld (iblk m c 1 t) (Rect.unit ![512, 0] ![512, 1024] inb_S1024x1024_S512x1024_512_0))) (iblk m c 5 t)⟩,
        ⟨Rect.unit ![0, 0] ![512, 512] inb_S512x1024_S512x512_0_0, k0_pay12 (F := Ideal) (iblk m c 0 t)
          (View.ld (iblk m c 1 t) (Rect.unit ![0, 0] ![512, 1024] inb_S1024x1024_S512x1024_0_0)) (iblk m c 4 t)⟩] (ix2 r i) = dval m c t r i :=
  canon_cols _ _ (dval m c t) (dval_lft m c t) (dval_rgt m c t) r i

theorem out9 (t : Fin cfg0.N) (r : Fin 512) (i : Fin 1024) :
    View.canon (Val := Elt Ideal) (s := S512x1024) (e := .bf16)
      [⟨Rect.unit ![0, 512] ![512, 512] inb_S512x1024_S512x512_0_512, k0_pay23 (F := Ideal) (k0_pay16 (F := Ideal) (iblk m c 5 t))
          (k0_pay21 (F := Ideal) (k0_pay6 (F := Ideal) (iblk m c 0 t)
            (View.ld (iblk m c 1 t) (Rect.unit ![512, 0] ![512, 1024] inb_S1024x1024_S512x1024_512_0))) (iblk m c 3 t)) (k0_pay22 (F := Ideal) (iblk m c 5 t))⟩,
        ⟨Rect.unit ![0, 0] ![512, 512] inb_S512x1024_S512x512_0_0, k0_pay14 (F := Ideal) (k0_pay7 (F := Ideal) (iblk m c 4 t)) (k0_pay8 (F := Ideal) (iblk m c 4 t))
          (k0_pay13 (F := Ideal) (iblk m c 0 t) (View.ld (iblk m c 1 t) (Rect.unit ![0, 0] ![512, 1024] inb_S1024x1024_S512x1024_0_0)) (iblk m c 2 t))⟩] (ix2 r i) = dgat m c t r i :=
  canon_cols _ _ (dgat m c t)
    (fun r l => (dg_lft (iblk m c 0 t) (iblk m c 1 t) (iblk m c 4 t) (iblk m c 2 t) r l).trans
      (congrArg₂ (fun y z => dmix m c t r (lft l) * y * dsilu z) (val_lft m c t r l).symm (gate_lft m c t r l).symm))
    (fun r l => (dg_rgt (iblk m c 0 t) (iblk m c 1 t) (iblk m c 5 t) (iblk m c 3 t) r l).trans
      (congrArg₂ (fun y z => dmix m c t r (rgt l) * y * dsilu z) (val_rgt m c t r l).symm (gate_rgt m c t r l).symm)) r i

theorem da_point (t : Fin cfg0.N) (r : Fin 512) (i : Fin 1024) : (outsAt0 m c t.val t.isLt).2.2.1 (ix2 r i) = dval m c t r i := by
  by_cases h0 : t.val % 8 = 0
  · rw [outsAt0_A m c t h0 (by omega)]; frame_out; exact out8 m c t r i
  · by_cases h7 : t.val % 8 = 7
    · rw [outsAt0_C m c t h0 h7]; frame_out; exact out8 m c t r i
    · rw [outsAt0_B m c t h0 h7]; frame_out; exact out8 m c t r i
theorem dg_point (t : Fin cfg0.N) (r : Fin 512) (i : Fin 1024) : (outsAt0 m c t.val t.isLt).2.2.2.1 (ix2 r i) = dgat m c t r i := by
  by_cases h0 : t.val % 8 = 0
  · rw [outsAt0_A m c t h0 (by omega)]; frame_out; exact out9 m c t r i
  · by_cases h7 : t.val % 8 = 7
    · rw [outsAt0_C m c t h0 h7]; frame_out; exact out9 m c t r i
    · rw [outsAt0_B m c t h0 h7]; frame_out; exact out9 m c t r i

/-! ## The row sums -/

/-- The four stores of the row sums, for any gradient and any values. -/
theorem out10 (d o : S512x512.Idx → EReal) (G : Fin 512 → Fin 512 → EReal)
    (h : ∀ r q l, slots (other (fun k => d (ix2 r (quarter q k)) * o (ix2 r (quarter q k))) l) l = G r (quarter q l)) (r j : Fin 512) :
    View.canon (Val := Elt Ideal) (s := S512x512) (e := .bf16)
      [⟨Rect.unit ![0, 384] ![512, 128] inb_S512x512_S512x128_0_384,
          k0_pay1 (F := Ideal) (k0_pay55 (F := Ideal) d k0_pay24 k0_pay25 (View.ld (Val := Elt Ideal) (e' := .bf16) o (Rect.unit (s := S512x512) ![0, 384] ![512, 128] inb_S512x512_S512x128_0_384)))
            (k0_pay56 (F := Ideal) d k0_pay24 k0_pay25 k0_pay26 (View.ld (Val := Elt Ideal) (e' := .bf16) o (Rect.unit (s := S512x512) ![0, 384] ![512, 128] inb_S512x512_S512x128_0_384)))
            (k0_pay57 k0_pay26)⟩,
        ⟨Rect.unit ![0, 256] ![512, 128] inb_S512x512_S512x128_0_256,
          k0_pay50 (F := Ideal) k0_pay26
            (k0_pay48 (F := Ideal) d k0_pay24 k0_pay25 (View.ld (Val := Elt Ideal) (e' := .bf16) o (Rect.unit (s := S512x512) ![0, 256] ![512, 128] inb_S512x512_S512x128_0_256)))
            (k0_pay49 (F := Ideal) d k0_pay24 k0_pay25 k0_pay26 (View.ld (Val := Elt Ideal) (e' := .bf16) o (Rect.unit (s := S512x512) ![0, 256] ![512, 128] inb_S512x512_S512x128_0_256))) 2#32⟩,
        ⟨Rect.unit ![0, 128] ![512, 128] inb_S512x512_S512x128_0_128,
          k0_pay43 (F := Ideal) k0_pay26
            (k0_pay39 (F := Ideal) d k0_pay24 k0_pay25 (View.ld (Val := Elt Ideal) (e' := .bf16) o (Rect.unit (s := S512x512) ![0, 128] ![512, 128] inb_S512x512_S512x128_0_128)))
            (k0_pay40 (F := Ideal) d k0_pay24 k0_pay25 k0_pay26 (View.ld (Val := Elt Ideal) (e' := .bf16) o (Rect.unit (s := S512x512) ![0, 128] ![512, 128] inb_S512x512_S512x128_0_128)))
            (k0_pay41 k0_pay26)
            (k0_pay42 (F := Ideal) d k0_pay24 k0_pay25 (View.ld (Val := Elt Ideal) (e' := .bf16) o (Rect.unit (s := S512x512) ![0, 128] ![512, 128] inb_S512x512_S512x128_0_128)))⟩,
        ⟨Rect.unit ![0, 0] ![512, 128] inb_S512x512_S512x128_0_0,
          k0_pay34 (F := Ideal) k0_pay26
            (k0_pay30 (F := Ideal) d (View.ld (Val := Elt Ideal) (e' := .bf16) o (Rect.unit (s := S512x512) ![0, 0] ![512, 128] inb_S512x512_S512x128_0_0)))
            (k0_pay31 (F := Ideal) d (View.ld (Val := Elt Ideal) (e' := .bf16) o (Rect.unit (s := S512x512) ![0, 0] ![512, 128] inb_S512x512_S512x128_0_0)))
            (k0_pay32 (F := Ideal) d (View.ld (Val := Elt Ideal) (e' := .bf16) o (Rect.unit (s := S512x512) ![0, 0] ![512, 128] inb_S512x512_S512x128_0_0)))
            k0_pay33 (FloatOps.ofBits (F := Ideal) FTy.f32 0#32)⟩] (ix2 r j) = G r j := by
  refine canon_quarters _ _ _ _ G (fun r l => ?_) (fun r l => ?_) (fun r l => ?_) (fun r l => ?_) r j
  · refine Eq.trans (pair0 d _ r l) (Eq.trans ?_ (h r 0 l))
    exact congrArg (fun q => slots (other q l) l) (funext fun k => congrArg₂ (· * ·) (congrArg (fun z => d (ix2 r z)) (Fin.ext (Nat.zero_add _).symm)) (ld_quarter o _ 0 rfl r k))
  · refine Eq.trans (pair1 d _ r l) (Eq.trans ?_ (h r 1 l))
    exact congrArg (fun q => slots (other q l) l) (funext fun k => congrArg₂ (· * ·) rfl (ld_quarter o _ 1 rfl r k))
  · refine Eq.trans (pair2 d _ r l) (Eq.trans ?_ (h r 2 l))
    exact congrArg (fun q => slots (other q l) l) (funext fun k => congrArg₂ (· * ·) rfl (ld_quarter o _ 2 rfl r k))
  · refine Eq.trans (pair3 d _ r l) (Eq.trans ?_ (h r 3 l))
    exact congrArg (fun q => slots (other q l) l) (funext fun k => congrArg₂ (· * ·) rfl (ld_quarter o _ 3 rfl r k))

theorem aug_tile (t : Fin cfg0.N) (r : Fin 512) (q : Fin 4) (l : Fin 128) :
    slots (other (fun k => k0_pay20 (F := Ideal) (k0_pay6 (F := Ideal) (iblk m c 0 t)
      (View.ld (Val := Elt Ideal) (e' := .bf16) (iblk m c 1 t) (Rect.unit (s := S1024x1024) ![512, 0] ![512, 1024] inb_S1024x1024_S512x1024_512_0))) (iblk m c 5 t) (ix2 r (quarter q k)) *
        (iblk m c 3 t : S512x512.Idx → EReal) (ix2 r (quarter q k))) l) l = daug m c t r (quarter q l) :=
  Eq.trans (congrArg (fun p => slots (other p l) l) (funext fun k => congrArg₂ (· * ·) (dval_rgt m c t r (quarter q k)) (val_rgt m c t r (quarter q k)).symm)) (daug_quarter m c t r q l).symm

theorem aug_point (t : Fin cfg0.N) (r j : Fin 512) : (outsAt0 m c t.val t.isLt).2.2.2.2 (ix2 r j) = daug m c t r j := by
  by_cases h0 : t.val % 8 = 0
  · rw [outsAt0_A m c t h0 (by omega)]; frame_out; exact out10 _ _ _ (aug_tile m c t) r j
  · by_cases h7 : t.val % 8 = 7
    · rw [outsAt0_C m c t h0 h7]; frame_out; exact out10 _ _ _ (aug_tile m c t) r j
    · rw [outsAt0_B m c t h0 h7]; frame_out; exact out10 _ _ _ (aug_tile m c t) r j

end Cert.Proof.Out

end
-- ==== Proof.Out.Arrays.lean ====
/-
  The third call's arrays over the extended reals: its input blocks are tiles of the launched arrays, and its results'
  arrays at an index.
-/
module

public import proofs.«01_k».proof.Proof.Out.Point
public import proofs.«01_k».proof.Proof.In.Arrays

@[expose] public section

set_option maxRecDepth 16384

noncomputable section

namespace Cert.Proof.Out

open Cert.Kernel3Ideal Cert.Kernel3Ideal.Gen
open Idealize.ShloMosaic Idealize.ShloMosaic.TcCoe
open Idealize.SL Idealize.SL.Sem
open Idealize.ShloMosaic.Pipeline
open Cert.Proof.In (rowT sum_tiles)

/-! ## The results, of the launched arrays -/

/-- The arrays the call reads: the outgoing gradient, the weights, the pool's and the attention's values, and their gates. -/
@[ext] structure Args where
  g : Fin 4096 → Fin 1024 → EReal
  w : Fin 1024 → Fin 1024 → EReal
  y : Fin 4096 → Fin 512 → EReal
  o : Fin 4096 → Fin 512 → EReal
  pg : Fin 4096 → Fin 512 → EReal
  ag : Fin 4096 → Fin 512 → EReal

namespace Args
variable (A : Args)

def val (T : Fin 4096) : Fin 1024 → EReal := both (A.y T) (A.o T)
def gate (T : Fin 4096) : Fin 1024 → EReal := both (A.pg T) (A.ag T)
/-- The mixed values and their gradient. -/
def mix (T : Fin 4096) (i : Fin 1024) : EReal := A.val T i * silu (A.gate T i)
def dmix (T : Fin 4096) (i : Fin 1024) : EReal := ∑ k, A.g T k * A.w i k
/-- The gradients of the weights, of the values and of the gates. -/
def dw (i j : Fin 1024) : EReal := ∑ T, A.mix T i * A.g T j
def dval (T : Fin 4096) (i : Fin 1024) : EReal := A.dmix T i * silu (A.gate T i)
def dgat (T : Fin 4096) (i : Fin 1024) : EReal := A.dmix T i * A.val T i * dsilu (A.gate T i)
/-- The attention's row sums against its gradient, in the lanes of a row. -/
def daug (T : Fin 4096) (j : Fin 512) : EReal :=
  slots (other (fun k => A.dval T (rgt (quarter ⟨j.val / 128, by omega⟩ k)) * A.val T (rgt (quarter ⟨j.val / 128, by omega⟩ k))) ⟨j.val % 128, by omega⟩) ⟨j.val % 128, by omega⟩
end Args

variable (m : (ℓ : Loc nD τ sig) → Buf (Elt Ideal) ℓ) (c : Dev nD)

/-- The launched arrays. -/
def args : Args where
  g T k := V m c main_arg0 (ix2 T k)
  w i k := V m c main_arg1 (ix2 i k)
  y T l := V m c main_arg2 (ix2 T l)
  o T l := V m c main_arg3 (ix2 T l)
  pg T l := V m c main_arg4 (ix2 T ⟨512 + l.val, by omega⟩)
  ag T l := V m c main_arg4 (ix2 T ⟨2560 + l.val, by omega⟩)

/-! ## The blocks -/

theorem lt8 (t : Fin cfg0.N) : t.val < 8 := lt_of_lt_of_eq t.isLt N_0

theorem wi0 : ∀ n : Fin grid0.N, win0_0.index n 0 = n.val ∧ win0_0.index n 1 = 0 := by decide +kernel
theorem wi1 : ∀ n : Fin grid0.N, win0_1.index n 0 = 0 ∧ win0_1.index n 1 = 0 := by decide +kernel
theorem wi2 : ∀ n : Fin grid0.N, win0_2.index n 0 = n.val ∧ win0_2.index n 1 = 0 := by decide +kernel
theorem wi3 : ∀ n : Fin grid0.N, win0_3.index n 0 = n.val ∧ win0_3.index n 1 = 0 := by decide +kernel
theorem wi4 : ∀ n : Fin grid0.N, win0_4.index n 0 = n.val ∧ win0_4.index n 1 = 1 := by decide +kernel
theorem wi5 : ∀ n : Fin grid0.N, win0_5.index n 0 = n.val ∧ win0_5.index n 1 = 5 := by decide +kernel
theorem wi6 : ∀ n : Fin grid0.N, win0_6.index n 0 = 0 ∧ win0_6.index n 1 = 0 := by decide +kernel
theorem wi7 : ∀ n : Fin grid0.N, win0_7.index n 0 = 0 ∧ win0_7.index n 1 = 0 := by decide +kernel
theorem wi8 : ∀ n : Fin grid0.N, win0_8.index n 0 = n.val ∧ win0_8.index n 1 = 0 := by decide +kernel
theorem wi9 : ∀ n : Fin grid0.N, win0_9.index n 0 = n.val ∧ win0_9.index n 1 = 0 := by decide +kernel
theorem wi10 : ∀ n : Fin grid0.N, win0_10.index n 0 = n.val ∧ win0_10.index n 1 = 0 := by decide +kernel

theorem blk0 (n : Fin cfg0.N) (r : Fin 512) (l : Fin 1024) : iblk m c 0 n (ix2 r l) = V m c main_arg0 (ix2 (rowT n.val (lt8 n) r) l) := by
  obtain ⟨e0, e1⟩ := wi0 n
  unfold iblk
  generalize V m c = A
  blk_simp
  refine congrArg (A main_arg0) ?_
  funext b; apply Fin.ext
  match b with
  | ⟨0, _⟩ => blk_simp [e0]; show _ = 512 * n.val + r.val; omega
  | ⟨1, _⟩ => blk_simp [e1]
theorem blk1 (n : Fin cfg0.N) (r : Fin 1024) (l : Fin 1024) : iblk m c 1 n (ix2 r l) = V m c main_arg1 (ix2 r l) := by
  obtain ⟨e0, e1⟩ := wi1 n
  unfold iblk
  generalize V m c = A
  blk_simp
  refine congrArg (A main_arg1) ?_
  funext b; apply Fin.ext
  match b with
  | ⟨0, _⟩ => blk_simp [e0]
  | ⟨1, _⟩ => blk_simp [e1]
theorem blk2 (n : Fin cfg0.N) (r : Fin 512) (l : Fin 512) : iblk m c 2 n (ix2 r l) = V m c main_arg2 (ix2 (rowT n.val (lt8 n) r) l) := by
  obtain ⟨e0, e1⟩ := wi2 n
  unfold iblk
  generalize V m c = A
  blk_simp
  refine congrArg (A main_arg2) ?_
  funext b; apply Fin.ext
  match b with
  | ⟨0, _⟩ => blk_simp [e0]; show _ = 512 * n.val + r.val; omega
  | ⟨1, _⟩ => blk_simp [e1]
theorem blk3 (n : Fin cfg0.N) (r : Fin 512) (l : Fin 512) : iblk m c 3 n (ix2 r l) = V m c main_arg3 (ix2 (rowT n.val (lt8 n) r) l) := by
  obtain ⟨e0, e1⟩ := wi3 n
  unfold iblk
  generalize V m c = A
  blk_simp
  refine congrArg (A main_arg3) ?_
  funext b; apply Fin.ext
  match b with
  | ⟨0, _⟩ => blk_simp [e0]; show _ = 512 * n.val + r.val; omega
  | ⟨1, _⟩ => blk_simp [e1]
theorem blk4 (n : Fin cfg0.N) (r : Fin 512) (l : Fin 512) : iblk m c 4 n (ix2 r l) = V m c main_arg4 (ix2 (rowT n.val (lt8 n) r) ⟨512 + l.val, by omega⟩) := by
  obtain ⟨e0, e1⟩ := wi4 n
  unfold iblk
  generalize V m c = A
  blk_simp
  refine congrArg (A main_arg4) ?_
  funext b; apply Fin.ext
  match b with
  | ⟨0, _⟩ => blk_simp [e0]; show _ = 512 * n.val + r.val; omega
  | ⟨1, _⟩ => blk_simp [e1]
theorem blk5 (n : Fin cfg0.N) (r : Fin 512) (l : Fin 512) : iblk m c 5 n (ix2 r l) = V m c main_arg4 (ix2 (rowT n.val (lt8 n) r) ⟨2560 + l.val, by omega⟩) := by
  obtain ⟨e0, e1⟩ := wi5 n
  unfold iblk
  generalize V m c = A
  blk_simp
  refine congrArg (A main_arg4) ?_
  funext b; apply Fin.ext
  match b with
  | ⟨0, _⟩ => blk_simp [e0]; show _ = 512 * n.val + r.val; omega
  | ⟨1, _⟩ => blk_simp [e1]

theorem args_g (t : Fin cfg0.N) (r : Fin 512) : grow m c t r = (args m c).g (rowT t.val (lt8 t) r) := funext fun k => blk0 m c t r k
theorem args_w (t : Fin cfg0.N) : wrow m c t = (args m c).w := funext fun i => funext fun k => blk1 m c t i k
theorem args_val (t : Fin cfg0.N) (r : Fin 512) : val m c t r = (args m c).val (rowT t.val (lt8 t) r) :=
  congrArg₂ both (funext fun l => blk2 m c t r l) (funext fun l => blk3 m c t r l)
theorem args_gate (t : Fin cfg0.N) (r : Fin 512) : gate m c t r = (args m c).gate (rowT t.val (lt8 t) r) :=
  congrArg₂ both (funext fun l => blk4 m c t r l) (funext fun l => blk5 m c t r l)
theorem args_mix (t : Fin cfg0.N) (r : Fin 512) : mix m c t r = (args m c).mix (rowT t.val (lt8 t) r) := by
  funext i; unfold mix Args.mix; rw [args_val, args_gate]
theorem args_dmix (t : Fin cfg0.N) (r : Fin 512) : dmix m c t r = (args m c).dmix (rowT t.val (lt8 t) r) := by
  funext i; unfold dmix Args.dmix; rw [args_g, args_w]
theorem args_dval (t : Fin cfg0.N) (r : Fin 512) : dval m c t r = (args m c).dval (rowT t.val (lt8 t) r) := by
  funext i; unfold dval Args.dval; rw [args_dmix, args_gate]
theorem args_dgat (t : Fin cfg0.N) (r : Fin 512) : dgat m c t r = (args m c).dgat (rowT t.val (lt8 t) r) := by
  funext i; unfold dgat Args.dgat; rw [args_dmix, args_val, args_gate]
theorem args_daug (t : Fin cfg0.N) (r : Fin 512) : daug m c t r = (args m c).daug (rowT t.val (lt8 t) r) := by
  funext j; unfold daug Args.daug; rw [args_dval, args_val]

/-! ## The results' arrays -/

theorem lt' {n : Nat} (h : n < 8) : n < cfg0.N := lt_of_lt_of_eq h N_0.symm

theorem dw_term (n : Nat) (h : n < 8) (r : Fin 512) (i j : Fin 1024) :
    mix m c ⟨n, lt' h⟩ r i * grow m c ⟨n, lt' h⟩ r j = (args m c).mix (rowT n h r) i * (args m c).g (rowT n h r) j :=
  congrArg₂ (· * ·) (congrFun (args_mix m c ⟨n, lt' h⟩ r) i) (congrFun (args_g m c ⟨n, lt' h⟩ r) j)

theorem dw_last (i j : Fin 1024) : (outsAt0 m c 7 (lt' (by decide))).1 (ix2 i j) = (args m c).dw i j :=
  sum_tiles (fun n h => (outsAt0 m c n (lt' h)).1 (ix2 i j)) (fun T => (args m c).mix T i * (args m c).g T j)
    ((dw_first m c ⟨0, lt' (by decide)⟩ rfl i j).trans (congrArg (HAdd.hAdd 0) (Finset.sum_congr rfl fun r _ => dw_term m c 0 _ r i j)))
    (fun n h => (dw_next m c ⟨n + 1, lt' h⟩ (by show ¬ (n + 1) % 8 = 0; omega) i j).trans (congrArg (HAdd.hAdd _) (Finset.sum_congr rfl fun r _ => dw_term m c (n + 1) h r i j)))

theorem is7 (t : Fin cfg0.N) (h : t.val % 8 = 7) : t = ⟨7, lt' (by decide)⟩ := Fin.ext (by have := lt8 t; show t.val = 7; omega)
theorem dw_at (t : Fin cfg0.N) (h : t.val % 8 = 7) (i j : Fin 1024) : (outsAt0 m c t.val t.isLt).1 (ix2 i j) = (args m c).dw i j := by
  rw [is7 t h]; exact dw_last m c i j
theorem dwb_at (t : Fin cfg0.N) (h : t.val % 8 = 7) (i j : Fin 1024) : (outsAt0 m c t.val t.isLt).2.1 (ix2 i j) = (args m c).dw i j :=
  (dwb_last m c t h i j).trans (dw_at m c t h i j)
theorem da_at (t : Fin cfg0.N) (r : Fin 512) (i : Fin 1024) : (outsAt0 m c t.val t.isLt).2.2.1 (ix2 r i) = (args m c).dval (rowT t.val (lt8 t) r) i :=
  (da_point m c t r i).trans (congrFun (args_dval m c t r) i)
theorem dg_at (t : Fin cfg0.N) (r : Fin 512) (i : Fin 1024) : (outsAt0 m c t.val t.isLt).2.2.2.1 (ix2 r i) = (args m c).dgat (rowT t.val (lt8 t) r) i :=
  (dg_point m c t r i).trans (congrFun (args_dgat m c t r) i)
theorem aug_at (t : Fin cfg0.N) (r j : Fin 512) : (outsAt0 m c t.val t.isLt).2.2.2.2 (ix2 r j) = (args m c).daug (rowT t.val (lt8 t) r) j :=
  (aug_point m c t r j).trans (congrFun (args_daug m c t r) j)

theorem arr6 : (dats m 0 c).arrAt 6 cfg0.N = fun y => (args m c).dw (y 0) (y 1) := by
  refine (dats m 0 c).arrAt_eq_of_covers 6 _ (by decide +kernel) fun t hf y => ?_
  obtain ⟨e0, e1⟩ := wi6 t
  have ht := (flush0_6 t).mp hf
  blk_simp
  rw [after0_6]
  idx_vars y
  refine (dw_at m c t ht y0 y1).trans (congrArg₂ _ (Fin.ext ?_) (Fin.ext ?_))
  · blk_simp [e0]
  · blk_simp [e1]
theorem arr7 : (dats m 0 c).arrAt 7 cfg0.N = fun y => (args m c).dw (y 0) (y 1) := by
  refine (dats m 0 c).arrAt_eq_of_covers 7 _ (by decide +kernel) fun t hf y => ?_
  obtain ⟨e0, e1⟩ := wi7 t
  have ht := (flush0_7 t).mp hf
  blk_simp
  rw [after0_7]
  idx_vars y
  refine (dwb_at m c t ht y0 y1).trans (congrArg₂ _ (Fin.ext ?_) (Fin.ext ?_))
  · blk_simp [e0]
  · blk_simp [e1]
theorem arr8 : (dats m 0 c).arrAt 8 cfg0.N = fun y => (args m c).dval (y 0) (y 1) := by
  refine (dats m 0 c).arrAt_eq_of_covers 8 _ (by decide +kernel) fun t hf y => ?_
  obtain ⟨e0, e1⟩ := wi8 t
  blk_simp
  rw [after0_8]
  idx_vars y
  refine (da_at m c t y0 y1).trans (congrArg₂ _ (Fin.ext ?_) (Fin.ext ?_))
  · blk_simp [e0]; show 512 * t.val + y0.val = _; omega
  · blk_simp [e1]
theorem arr9 : (dats m 0 c).arrAt 9 cfg0.N = fun y => (args m c).dgat (y 0) (y 1) := by
  refine (dats m 0 c).arrAt_eq_of_covers 9 _ (by decide +kernel) fun t hf y => ?_
  obtain ⟨e0, e1⟩ := wi9 t
  blk_simp
  rw [after0_9]
  idx_vars y
  refine (dg_at m c t y0 y1).trans (congrArg₂ _ (Fin.ext ?_) (Fin.ext ?_))
  · blk_simp [e0]; show 512 * t.val + y0.val = _; omega
  · blk_simp [e1]
theorem arr10 : (dats m 0 c).arrAt 10 cfg0.N = fun y => (args m c).daug (y 0) (y 1) := by
  refine (dats m 0 c).arrAt_eq_of_covers 10 _ (by decide +kernel) fun t hf y => ?_
  obtain ⟨e0, e1⟩ := wi10 t
  blk_simp
  rw [after0_10]
  idx_vars y
  refine (aug_at m c t y0 y1).trans (congrArg₂ _ (Fin.ext ?_) (Fin.ext ?_))
  · blk_simp [e0]; show 512 * t.val + y0.val = _; omega
  · blk_simp [e1]

end Cert.Proof.Out

end
-- ==== Proof.Out.Ref.lean ====
/-
  The reference of the third call over the extended reals, read at an index.
-/
module

public import proofs.«01_k».proof.Proof.Out.Arrays
public import proofs.«01_k».proof.Proof.Gen.Reference3Ideal.Run
public import Idealize.ShloMosaic.Lib.StableHlo.ReadAt

@[expose] public section

set_option maxRecDepth 16384

noncomputable section

namespace Cert.Proof.RI3

open Cert.Reference3Ideal Cert.Reference3Ideal.Gen Cert.Reference3Ideal.Value
open Idealize.ShloMosaic Idealize.ShloMosaic.TcCoe
open Idealize.SL Idealize.SL.Sem
open Cert.Proof.Out (Args both lft rgt both_lft both_rgt halves quarter)

theorem after_append (A B : List (HloOp τ sig (Elt Ideal))) (X : Valuation τ sig (Elt Ideal)) :
    StableHlo.after (A ++ B) X = StableHlo.after B (StableHlo.after A X) := by
  induction A generalizing X with
  | nil => rfl
  | cons o A ih => exact ih (o.result X)

/-- The `k` operations of the reference that follow its first `n`. -/
def seg (n k : ℕ) : List (HloOp τ sig (Elt Ideal)) := (ops.drop n).take k

/-- The buffers after the first `n` operations of the reference. -/
def At (m : (ℓ : Loc nD τ sig) → Buf (Elt Ideal) ℓ) (c : Dev nD) (n : ℕ) : Valuation τ sig (Elt Ideal) :=
  StableHlo.after (ops.take n) (fun b => m (c, b))

theorem At_add (m : (ℓ : Loc nD τ sig) → Buf (Elt Ideal) ℓ) (c : Dev nD) (n k : ℕ) :
    At m c (n + k) = StableHlo.after (seg n k) (At m c n) := by
  unfold At seg
  rw [List.take_add, after_append]

def atn (A : S4096x512.Idx → EReal) (T : Fin 4096) (l : Fin 512) : EReal := A (ix2 T l)
def atx (A : S4096x1024.Idx → EReal) (T : Fin 4096) (i : Fin 1024) : EReal := A (ix2 T i)
def atp (A : S4096x3072.Idx → EReal) (T : Fin 4096) (j : Fin 3072) : EReal := A (ix2 T j)
def atw (A : S1024x1024.Idx → EReal) (i j : Fin 1024) : EReal := A (ix2 i j)
def ats (A : S4096x4x1.Idx → EReal) (T : Fin 4096) (p : Fin 4) : EReal := A (ix3 T p 0)
def ath (A : S4096x4x2.Idx → EReal) (T : Fin 4096) (p : Fin 4) (a : Fin 2) : EReal := A (ix3 T p a)

/-- The logistic function as the reference writes it. -/
def lg (x : EReal) : EReal := Ideal.div 1 (1 + Ideal.exp (-x))
/-- The two columns of the projection that gate. -/
def pcol (l : Fin 512) : Fin 3072 := ⟨512 + l.val, by omega⟩
def acol (l : Fin 512) : Fin 3072 := ⟨2560 + l.val, by omega⟩

set_option maxHeartbeats 4000000 in
theorem stage0 (X : Valuation τ sig (Elt Ideal)) (T : Fin 4096) (l : Fin 512) (i j : Fin 1024) :
    (atw (StableHlo.after (seg 0 34) X main_v0) i j = atw (X main_arg1) i j ∧
    atn (StableHlo.after (seg 0 34) X main_v1) T l = atn (X main_arg2) T l ∧
    atn (StableHlo.after (seg 0 34) X main_v2) T l = atn (X main_arg3) T l) ∧
    (atn (StableHlo.after (seg 0 34) X main_v4) T l = atp (X main_arg4) T (pcol l) ∧
    atn (StableHlo.after (seg 0 34) X main_v6_2) T l = lg (atp (X main_arg4) T (pcol l)) ∧
    atn (StableHlo.after (seg 0 34) X main_v6_1) T l = lg (atp (X main_arg4) T (pcol l)) * (1 - lg (atp (X main_arg4) T (pcol l))) ∧
    atn (StableHlo.after (seg 0 34) X main_v6_0) T l = atp (X main_arg4) T (pcol l) * lg (atp (X main_arg4) T (pcol l)) ∧
    atn (StableHlo.after (seg 0 34) X main_v7) T l = atn (X main_arg2) T l * (atp (X main_arg4) T (pcol l) * lg (atp (X main_arg4) T (pcol l)))) ∧
    (atn (StableHlo.after (seg 0 34) X main_v5) T l = atp (X main_arg4) T (acol l) ∧
    atn (StableHlo.after (seg 0 34) X main_v8_2) T l = lg (atp (X main_arg4) T (acol l)) ∧
    atn (StableHlo.after (seg 0 34) X main_v8_1) T l = lg (atp (X main_arg4) T (acol l)) * (1 - lg (atp (X main_arg4) T (acol l))) ∧
    atn (StableHlo.after (seg 0 34) X main_v8_0) T l = atp (X main_arg4) T (acol l) * lg (atp (X main_arg4) T (acol l)) ∧
    atn (StableHlo.after (seg 0 34) X main_v9) T l = atn (X main_arg3) T l * (atp (X main_arg4) T (acol l) * lg (atp (X main_arg4) T (acol l)))) := by
  simp only [seg, ops, List.drop_succ_cons, List.drop_zero, List.take_succ_cons, List.take_zero]
  simp only [atn, atw, atp, lg, pcol, acol]
  refine ⟨⟨?_, ?_, ?_⟩, ⟨?_, ?_, ?_, ?_, ?_⟩, ⟨?_, ?_, ?_, ?_, ?_⟩⟩
  all_goals first | (after_reads_at; done) | (after_reads_at; rfl)

/-- The mixed values' gradient from the outgoing gradient and the weights. -/
def dmOf (g : S4096x1024.Idx → EReal) (w : S1024x1024.Idx → EReal) (T : Fin 4096) (i : Fin 1024) : EReal := ∑ k, atx g T k * atw w i k

set_option maxHeartbeats 4000000 in
theorem stage1 (X : Valuation τ sig (Elt Ideal)) (T : Fin 4096) (l : Fin 512) (i j : Fin 1024) :
    atw (StableHlo.after (seg 35 19) X main_v13) i j = (∑ T, atx (X main_arg0) T j * atx (X main_v10) T i) ∧
    atn (StableHlo.after (seg 35 19) X main_v18) T l = dmOf (X main_arg0) (X main_v0) T (rgt l) * atn (X main_v8_0) T l ∧
    atn (StableHlo.after (seg 35 19) X main_v21) T l = dmOf (X main_arg0) (X main_v0) T (lft l) * atn (X main_v6_0) T l ∧
    atn (StableHlo.after (seg 35 19) X main_v19) T l = atn (X main_v2) T l * dmOf (X main_arg0) (X main_v0) T (rgt l) * atn (X main_v8_2) T l +
      atn (X main_v5) T l * (atn (X main_v2) T l * dmOf (X main_arg0) (X main_v0) T (rgt l)) * atn (X main_v8_1) T l ∧
    atn (StableHlo.after (seg 35 19) X main_v22) T l = atn (X main_v1) T l * dmOf (X main_arg0) (X main_v0) T (lft l) * atn (X main_v6_2) T l +
      atn (X main_v4) T l * (atn (X main_v1) T l * dmOf (X main_arg0) (X main_v0) T (lft l)) * atn (X main_v6_1) T l ∧
    atn (StableHlo.after (seg 35 19) X main_v23) T l = dmOf (X main_arg0) (X main_v0) T (rgt l) * atn (X main_v8_0) T l * atn (X main_v2) T l := by
  simp only [seg, ops, List.drop_succ_cons, List.drop_zero, List.take_succ_cons, List.take_zero]
  simp only [atn, atw, atx, dmOf, lft, rgt]
  refine ⟨?_, ?_, ?_, ?_, ?_, ?_⟩
  all_goals first | (after_reads_at; done) | (after_reads_at; rfl)

/-- Column `d` of head `a` of pair `p`. -/
def hcol (p : Fin 4) (a : Fin 2) (d : Fin 64) : Fin 512 := ⟨p.val * 128 + a.val * 64 + d.val, by omega⟩

set_option maxHeartbeats 4000000 in
theorem stage2 (X : Valuation τ sig (Elt Ideal)) (T : Fin 4096) (p : Fin 4) :
    ats (StableHlo.after (seg 54 9) X main_v30) T p = (∑ d, atn (X main_v23) T (hcol p 1 d)) ∧
    ats (StableHlo.after (seg 54 9) X main_v31) T p = (∑ d, atn (X main_v23) T (hcol p 0 d)) := by
  simp only [seg, ops, List.drop_succ_cons, List.drop_zero, List.take_succ_cons, List.take_zero]
  simp only [atn, ats, hcol]
  refine ⟨?_, ?_⟩
  all_goals first | (after_reads_at; done) | (after_reads_at; rfl)

set_option maxHeartbeats 4000000 in
theorem stage3 (X : Valuation τ sig (Elt Ideal)) (T : Fin 4096) (j : Fin 512) :
    atn (StableHlo.after (seg 64 6) X main_v36) T j = if j.val % 64 = 0 then -(ath (X main_v32) T ⟨j.val / 128, by omega⟩ ⟨j.val / 64 % 2, by omega⟩) else 0 := by
  simp only [seg, ops, List.drop_succ_cons, List.drop_zero, List.take_succ_cons, List.take_zero]
  simp only [atn, ath]
  after_reads_at
  have h4 : j.val / 128 < 4 := by omega
  have h2 : j.val / 64 % 2 < 2 := by omega
  by_cases h : j.val % 64 = 0
  · rw [if_pos h, dif_pos ⟨h4, h2, by omega⟩]
  · rw [if_neg h, dif_neg fun e => h (by omega)]
    show (((0#32 : BitVec 32).toInt : ℝ) : EReal) = 0
    simp

theorem stage4 (X : Valuation τ sig (Elt Ideal)) (T : Fin 4096) (l : Fin 512) (i j : Fin 1024) :
    atw (StableHlo.after (seg 70 6) X main_v13) i j = atw (X main_v13) i j ∧
    atw (StableHlo.after (seg 70 6) X main_v37) i j = atw (X main_v13) i j ∧
    atx (StableHlo.after (seg 70 6) X main_v39) T i = atx (fn_main_v38 (F := Ideal) (X main_v21) (X main_v18)) T i ∧
    atx (StableHlo.after (seg 70 6) X main_v41) T i = atx (fn_main_v40 (F := Ideal) (X main_v22) (X main_v19)) T i ∧
    atn (StableHlo.after (seg 70 6) X main_v42) T l = atn (X main_v36) T l := by
  simp only [seg, ops, List.drop_succ_cons, List.drop_zero, List.take_succ_cons, List.take_zero]
  simp only [atn, atw, atx]
  refine ⟨?_, ?_, ?_, ?_, ?_⟩
  all_goals first | (after_reads_at; done) | (after_reads_at; rfl)

theorem cat10 (X : Valuation τ sig (Elt Ideal)) :
    StableHlo.after (seg 34 1) X main_v10 = fn_main_v10 (F := Ideal) (X main_v7) (X main_v9) := by
  simp only [seg, ops, List.drop_succ_cons, List.drop_zero, List.take_succ_cons, List.take_zero]
  rw [StableHlo.after_cons, StableHlo.after_nil]
  exact StableHlo.binary_result' _ _ _ _ _

theorem cat32 (X : Valuation τ sig (Elt Ideal)) :
    StableHlo.after (seg 63 1) X main_v32 = fn_main_v32 (F := Ideal) (X main_v30) (X main_v31) := by
  simp only [seg, ops, List.drop_succ_cons, List.drop_zero, List.take_succ_cons, List.take_zero]
  rw [StableHlo.after_cons, StableHlo.after_nil]
  exact StableHlo.binary_result' _ _ _ _ _

theorem at_val (a : S4096x512.Idx → EReal) (T : Fin 4096) (k l : Fin 512) (h : k.val = l.val) : a (ix2 T k) = atn a T l := by
  rw [Fin.ext h]; rfl

theorem cat10_apply (a b : S4096x512.Idx → EReal) (T : Fin 4096) (i : Fin 1024) :
    atx (fn_main_v10 (F := Ideal) a b) T i = both (atn a T) (atn b T) i := by
  unfold fn_main_v10 atx both
  pointwise
  split_ifs <;> first | (exfalso; omega) | exact at_val _ _ _ _ rfl
theorem cat38_apply (a b : S4096x512.Idx → EReal) (T : Fin 4096) (i : Fin 1024) :
    atx (fn_main_v38 (F := Ideal) a b) T i = both (atn a T) (atn b T) i := cat10_apply a b T i
theorem cat40_apply (a b : S4096x512.Idx → EReal) (T : Fin 4096) (i : Fin 1024) :
    atx (fn_main_v40 (F := Ideal) a b) T i = both (atn a T) (atn b T) i := cat10_apply a b T i
theorem cat32_apply (a b : S4096x4x1.Idx → EReal) (T : Fin 4096) (p : Fin 4) (h : Fin 2) :
    ath (fn_main_v32 (F := Ideal) a b) T p h = if h.val = 0 then ats a T p else ats b T p := by
  unfold fn_main_v32 ath ats
  pointwise
  match h with
  | 0 => rfl
  | 1 => rfl

/-- The results of the operations in the middle, those of the first ones, and the arguments: later operations leave them. -/
def IsMid (b : Ref sig .tc) : Prop := b = main_v13 ∨ b = main_v18 ∨ b = main_v21 ∨ b = main_v19 ∨ b = main_v22
def IsEarly (b : Ref sig .tc) : Prop := b = main_v0 ∨ b = main_v1 ∨ b = main_v2 ∨ b = main_v4 ∨ b = main_v5 ∨ b = main_v6_0 ∨ b = main_v6_1 ∨
  b = main_v6_2 ∨ b = main_v8_0 ∨ b = main_v8_1 ∨ b = main_v8_2
def IsArg (b : Ref sig .tc) : Prop := b = main_arg0 ∨ b = main_arg1 ∨ b = main_arg2 ∨ b = main_arg3 ∨ b = main_arg4

theorem not_written (b : Ref sig .tc) (hb : IsArg b) : ∀ o ∈ (ops : List (HloOp τ sig (Elt Ideal))), Proc.devRef .tc b ∉ o.writes :=
  List.forall_iff_forall_mem.mp (by
    unfold IsArg at hb
    rcases hb with rfl | rfl | rfl | rfl | rfl <;>
    · simp only [ops, List.Forall, StableHlo.nullary_writes,
        StableHlo.unary_writes, StableHlo.binary_writes, StableHlo.ternary_writes, StableHlo.reshape_writes, Finset.mem_singleton]
      repeat' apply And.intro
      all_goals exact StableHlo.devRef_ne_of_ne (by decide))

theorem mid_kept (b : Ref sig .tc) (hb : IsMid b) : ∀ o ∈ seg 54 16, Proc.devRef .tc b ∉ o.writes :=
  List.forall_iff_forall_mem.mp (by
    unfold IsMid at hb
    rcases hb with rfl | rfl | rfl | rfl | rfl <;>
    · simp only [seg, ops, List.drop_succ_cons, List.drop_zero, List.take_succ_cons, List.take_zero, List.Forall, StableHlo.nullary_writes,
        StableHlo.unary_writes, StableHlo.binary_writes, StableHlo.ternary_writes, StableHlo.reshape_writes, Finset.mem_singleton]
      repeat' apply And.intro
      all_goals exact StableHlo.devRef_ne_of_ne (by decide))

theorem early_kept (b : Ref sig .tc) (hb : IsEarly b) : ∀ o ∈ seg 34 1, Proc.devRef .tc b ∉ o.writes :=
  List.forall_iff_forall_mem.mp (by
    unfold IsEarly at hb
    rcases hb with rfl | rfl | rfl | rfl | rfl | rfl | rfl | rfl | rfl | rfl | rfl <;>
    · simp only [seg, ops, List.drop_succ_cons, List.drop_zero, List.take_succ_cons, List.take_zero, List.Forall, StableHlo.binary_writes, Finset.mem_singleton]
      exact StableHlo.devRef_ne_of_ne (by decide))

/-- The gates' gradient as the reference writes it. -/
def dgatSum (A : Args) (T : Fin 4096) (i : Fin 1024) : EReal :=
  A.val T i * A.dmix T i * lg (A.gate T i) + A.gate T i * (A.val T i * A.dmix T i) * (lg (A.gate T i) * (1 - lg (A.gate T i)))
/-- The sum of a head's columns, and the row that holds it in the first lane of the head beside it, negated. -/
def headSum (A : Args) (T : Fin 4096) (p : Fin 4) (a : Fin 2) : EReal := ∑ d, A.dval T (rgt (hcol p a d)) * A.val T (rgt (hcol p a d))
def augSum (A : Args) (T : Fin 4096) (j : Fin 512) : EReal :=
  if j.val % 64 = 0 then -(if j.val / 64 % 2 = 0 then headSum A T ⟨j.val / 128, by omega⟩ 1 else headSum A T ⟨j.val / 128, by omega⟩ 0) else 0

section Values

variable (m : (ℓ : Loc nD τ sig) → Buf (Elt Ideal) ℓ) (c : Dev nD)

/-- The reference's arguments. -/
def args : Args where
  g := atx (At m c 0 main_arg0)
  w := atw (At m c 0 main_arg1)
  y := atn (At m c 0 main_arg2)
  o := atn (At m c 0 main_arg3)
  pg T l := atp (At m c 0 main_arg4) T (pcol l)
  ag T l := atp (At m c 0 main_arg4) T (acol l)

theorem keep_arg (b : Ref sig .tc) (hb : IsArg b) (n : ℕ) : At m c n (Proc.devRef .tc b) = At m c 0 (Proc.devRef .tc b) :=
  StableHlo.after_of_forall_not_mem (b := Proc.devRef .tc b) _ _ fun o ho => not_written b hb o (List.mem_of_mem_take ho)
theorem keep_mid (b : Ref sig .tc) (hb : IsMid b) : At m c 70 (Proc.devRef .tc b) = At m c 54 (Proc.devRef .tc b) :=
  (congrFun (At_add m c 54 16) _).trans (StableHlo.after_of_forall_not_mem (b := Proc.devRef .tc b) _ _ (mid_kept b hb))
theorem keep_early (b : Ref sig .tc) (hb : IsEarly b) : At m c 35 (Proc.devRef .tc b) = At m c 34 (Proc.devRef .tc b) :=
  (congrFun (At_add m c 34 1) _).trans (StableHlo.after_of_forall_not_mem (b := Proc.devRef .tc b) _ _ (early_kept b hb))

theorem lg_eq (x : EReal) : lg x = Cert.Proof.Out.sg x := by
  unfold lg Cert.Proof.Out.sg
  rw [zero_sub]
theorem silu_eq (x : EReal) : x * lg x = Cert.Proof.Out.silu x := congrArg (x * ·) (lg_eq x)

theorem mix10 (T : Fin 4096) : atx (At m c 35 main_v10) T = (args m c).mix T := by
  have e0 : At m c 34 = StableHlo.after (seg 0 34) (At m c 0) := At_add m c 0 34
  have e1 : At m c 35 = StableHlo.after (seg 34 1) (At m c 34) := At_add m c 34 1
  have h0 := fun l => stage0 (At m c 0) T l 0 0
  rw [← e0] at h0
  have hc := cat10 (At m c 34)
  rw [← e1] at hc
  funext i
  refine (congrArg (fun a => atx a T i) hc).trans ((cat10_apply _ _ T i).trans ?_)
  unfold Args.mix Args.val Args.gate
  obtain ⟨l, rfl⟩ | ⟨l, rfl⟩ := halves i
  · simp only [both_lft]
    exact ((h0 l).2.1.2.2.2.2).trans (congrArg _ (silu_eq _))
  · simp only [both_rgt]
    exact ((h0 l).2.2.2.2.2.2).trans (congrArg _ (silu_eq _))

theorem at35 (T : Fin 4096) (l : Fin 512) (i j : Fin 1024) :
    (atw (At m c 35 main_v0) i j = (args m c).w i j ∧
    atn (At m c 35 main_v1) T l = (args m c).y T l ∧
    atn (At m c 35 main_v2) T l = (args m c).o T l) ∧
    (atn (At m c 35 main_v4) T l = (args m c).pg T l ∧
    atn (At m c 35 main_v6_2) T l = lg ((args m c).pg T l) ∧
    atn (At m c 35 main_v6_1) T l = lg ((args m c).pg T l) * (1 - lg ((args m c).pg T l)) ∧
    atn (At m c 35 main_v6_0) T l = Cert.Proof.Out.silu ((args m c).pg T l)) ∧
    (atn (At m c 35 main_v5) T l = (args m c).ag T l ∧
    atn (At m c 35 main_v8_2) T l = lg ((args m c).ag T l) ∧
    atn (At m c 35 main_v8_1) T l = lg ((args m c).ag T l) * (1 - lg ((args m c).ag T l)) ∧
    atn (At m c 35 main_v8_0) T l = Cert.Proof.Out.silu ((args m c).ag T l)) := by
  have e0 : At m c 34 = StableHlo.after (seg 0 34) (At m c 0) := At_add m c 0 34
  obtain ⟨⟨f1, f2, f3⟩, ⟨f4, f5, f6, f7, -⟩, f8, f9, f10, f11, -⟩ := stage0 (At m c 0) T l i j
  rw [← e0] at f1 f2 f3 f4 f5 f6 f7 f8 f9 f10 f11
  rw [keep_early m c main_v0 (by simp [IsEarly]), keep_early m c main_v1 (by simp [IsEarly]), keep_early m c main_v2 (by simp [IsEarly]),
    keep_early m c main_v4 (by simp [IsEarly]), keep_early m c main_v5 (by simp [IsEarly]), keep_early m c main_v6_0 (by simp [IsEarly]),
    keep_early m c main_v6_1 (by simp [IsEarly]), keep_early m c main_v6_2 (by simp [IsEarly]), keep_early m c main_v8_0 (by simp [IsEarly]),
    keep_early m c main_v8_1 (by simp [IsEarly]), keep_early m c main_v8_2 (by simp [IsEarly])]
  exact ⟨⟨f1, f2, f3⟩, ⟨f4, f5, f6, f7.trans (silu_eq _)⟩, f8, f9, f10, f11.trans (silu_eq _)⟩

theorem dm35 (T : Fin 4096) (i : Fin 1024) : dmOf (At m c 35 main_arg0) (At m c 35 main_v0) T i = (args m c).dmix T i := by
  unfold dmOf Args.dmix
  rw [keep_arg m c main_arg0 (by simp [IsArg]) 35]
  exact Finset.sum_congr rfl fun k _ => congrArg _ (at35 m c T 0 i k).1.1

theorem at54 (T : Fin 4096) (l : Fin 512) (i j : Fin 1024) :
    atw (At m c 54 main_v13) i j = (args m c).dw i j ∧
    atn (At m c 54 main_v18) T l = (args m c).dval T (rgt l) ∧
    atn (At m c 54 main_v21) T l = (args m c).dval T (lft l) ∧
    atn (At m c 54 main_v19) T l = dgatSum (args m c) T (rgt l) ∧
    atn (At m c 54 main_v22) T l = dgatSum (args m c) T (lft l) ∧
    atn (At m c 54 main_v23) T l = (args m c).dval T (rgt l) * (args m c).val T (rgt l) := by
  have e : At m c 54 = StableHlo.after (seg 35 19) (At m c 35) := At_add m c 35 19
  obtain ⟨f1, f2, f3, f4, f5, f6⟩ := stage1 (At m c 35) T l i j
  obtain ⟨⟨-, g2, g3⟩, ⟨g4, g5, g6, g7⟩, g8, g9, g10, g11⟩ := at35 m c T l i j
  rw [← e] at f1 f2 f3 f4 f5 f6
  rw [dm35, g11] at f2
  rw [dm35, g7] at f3
  rw [dm35, g3, g8, g9, g10] at f4
  rw [dm35, g2, g4, g5, g6] at f5
  rw [dm35, g11, g3] at f6
  have vl : (args m c).val T (lft l) = (args m c).y T l := both_lft _ _ l
  have vr : (args m c).val T (rgt l) = (args m c).o T l := both_rgt _ _ l
  have gl : (args m c).gate T (lft l) = (args m c).pg T l := both_lft _ _ l
  have gr : (args m c).gate T (rgt l) = (args m c).ag T l := both_rgt _ _ l
  unfold dgatSum Args.dval
  rw [vl, vr, gl, gr]
  refine ⟨f1.trans (Finset.sum_congr rfl fun T _ => ?_), f2, f3, f4, f5, f6⟩
  rw [mix10, keep_arg m c main_arg0 (by simp [IsArg]) 35, mul_comm]
  rfl

theorem at70 (T : Fin 4096) (j : Fin 512) : atn (At m c 70 main_v36) T j = augSum (args m c) T j := by
  have e1 : At m c 63 = StableHlo.after (seg 54 9) (At m c 54) := At_add m c 54 9
  have e2 : At m c 64 = StableHlo.after (seg 63 1) (At m c 63) := At_add m c 63 1
  have e3 : At m c 70 = StableHlo.after (seg 64 6) (At m c 64) := At_add m c 64 6
  have f1 := fun p => stage2 (At m c 54) T p
  have f2 := cat32 (At m c 63)
  have f3 := stage3 (At m c 64) T j
  rw [← e1] at f1
  rw [← e2] at f2
  rw [← e3, f2, cat32_apply] at f3
  have h : ∀ p a, (∑ d, atn (At m c 54 main_v23) T (hcol p a d)) = headSum (args m c) T p a := fun p a =>
    Finset.sum_congr rfl fun d _ => (at54 m c T (hcol p a d) 0 0).2.2.2.2.2
  rw [(f1 _).1, (f1 _).2, h, h] at f3
  exact f3

/-- The reference's five results. -/
theorem results (T : Fin 4096) (l : Fin 512) (i j : Fin 1024) :
    atw (At m c 76 main_v13) i j = (args m c).dw i j ∧
    atw (At m c 76 main_v37) i j = (args m c).dw i j ∧
    atx (At m c 76 main_v39) T i = (args m c).dval T i ∧
    atx (At m c 76 main_v41) T i = dgatSum (args m c) T i ∧
    atn (At m c 76 main_v42) T l = augSum (args m c) T l := by
  have e : At m c 76 = StableHlo.after (seg 70 6) (At m c 70) := At_add m c 70 6
  obtain ⟨f1, f2, f3, f4, f5⟩ := stage4 (At m c 70) T l i j
  rw [← e] at f1 f2 f3 f4 f5
  rw [keep_mid m c main_v13 (by simp [IsMid])] at f1 f2
  rw [keep_mid m c main_v21 (by simp [IsMid]), keep_mid m c main_v18 (by simp [IsMid]), cat38_apply] at f3
  rw [keep_mid m c main_v22 (by simp [IsMid]), keep_mid m c main_v19 (by simp [IsMid]), cat40_apply] at f4
  have g := (at54 m c T l i j).1
  refine ⟨f1.trans g, f2.trans g, f3.trans ?_, f4.trans ?_, f5.trans (at70 m c T l)⟩
  · obtain ⟨l, rfl⟩ | ⟨l, rfl⟩ := halves i
    · exact (both_lft _ _ l).trans (at54 m c T l 0 0).2.2.1
    · exact (both_rgt _ _ l).trans (at54 m c T l 0 0).2.1
  · obtain ⟨l, rfl⟩ | ⟨l, rfl⟩ := halves i
    · exact (both_lft _ _ l).trans (at54 m c T l 0 0).2.2.2.2.1
    · exact (both_rgt _ _ l).trans (at54 m c T l 0 0).2.2.2.1

end Values

end Cert.Proof.RI3

end
-- ==== Proof.Out.Real.lean ====
/-
  The third call's results over finite arguments: the gates' gradient and the row sums are the reference's.
-/
module

public import proofs.«01_k».proof.Proof.Out.Ref
public import proofs.«01_k».proof.Proof.Value.Real

@[expose] public section

noncomputable section

namespace Cert.Proof.Out

open Idealize.ShloMosaic
open Cert.Proof.PI (sum_of)
open Cert.Proof.RI3 (lg lg_eq dgatSum headSum augSum hcol)

/-- The logistic function of a real number. -/
def sgr (x : ℝ) : ℝ := 1 / (1 + Real.exp (-x))

theorem lg_real (x : ℝ) : lg (x : EReal) = (sgr x : EReal) := by
  have h : (1 + Real.exp (-x)) ≠ 0 := by positivity
  unfold lg sgr
  rw [← EReal.coe_neg, Ideal.exp_coe, ← EReal.coe_one, ← EReal.coe_add, Ideal.div_coe h, ← EReal.coe_mul, one_mul]
theorem sg_real (x : ℝ) : sg (x : EReal) = (sgr x : EReal) := (lg_eq _).symm.trans (lg_real x)
theorem silu_real (x : ℝ) : silu (x : EReal) = ((x * sgr x : ℝ) : EReal) := by
  unfold silu
  rw [sg_real, EReal.coe_mul]

/-- The two ways to write a gate's gradient, of real numbers. -/
theorem gate_real (x v d : ℝ) :
    (v * d * lg x + x * (v * d) * (lg x * (1 - lg x)) : EReal) = d * v * dsilu x := by
  unfold dsilu
  rw [lg_real, sg_real, ← EReal.coe_one]
  simp only [← EReal.coe_mul, ← EReal.coe_sub, ← EReal.coe_add]
  exact congrArg _ (by ring)

/-- What the lanes of a real number hold: only the first is not zero. -/
theorem slots_real (d : ℝ) (l : Fin 128) : slots (d : EReal) l = if l.val % 64 = 0 then -(d : EReal) else 0 := by
  have e : (d : EReal) - d = 0 := by rw [← EReal.coe_sub, sub_self, EReal.coe_zero]
  unfold slots
  rw [e, sub_zero, sub_zero, zero_sub]
  split_ifs <;> first | rfl | omega

theorem sum_heads (f : Fin 128 → EReal) : ∑ k, f k = (∑ d : Fin 64, f ⟨d.val, by omega⟩) + ∑ d : Fin 64, f ⟨64 + d.val, by omega⟩ :=
  Fin.sum_univ_add (a := 64) (b := 64) f

/-- The sum of the columns of the head beside a lane's. -/
theorem other_eq (q : Fin 128 → EReal) (l : Fin 128) :
    other q l = if l.val / 64 = 0 then ∑ d : Fin 64, q ⟨64 + d.val, by omega⟩ else ∑ d : Fin 64, q ⟨d.val, by omega⟩ := by
  have h1 : ∀ d : Fin 64, ¬ 64 + d.val < 64 := fun d => by omega
  have hl : l.val / 64 = 0 ↔ l.val < 64 := by omega
  unfold other
  simp only [sum_heads, h1, Fin.is_lt, if_true, if_false, Finset.sum_const_zero, zero_add, add_zero, hl]

/-- The arrays hold real numbers. -/
structure Args.Finite (A : Args) : Prop where
  g : ∀ T k, A.g T k = ((A.g T k).toReal : EReal)
  w : ∀ i k, A.w i k = ((A.w i k).toReal : EReal)
  y : ∀ T l, A.y T l = ((A.y T l).toReal : EReal)
  o : ∀ T l, A.o T l = ((A.o T l).toReal : EReal)
  pg : ∀ T l, A.pg T l = ((A.pg T l).toReal : EReal)
  ag : ∀ T l, A.ag T l = ((A.ag T l).toReal : EReal)

variable {A : Args}

theorem Args.Finite.val (r : A.Finite) (T : Fin 4096) (i : Fin 1024) : ∃ v : ℝ, A.val T i = v := by
  unfold Args.val both
  split
  · exact ⟨_, r.y T _⟩
  · exact ⟨_, r.o T _⟩
theorem Args.Finite.gate (r : A.Finite) (T : Fin 4096) (i : Fin 1024) : ∃ v : ℝ, A.gate T i = v := by
  unfold Args.gate both
  split
  · exact ⟨_, r.pg T _⟩
  · exact ⟨_, r.ag T _⟩
theorem Args.Finite.dmix (r : A.Finite) (T : Fin 4096) (i : Fin 1024) : ∃ v : ℝ, A.dmix T i = v :=
  ⟨_, sum_of (f := fun k => (A.g T k).toReal * (A.w i k).toReal) fun k => by rw [EReal.coe_mul, ← r.g T k, ← r.w i k]⟩

theorem Args.Finite.dgat_eq (r : A.Finite) (T : Fin 4096) (i : Fin 1024) : dgatSum A T i = A.dgat T i := by
  obtain ⟨v, hv⟩ := r.val T i
  obtain ⟨x, hx⟩ := r.gate T i
  obtain ⟨d, hd⟩ := r.dmix T i
  unfold dgatSum Args.dgat
  rw [hv, hx, hd]
  exact gate_real x v d

/-- The attention's gradient against its values is real. -/
theorem Args.Finite.term (r : A.Finite) (T : Fin 4096) (i : Fin 1024) : A.dval T i * A.val T i = ((A.dval T i * A.val T i).toReal : EReal) := by
  obtain ⟨v, hv⟩ := r.val T i
  obtain ⟨x, hx⟩ := r.gate T i
  obtain ⟨d, hd⟩ := r.dmix T i
  have h : A.dval T i * A.val T i = ((d * (x * sgr x) * v : ℝ) : EReal) := by
    unfold Args.dval
    rw [hv, hx, hd, silu_real, ← EReal.coe_mul, ← EReal.coe_mul]
  rw [h, EReal.toReal_coe]

theorem Args.Finite.headSum_real (r : A.Finite) (T : Fin 4096) (p : Fin 4) (a : Fin 2) : ∃ v : ℝ, headSum A T p a = v :=
  ⟨_, sum_of fun d => r.term T (rgt (hcol p a d))⟩

/-- Lane `j` of the row: the sum is over the head beside the lane's. -/
theorem other_heads (T : Fin 4096) (p : Fin 4) (l : Fin 128) :
    other (fun k => A.dval T (rgt (quarter p k)) * A.val T (rgt (quarter p k))) l = if l.val / 64 = 0 then headSum A T p 1 else headSum A T p 0 := by
  rw [other_eq]
  have h1 : ∀ d : Fin 64, quarter p ⟨64 + d.val, by omega⟩ = hcol p 1 d := fun d =>
    Fin.ext (show 128 * p.val + (64 + d.val) = p.val * 128 + 1 * 64 + d.val by omega)
  have h0 : ∀ d : Fin 64, quarter p ⟨d.val, by omega⟩ = hcol p 0 d := fun d =>
    Fin.ext (show 128 * p.val + d.val = p.val * 128 + 0 * 64 + d.val by omega)
  simp only [h1, h0]
  rfl

theorem Args.Finite.daug_eq (r : A.Finite) (T : Fin 4096) (j : Fin 512) : augSum A T j = A.daug T j := by
  have e1 : j.val % 128 / 64 = j.val / 64 % 2 := by omega
  have e2 : j.val % 128 % 64 = j.val % 64 := by omega
  unfold augSum Args.daug
  rw [other_heads]
  simp only [e1]
  obtain ⟨v, hv⟩ : ∃ v : ℝ, (if j.val / 64 % 2 = 0 then headSum A T ⟨j.val / 128, by omega⟩ 1 else headSum A T ⟨j.val / 128, by omega⟩ 0) = (v : EReal) := by
    split
    · exact r.headSum_real T _ 1
    · exact r.headSum_real T _ 0
  rw [hv, slots_real]
  simp only [e2]

end Cert.Proof.Out

end
-- ==== Proof.Out.Equal.lean ====
/-
  From memories with the same finite arguments the third call and its reference end with the same results.
-/
module

public import proofs.«01_k».proof.Defs
public import proofs.«01_k».proof.Proof.Out.Real
public import proofs.«01_k».proof.Proof.In.Equal

@[expose] public section

set_option maxRecDepth 16384

noncomputable section

namespace Cert.Proof.Out

open Idealize.ShloMosaic Idealize.ShloMosaic.TcCoe
open Idealize.SL Idealize.SL.Sem
open Cert.Proof.In (AllReal real_at)

/-- The side conditions of the predicate that says "finite". -/
theorem finite_facts : Cert.Pre_finite3.Facts where
  bcast_S_S4096x1024 := by decide
  reducesTo_S4096x1024_S_d0_1 := by decide
  h_S_ := by decide
  bitsLt_bf16_f32 := by decide
  bcast_S_S1024x1024 := by decide
  reducesTo_S1024x1024_S_d0_1 := by decide
  bcast_S_S4096x512 := by decide
  reducesTo_S4096x512_S_d0_1 := by decide
  bcast_S_S4096x3072 := by decide
  reducesTo_S4096x3072_S_d0_1 := by decide

instance : Subsingleton Cert.Pre_finite3.S_.Idx := ⟨fun _ _ => funext fun a => a.elim0⟩

theorem finite_of [Cert.Pre_finite3.Facts]
    (g : Cert.Pre_finite3.S4096x1024.Idx → EReal)
    (w : Cert.Pre_finite3.S1024x1024.Idx → EReal)
    (y : Cert.Pre_finite3.S4096x512.Idx → EReal)
    (o : Cert.Pre_finite3.S4096x512.Idx → EReal)
    (p : Cert.Pre_finite3.S4096x3072.Idx → EReal)
    (h : Cert.Pre_finite3.fn (F := Ideal) g w y o p = fun _ => 1#1) :
    (AllReal g ∧ AllReal w) ∧ AllReal y ∧ AllReal o ∧ AllReal p := by
  have h0 := congrFun h (fun a => a.elim0)
  unfold Cert.Pre_finite3.fn Cert.Pre_finite3.fn_part1 at h0
  obtain ⟨hgw, hr⟩ := IntOp.andi_eq_one.mp h0
  obtain ⟨hg, hw⟩ := IntOp.andi_eq_one.mp hgw
  obtain ⟨hy, hop⟩ := IntOp.andi_eq_one.mp hr
  obtain ⟨ho, hp⟩ := IntOp.andi_eq_one.mp hop
  exact ⟨⟨fun i => real_of_lt _ (Host.reduce_andi_all _ _ _ _ _ hg i), fun i => real_of_lt _ (Host.reduce_andi_all _ _ _ _ _ hw i)⟩,
    fun i => real_of_lt _ (Host.reduce_andi_all _ _ _ _ _ hy i), fun i => real_of_lt _ (Host.reduce_andi_all _ _ _ _ _ ho i),
    fun i => real_of_lt _ (Host.reduce_andi_all _ _ _ _ _ hp i)⟩

/-! ### The reference's run -/

section RefRun

open Cert.Reference3Ideal Cert.Reference3Ideal.Gen Cert.Reference3Ideal.Value Cert.Proof.RI3

variable (m : (ℓ : Loc nD τ sig) → Buf (Elt Ideal) ℓ) (ρ : Dev nD → PrngReg)

/-- What the reference leaves of its arguments. -/
def KeptRef (s : MemSt nD τ sig (Elt Ideal)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem ref_run : θ_run defs (onTc (τ := τ) (main (F := Ideal))) ⟨m, fun _ => 0, ρ⟩ (fun r => ∀ c : Dev nD,
      (r.2.mem ((c.tc : Thread nD τ).loc main_v13) = At m c 76 main_v13
      ∧ r.2.mem ((c.tc : Thread nD τ).loc main_v37) = At m c 76 main_v37
      ∧ r.2.mem ((c.tc : Thread nD τ).loc main_v39) = At m c 76 main_v39
      ∧ r.2.mem ((c.tc : Thread nD τ).loc main_v41) = At m c 76 main_v41
      ∧ r.2.mem ((c.tc : Thread nD τ).loc main_v42) = At m c 76 main_v42)
      ∧ KeptRef m r.2 c) := by
  have e : (ops : List (HloOp τ sig (Elt Ideal))).take 76 = ops := rfl
  have hA : ∀ c : Dev nD, At m c 76 = StableHlo.after ops (fun b => m (c, b)) := fun c => congrArg (fun o => StableHlo.after o (fun b => m (c, b))) e
  refine (θ_run defs _ _).mono (fun r h c => ?_) (StableHlo.run_seq scopedRefs_eq scopedSems_eq defs main (fun _ => ops) main_eq (fun _ => ops_sub) m ρ)
  have k : ∀ b : Ref sig .tc, IsArg b → r.2.mem ((c.tc : Thread nD τ).loc b) = m ((c.tc : Thread nD τ).loc b) := fun b hb =>
    (h c b).trans ((congrFun (hA c) _).symm.trans (keep_arg m c b hb 76))
  rw [hA c]
  exact ⟨⟨h c main_v13, h c main_v37, h c main_v39, h c main_v41, h c main_v42⟩, k main_arg0 (by simp [IsArg]), k main_arg1 (by simp [IsArg]), k main_arg2 (by simp [IsArg]), k main_arg3 (by simp [IsArg]), k main_arg4 (by simp [IsArg])⟩

/-- The reference leaves its arguments as they were, and no counter. -/
theorem ref_frame : Cert.quiescent_Reference3Ideal (hReference3Ideal := Cert.Reference3Ideal.Gen.facts) :=
  fun m ρ _ => (θ_run Cert.Reference3Ideal.defs _ _).mono (fun r h => ⟨fun c => (h c).2, sem_eq_zero_of_no_sems (by decide) r.2⟩) (ref_run m ρ)

end RefRun

/-! ### The results of the two -/

section Equal

variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ)

/-- The two programs' arguments are the same arrays. -/
def Same (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
    ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
    ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
    ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
    ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)

theorem args_eq (c : Dev Cert.Kernel3Ideal.nD) (h : Same m m' c) : RI3.args m' c = args m c := by
  obtain ⟨h0, h1, h2, h3, h4⟩ := h
  have e4 := h4.trans (Cert.Kernel3Ideal.Gen.V_main_arg4 m c).symm
  exact Args.ext (funext fun T => funext fun k => congrFun (h0.trans (Cert.Kernel3Ideal.Gen.V_main_arg0 m c).symm) (ix2 T k))
    (funext fun i => funext fun k => congrFun (h1.trans (Cert.Kernel3Ideal.Gen.V_main_arg1 m c).symm) (ix2 i k))
    (funext fun T => funext fun l => congrFun (h2.trans (Cert.Kernel3Ideal.Gen.V_main_arg2 m c).symm) (ix2 T l))
    (funext fun T => funext fun l => congrFun (h3.trans (Cert.Kernel3Ideal.Gen.V_main_arg3 m c).symm) (ix2 T l))
    (funext fun T => funext fun l => congrFun e4 (ix2 T (RI3.pcol l)))
    (funext fun T => funext fun l => congrFun e4 (ix2 T (RI3.acol l)))

/-- The third call's arguments are real numbers where the precondition holds. -/
theorem args_finite [Cert.Pre_finite3.Facts] (c : Dev Cert.Kernel3Ideal.nD)
    (h : Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) = fun _ => 1#1) : (args m c).Finite := by
  obtain ⟨⟨fg, fw⟩, fy, fo, fp⟩ := finite_of _ _ _ _ _ h
  have g0 := Cert.Kernel3Ideal.Gen.V_main_arg0 m c
  have g1 := Cert.Kernel3Ideal.Gen.V_main_arg1 m c
  have g2 := Cert.Kernel3Ideal.Gen.V_main_arg2 m c
  have g3 := Cert.Kernel3Ideal.Gen.V_main_arg3 m c
  have g4 := Cert.Kernel3Ideal.Gen.V_main_arg4 m c
  constructor
  · intro T k
    exact real_at (congrFun g0 (ix2 T k)) (fg (ix2 T k))
  · intro i k
    exact real_at (congrFun g1 (ix2 i k)) (fw (ix2 i k))
  · intro T l
    exact real_at (congrFun g2 (ix2 T l)) (fy (ix2 T l))
  · intro T l
    exact real_at (congrFun g3 (ix2 T l)) (fo (ix2 T l))
  · intro T l
    exact real_at (congrFun g4 (ix2 T (RI3.pcol l))) (fp (ix2 T (RI3.pcol l)))
  · intro T l
    exact real_at (congrFun g4 (ix2 T (RI3.acol l))) (fp (ix2 T (RI3.acol l)))

theorem algebraic [Cert.Pre_finite3.Facts] :
    Cert.algebraic_Kernel3Ideal_Reference3Ideal_pre_finite3 (hKernel3Ideal := Cert.Kernel3Ideal.Gen.facts) (hReference3Ideal := Cert.Reference3Ideal.Gen.facts) := by
  intro m g m' g' hm h
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N,
    Cert.Kernel3Ideal.Value.run_blocks m g, ?_⟩
  refine (θ_run Cert.Reference3Ideal.defs _ _).mono (fun r hr c => ?_) (ref_run m' g')
  obtain ⟨⟨e0, e1, e2, e3, e4⟩, ea⟩ := hr c
  have hA := args_eq m m' c (h c)
  have hr3 := fun T l i j => RI3.results m' c T l i j
  rw [hA] at hr3
  have hf := args_finite m c (hm c)
  exact ⟨e0.trans ((ext2 fun i j => (hr3 0 0 i j).1).trans (arr6 m c).symm), e1.trans ((ext2 fun i j => (hr3 0 0 i j).2.1).trans (arr7 m c).symm),
    e2.trans ((ext2 fun T i => (hr3 T 0 i 0).2.2.1).trans (arr8 m c).symm),
    e3.trans ((ext2 fun T i => (hr3 T 0 i 0).2.2.2.1.trans (hf.dgat_eq T i)).trans (arr9 m c).symm),
    e4.trans ((ext2 fun T l => (hr3 T l 0 0).2.2.2.2.trans (hf.daug_eq T l)).trans (arr10 m c).symm), ea⟩

end Equal

end Cert.Proof.Out

end
-- ==== Proof.Bot.Dw.lean ====
/-
  The bottom layer's weights: what each grid point of the call leaves in its results' buffers, over the extended
  reals, and the results' arrays at an index.
-/
module

public import proofs.«01_k».proof.Proof.In.Host
public import proofs.«01_k».proof.Proof.Gen.Kernel4Ideal.Value

@[expose] public section

set_option maxRecDepth 16384

noncomputable section

namespace Cert.Proof.Dw

open Cert.Kernel4Ideal Cert.Kernel4Ideal.Gen
open Idealize.ShloMosaic Idealize.ShloMosaic.TcCoe
open Idealize.SL Idealize.SL.Sem
open Idealize.ShloMosaic.Pipeline
open Cert.Proof.In (Args row row_col row_colz col colz rms canon7 ld_sec ld_secz idx_all atx atg)

/-! ## A section's columns -/

theorem pay8_apply (h : S1024x1024.Idx → EReal) (o : S1024x128.Idx → EReal) (d : S1024x128.Idx → EReal) (i : Fin 1024) (l : Fin 128) :
    k0_pay8 (F := Ideal) h o d (ix2 i l) = o (ix2 i l) + ∑ r : Fin 1024, h (ix2 r i) * d (ix2 r l) := by pointwise [k0_pay8, k0_pay7]
theorem pay9_apply (h : S1024x1024.Idx → EReal) (o : S1024x512.Idx → EReal) (d : S1024x512.Idx → EReal) (i : Fin 1024) (l : Fin 512) :
    k0_pay9 (F := Ideal) h o d (ix2 i l) = o (ix2 i l) + ∑ r : Fin 1024, h (ix2 r i) * d (ix2 r l) := by pointwise [k0_pay9, k0_pay7]
theorem pay10_apply (h : S1024x1024.Idx → EReal) (o : S1024x512.Idx → EReal) (d : S1024x512.Idx → EReal) (i : Fin 1024) (l : Fin 512) :
    k0_pay10 (F := Ideal) h o d (ix2 i l) = o (ix2 i l) + ∑ r : Fin 1024, h (ix2 r i) * d (ix2 r l) := by pointwise [k0_pay10, k0_pay7]
theorem pay1_apply (h : S1024x1024.Idx → EReal) (o : S1024x512.Idx → EReal) (d : S1024x512.Idx → EReal) (i : Fin 1024) (l : Fin 512) :
    k0_pay1 (F := Ideal) (k0_pay7 (F := Ideal) h) (k0_pay11 (F := Ideal) o) d (ix2 i l) = o (ix2 i l) + ∑ r : Fin 1024, h (ix2 r i) * d (ix2 r l) := by pointwise [k0_pay1, k0_pay7, k0_pay11]
theorem pay2_apply (h : S1024x1024.Idx → EReal) (o : S1024x512.Idx → EReal) (d : S1024x512.Idx → EReal) (i : Fin 1024) (l : Fin 512) :
    k0_pay2 (F := Ideal) (k0_pay7 (F := Ideal) h) o d (ix2 i l) = o (ix2 i l) + ∑ r : Fin 1024, h (ix2 r i) * d (ix2 r l) := by pointwise [k0_pay2, k0_pay7]
theorem pay3_apply (h : S1024x1024.Idx → EReal) (o : S1024x512.Idx → EReal) (d : S1024x512.Idx → EReal) (i : Fin 1024) (l : Fin 512) :
    k0_pay3 (F := Ideal) (k0_pay7 (F := Ideal) h) o d (ix2 i l) = o (ix2 i l) + ∑ r : Fin 1024, h (ix2 r i) * d (ix2 r l) := by pointwise [k0_pay3, k0_pay7]
theorem pay4_apply (h : S1024x1024.Idx → EReal) (o : S1024x512.Idx → EReal) (d : S1024x512.Idx → EReal) (i : Fin 1024) (l : Fin 512) :
    k0_pay4 (F := Ideal) (k0_pay7 (F := Ideal) h) o d (ix2 i l) = o (ix2 i l) + ∑ r : Fin 1024, h (ix2 r i) * d (ix2 r l) := by pointwise [k0_pay4, k0_pay7]
theorem pay5_apply (A : S1024x3200.Idx → EReal) (i : Fin 1024) (j : Fin 3200) : k0_pay5 (F := Ideal) A (ix2 i j) = A (ix2 i j) := by pointwise [k0_pay5]

variable (m : (ℓ : Loc nD τ sig) → Buf (Elt Ideal) ℓ) (c : Dev nD)

/-- Section `s` of the projection's gradient, at a row of tile `t`. -/
def sec (t : Fin cfg0.N) (r : Fin 1024) (s : Fin 6) (l : Fin 512) : EReal :=
  (match s with
   | 0 => (iblk m c 1 t : S1024x512.Idx → EReal)
   | 1 => (iblk m c 2 t : S1024x512.Idx → EReal)
   | 2 => (iblk m c 3 t : S1024x512.Idx → EReal)
   | 3 => (iblk m c 4 t : S1024x512.Idx → EReal)
   | 4 => (iblk m c 5 t : S1024x512.Idx → EReal)
   | 5 => (iblk m c 6 t : S1024x512.Idx → EReal)) (ix2 r l)
/-- The projection's gradient at a row of tile `t`. -/
def drow (t : Fin cfg0.N) (r : Fin 1024) : Fin 3200 → EReal := row (sec m c t r) fun l => (iblk m c 0 t : S1024x128.Idx → EReal) (ix2 r l)
/-- The normed input at a row of tile `t`, with its gains. -/
def hrow (t : Fin cfg0.N) (r : Fin 1024) (i : Fin 1024) : EReal := (iblk m c 7 t : S1024x1024.Idx → EReal) (ix2 r i)

theorem acc7 (t : Fin cfg0.N) (Z : List (View.Piece (Elt Ideal) S1024x3200 .f32)) (o : S1024x3200.Idx → EReal) (o0 : S1024x128.Idx → EReal) (o1 o2 o3 o4 o5 o6 : S1024x512.Idx → EReal)
    (e0 : ∀ i l, o0 (ix2 i l) = o (ix2 i (colz l))) (e1 : ∀ i l, o1 (ix2 i l) = o (ix2 i (col 0 l))) (e2 : ∀ i l, o2 (ix2 i l) = o (ix2 i (col 1 l)))
    (e3 : ∀ i l, o3 (ix2 i l) = o (ix2 i (col 2 l))) (e4 : ∀ i l, o4 (ix2 i l) = o (ix2 i (col 3 l))) (e5 : ∀ i l, o5 (ix2 i l) = o (ix2 i (col 4 l)))
    (e6 : ∀ i l, o6 (ix2 i l) = o (ix2 i (col 5 l))) (i : Fin 1024) (j : Fin 3200) :
    View.canon (Val := Elt Ideal) (s := S1024x3200) (e := .f32)
      (⟨Rect.unit ![0, 2560] ![1024, 512] inb_S1024x3200_S1024x512_0_2560, k0_pay4 (F := Ideal) (k0_pay7 (F := Ideal) (iblk m c 7 t)) o6 (iblk m c 6 t)⟩ ::
        ⟨Rect.unit ![0, 2048] ![1024, 512] inb_S1024x3200_S1024x512_0_2048, k0_pay3 (F := Ideal) (k0_pay7 (F := Ideal) (iblk m c 7 t)) o5 (iblk m c 5 t)⟩ ::
        ⟨Rect.unit ![0, 1536] ![1024, 512] inb_S1024x3200_S1024x512_0_1536, k0_pay2 (F := Ideal) (k0_pay7 (F := Ideal) (iblk m c 7 t)) o4 (iblk m c 4 t)⟩ ::
        ⟨Rect.unit ![0, 1024] ![1024, 512] inb_S1024x3200_S1024x512_0_1024, k0_pay1 (F := Ideal) (k0_pay7 (F := Ideal) (iblk m c 7 t)) (k0_pay11 (F := Ideal) o3) (iblk m c 3 t)⟩ ::
        ⟨Rect.unit ![0, 512] ![1024, 512] inb_S1024x3200_S1024x512_0_512, k0_pay10 (F := Ideal) (iblk m c 7 t) o2 (iblk m c 2 t)⟩ ::
        ⟨Rect.unit ![0, 0] ![1024, 512] inb_S1024x3200_S1024x512_0_0, k0_pay9 (F := Ideal) (iblk m c 7 t) o1 (iblk m c 1 t)⟩ ::
        ⟨Rect.unit ![0, 3072] ![1024, 128] inb_S1024x3200_S1024x128_0_3072, k0_pay8 (F := Ideal) (iblk m c 7 t) o0 (iblk m c 0 t)⟩ :: Z) (ix2 i j) =
      o (ix2 i j) + ∑ r, hrow m c t r i * drow m c t r j := by
  refine canon7 Z _ _ _ _ _ _ _ (fun i j => o (ix2 i j) + ∑ r, hrow m c t r i * drow m c t r j) ?_ ?_ ?_ ?_ ?_ ?_ ?_ i j
  · intro i l; rw [pay8_apply, e0]; simp only [drow, row_colz]; rfl
  · intro i l; rw [pay9_apply, e1]; simp only [drow, row_col]; rfl
  · intro i l; rw [pay10_apply, e2]; simp only [drow, row_col]; rfl
  · intro i l; rw [pay1_apply, e3]; simp only [drow, row_col]; rfl
  · intro i l; rw [pay2_apply, e4]; simp only [drow, row_col]; rfl
  · intro i l; rw [pay3_apply, e5]; simp only [drow, row_col]; rfl
  · intro i l; rw [pay4_apply, e6]; simp only [drow, row_col]; rfl

theorem dw_first (t : Fin cfg0.N) (h0 : t.val % 4 = 0) (i : Fin 1024) (j : Fin 3200) :
    (outsAt0 m c t.val t.isLt).1 (ix2 i j) = 0 + ∑ r, hrow m c t r i * drow m c t r j := by
  rw [outsAt0_A m c t h0 (by omega)]
  frame_out [↓View.readCov_skip, View.readCov_fill]
  have z : ∀ i j, k0_pay6 (F := Ideal) (ix2 i j) = (0 : EReal) := fun i j => by pointwise [k0_pay6]
  refine (acc7 m c t _ (k0_pay6 (F := Ideal)) _ _ _ _ _ _ _ ?_ ?_ ?_ ?_ ?_ ?_ ?_ i j).trans (by rw [z])
  · exact ld_secz _ _
  · exact ld_sec _ _ 0 rfl
  · exact ld_sec _ _ 1 rfl
  · exact ld_sec _ _ 2 rfl
  · exact ld_sec _ _ 3 rfl
  · exact ld_sec _ _ 4 rfl
  · exact ld_sec _ _ 5 rfl

theorem dw_next (t : Fin cfg0.N) (h0 : ¬ t.val % 4 = 0) (i : Fin 1024) (j : Fin 3200) :
    (outsAt0 m c t.val t.isLt).1 (ix2 i j) = (outsAt0 m c (t.val - 1) (by omega)).1 (ix2 i j) + ∑ r, hrow m c t r i * drow m c t r j := by
  by_cases h3 : t.val % 4 = 3
  · rw [outsAt0_C m c t h0 h3]
    frame_out
    exact acc7 m c t _ _ _ _ _ _ _ _ _ (ld_secz _ _) (ld_sec _ _ 0 rfl) (ld_sec _ _ 1 rfl) (ld_sec _ _ 2 rfl) (ld_sec _ _ 3 rfl) (ld_sec _ _ 4 rfl) (ld_sec _ _ 5 rfl) i j
  · rw [outsAt0_B m c t h0 h3]
    frame_out
    exact acc7 m c t _ _ _ _ _ _ _ _ _ (ld_secz _ _) (ld_sec _ _ 0 rfl) (ld_sec _ _ 1 rfl) (ld_sec _ _ 2 rfl) (ld_sec _ _ 3 rfl) (ld_sec _ _ 4 rfl) (ld_sec _ _ 5 rfl) i j

/-- At the last point the narrow copy of the weights' gradient is the gradient. -/
theorem dwb_last (t : Fin cfg0.N) (h3 : t.val % 4 = 3) (i : Fin 1024) (j : Fin 3200) :
    (outsAt0 m c t.val t.isLt).2 (ix2 i j) = (outsAt0 m c t.val t.isLt).1 (ix2 i j) := by
  have e := dw_next m c t (by omega) i j
  rw [e, outsAt0_C m c t (by omega) h3]
  frame_out
  rw [View.readCov_eq_canon', pay5_apply]
  exact (congrArg _ (idx_all i j)).trans
    (acc7 m c t [] _ _ _ _ _ _ _ _ (ld_secz _ _) (ld_sec _ _ 0 rfl) (ld_sec _ _ 1 rfl) (ld_sec _ _ 2 rfl) (ld_sec _ _ 3 rfl) (ld_sec _ _ 4 rfl) (ld_sec _ _ 5 rfl) i j)

/-! ## Rows by tiles -/

/-- Row `r` of tile `n`. -/
def rowT (n : Nat) (hn : n < 4) (r : Fin 1024) : Fin 4096 := ⟨1024 * n + r.val, by omega⟩

/-- Four updates by the tiles' sums make the sum over all rows. -/
theorem sum_tiles (f : (n : Nat) → n < 4 → EReal) (F : Fin 4096 → EReal) (h0 : f 0 (by decide) = 0 + ∑ r, F (rowT 0 (by decide) r))
    (hs : ∀ n (h : n + 1 < 4), f (n + 1) h = f n (by omega) + ∑ r, F (rowT (n + 1) h r)) : f 3 (by decide) = ∑ T, F T := by
  rw [hs 2, hs 1, hs 0, h0, zero_add]
  refine Eq.symm ((Fin.sum_divmod_congr (A := 4) (S := 1024) (f := fun a r => F (rowT a.val a.isLt r)) fun T _ _ =>
    congrArg F (Fin.ext (Nat.div_add_mod T.val 1024).symm)).trans ?_)
  exact Fin.sum_univ_four _

/-- The launched arrays, and the normed input the host makes of them. The call reads no weights, and no gradient passes it by. -/
def args : Args where
  dpu T l := V m c main_arg0 (ix2 T l)
  dgate T l := V m c main_arg1 (ix2 T l)
  dq T l := V m c main_arg2 (ix2 T l)
  dk T l := V m c main_arg3 (ix2 T l)
  dv T l := V m c main_arg4 (ix2 T l)
  dz T l := V m c main_arg5 (ix2 T l)
  w _ _ := 0
  x T i := V m c main_arg6 (ix2 T i)
  gam i := V m c main_arg7 (ix2 0 i)
  g _ _ := 0
  h T i := V m c main_v12 (ix2 T i)

theorem lt4 (t : Fin cfg0.N) : t.val < 4 := lt_of_lt_of_eq t.isLt N_0

theorem wi0 : ∀ n : Fin grid0.N, win0_0.index n 0 = n.val ∧ win0_0.index n 1 = 0 := by decide +kernel
theorem wi1 : ∀ n : Fin grid0.N, win0_1.index n 0 = n.val ∧ win0_1.index n 1 = 0 := by decide +kernel
theorem wi2 : ∀ n : Fin grid0.N, win0_2.index n 0 = n.val ∧ win0_2.index n 1 = 0 := by decide +kernel
theorem wi3 : ∀ n : Fin grid0.N, win0_3.index n 0 = n.val ∧ win0_3.index n 1 = 0 := by decide +kernel
theorem wi4 : ∀ n : Fin grid0.N, win0_4.index n 0 = n.val ∧ win0_4.index n 1 = 0 := by decide +kernel
theorem wi5 : ∀ n : Fin grid0.N, win0_5.index n 0 = n.val ∧ win0_5.index n 1 = 0 := by decide +kernel
theorem wi6 : ∀ n : Fin grid0.N, win0_6.index n 0 = n.val ∧ win0_6.index n 1 = 1 := by decide +kernel
theorem wi7 : ∀ n : Fin grid0.N, win0_7.index n 0 = n.val ∧ win0_7.index n 1 = 0 := by decide +kernel
theorem wi8 : ∀ n : Fin grid0.N, win0_8.index n 0 = 0 ∧ win0_8.index n 1 = 0 := by decide +kernel
theorem wi9 : ∀ n : Fin grid0.N, win0_9.index n 0 = 0 ∧ win0_9.index n 1 = 0 := by decide +kernel

theorem blk0 (n : Fin cfg0.N) (r : Fin 1024) (l : Fin 128) : iblk m c 0 n (ix2 r l) = V m c main_arg5 (ix2 (rowT n.val (lt4 n) r) l) := by
  obtain ⟨e0, e1⟩ := wi0 n
  unfold iblk
  generalize V m c = A
  blk_simp
  refine congrArg (A main_arg5) ?_
  funext b; apply Fin.ext
  match b with
  | ⟨0, _⟩ => blk_simp [e0]; show _ = 1024 * n.val + r.val; omega
  | ⟨1, _⟩ => blk_simp [e1]
theorem blk1 (n : Fin cfg0.N) (r : Fin 1024) (l : Fin 512) : iblk m c 1 n (ix2 r l) = V m c main_arg0 (ix2 (rowT n.val (lt4 n) r) l) := by
  obtain ⟨e0, e1⟩ := wi1 n
  unfold iblk
  generalize V m c = A
  blk_simp
  refine congrArg (A main_arg0) ?_
  funext b; apply Fin.ext
  match b with
  | ⟨0, _⟩ => blk_simp [e0]; show _ = 1024 * n.val + r.val; omega
  | ⟨1, _⟩ => blk_simp [e1]
theorem blk2 (n : Fin cfg0.N) (r : Fin 1024) (l : Fin 512) : iblk m c 2 n (ix2 r l) = V m c main_arg1 (ix2 (rowT n.val (lt4 n) r) ⟨l.val, by omega⟩) := by
  obtain ⟨e0, e1⟩ := wi2 n
  unfold iblk
  generalize V m c = A
  blk_simp
  refine congrArg (A main_arg1) ?_
  funext b; apply Fin.ext
  match b with
  | ⟨0, _⟩ => blk_simp [e0]; show _ = 1024 * n.val + r.val; omega
  | ⟨1, _⟩ => blk_simp [e1]
theorem blk3 (n : Fin cfg0.N) (r : Fin 1024) (l : Fin 512) : iblk m c 3 n (ix2 r l) = V m c main_arg2 (ix2 (rowT n.val (lt4 n) r) l) := by
  obtain ⟨e0, e1⟩ := wi3 n
  unfold iblk
  generalize V m c = A
  blk_simp
  refine congrArg (A main_arg2) ?_
  funext b; apply Fin.ext
  match b with
  | ⟨0, _⟩ => blk_simp [e0]; show _ = 1024 * n.val + r.val; omega
  | ⟨1, _⟩ => blk_simp [e1]
theorem blk4 (n : Fin cfg0.N) (r : Fin 1024) (l : Fin 512) : iblk m c 4 n (ix2 r l) = V m c main_arg3 (ix2 (rowT n.val (lt4 n) r) l) := by
  obtain ⟨e0, e1⟩ := wi4 n
  unfold iblk
  generalize V m c = A
  blk_simp
  refine congrArg (A main_arg3) ?_
  funext b; apply Fin.ext
  match b with
  | ⟨0, _⟩ => blk_simp [e0]; show _ = 1024 * n.val + r.val; omega
  | ⟨1, _⟩ => blk_simp [e1]
theorem blk5 (n : Fin cfg0.N) (r : Fin 1024) (l : Fin 512) : iblk m c 5 n (ix2 r l) = V m c main_arg4 (ix2 (rowT n.val (lt4 n) r) l) := by
  obtain ⟨e0, e1⟩ := wi5 n
  unfold iblk
  generalize V m c = A
  blk_simp
  refine congrArg (A main_arg4) ?_
  funext b; apply Fin.ext
  match b with
  | ⟨0, _⟩ => blk_simp [e0]; show _ = 1024 * n.val + r.val; omega
  | ⟨1, _⟩ => blk_simp [e1]
theorem blk6 (n : Fin cfg0.N) (r : Fin 1024) (l : Fin 512) : iblk m c 6 n (ix2 r l) = V m c main_arg1 (ix2 (rowT n.val (lt4 n) r) ⟨512 + l.val, by omega⟩) := by
  obtain ⟨e0, e1⟩ := wi6 n
  unfold iblk
  generalize V m c = A
  blk_simp
  refine congrArg (A main_arg1) ?_
  funext b; apply Fin.ext
  match b with
  | ⟨0, _⟩ => blk_simp [e0]; show _ = 1024 * n.val + r.val; omega
  | ⟨1, _⟩ => blk_simp [e1]
theorem blk7 (n : Fin cfg0.N) (r : Fin 1024) (l : Fin 1024) : iblk m c 7 n (ix2 r l) = V m c main_v12 (ix2 (rowT n.val (lt4 n) r) l) := by
  obtain ⟨e0, e1⟩ := wi7 n
  unfold iblk
  generalize V m c = A
  blk_simp
  refine congrArg (A main_v12) ?_
  funext b; apply Fin.ext
  match b with
  | ⟨0, _⟩ => blk_simp [e0]; show _ = 1024 * n.val + r.val; omega
  | ⟨1, _⟩ => blk_simp [e1]

theorem args_d (t : Fin cfg0.N) (r : Fin 1024) : drow m c t r = (args m c).d (rowT t.val (lt4 t) r) := by
  unfold drow Args.d
  congr 1
  · funext s l
    match s with
    | 0 => exact blk1 m c t r l
    | 1 => exact blk2 m c t r l
    | 2 => exact blk3 m c t r l
    | 3 => exact blk4 m c t r l
    | 4 => exact blk5 m c t r l
    | 5 => exact blk6 m c t r l
  · funext l
    exact blk0 m c t r l

theorem args_h (t : Fin cfg0.N) (r : Fin 1024) : hrow m c t r = (args m c).h (rowT t.val (lt4 t) r) := funext fun i => blk7 m c t r i

/-! ## The results' arrays -/

theorem lt' {n : Nat} (h : n < 4) : n < cfg0.N := lt_of_lt_of_eq h N_0.symm

theorem dw_term (n : Nat) (h : n < 4) (r : Fin 1024) (i : Fin 1024) (j : Fin 3200) :
    hrow m c ⟨n, lt' h⟩ r i * drow m c ⟨n, lt' h⟩ r j = (args m c).h (rowT n h r) i * (args m c).d (rowT n h r) j :=
  congrArg₂ (· * ·) (congrFun (args_h m c ⟨n, lt' h⟩ r) i) (congrFun (args_d m c ⟨n, lt' h⟩ r) j)
theorem dw_last (i : Fin 1024) (j : Fin 3200) : (outsAt0 m c 3 (lt' (by decide))).1 (ix2 i j) = (args m c).dw i j :=
  sum_tiles (fun n h => (outsAt0 m c n (lt' h)).1 (ix2 i j)) (fun T => (args m c).h T i * (args m c).d T j)
    ((dw_first m c ⟨0, lt' (by decide)⟩ rfl i j).trans (congrArg (HAdd.hAdd 0) (Finset.sum_congr rfl fun r _ => dw_term m c 0 _ r i j)))
    (fun n h => (dw_next m c ⟨n + 1, lt' h⟩ (by show ¬ (n + 1) % 4 = 0; omega) i j).trans (congrArg (HAdd.hAdd _) (Finset.sum_congr rfl fun r _ => dw_term m c (n + 1) h r i j)))

theorem is3 (t : Fin cfg0.N) (h : t.val % 4 = 3) : t = ⟨3, lt' (by decide)⟩ := Fin.ext (by have := lt4 t; show t.val = 3; omega)

theorem dw_at (t : Fin cfg0.N) (h : t.val % 4 = 3) (i : Fin 1024) (j : Fin 3200) : (outsAt0 m c t.val t.isLt).1 (ix2 i j) = (args m c).dw i j := by
  rw [is3 t h]; exact dw_last m c i j
theorem dwb_at (t : Fin cfg0.N) (h : t.val % 4 = 3) (i : Fin 1024) (j : Fin 3200) : (outsAt0 m c t.val t.isLt).2 (ix2 i j) = (args m c).dw i j :=
  (dwb_last m c t h i j).trans (dw_at m c t h i j)

theorem arr8 : (dats m 0 c).arrAt 8 cfg0.N = fun y => (args m c).dw (y 0) (y 1) := by
  refine (dats m 0 c).arrAt_eq_of_covers 8 _ (by decide +kernel) fun t hf y => ?_
  obtain ⟨e0, e1⟩ := wi8 t
  have ht := (flush0_8 t).mp hf
  blk_simp
  rw [after0_8]
  idx_vars y
  refine (dw_at m c t ht y0 y1).trans (congrArg₂ _ (Fin.ext ?_) (Fin.ext ?_))
  · blk_simp [e0]
  · blk_simp [e1]

theorem arr9 : (dats m 0 c).arrAt 9 cfg0.N = fun y => (args m c).dw (y 0) (y 1) := by
  refine (dats m 0 c).arrAt_eq_of_covers 9 _ (by decide +kernel) fun t hf y => ?_
  obtain ⟨e0, e1⟩ := wi9 t
  have ht := (flush0_9 t).mp hf
  blk_simp
  rw [after0_9]
  idx_vars y
  refine (dwb_at m c t ht y0 y1).trans (congrArg₂ _ (Fin.ext ?_) (Fin.ext ?_))
  · blk_simp [e0]
  · blk_simp [e1]

/-! ## The normed input -/

set_option maxHeartbeats 4000000 in
theorem host_h (X : Valuation τ sig (Elt Ideal)) (T : Fin 4096) (i : Fin 1024) :
    atx (StableHlo.after hostOps0 X main_v12) T i = atx (X main_arg6) T i * rms (fun k => atx (X main_arg6) T k) * atg (X main_arg7) i := by
  simp only [hostOps0]
  simp only [atx, atg, rms]
  first | (after_reads_at; done) | (after_reads_at; rfl)

/-- The normed input. -/
theorem args_norm (T : Fin 4096) (i : Fin 1024) :
    (args m c).h T i = (args m c).xh T i * (args m c).gam i := by
  have e7 := V_main_arg6 m c
  have e8 := V_main_arg7 m c
  refine (host_h (fun b => m (c, b)) T i).trans ?_
  simp only [Args.xh, args]
  rw [e7, e8]
  rfl

end Cert.Proof.Dw

end
-- ==== Proof.Bot.RefDw.lean ====
/-
  The reference of the call that makes the bottom layer's weights' gradient, read at an index.
-/
module

public import proofs.«01_k».proof.Proof.In.Real
public import proofs.«01_k».proof.Proof.Bot.Dw
public import proofs.«01_k».proof.Proof.Gen.Reference4Ideal.Run
public import Idealize.ShloMosaic.Lib.StableHlo.ReadAt

@[expose] public section

set_option maxRecDepth 16384

noncomputable section

namespace Cert.Proof.RI4

open Cert.Reference4Ideal Cert.Reference4Ideal.Gen Cert.Reference4Ideal.Value
open Idealize.ShloMosaic Idealize.ShloMosaic.TcCoe
open Idealize.SL Idealize.SL.Sem
open Cert.Proof.In (Args rms row col colz atx atg)
open Cert.Proof.RI2 (atn atz atp atw atv ato secOf stat dhOf thru)

theorem after_append (A B : List (HloOp τ sig (Elt Ideal))) (X : Valuation τ sig (Elt Ideal)) :
    StableHlo.after (A ++ B) X = StableHlo.after B (StableHlo.after A X) := by
  induction A generalizing X with
  | nil => rfl
  | cons o A ih => exact ih (o.result X)

/-- The `k` operations of the reference that follow its first `n`. -/
def seg (n k : ℕ) : List (HloOp τ sig (Elt Ideal)) := (ops.drop n).take k

/-- The buffers after the first `n` operations of the reference. -/
def At (m : (ℓ : Loc nD τ sig) → Buf (Elt Ideal) ℓ) (c : Dev nD) (n : ℕ) : Valuation τ sig (Elt Ideal) :=
  StableHlo.after (ops.take n) (fun b => m (c, b))

theorem At_add (m : (ℓ : Loc nD τ sig) → Buf (Elt Ideal) ℓ) (c : Dev nD) (n k : ℕ) :
    At m c (n + k) = StableHlo.after (seg n k) (At m c n) := by
  unfold At seg
  rw [List.take_add, after_append]

set_option maxHeartbeats 4000000 in
theorem stage0 (X : Valuation τ sig (Elt Ideal)) (T : Fin 4096) (l : Fin 512) :
    atn (StableHlo.after (seg 0 2) X main_v0) T l = atx (X main_arg1) T ⟨l.val, by omega⟩ ∧
    atn (StableHlo.after (seg 0 2) X main_v1) T l = atx (X main_arg1) T ⟨512 + l.val, by omega⟩ := by
  simp only [seg, ops, List.drop_succ_cons, List.drop_zero, List.take_succ_cons, List.take_zero]
  simp only [atn, atx]
  refine ⟨?_, ?_⟩
  all_goals first | (after_reads_at; done) | (after_reads_at; rfl)

set_option maxHeartbeats 4000000 in
theorem stage2 (X : Valuation τ sig (Elt Ideal)) (i : Fin 1024) (j : Fin 3200) :
    atw (StableHlo.after (seg 3 22) X main_v19) i j =
      (∑ T, atp (X main_v2) T j * (atx (X main_arg6) T i * rms (fun k => atx (X main_arg6) T k) * atg (X main_arg7) i)) ∧
    atw (StableHlo.after (seg 3 22) X main_v20) i j =
      (∑ T, atp (X main_v2) T j * (atx (X main_arg6) T i * rms (fun k => atx (X main_arg6) T k) * atg (X main_arg7) i)) := by
  simp only [seg, ops, List.drop_succ_cons, List.drop_zero, List.take_succ_cons, List.take_zero]
  simp only [atp, atw, atx, atg, rms]
  refine ⟨?_, ?_⟩
  all_goals first | (after_reads_at; done) | (after_reads_at; rfl)

theorem cat_op (X : Valuation τ sig (Elt Ideal)) :
    StableHlo.after (seg 2 1) X main_v2 = Cert.Reference2Ideal.Value.fn_main_v2 (F := Ideal) (X main_arg0) (X main_v0) (X main_arg2) (X main_arg3) (X main_arg4) (X main_v1) (X main_arg5) := by
  simp only [seg, ops, List.drop_succ_cons, List.drop_zero, List.take_succ_cons, List.take_zero]
  rw [StableHlo.after_cons, StableHlo.after_nil]
  exact StableHlo.nary_result' _ _ _ _ _

section Values

variable (m : (ℓ : Loc nD τ sig) → Buf (Elt Ideal) ℓ) (c : Dev nD)

/-- The reference's arguments, and the normed input. The call reads no weights, and no gradient passes it by. -/
def args : Args where
  dpu := atn (At m c 0 main_arg0)
  dgate := atx (At m c 0 main_arg1)
  dq := atn (At m c 0 main_arg2)
  dk := atn (At m c 0 main_arg3)
  dv := atn (At m c 0 main_arg4)
  dz := atz (At m c 0 main_arg5)
  w _ _ := 0
  x := atx (At m c 0 main_arg6)
  gam := atg (At m c 0 main_arg7)
  g _ _ := 0
  h T i := atx (At m c 0 main_arg6) T i * rms (fun k => atx (At m c 0 main_arg6) T k) * atg (At m c 0 main_arg7) i

def IsArg (b : Ref sig .tc) : Prop := b = main_arg0 ∨ b = main_arg1 ∨ b = main_arg2 ∨ b = main_arg3 ∨ b = main_arg4 ∨ b = main_arg5 ∨ b = main_arg6 ∨ b = main_arg7

theorem not_written (b : Ref sig .tc) (hb : IsArg b) : ∀ o ∈ (ops : List (HloOp τ sig (Elt Ideal))), Proc.devRef .tc b ∉ o.writes :=
  List.forall_iff_forall_mem.mp (by
    unfold IsArg at hb
    rcases hb with rfl | rfl | rfl | rfl | rfl | rfl | rfl | rfl <;>
    · simp only [ops, List.Forall, StableHlo.nullary_writes,
        StableHlo.unary_writes, StableHlo.binary_writes, StableHlo.ternary_writes, StableHlo.reshape_writes,
        StableHlo.nary_writes, Finset.mem_singleton]
      repeat' apply And.intro
      all_goals exact StableHlo.devRef_ne_of_ne (by decide))

theorem keep_arg (b : Ref sig .tc) (hb : IsArg b) (n : ℕ) : At m c n (Proc.devRef .tc b) = At m c 0 (Proc.devRef .tc b) :=
  StableHlo.after_of_forall_not_mem (b := Proc.devRef .tc b) _ _ fun o ho => not_written b hb o (List.mem_of_mem_take ho)

theorem at3 (T : Fin 4096) (j : Fin 3200) : atp (At m c 3 main_v2) T j = (args m c).d T j := by
  have e1 : At m c 2 = StableHlo.after (seg 0 2) (At m c 0) := At_add m c 0 2
  have e2 : At m c 3 = StableHlo.after (seg 2 1) (At m c 2) := At_add m c 2 1
  have g0 := fun l => stage0 (At m c 0) T l
  rw [← e1] at g0
  have hc := cat_op (At m c 2)
  rw [← e2, keep_arg m c main_arg0 (by simp [IsArg]) 2, keep_arg m c main_arg2 (by simp [IsArg]) 2, keep_arg m c main_arg3 (by simp [IsArg]) 2,
    keep_arg m c main_arg4 (by simp [IsArg]) 2, keep_arg m c main_arg5 (by simp [IsArg]) 2] at hc
  refine (congrFun hc (ix2 T j)).trans ((RI2.cat_apply _ _ _ _ _ _ _ T j).trans ?_)
  refine congrFun (congrArg₂ row (funext fun s => funext fun l => ?_) rfl) j
  match s with
  | 0 => rfl
  | 1 => exact (g0 l).1
  | 2 => rfl
  | 3 => rfl
  | 4 => rfl
  | 5 => exact (g0 l).2

/-- The reference's two results. -/
theorem results (i : Fin 1024) (j : Fin 3200) :
    atw (At m c 25 main_v19) i j = (args m c).dw i j ∧
    atw (At m c 25 main_v20) i j = (args m c).dw i j := by
  have e3 : At m c 25 = StableHlo.after (seg 3 22) (At m c 3) := At_add m c 3 22
  obtain ⟨f1, f2⟩ := stage2 (At m c 3) i j
  rw [← e3, keep_arg m c main_arg6 (by simp [IsArg]) 3, keep_arg m c main_arg7 (by simp [IsArg]) 3] at f1 f2
  have hdw : (∑ T, atp (At m c 3 main_v2) T j * (args m c).h T i) = (args m c).dw i j :=
    Finset.sum_congr rfl fun T _ => by rw [at3 m c T j, mul_comm]
  exact ⟨f1.trans hdw, f2.trans hdw⟩

end Values

end Cert.Proof.RI4

end
-- ==== Proof.Bot.EqualDw.lean ====
/-
  From memories with the same arguments the call that makes the bottom layer's weights' gradient and its reference end with
  the same results.
-/
module

public import proofs.«01_k».proof.Defs
public import proofs.«01_k».proof.Proof.In.Equal
public import proofs.«01_k».proof.Proof.Bot.RefDw

@[expose] public section

set_option maxRecDepth 16384

noncomputable section

namespace Cert.Proof.Dw

open Idealize.ShloMosaic Idealize.ShloMosaic.TcCoe
open Idealize.SL Idealize.SL.Sem
open Cert.Proof.In (Args)

/-! ### The reference's run -/

section RefRun

open Cert.Reference4Ideal Cert.Reference4Ideal.Gen Cert.Reference4Ideal.Value Cert.Proof.RI4

variable (m : (ℓ : Loc nD τ sig) → Buf (Elt Ideal) ℓ) (ρ : Dev nD → PrngReg)

/-- What the reference leaves of its arguments. -/
def KeptRef (s : MemSt nD τ sig (Elt Ideal)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)

theorem ref_run : θ_run defs (onTc (τ := τ) (main (F := Ideal))) ⟨m, fun _ => 0, ρ⟩ (fun r => ∀ c : Dev nD,
      (r.2.mem ((c.tc : Thread nD τ).loc main_v19) = At m c 25 main_v19
      ∧ r.2.mem ((c.tc : Thread nD τ).loc main_v20) = At m c 25 main_v20)
      ∧ KeptRef m r.2 c) := by
  have e : (ops : List (HloOp τ sig (Elt Ideal))).take 25 = ops := rfl
  have hA : ∀ c : Dev nD, At m c 25 = StableHlo.after ops (fun b => m (c, b)) := fun c => congrArg (fun o => StableHlo.after o (fun b => m (c, b))) e
  refine (θ_run defs _ _).mono (fun r h c => ?_) (StableHlo.run_seq scopedRefs_eq scopedSems_eq defs main (fun _ => ops) main_eq (fun _ => ops_sub) m ρ)
  have k : ∀ b : Ref sig .tc, IsArg b → r.2.mem ((c.tc : Thread nD τ).loc b) = m ((c.tc : Thread nD τ).loc b) := fun b hb =>
    (h c b).trans ((congrFun (hA c) _).symm.trans (keep_arg m c b hb 25))
  rw [hA c]
  exact ⟨⟨h c main_v19, h c main_v20⟩, k main_arg0 (by simp [IsArg]), k main_arg1 (by simp [IsArg]), k main_arg2 (by simp [IsArg]), k main_arg3 (by simp [IsArg]), k main_arg4 (by simp [IsArg]), k main_arg5 (by simp [IsArg]), k main_arg6 (by simp [IsArg]), k main_arg7 (by simp [IsArg])⟩

/-- The reference leaves its arguments as they were, and no counter. -/
theorem ref_frame : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩) (ref_run m ρ)

end RefRun

/-! ### The results of the two -/

section Equal

variable (m : (ℓ : Loc Cert.Kernel4Ideal.nD Cert.Kernel4Ideal.τ Cert.Kernel4Ideal.sig) → Buf (Elt Ideal) ℓ)
variable (m' : (ℓ : Loc Cert.Reference4Ideal.nD Cert.Reference4Ideal.τ Cert.Reference4Ideal.sig) → Buf (Elt Ideal) ℓ)

/-- The two programs' arguments are the same arrays. -/
def Same (c : Dev Cert.Kernel4Ideal.nD) : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
    ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
    ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
    ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
    ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
    ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
    ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
    ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)

theorem args_eq (c : Dev Cert.Kernel4Ideal.nD) (h : Same m m' c) : RI4.args m' c = args m c := by
  obtain ⟨h0, h1, h2, h3, h4, h5, h6, h7⟩ := h
  have e0 : (RI4.args m' c).dpu = (args m c).dpu := by
    funext T i
    exact congrFun (h0.trans (Cert.Kernel4Ideal.Gen.V_main_arg0 m c).symm) (ix2 T i)
  have e1 : (RI4.args m' c).dgate = (args m c).dgate := by
    funext T i
    exact congrFun (h1.trans (Cert.Kernel4Ideal.Gen.V_main_arg1 m c).symm) (ix2 T i)
  have e2 : (RI4.args m' c).dq = (args m c).dq := by
    funext T i
    exact congrFun (h2.trans (Cert.Kernel4Ideal.Gen.V_main_arg2 m c).symm) (ix2 T i)
  have e3 : (RI4.args m' c).dk = (args m c).dk := by
    funext T i
    exact congrFun (h3.trans (Cert.Kernel4Ideal.Gen.V_main_arg3 m c).symm) (ix2 T i)
  have e4 : (RI4.args m' c).dv = (args m c).dv := by
    funext T i
    exact congrFun (h4.trans (Cert.Kernel4Ideal.Gen.V_main_arg4 m c).symm) (ix2 T i)
  have e5 : (RI4.args m' c).dz = (args m c).dz := by
    funext T i
    exact congrFun (h5.trans (Cert.Kernel4Ideal.Gen.V_main_arg5 m c).symm) (ix2 T i)
  have e6 : (RI4.args m' c).x = (args m c).x := by
    funext T i
    exact congrFun (h6.trans (Cert.Kernel4Ideal.Gen.V_main_arg6 m c).symm) (ix2 T i)
  have e7 : (RI4.args m' c).gam = (args m c).gam := by
    funext i
    exact congrFun (h7.trans (Cert.Kernel4Ideal.Gen.V_main_arg7 m c).symm) (ix2 0 i)
  have eh : (RI4.args m' c).h = (args m c).h := by
    funext T i
    refine Eq.trans ?_ (args_norm m c T i).symm
    unfold Args.xh
    rw [← e6, ← e7]
    rfl
  exact Args.ext e0 e1 e2 e3 e4 e5 rfl e6 e7 rfl eh

theorem algebraic :
    Cert.algebraic_Kernel4Ideal_Reference4Ideal (hKernel4Ideal := Cert.Kernel4Ideal.Gen.facts) (hReference4Ideal := Cert.Reference4Ideal.Gen.facts) := by
  intro m g m' g' _ h
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N,
    Cert.Kernel4Ideal.Value.run_blocks m g, ?_⟩
  refine (θ_run Cert.Reference4Ideal.defs _ _).mono (fun r hr c => ?_) (ref_run m' g')
  obtain ⟨⟨e0, e1⟩, ea⟩ := hr c
  have hA := args_eq m m' c (h c)
  have hr4 := fun i j => RI4.results m' c i j
  rw [hA] at hr4
  exact ⟨e0.trans ((ext2 fun i j => (hr4 i j).1).trans (arr8 m c).symm), e1.trans ((ext2 fun i j => (hr4 i j).2).trans (arr9 m c).symm), ea⟩

end Equal

end Cert.Proof.Dw

end
-- ==== Proof.Bot.Dx.lean ====
/-
  The bottom layer's input and gains: what each grid point of the call leaves in its results' buffers, over the extended
  reals, and the results' arrays at an index.
-/
module

public import proofs.«01_k».proof.Proof.In.Host
public import proofs.«01_k».proof.Proof.Gen.Kernel5Ideal.Value

@[expose] public section

set_option maxRecDepth 16384

noncomputable section

namespace Cert.Proof.Dx

open Cert.Kernel5Ideal Cert.Kernel5Ideal.Gen
open Idealize.ShloMosaic Idealize.ShloMosaic.TcCoe
open Idealize.SL Idealize.SL.Sem
open Idealize.ShloMosaic.Pipeline
open Cert.Proof.In (Args row col colz rms rowT sum_tiles dh_sum pay17_of pay18_of)

/-! ## The stored values are the ones of the call that makes all three gradients -/

theorem pay2_eq : @k0_pay2 Ideal _ = @Cert.Kernel2Ideal.Gen.k0_pay13 Ideal _ := rfl
theorem pay3_eq : @k0_pay3 Ideal _ = @Cert.Kernel2Ideal.Gen.k0_pay14 Ideal _ := rfl
theorem pay6_eq : @k0_pay6 Ideal _ = @Cert.Kernel2Ideal.Gen.k0_pay17 Ideal _ := rfl
theorem pay7_eq : @k0_pay7 Ideal _ = @Cert.Kernel2Ideal.Gen.k0_pay18 Ideal _ := rfl

variable (m : (ℓ : Loc nD τ sig) → Buf (Elt Ideal) ℓ) (c : Dev nD)

/-- Section `s` of the projection's gradient, at a row of tile `t`. -/
def sec (t : Fin cfg0.N) (r : Fin 512) (s : Fin 6) (l : Fin 512) : EReal :=
  (match s with
   | 0 => (iblk m c 1 t : S512x512.Idx → EReal)
   | 1 => (iblk m c 2 t : S512x512.Idx → EReal)
   | 2 => (iblk m c 3 t : S512x512.Idx → EReal)
   | 3 => (iblk m c 4 t : S512x512.Idx → EReal)
   | 4 => (iblk m c 5 t : S512x512.Idx → EReal)
   | 5 => (iblk m c 6 t : S512x512.Idx → EReal)) (ix2 r l)
/-- The projection's gradient at a row of tile `t`. -/
def drow (t : Fin cfg0.N) (r : Fin 512) : Fin 3200 → EReal := row (sec m c t r) fun l => (iblk m c 0 t : S512x128.Idx → EReal) (ix2 r l)
/-- The projection's weights, and the input at a row of tile `t`. -/
def wrow (t : Fin cfg0.N) (i : Fin 1024) : Fin 3200 → EReal :=
  row (fun s l => (X0_7 m c t : S1024x3072.Idx → EReal) (ix2 i ⟨512 * s.val + l.val, by omega⟩)) fun l => (iblk m c 8 t : S1024x128.Idx → EReal) (ix2 i l)
def xrow (t : Fin cfg0.N) (r : Fin 512) (i : Fin 1024) : EReal := (iblk m c 9 t : S512x1024.Idx → EReal) (ix2 r i)
/-- The gains, and the gradient that passes the layer by. -/
def gam (t : Fin cfg0.N) (i : Fin 1024) : EReal := (iblk m c 10 t : S1x1024.Idx → EReal) (ix2 0 i)
def grow (t : Fin cfg0.N) (r : Fin 512) (i : Fin 1024) : EReal := (iblk m c 11 t : S512x1024.Idx → EReal) (ix2 r i)
/-- The normed input's gradient at a row of tile `t`. -/
def dhrow (t : Fin cfg0.N) (r : Fin 512) (i : Fin 1024) : EReal := ∑ j, drow m c t r j * wrow m c t i j

theorem dh_apply (t : Fin cfg0.N) (r : Fin 512) (i : Fin 1024) :
    k0_pay3 (F := Ideal)
      (k0_pay2 (iblk m c 0 t) (iblk m c 8 t) (iblk m c 1 t)
        (View.ld (X0_7 m c t) (Rect.unit ![0, 0] ![1024, 512] inb_S1024x3072_S1024x512_0_0)) (iblk m c 2 t)
        (View.ld (X0_7 m c t) (Rect.unit ![0, 512] ![1024, 512] inb_S1024x3072_S1024x512_0_512)) (iblk m c 3 t)
        (View.ld (X0_7 m c t) (Rect.unit ![0, 1024] ![1024, 512] inb_S1024x3072_S1024x512_0_1024)) (iblk m c 4 t)
        (View.ld (X0_7 m c t) (Rect.unit ![0, 1536] ![1024, 512] inb_S1024x3072_S1024x512_0_1536)) (iblk m c 5 t)
        (View.ld (X0_7 m c t) (Rect.unit ![0, 2048] ![1024, 512] inb_S1024x3072_S1024x512_0_2048)))
      (iblk m c 6 t) (View.ld (X0_7 m c t) (Rect.unit ![0, 2560] ![1024, 512] inb_S1024x3072_S1024x512_0_2560)) (ix2 r i) = dhrow m c t r i :=
  dh_sum (iblk m c 0 t) (iblk m c 8 t) (iblk m c 1 t) (iblk m c 2 t) (iblk m c 3 t) (iblk m c 4 t) (iblk m c 5 t) (iblk m c 6 t) (X0_7 m c t) (sec m c t r) r i
    (fun _ => rfl) (fun _ => rfl) (fun _ => rfl) (fun _ => rfl) (fun _ => rfl) (fun _ => rfl)

theorem dx_point (t : Fin cfg0.N) (r : Fin 512) (i : Fin 1024) :
    (outsAt0 m c t.val t.isLt).1 (ix2 r i) = grow m c t r i +
      rms (xrow m c t r) * (dhrow m c t r i * gam m c t i -
        xrow m c t r i * rms (xrow m c t r) *
          Ideal.div (∑ i, dhrow m c t r i * gam m c t i * (xrow m c t r i * rms (xrow m c t r))) (Ideal.ofBits .f32 0x44800000#32)) := by
  by_cases h0 : t.val % 8 = 0
  · rw [outsAt0_A m c t h0]
    frame_out
    rw [pay7_eq]
    exact pay18_of _ _ _ _ _ _ r i _ (dh_apply m c t r)
  · rw [outsAt0_B m c t h0]
    frame_out
    rw [pay7_eq]
    exact pay18_of _ _ _ _ _ _ r i _ (dh_apply m c t r)

theorem dg_first (t : Fin cfg0.N) (h0 : t.val % 8 = 0) (i : Fin 1024) :
    (outsAt0 m c t.val t.isLt).2 (ix2 0 i) = 0 + ∑ r, dhrow m c t r i * (xrow m c t r i * rms (xrow m c t r)) := by
  rw [outsAt0_A m c t h0]
  frame_out
  have z : k0_pay1 (F := Ideal) (ix2 0 i) = (0 : EReal) := by pointwise [k0_pay1]
  rw [pay6_eq]
  exact (pay17_of _ _ _ _ _ i _ fun r => dh_apply m c t r i).trans (congrArg (· + ∑ r, dhrow m c t r i * (xrow m c t r i * rms (xrow m c t r))) z)
theorem dg_next (t : Fin cfg0.N) (h0 : ¬ t.val % 8 = 0) (i : Fin 1024) :
    (outsAt0 m c t.val t.isLt).2 (ix2 0 i) = (outsAt0 m c (t.val - 1) (by omega)).2 (ix2 0 i) + ∑ r, dhrow m c t r i * (xrow m c t r i * rms (xrow m c t r)) := by
  rw [outsAt0_B m c t h0]
  frame_out
  rw [pay6_eq]
  exact pay17_of _ _ _ _ _ i _ fun r => dh_apply m c t r i

/-- The launched arrays, and the input normed with its gains. -/
def args : Args where
  dpu T l := V m c main_arg0 (ix2 T l)
  dgate T l := V m c main_arg1 (ix2 T l)
  dq T l := V m c main_arg2 (ix2 T l)
  dk T l := V m c main_arg3 (ix2 T l)
  dv T l := V m c main_arg4 (ix2 T l)
  dz T l := V m c main_arg5 (ix2 T l)
  w i j := V m c main_arg6 (ix2 i j)
  x T i := V m c main_arg7 (ix2 T i)
  gam i := V m c main_arg8 (ix2 0 i)
  g T i := V m c main_arg9 (ix2 T i)
  h T i := In.atx (V m c main_arg7) T i * rms (fun k => In.atx (V m c main_arg7) T k) * In.atg (V m c main_arg8) i

/-! ## The blocks -/

theorem lt8 (t : Fin cfg0.N) : t.val < 8 := lt_of_lt_of_eq t.isLt N_0

theorem wi0 : ∀ n : Fin grid0.N, win0_0.index n 0 = n.val ∧ win0_0.index n 1 = 0 := by decide +kernel
theorem wi1 : ∀ n : Fin grid0.N, win0_1.index n 0 = n.val ∧ win0_1.index n 1 = 0 := by decide +kernel
theorem wi2 : ∀ n : Fin grid0.N, win0_2.index n 0 = n.val ∧ win0_2.index n 1 = 0 := by decide +kernel
theorem wi3 : ∀ n : Fin grid0.N, win0_3.index n 0 = n.val ∧ win0_3.index n 1 = 0 := by decide +kernel
theorem wi4 : ∀ n : Fin grid0.N, win0_4.index n 0 = n.val ∧ win0_4.index n 1 = 0 := by decide +kernel
theorem wi5 : ∀ n : Fin grid0.N, win0_5.index n 0 = n.val ∧ win0_5.index n 1 = 0 := by decide +kernel
theorem wi6 : ∀ n : Fin grid0.N, win0_6.index n 0 = n.val ∧ win0_6.index n 1 = 1 := by decide +kernel
theorem wi7 : ∀ n : Fin grid0.N, win0_7.index n 0 = 0 ∧ win0_7.index n 1 = 0 := by decide +kernel
theorem wi8 : ∀ n : Fin grid0.N, win0_8.index n 0 = 0 ∧ win0_8.index n 1 = 24 := by decide +kernel
theorem wi9 : ∀ n : Fin grid0.N, win0_9.index n 0 = n.val ∧ win0_9.index n 1 = 0 := by decide +kernel
theorem wi10 : ∀ n : Fin grid0.N, win0_10.index n 0 = 0 ∧ win0_10.index n 1 = 0 := by decide +kernel
theorem wi11 : ∀ n : Fin grid0.N, win0_11.index n 0 = n.val ∧ win0_11.index n 1 = 0 := by decide +kernel
theorem wi12 : ∀ n : Fin grid0.N, win0_12.index n 0 = n.val ∧ win0_12.index n 1 = 0 := by decide +kernel
theorem wi13 : ∀ n : Fin grid0.N, win0_13.index n 0 = 0 ∧ win0_13.index n 1 = 0 := by decide +kernel

theorem blk0 (n : Fin cfg0.N) (r : Fin 512) (l : Fin 128) : iblk m c 0 n (ix2 r l) = V m c main_arg5 (ix2 (rowT n.val (lt8 n) r) l) := by
  obtain ⟨e0, e1⟩ := wi0 n
  unfold iblk
  generalize V m c = A
  blk_simp
  refine congrArg (A main_arg5) ?_
  funext b; apply Fin.ext
  match b with
  | ⟨0, _⟩ => blk_simp [e0]; show _ = 512 * n.val + r.val; omega
  | ⟨1, _⟩ => blk_simp [e1]
theorem blk1 (n : Fin cfg0.N) (r : Fin 512) (l : Fin 512) : iblk m c 1 n (ix2 r l) = V m c main_arg0 (ix2 (rowT n.val (lt8 n) r) l) := by
  obtain ⟨e0, e1⟩ := wi1 n
  unfold iblk
  generalize V m c = A
  blk_simp
  refine congrArg (A main_arg0) ?_
  funext b; apply Fin.ext
  match b with
  | ⟨0, _⟩ => blk_simp [e0]; show _ = 512 * n.val + r.val; omega
  | ⟨1, _⟩ => blk_simp [e1]
theorem blk2 (n : Fin cfg0.N) (r : Fin 512) (l : Fin 512) : iblk m c 2 n (ix2 r l) = V m c main_arg1 (ix2 (rowT n.val (lt8 n) r) ⟨l.val, by omega⟩) := by
  obtain ⟨e0, e1⟩ := wi2 n
  unfold iblk
  generalize V m c = A
  blk_simp
  refine congrArg (A main_arg1) ?_
  funext b; apply Fin.ext
  match b with
  | ⟨0, _⟩ => blk_simp [e0]; show _ = 512 * n.val + r.val; omega
  | ⟨1, _⟩ => blk_simp [e1]
theorem blk3 (n : Fin cfg0.N) (r : Fin 512) (l : Fin 512) : iblk m c 3 n (ix2 r l) = V m c main_arg2 (ix2 (rowT n.val (lt8 n) r) l) := by
  obtain ⟨e0, e1⟩ := wi3 n
  unfold iblk
  generalize V m c = A
  blk_simp
  refine congrArg (A main_arg2) ?_
  funext b; apply Fin.ext
  match b with
  | ⟨0, _⟩ => blk_simp [e0]; show _ = 512 * n.val + r.val; omega
  | ⟨1, _⟩ => blk_simp [e1]
theorem blk4 (n : Fin cfg0.N) (r : Fin 512) (l : Fin 512) : iblk m c 4 n (ix2 r l) = V m c main_arg3 (ix2 (rowT n.val (lt8 n) r) l) := by
  obtain ⟨e0, e1⟩ := wi4 n
  unfold iblk
  generalize V m c = A
  blk_simp
  refine congrArg (A main_arg3) ?_
  funext b; apply Fin.ext
  match b with
  | ⟨0, _⟩ => blk_simp [e0]; show _ = 512 * n.val + r.val; omega
  | ⟨1, _⟩ => blk_simp [e1]
theorem blk5 (n : Fin cfg0.N) (r : Fin 512) (l : Fin 512) : iblk m c 5 n (ix2 r l) = V m c main_arg4 (ix2 (rowT n.val (lt8 n) r) l) := by
  obtain ⟨e0, e1⟩ := wi5 n
  unfold iblk
  generalize V m c = A
  blk_simp
  refine congrArg (A main_arg4) ?_
  funext b; apply Fin.ext
  match b with
  | ⟨0, _⟩ => blk_simp [e0]; show _ = 512 * n.val + r.val; omega
  | ⟨1, _⟩ => blk_simp [e1]
theorem blk6 (n : Fin cfg0.N) (r : Fin 512) (l : Fin 512) : iblk m c 6 n (ix2 r l) = V m c main_arg1 (ix2 (rowT n.val (lt8 n) r) ⟨512 + l.val, by omega⟩) := by
  obtain ⟨e0, e1⟩ := wi6 n
  unfold iblk
  generalize V m c = A
  blk_simp
  refine congrArg (A main_arg1) ?_
  funext b; apply Fin.ext
  match b with
  | ⟨0, _⟩ => blk_simp [e0]; show _ = 512 * n.val + r.val; omega
  | ⟨1, _⟩ => blk_simp [e1]
theorem blk8 (n : Fin cfg0.N) (r : Fin 1024) (l : Fin 128) : iblk m c 8 n (ix2 r l) = V m c main_arg6 (ix2 r ⟨3072 + l.val, by omega⟩) := by
  obtain ⟨e0, e1⟩ := wi8 n
  unfold iblk
  generalize V m c = A
  blk_simp
  refine congrArg (A main_arg6) ?_
  funext b; apply Fin.ext
  match b with
  | ⟨0, _⟩ => blk_simp [e0]
  | ⟨1, _⟩ => blk_simp [e1]
theorem blk9 (n : Fin cfg0.N) (r : Fin 512) (l : Fin 1024) : iblk m c 9 n (ix2 r l) = V m c main_arg7 (ix2 (rowT n.val (lt8 n) r) l) := by
  obtain ⟨e0, e1⟩ := wi9 n
  unfold iblk
  generalize V m c = A
  blk_simp
  refine congrArg (A main_arg7) ?_
  funext b; apply Fin.ext
  match b with
  | ⟨0, _⟩ => blk_simp [e0]; show _ = 512 * n.val + r.val; omega
  | ⟨1, _⟩ => blk_simp [e1]
theorem blk11 (n : Fin cfg0.N) (r : Fin 512) (l : Fin 1024) : iblk m c 11 n (ix2 r l) = V m c main_arg9 (ix2 (rowT n.val (lt8 n) r) l) := by
  obtain ⟨e0, e1⟩ := wi11 n
  unfold iblk
  generalize V m c = A
  blk_simp
  refine congrArg (A main_arg9) ?_
  funext b; apply Fin.ext
  match b with
  | ⟨0, _⟩ => blk_simp [e0]; show _ = 512 * n.val + r.val; omega
  | ⟨1, _⟩ => blk_simp [e1]
theorem blk10 (n : Fin cfg0.N) (i : Fin 1024) : iblk m c 10 n (ix2 0 i) = V m c main_arg8 (ix2 0 i) := by
  obtain ⟨e0, e1⟩ := wi10 n
  unfold iblk
  generalize V m c = A
  blk_simp
  refine congrArg (A main_arg8) ?_
  funext b; apply Fin.ext
  match b with
  | ⟨0, _⟩ => blk_simp [e0]
  | ⟨1, _⟩ => blk_simp [e1]
theorem blk7 (n : Fin cfg0.N) (i : Fin 1024) (l : Fin 3072) : X0_7 m c n (ix2 i l) = V m c main_arg6 (ix2 i ⟨l.val, by omega⟩) := by
  obtain ⟨e0, e1⟩ := wi7 n
  unfold X0_7 Pipeline.Window.fill
  rw [dif_pos (moved0_7 n _)]
  unfold iblk
  generalize V m c = A
  blk_simp
  refine congrArg (A main_arg6) ?_
  funext b; apply Fin.ext
  match b with
  | ⟨0, _⟩ => blk_simp [e0]
  | ⟨1, _⟩ => blk_simp [e1]

theorem args_w (i : Fin 1024) (t : Fin cfg0.N) (j : Fin 3200) : wrow m c t i j = (args m c).w i j := by
  unfold wrow row args
  dsimp only
  split
  · next h =>
    rw [blk7]
    exact congrArg (fun k => V m c main_arg6 (ix2 i k)) (Fin.ext (Nat.div_add_mod j.val 512))
  · next h =>
    rw [blk8]
    exact congrArg (fun k => V m c main_arg6 (ix2 i k)) (Fin.ext (show 3072 + (j.val - 3072) = j.val by omega))

theorem args_d (t : Fin cfg0.N) (r : Fin 512) : drow m c t r = (args m c).d (rowT t.val (lt8 t) r) := by
  unfold drow Args.d
  congr 1
  · funext s l
    match s with
    | 0 => exact blk1 m c t r l
    | 1 => exact blk2 m c t r l
    | 2 => exact blk3 m c t r l
    | 3 => exact blk4 m c t r l
    | 4 => exact blk5 m c t r l
    | 5 => exact blk6 m c t r l
  · funext l
    exact blk0 m c t r l

theorem args_dh (t : Fin cfg0.N) (r : Fin 512) : dhrow m c t r = (args m c).dh (rowT t.val (lt8 t) r) := by
  funext i
  unfold dhrow Args.dh
  rw [args_d]
  exact Finset.sum_congr rfl fun j _ => congrArg (HMul.hMul _) (args_w m c i t j)
theorem args_x (t : Fin cfg0.N) (r : Fin 512) : xrow m c t r = (args m c).x (rowT t.val (lt8 t) r) := funext fun i => blk9 m c t r i
theorem args_g (t : Fin cfg0.N) (r : Fin 512) : grow m c t r = (args m c).g (rowT t.val (lt8 t) r) := funext fun i => blk11 m c t r i
theorem args_gam (t : Fin cfg0.N) : gam m c t = (args m c).gam := funext fun i => blk10 m c t i

/-! ## The results' arrays -/

theorem lt' {n : Nat} (h : n < 8) : n < cfg0.N := lt_of_lt_of_eq h N_0.symm

theorem xh_row (t : Fin cfg0.N) (r : Fin 512) (i : Fin 1024) : xrow m c t r i * rms (xrow m c t r) = (args m c).xh (rowT t.val (lt8 t) r) i := by
  rw [args_x, Args.xh]
theorem dg_term (n : Nat) (h : n < 8) (r : Fin 512) (i : Fin 1024) :
    dhrow m c ⟨n, lt' h⟩ r i * (xrow m c ⟨n, lt' h⟩ r i * rms (xrow m c ⟨n, lt' h⟩ r)) = (args m c).dh (rowT n h r) i * (args m c).xh (rowT n h r) i :=
  congrArg₂ (· * ·) (congrFun (args_dh m c ⟨n, lt' h⟩ r) i) (xh_row m c ⟨n, lt' h⟩ r i)

theorem dg_last (i : Fin 1024) : (outsAt0 m c 7 (lt' (by decide))).2 (ix2 0 i) = (args m c).dgam i :=
  sum_tiles (fun n h => (outsAt0 m c n (lt' h)).2 (ix2 0 i)) (fun T => (args m c).dh T i * (args m c).xh T i)
    ((dg_first m c ⟨0, lt' (by decide)⟩ rfl i).trans (congrArg (HAdd.hAdd 0) (Finset.sum_congr rfl fun r _ => dg_term m c 0 _ r i)))
    (fun n h => (dg_next m c ⟨n + 1, lt' h⟩ (by show ¬ (n + 1) % 8 = 0; omega) i).trans (congrArg (HAdd.hAdd _) (Finset.sum_congr rfl fun r _ => dg_term m c (n + 1) h r i)))

theorem dx_tile (t : Fin cfg0.N) (r : Fin 512) (i : Fin 1024) : (outsAt0 m c t.val t.isLt).1 (ix2 r i) = (args m c).dx (rowT t.val (lt8 t) r) i := by
  rw [dx_point]
  simp only [xh_row]
  rw [args_x, args_dh, args_g, args_gam]
  rfl

theorem is7 (t : Fin cfg0.N) (h : t.val % 8 = 7) : t = ⟨7, lt' (by decide)⟩ := Fin.ext (by have := lt8 t; show t.val = 7; omega)

theorem dg_at (t : Fin cfg0.N) (h : t.val % 8 = 7) (i : Fin 1024) : (outsAt0 m c t.val t.isLt).2 (ix2 0 i) = (args m c).dgam i := by
  rw [is7 t h]; exact dg_last m c i

theorem arr12 : (dats m 0 c).arrAt 12 cfg0.N = fun y => (args m c).dx (y 0) (y 1) := by
  refine (dats m 0 c).arrAt_eq_of_covers 12 _ (by decide +kernel) fun t hf y => ?_
  obtain ⟨e0, e1⟩ := wi12 t
  blk_simp
  rw [after0_12]
  idx_vars y
  refine (dx_tile m c t y0 y1).trans (congrArg₂ _ (Fin.ext ?_) (Fin.ext ?_))
  · blk_simp [e0]; show 512 * t.val + y0.val = _; omega
  · blk_simp [e1]

theorem arr13 : (dats m 0 c).arrAt 13 cfg0.N = fun y => (args m c).dgam (y 1) := by
  refine (dats m 0 c).arrAt_eq_of_covers 13 _ (by decide +kernel) fun t hf y => ?_
  obtain ⟨e0, e1⟩ := wi13 t
  have ht := (flush0_13 t).mp hf
  blk_simp
  rw [after0_13]
  idx_vars y
  obtain rfl : y0 = 0 := Subsingleton.elim _ _
  refine (dg_at m c t ht y1).trans (congrArg _ (Fin.ext ?_))
  blk_simp [e1]

end Cert.Proof.Dx

end
-- ==== Proof.Bot.RefDx.lean ====
/-
  The reference of the call that makes the bottom layer's input's and gains' gradients, read at an index.
-/
module

public import proofs.«01_k».proof.Proof.In.Real
public import proofs.«01_k».proof.Proof.Bot.Dx
public import proofs.«01_k».proof.Proof.Gen.Reference5Ideal.Run
public import Idealize.ShloMosaic.Lib.StableHlo.ReadAt

@[expose] public section

set_option maxRecDepth 16384

noncomputable section

namespace Cert.Proof.RI5

open Cert.Reference5Ideal Cert.Reference5Ideal.Gen Cert.Reference5Ideal.Value
open Idealize.ShloMosaic Idealize.ShloMosaic.TcCoe
open Idealize.SL Idealize.SL.Sem
open Cert.Proof.In (Args rms row col colz atx atg)
open Cert.Proof.RI2 (atn atz atp atw atv ato secOf stat dhOf thru)

theorem after_append (A B : List (HloOp τ sig (Elt Ideal))) (X : Valuation τ sig (Elt Ideal)) :
    StableHlo.after (A ++ B) X = StableHlo.after B (StableHlo.after A X) := by
  induction A generalizing X with
  | nil => rfl
  | cons o A ih => exact ih (o.result X)

/-- The `k` operations of the reference that follow its first `n`. -/
def seg (n k : ℕ) : List (HloOp τ sig (Elt Ideal)) := (ops.drop n).take k

/-- The buffers after the first `n` operations of the reference. -/
def At (m : (ℓ : Loc nD τ sig) → Buf (Elt Ideal) ℓ) (c : Dev nD) (n : ℕ) : Valuation τ sig (Elt Ideal) :=
  StableHlo.after (ops.take n) (fun b => m (c, b))

theorem At_add (m : (ℓ : Loc nD τ sig) → Buf (Elt Ideal) ℓ) (c : Dev nD) (n k : ℕ) :
    At m c (n + k) = StableHlo.after (seg n k) (At m c n) := by
  unfold At seg
  rw [List.take_add, after_append]

set_option maxHeartbeats 4000000 in
theorem stage0 (X : Valuation τ sig (Elt Ideal)) (T : Fin 4096) (l : Fin 512) :
    atn (StableHlo.after (seg 0 2) X main_v0) T l = atx (X main_arg1) T ⟨l.val, by omega⟩ ∧
    atn (StableHlo.after (seg 0 2) X main_v1) T l = atx (X main_arg1) T ⟨512 + l.val, by omega⟩ := by
  simp only [seg, ops, List.drop_succ_cons, List.drop_zero, List.take_succ_cons, List.take_zero]
  simp only [atn, atx]
  refine ⟨?_, ?_⟩
  all_goals first | (after_reads_at; done) | (after_reads_at; rfl)

set_option maxHeartbeats 4000000 in
theorem stage2 (X : Valuation τ sig (Elt Ideal)) (T : Fin 4096) (i : Fin 1024) (j : Fin 3200) :
    atp (StableHlo.after (seg 3 21) X main_v3) T j = atp (X main_v2) T j ∧
    atw (StableHlo.after (seg 3 21) X main_v4) i j = atw (X main_arg6) i j ∧
    ato (StableHlo.after (seg 3 21) X main_v12) T = rms (fun k => atx (X main_arg7) T k) ∧
    ato (StableHlo.after (seg 3 21) X main_v15) T = Ideal.ofBits .f32 0xBF000000#32 *
      Ideal.div (rms (fun k => atx (X main_arg7) T k)) (stat (fun k => atx (X main_arg7) T k)) ∧
    atx (StableHlo.after (seg 3 21) X main_v17) T i = atx (X main_arg7) T i * rms (fun k => atx (X main_arg7) T k) ∧
    atx (StableHlo.after (seg 3 21) X main_v19) T i = atx (X main_arg7) T i * rms (fun k => atx (X main_arg7) T k) * atg (X main_arg8) i := by
  simp only [seg, ops, List.drop_succ_cons, List.drop_zero, List.take_succ_cons, List.take_zero]
  simp only [atp, atw, ato, atx, atg, rms, stat]
  refine ⟨?_, ?_, ?_, ?_, ?_, ?_⟩
  all_goals first | (after_reads_at; done) | (after_reads_at; rfl)

set_option maxHeartbeats 4000000 in
theorem stage3 (X : Valuation τ sig (Elt Ideal)) (T : Fin 4096) (i : Fin 1024) :
    atg (StableHlo.after (seg 24 26) X main_v24) i = (∑ T, atx (X main_v17) T i * dhOf (X main_v3) (X main_v4) T i) ∧
    atx (StableHlo.after (seg 24 26) X main_v41) T i = atx (X main_arg9) T i + dhOf (X main_v3) (X main_v4) T i * atg (X main_arg8) i * ato (X main_v12) T
      + atx (X main_arg7) T i * thru (X main_v3) (X main_v4) (X main_arg7) (X main_arg8) (X main_v15) T
      + thru (X main_v3) (X main_v4) (X main_arg7) (X main_arg8) (X main_v15) T * atx (X main_arg7) T i := by
  simp only [seg, ops, List.drop_succ_cons, List.drop_zero, List.take_succ_cons, List.take_zero]
  simp only [atp, atw, ato, atx, atg, dhOf, thru]
  refine ⟨?_, ?_⟩
  all_goals first | (after_reads_at; done) | (after_reads_at; rfl) | (after_reads_at; simp only [Finset.univ_unique, Finset.sum_singleton]; done) |
    (after_reads_at; simp only [Finset.univ_unique, Finset.sum_singleton]; rfl)

theorem cat_op (X : Valuation τ sig (Elt Ideal)) :
    StableHlo.after (seg 2 1) X main_v2 = Cert.Reference2Ideal.Value.fn_main_v2 (F := Ideal) (X main_arg0) (X main_v0) (X main_arg2) (X main_arg3) (X main_arg4) (X main_v1) (X main_arg5) := by
  simp only [seg, ops, List.drop_succ_cons, List.drop_zero, List.take_succ_cons, List.take_zero]
  rw [StableHlo.after_cons, StableHlo.after_nil]
  exact StableHlo.nary_result' _ _ _ _ _

section Values

variable (m : (ℓ : Loc nD τ sig) → Buf (Elt Ideal) ℓ) (c : Dev nD)

/-- The reference's arguments, and the normed input. -/
def args : Args where
  dpu := atn (At m c 0 main_arg0)
  dgate := atx (At m c 0 main_arg1)
  dq := atn (At m c 0 main_arg2)
  dk := atn (At m c 0 main_arg3)
  dv := atn (At m c 0 main_arg4)
  dz := atz (At m c 0 main_arg5)
  w := atw (At m c 0 main_arg6)
  x := atx (At m c 0 main_arg7)
  gam := atg (At m c 0 main_arg8)
  g := atx (At m c 0 main_arg9)
  h T i := atx (At m c 0 main_arg7) T i * rms (fun k => atx (At m c 0 main_arg7) T k) * atg (At m c 0 main_arg8) i

def IsArg (b : Ref sig .tc) : Prop := b = main_arg0 ∨ b = main_arg1 ∨ b = main_arg2 ∨ b = main_arg3 ∨ b = main_arg4 ∨ b = main_arg5 ∨ b = main_arg6 ∨ b = main_arg7 ∨ b = main_arg8 ∨ b = main_arg9

theorem not_written (b : Ref sig .tc) (hb : IsArg b) : ∀ o ∈ (ops : List (HloOp τ sig (Elt Ideal))), Proc.devRef .tc b ∉ o.writes :=
  List.forall_iff_forall_mem.mp (by
    unfold IsArg at hb
    rcases hb with rfl | rfl | rfl | rfl | rfl | rfl | rfl | rfl | rfl | rfl <;>
    · simp only [ops, List.Forall, StableHlo.nullary_writes,
        StableHlo.unary_writes, StableHlo.binary_writes, StableHlo.ternary_writes, StableHlo.reshape_writes,
        StableHlo.nary_writes, Finset.mem_singleton]
      repeat' apply And.intro
      all_goals exact StableHlo.devRef_ne_of_ne (by decide))

theorem keep_arg (b : Ref sig .tc) (hb : IsArg b) (n : ℕ) : At m c n (Proc.devRef .tc b) = At m c 0 (Proc.devRef .tc b) :=
  StableHlo.after_of_forall_not_mem (b := Proc.devRef .tc b) _ _ fun o ho => not_written b hb o (List.mem_of_mem_take ho)

theorem at24 (T : Fin 4096) (i : Fin 1024) (j : Fin 3200) :
    atp (At m c 24 main_v3) T j = (args m c).d T j ∧
    atw (At m c 24 main_v4) i j = (args m c).w i j ∧
    ato (At m c 24 main_v12) T = rms ((args m c).x T) ∧
    ato (At m c 24 main_v15) T = Ideal.ofBits .f32 0xBF000000#32 * Ideal.div (rms ((args m c).x T)) (stat ((args m c).x T)) ∧
    atx (At m c 24 main_v17) T i = (args m c).xh T i ∧
    atx (At m c 24 main_v19) T i = (args m c).h T i := by
  have e1 : At m c 2 = StableHlo.after (seg 0 2) (At m c 0) := At_add m c 0 2
  have e2 : At m c 3 = StableHlo.after (seg 2 1) (At m c 2) := At_add m c 2 1
  have e3 : At m c 24 = StableHlo.after (seg 3 21) (At m c 3) := At_add m c 3 21
  obtain ⟨f1, f2, f3, f4, f5, f6⟩ := stage2 (At m c 3) T i j
  rw [← e3] at f1 f2 f3 f4 f5 f6
  have g0 := fun l => stage0 (At m c 0) T l
  rw [← e1] at g0
  have k6 := keep_arg m c main_arg6 (by simp [IsArg]) 3
  have k7 := keep_arg m c main_arg7 (by simp [IsArg]) 3
  have k8 := keep_arg m c main_arg8 (by simp [IsArg]) 3
  rw [k7] at f3 f4 f5 f6
  rw [k8] at f6
  rw [k6] at f2
  refine ⟨f1.trans ?_, f2, f3, f4, f5, f6⟩
  have hc := cat_op (At m c 2)
  rw [← e2, keep_arg m c main_arg0 (by simp [IsArg]) 2, keep_arg m c main_arg2 (by simp [IsArg]) 2, keep_arg m c main_arg3 (by simp [IsArg]) 2,
    keep_arg m c main_arg4 (by simp [IsArg]) 2, keep_arg m c main_arg5 (by simp [IsArg]) 2] at hc
  refine (congrFun hc (ix2 T j)).trans ((RI2.cat_apply _ _ _ _ _ _ _ T j).trans ?_)
  refine congrFun (congrArg₂ row (funext fun s => funext fun l => ?_) rfl) j
  match s with
  | 0 => rfl
  | 1 => exact (g0 l).1
  | 2 => rfl
  | 3 => rfl
  | 4 => rfl
  | 5 => exact (g0 l).2

/-- The reference's two results. -/
theorem results (T : Fin 4096) (i : Fin 1024) :
    atx (At m c 50 main_v41) T i = (args m c).dxSum T i ∧
    atg (At m c 50 main_v24) i = (args m c).dgam i := by
  have e4 : At m c 50 = StableHlo.after (seg 24 26) (At m c 24) := At_add m c 24 26
  obtain ⟨f3, f4⟩ := stage3 (At m c 24) T i
  rw [← e4] at f3 f4
  have k7 := keep_arg m c main_arg7 (by simp [IsArg]) 24
  have k8 := keep_arg m c main_arg8 (by simp [IsArg]) 24
  have k9 := keep_arg m c main_arg9 (by simp [IsArg]) 24
  have hdh : ∀ T i, dhOf (At m c 24 main_v3) (At m c 24 main_v4) T i = (args m c).dh T i := fun T i =>
    Finset.sum_congr rfl fun j _ => by rw [(at24 m c T i j).1, (at24 m c T i j).2.1]
  have hth : thru (At m c 24 main_v3) (At m c 24 main_v4) (At m c 24 main_arg7) (At m c 24 main_arg8) (At m c 24 main_v15) T = (args m c).thru T := by
    unfold thru
    simp only [hdh]
    rw [k7, k8, (at24 m c T i 0).2.2.2.1]
    rfl
  refine ⟨f4.trans ?_, f3.trans ?_⟩
  · rw [hth, hdh, (at24 m c T i 0).2.2.1, k7, k8, k9]
    rfl
  · exact Finset.sum_congr rfl fun T _ => by rw [(at24 m c T i 0).2.2.2.2.1, hdh, mul_comm]

end Values

end Cert.Proof.RI5

end
-- ==== Proof.Bot.EqualDx.lean ====
/-
  From memories with the same finite arguments the call that makes the bottom layer's input's and gains' gradients and its
  reference end with the same results.
-/
module

public import proofs.«01_k».proof.Defs
public import proofs.«01_k».proof.Proof.In.Equal
public import proofs.«01_k».proof.Proof.Bot.RefDx

@[expose] public section

set_option maxRecDepth 16384

noncomputable section

namespace Cert.Proof.Dx

open Idealize.ShloMosaic Idealize.ShloMosaic.TcCoe
open Idealize.SL Idealize.SL.Sem
open Cert.Proof.In (Args real_at)

/-! ### The reference's run -/

section RefRun

open Cert.Reference5Ideal Cert.Reference5Ideal.Gen Cert.Reference5Ideal.Value Cert.Proof.RI5

variable (m : (ℓ : Loc nD τ sig) → Buf (Elt Ideal) ℓ) (ρ : Dev nD → PrngReg)

/-- What the reference leaves of its arguments. -/
def KeptRef (s : MemSt nD τ sig (Elt Ideal)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)

theorem ref_run : θ_run defs (onTc (τ := τ) (main (F := Ideal))) ⟨m, fun _ => 0, ρ⟩ (fun r => ∀ c : Dev nD,
      (r.2.mem ((c.tc : Thread nD τ).loc main_v41) = At m c 50 main_v41
      ∧ r.2.mem ((c.tc : Thread nD τ).loc main_v24) = At m c 50 main_v24)
      ∧ KeptRef m r.2 c) := by
  have e : (ops : List (HloOp τ sig (Elt Ideal))).take 50 = ops := rfl
  have hA : ∀ c : Dev nD, At m c 50 = StableHlo.after ops (fun b => m (c, b)) := fun c => congrArg (fun o => StableHlo.after o (fun b => m (c, b))) e
  refine (θ_run defs _ _).mono (fun r h c => ?_) (StableHlo.run_seq scopedRefs_eq scopedSems_eq defs main (fun _ => ops) main_eq (fun _ => ops_sub) m ρ)
  have k : ∀ b : Ref sig .tc, IsArg b → r.2.mem ((c.tc : Thread nD τ).loc b) = m ((c.tc : Thread nD τ).loc b) := fun b hb =>
    (h c b).trans ((congrFun (hA c) _).symm.trans (keep_arg m c b hb 50))
  rw [hA c]
  exact ⟨⟨h c main_v41, h c main_v24⟩, k main_arg0 (by simp [IsArg]), k main_arg1 (by simp [IsArg]), k main_arg2 (by simp [IsArg]), k main_arg3 (by simp [IsArg]), k main_arg4 (by simp [IsArg]), k main_arg5 (by simp [IsArg]), k main_arg6 (by simp [IsArg]), k main_arg7 (by simp [IsArg]), k main_arg8 (by simp [IsArg]), k main_arg9 (by simp [IsArg])⟩

/-- The reference leaves its arguments as they were, and no counter. -/
theorem ref_frame : Cert.quiescent_Reference5Ideal (hReference5Ideal := Cert.Reference5Ideal.Gen.facts) :=
  fun m ρ _ => (θ_run Cert.Reference5Ideal.defs _ _).mono (fun r h => ⟨fun c => (h c).2, sem_eq_zero_of_no_sems (by decide) r.2⟩) (ref_run m ρ)

end RefRun

/-! ### The results of the two -/

section Equal

variable (m : (ℓ : Loc Cert.Kernel5Ideal.nD Cert.Kernel5Ideal.τ Cert.Kernel5Ideal.sig) → Buf (Elt Ideal) ℓ)
variable (m' : (ℓ : Loc Cert.Reference5Ideal.nD Cert.Reference5Ideal.τ Cert.Reference5Ideal.sig) → Buf (Elt Ideal) ℓ)

/-- The two programs' arguments are the same arrays. -/
def Same (c : Dev Cert.Kernel5Ideal.nD) : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
    ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
    ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
    ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
    ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
    ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
    ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
    ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
    ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
    ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)

theorem args_eq (c : Dev Cert.Kernel5Ideal.nD) (h : Same m m' c) : RI5.args m' c = args m c := by
  obtain ⟨h0, h1, h2, h3, h4, h5, h6, h7, h8, h9⟩ := h
  have e0 : (RI5.args m' c).dpu = (args m c).dpu := by
    funext T i
    exact congrFun (h0.trans (Cert.Kernel5Ideal.Gen.V_main_arg0 m c).symm) (ix2 T i)
  have e1 : (RI5.args m' c).dgate = (args m c).dgate := by
    funext T i
    exact congrFun (h1.trans (Cert.Kernel5Ideal.Gen.V_main_arg1 m c).symm) (ix2 T i)
  have e2 : (RI5.args m' c).dq = (args m c).dq := by
    funext T i
    exact congrFun (h2.trans (Cert.Kernel5Ideal.Gen.V_main_arg2 m c).symm) (ix2 T i)
  have e3 : (RI5.args m' c).dk = (args m c).dk := by
    funext T i
    exact congrFun (h3.trans (Cert.Kernel5Ideal.Gen.V_main_arg3 m c).symm) (ix2 T i)
  have e4 : (RI5.args m' c).dv = (args m c).dv := by
    funext T i
    exact congrFun (h4.trans (Cert.Kernel5Ideal.Gen.V_main_arg4 m c).symm) (ix2 T i)
  have e5 : (RI5.args m' c).dz = (args m c).dz := by
    funext T i
    exact congrFun (h5.trans (Cert.Kernel5Ideal.Gen.V_main_arg5 m c).symm) (ix2 T i)
  have e6 : (RI5.args m' c).w = (args m c).w := by
    funext i j
    exact congrFun (h6.trans (Cert.Kernel5Ideal.Gen.V_main_arg6 m c).symm) (ix2 i j)
  have e7 : (RI5.args m' c).x = (args m c).x := by
    funext T i
    exact congrFun (h7.trans (Cert.Kernel5Ideal.Gen.V_main_arg7 m c).symm) (ix2 T i)
  have e8 : (RI5.args m' c).gam = (args m c).gam := by
    funext i
    exact congrFun (h8.trans (Cert.Kernel5Ideal.Gen.V_main_arg8 m c).symm) (ix2 0 i)
  have e9 : (RI5.args m' c).g = (args m c).g := by
    funext T i
    exact congrFun (h9.trans (Cert.Kernel5Ideal.Gen.V_main_arg9 m c).symm) (ix2 T i)
  have eh : (RI5.args m' c).h = (args m c).h := by
    have ex : (RI5.args m' c).h = fun T i => (RI5.args m' c).x T i * In.rms ((RI5.args m' c).x T) * (RI5.args m' c).gam i := rfl
    rw [ex, e7, e8]
    rfl
  exact Args.ext e0 e1 e2 e3 e4 e5 e6 e7 e8 e9 eh

/-- The call's arguments are real numbers where the precondition holds. -/
theorem args_finite [Cert.Pre_finite2.Facts] (c : Dev Cert.Kernel5Ideal.nD)
    (h : Cert.Pre_finite2.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) = fun _ => 1#1) : (args m c).Finite := by
  obtain ⟨⟨f0, f1, f2, f3, f4⟩, f5, f6, f7, f8⟩ := In.finite_of _ _ _ _ _ _ _ _ _ _ h
  have g0 := Cert.Kernel5Ideal.Gen.V_main_arg0 m c
  have g1 := Cert.Kernel5Ideal.Gen.V_main_arg1 m c
  have g2 := Cert.Kernel5Ideal.Gen.V_main_arg2 m c
  have g3 := Cert.Kernel5Ideal.Gen.V_main_arg3 m c
  have g4 := Cert.Kernel5Ideal.Gen.V_main_arg4 m c
  have g5 := Cert.Kernel5Ideal.Gen.V_main_arg5 m c
  have g6 := Cert.Kernel5Ideal.Gen.V_main_arg6 m c
  have g7 := Cert.Kernel5Ideal.Gen.V_main_arg7 m c
  have g8 := Cert.Kernel5Ideal.Gen.V_main_arg8 m c
  constructor
  · intro T i
    have e := congrFun g0 (ix2 T i)
    exact real_at e (f0 (ix2 T i))
  · intro T i
    have e := congrFun g1 (ix2 T i)
    exact real_at e (f1 (ix2 T i))
  · intro T i
    have e := congrFun g2 (ix2 T i)
    exact real_at e (f2 (ix2 T i))
  · intro T i
    have e := congrFun g3 (ix2 T i)
    exact real_at e (f3 (ix2 T i))
  · intro T i
    have e := congrFun g4 (ix2 T i)
    exact real_at e (f4 (ix2 T i))
  · intro T i
    have e := congrFun g5 (ix2 T i)
    exact real_at e (f5 (ix2 T i))
  · intro i j
    have e := congrFun g6 (ix2 i j)
    exact real_at e (f6 (ix2 i j))
  · intro T i
    have e := congrFun g7 (ix2 T i)
    exact real_at e (f7 (ix2 T i))
  · intro i
    have e := congrFun g8 (ix2 0 i)
    exact real_at e (f8 (ix2 0 i))

theorem algebraic [Cert.Pre_finite2.Facts] :
    Cert.algebraic_Kernel5Ideal_Reference5Ideal_pre_finite2 (hKernel5Ideal := Cert.Kernel5Ideal.Gen.facts) (hReference5Ideal := Cert.Reference5Ideal.Gen.facts) := by
  intro m g m' g' hm h
  refine ⟨fun c => (Cert.Kernel5Ideal.Gen.dats m 0 c).arrAt 12 Cert.Kernel5Ideal.cfg0.N, fun c => (Cert.Kernel5Ideal.Gen.dats m 0 c).arrAt 13 Cert.Kernel5Ideal.cfg0.N,
    Cert.Kernel5Ideal.Value.run_blocks m g, ?_⟩
  refine (θ_run Cert.Reference5Ideal.defs _ _).mono (fun r hr c => ?_) (ref_run m' g')
  obtain ⟨⟨e0, e1⟩, ea⟩ := hr c
  have hA := args_eq m m' c (h c)
  have hr5 := fun T i => RI5.results m' c T i
  rw [hA] at hr5
  have hf := args_finite m c (hm c)
  exact ⟨e0.trans ((ext2 fun T i => ((hr5 T i).1).trans (hf.dx_eq T i)).trans (arr12 m c).symm),
    e1.trans ((ext2 (f := fun _ i => (args m c).dgam i) fun z i => by
      obtain rfl : z = 0 := Subsingleton.elim _ _
      exact (hr5 0 i).2).trans (arr13 m c).symm), ea⟩

end Equal

end Cert.Proof.Dx

end
-- ==== Proof.Gate.Tile.lean ====
/-
  The sixth call over its blocks of 256 rows, from the last to the first: the sum a block adds to what the later blocks left, and the results.
-/
module

public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.Proof.Gate

open Cert.Kernel6Ideal Cert.Kernel6Ideal.Gen
open Idealize.ShloMosaic Idealize.ShloMosaic.TcCoe
open Idealize.SL Idealize.SL.Sem
open Idealize.ShloMosaic.Pipeline

/-! ## The body as a recursion on the blocks -/

theorem inb (n : Nat) : ∀ k, ![256 * (15 - n), 0] k + S256x128.size k ≤ S4096x128.size k := by
  intro k
  match k with
  | ⟨0, _⟩ => show 256 * (15 - n) + 256 ≤ 4096; omega
  | ⟨1, _⟩ => exact le_of_eq (Nat.zero_add 128)

/-- The rows of the block that comes `n`-th. -/
abbrev rows (n : Nat) : Rect S4096x128 := Rect.unit (s := S4096x128) ![256 * (15 - n), 0] S256x128.size (inb n)

section Body

variable {F : FTy → Type} [FloatOps F]
variable (a0 a1 a2 : Vec F S4096x128 .f32) (a3 : Vec F S1x128 .f32)

/-- The sums within the block. -/
def loc (n : Nat) : FVec F S256x128 .f32 := k0_pay5 (View.ld a0 (rows n)) (View.ld a1 (rows n))

/-- What the blocks before the `n`-th leave for its rows. -/
def carry : Nat → FVec F S1x128 .f32
  | 0 => broadcast S1x128 (Scalar.ofBits .f32 0x00000000#32)
  | n + 1 => extractStridedSlice S1x128 ![0, 0] (addf (loc a0 a1 n) (broadcastTo S256x128 (carry n) broadcasts_S1x128_S256x128)) slices_S256x128_o0_0_S1x128

/-- The sums from the block's rows to the last row. -/
def tail (n : Nat) : FVec F S256x128 .f32 := addf (loc a0 a1 n) (broadcastTo S256x128 (carry a0 a1 n) broadcasts_S1x128_S256x128)

/-- The bias' gradient over the blocks before the `n`-th. -/
def bias : Nat → FVec F S1x128 .f32
  | 0 => broadcast S1x128 (Scalar.ofBits .f32 0x00000000#32)
  | n + 1 => k0_pay3 (bias n) (tail a0 a1 n) (View.ld a2 (rows n)) a3

/-- The `n`-th block's piece of the first result. -/
def piece (n : Nat) : View.Piece (Elt F) S4096x128 .bf16 := ⟨rows n, k0_pay2 (tail a0 a1 n) (View.ld a2 (rows n)) a3⟩

theorem k1 : k0_pay123 a0 a1 a2 a3 = carry a0 a1 2 := rfl
theorem k2 : k0_pay124 a0 a1 a2 a3 = carry a0 a1 3 := by unfold k0_pay124; rw [k1]; rfl
theorem k3 : k0_pay126 a0 a1 a2 a3 = carry a0 a1 5 := by unfold k0_pay126; rw [k2]; rfl
theorem k4 : k0_pay129 a0 a1 a2 a3 = carry a0 a1 7 := by unfold k0_pay129; rw [k3]; rfl
theorem k5 : k0_pay132 a0 a1 a2 a3 = carry a0 a1 9 := by unfold k0_pay132; rw [k4]; rfl
theorem k6 : k0_pay133 a0 a1 a2 a3 = carry a0 a1 10 := by unfold k0_pay133; rw [k5]; rfl
theorem k7 : k0_pay135 a0 a1 a2 a3 = carry a0 a1 12 := by unfold k0_pay135; rw [k6]; rfl
theorem k8 : k0_pay138 a0 a1 a2 a3 = carry a0 a1 14 := by unfold k0_pay138; rw [k7]; rfl
theorem t1 : k0_pay122 a0 a1 a2 a3 = tail a0 a1 1 := rfl
theorem t4 : k0_pay125 a0 a1 a2 a3 = tail a0 a1 4 := by unfold k0_pay125; rw [k2]; rfl
theorem t6 : k0_pay128 a0 a1 a2 a3 = tail a0 a1 6 := by unfold k0_pay128; rw [k3]; rfl
theorem t8 : k0_pay131 a0 a1 a2 a3 = tail a0 a1 8 := by unfold k0_pay131; rw [k4]; rfl
theorem t11 : k0_pay134 a0 a1 a2 a3 = tail a0 a1 11 := by unfold k0_pay134; rw [k6]; rfl
theorem t13 : k0_pay137 a0 a1 a2 a3 = tail a0 a1 13 := by unfold k0_pay137; rw [k7]; rfl
theorem t15 : k0_pay141 a0 a1 a2 a3 = tail a0 a1 15 := by unfold k0_pay141; rw [k8]; rfl
theorem whole : View.ld a3 r0_16 = a3 := View.ld_unit_zero (S := S1x128) (by decide) _ a3
theorem z4 : k0_pay127 a0 a1 a2 a3 = k0_pay55 (View.ld a2 (rows 4)) a3 := by unfold k0_pay127; rw [whole]
theorem z6 : k0_pay130 a0 a1 a2 a3 = k0_pay64 (View.ld a2 (rows 6)) a3 := by unfold k0_pay130; rw [whole]
theorem z11 : k0_pay136 a0 a1 a2 a3 = k0_pay87 (View.ld a2 (rows 11)) a3 := by unfold k0_pay136; rw [whole]
theorem z13 : k0_pay139 a0 a1 a2 a3 = k0_pay96 (View.ld a2 (rows 13)) a3 := by unfold k0_pay139; rw [whole]

theorem p0 : k0_pay38 (k0_pay105 a0 a1 a2 a3) (k0_pay120 a0 a1 a2 a3) (k0_pay121 a0 a1 a2 a3) (View.ld a2 r0_15) a3 = k0_pay2 (tail a0 a1 0) (View.ld a2 (rows 0)) a3 := rfl
theorem p1 : k0_pay43 (tail a0 a1 1) (View.ld a2 r0_14) a3 = k0_pay2 (tail a0 a1 1) (View.ld a2 (rows 1)) a3 := rfl
theorem p2 : k0_pay48 (k0_pay118 a0 a1 a2 a3) (carry a0 a1 2) (View.ld a2 r0_13) a3 = k0_pay2 (tail a0 a1 2) (View.ld a2 (rows 2)) a3 := rfl
theorem p3 : k0_pay51 (k0_pay117 a0 a1 a2 a3) (carry a0 a1 3) (View.ld a2 r0_12) a3 = k0_pay2 (tail a0 a1 3) (View.ld a2 (rows 3)) a3 := rfl
theorem p4 : k0_pay57 (tail a0 a1 4) (k0_pay55 (View.ld a2 (rows 4)) a3) (Scalar.ofBits .f32 0x3F800000#32) = k0_pay2 (tail a0 a1 4) (View.ld a2 (rows 4)) a3 := rfl
theorem p5 : k0_pay60 (k0_pay115 a0 a1 a2 a3) (carry a0 a1 5) (View.ld a2 r0_10) a3 = k0_pay2 (tail a0 a1 5) (View.ld a2 (rows 5)) a3 := rfl
theorem p6 : k0_pay66 (tail a0 a1 6) (k0_pay64 (View.ld a2 (rows 6)) a3) = k0_pay2 (tail a0 a1 6) (View.ld a2 (rows 6)) a3 := rfl
theorem p7 : k0_pay69 (k0_pay113 a0 a1 a2 a3) (carry a0 a1 7) (View.ld a2 r0_8) a3 = k0_pay2 (tail a0 a1 7) (View.ld a2 (rows 7)) a3 := rfl
theorem p8 : k0_pay74 (tail a0 a1 8) (View.ld a2 r0_7) a3 = k0_pay2 (tail a0 a1 8) (View.ld a2 (rows 8)) a3 := rfl
theorem p9 : k0_pay79 (k0_pay111 a0 a1 a2 a3) (carry a0 a1 9) (View.ld a2 r0_6) a3 = k0_pay2 (tail a0 a1 9) (View.ld a2 (rows 9)) a3 := rfl
theorem p10 : k0_pay83 (k0_pay110 a0 a1 a2 a3) (carry a0 a1 10) (View.ld a2 r0_5) a3 = k0_pay2 (tail a0 a1 10) (View.ld a2 (rows 10)) a3 := rfl
theorem p11 : k0_pay89 (tail a0 a1 11) (k0_pay87 (View.ld a2 (rows 11)) a3) = k0_pay2 (tail a0 a1 11) (View.ld a2 (rows 11)) a3 := rfl
theorem p12 : k0_pay92 (k0_pay108 a0 a1 a2 a3) (carry a0 a1 12) (View.ld a2 r0_3) a3 = k0_pay2 (tail a0 a1 12) (View.ld a2 (rows 12)) a3 := rfl
theorem p13 : k0_pay99 (tail a0 a1 13) (k0_pay96 (View.ld a2 (rows 13)) a3) (k0_pay140 a0 a1 a2 a3) = k0_pay2 (tail a0 a1 13) (View.ld a2 (rows 13)) a3 := rfl
theorem p14 : k0_pay102 (k0_pay106 a0 a1 a2 a3) (carry a0 a1 14) (View.ld a2 r0_1) a3 = k0_pay2 (tail a0 a1 14) (View.ld a2 (rows 14)) a3 := rfl

theorem first_eq : Cert.Kernel6Ideal.Value.G4 a0 a1 a2 a3 = View.canon [piece a0 a1 a2 a3 15, piece a0 a1 a2 a3 14, piece a0 a1 a2 a3 13, piece a0 a1 a2 a3 12,
    piece a0 a1 a2 a3 11, piece a0 a1 a2 a3 10, piece a0 a1 a2 a3 9, piece a0 a1 a2 a3 8, piece a0 a1 a2 a3 7, piece a0 a1 a2 a3 6, piece a0 a1 a2 a3 5,
    piece a0 a1 a2 a3 4, piece a0 a1 a2 a3 3, piece a0 a1 a2 a3 2, piece a0 a1 a2 a3 1, piece a0 a1 a2 a3 0] := by
  unfold Cert.Kernel6Ideal.Value.G4
  rw [k1, k2, k3, k4, k5, k6, k7, k8, t1, t4, t6, t8, t11, t13, t15, z4, z6, z11, z13]
  rw [p0, p1, p2, p3, p4, p5, p6, p7, p8, p9, p10, p11, p12, p13, p14]
  rfl

theorem bias_succ (n : Nat) : bias a0 a1 a2 a3 (n + 1) = k0_pay3 (bias a0 a1 a2 a3 n) (tail a0 a1 n) (View.ld a2 (rows n)) a3 := rfl
theorem b1 : k0_pay39 (k0_pay105 a0 a1 a2 a3) (k0_pay120 a0 a1 a2 a3) (k0_pay121 a0 a1 a2 a3) (View.ld a2 r0_15) a3 = bias a0 a1 a2 a3 1 := rfl
theorem b2 : k0_pay44 (bias a0 a1 a2 a3 1) (tail a0 a1 1) (View.ld a2 r0_14) a3 = bias a0 a1 a2 a3 2 := by
  rw [bias_succ a0 a1 a2 a3 1]
  generalize bias a0 a1 a2 a3 1 = B
  rfl
theorem b4 : k0_pay52 (k0_pay117 a0 a1 a2 a3) (bias a0 a1 a2 a3 2) (carry a0 a1 3) (k0_pay47 (k0_pay118 a0 a1 a2 a3) (carry a0 a1 2) (View.ld a2 r0_13) a3) (View.ld a2 r0_12) a3 = bias a0 a1 a2 a3 4 := by
  rw [bias_succ a0 a1 a2 a3 3, bias_succ a0 a1 a2 a3 2]
  generalize bias a0 a1 a2 a3 2 = B
  rfl
theorem b6 : k0_pay61 (k0_pay115 a0 a1 a2 a3) (bias a0 a1 a2 a3 4) (tail a0 a1 4) (carry a0 a1 5) (k0_pay55 (View.ld a2 (rows 4)) a3) (Scalar.ofBits .f32 0x3F800000#32) (View.ld a2 r0_10) a3 = bias a0 a1 a2 a3 6 := by
  rw [bias_succ a0 a1 a2 a3 5, bias_succ a0 a1 a2 a3 4]
  generalize bias a0 a1 a2 a3 4 = B
  rfl
theorem b8 : k0_pay70 (k0_pay113 a0 a1 a2 a3) (bias a0 a1 a2 a3 6) (tail a0 a1 6) (carry a0 a1 7) (k0_pay64 (View.ld a2 (rows 6)) a3) (View.ld a2 r0_8) a3 = bias a0 a1 a2 a3 8 := by
  rw [bias_succ a0 a1 a2 a3 7, bias_succ a0 a1 a2 a3 6]
  generalize bias a0 a1 a2 a3 6 = B
  rfl
theorem b9 : k0_pay75 (bias a0 a1 a2 a3 8) (tail a0 a1 8) (View.ld a2 r0_7) a3 = bias a0 a1 a2 a3 9 := by
  rw [bias_succ a0 a1 a2 a3 8]
  generalize bias a0 a1 a2 a3 8 = B
  rfl
theorem b11 : k0_pay84 (k0_pay110 a0 a1 a2 a3) (bias a0 a1 a2 a3 9) (carry a0 a1 10) (k0_pay80 (k0_pay111 a0 a1 a2 a3) (carry a0 a1 9) (View.ld a2 r0_6) a3) (View.ld a2 r0_5) a3 = bias a0 a1 a2 a3 11 := by
  rw [bias_succ a0 a1 a2 a3 10, bias_succ a0 a1 a2 a3 9]
  generalize bias a0 a1 a2 a3 9 = B
  rfl
theorem b13 : k0_pay93 (k0_pay108 a0 a1 a2 a3) (bias a0 a1 a2 a3 11) (tail a0 a1 11) (carry a0 a1 12) (k0_pay87 (View.ld a2 (rows 11)) a3) (View.ld a2 r0_3) a3 = bias a0 a1 a2 a3 13 := by
  rw [bias_succ a0 a1 a2 a3 12, bias_succ a0 a1 a2 a3 11]
  generalize bias a0 a1 a2 a3 11 = B
  rfl
theorem b15 : k0_pay103 (k0_pay106 a0 a1 a2 a3) (bias a0 a1 a2 a3 13) (tail a0 a1 13) (carry a0 a1 14) (k0_pay96 (View.ld a2 (rows 13)) a3) (k0_pay140 a0 a1 a2 a3) (View.ld a2 r0_1) a3 = bias a0 a1 a2 a3 15 := by
  rw [bias_succ a0 a1 a2 a3 14, bias_succ a0 a1 a2 a3 13]
  generalize bias a0 a1 a2 a3 13 = B
  rfl

theorem second_eq : Cert.Kernel6Ideal.Value.G5 a0 a1 a2 a3 = bias a0 a1 a2 a3 16 := by
  unfold Cert.Kernel6Ideal.Value.G5
  rw [k1, k2, k3, k4, k5, k6, k7, k8, t1, t4, t6, t8, t11, t13, t15, z4, z6, z11, z13]
  rw [b1, b2, b4, b6, b8, b9, b11, b13, b15]
  exact (bias_succ a0 a1 a2 a3 15).symm

end Body

end Cert.Proof.Gate

end
-- ==== Proof.Gate.Value.lean ====
/-
  The sixth call over the extended reals: with finite arguments the blocks' sums run from a row to the last one.
-/
module

public import proofs.«01_k».proof.Proof.Gate.Tile
public import proofs.«01_k».proof.Proof.Out.Real

@[expose] public section

set_option maxRecDepth 16384

noncomputable section

namespace Cert.Proof.Gate

open Cert.Kernel6Ideal Cert.Kernel6Ideal.Gen
open Idealize.ShloMosaic Idealize.ShloMosaic.TcCoe
open Idealize.SL Idealize.SL.Sem
open Idealize.ShloMosaic.Pipeline
open Cert.Proof.PI (sum_of)

/-! ## One block -/

theorem tri_apply (i k : Fin 256) : k0_pay4 (F := Ideal) (ix2 i k) = if i.val ≤ k.val then (1 : EReal) else 0 := by
  have e := WordCmp.cmpi_sge_ofNat (w := 32) (a := k.val) (b := i.val) (by have := k.isLt; omega) (by have := i.isLt; omega)
  pointwise [k0_pay4]
  rw [e]
  by_cases hl : i.val ≤ k.val
  · rw [if_pos hl, decide_eq_true hl]
    show (((BitVec.setWidth 32 1#1).toInt : ℝ) : EReal) = 1
    simp
  · rw [if_neg hl, decide_eq_false hl]
    show (((BitVec.setWidth 32 0#1).toInt : ℝ) : EReal) = 0
    simp

theorem sums_apply (u v : S256x128.Idx → EReal) (i : Fin 256) (l : Fin 128) : k0_pay5 (F := Ideal) u v (ix2 i l) =
    (∑ k : Fin 256, (if i.val ≤ k.val then (1 : EReal) else 0) * (u (ix2 k l) - v (ix2 k l) - (u (ix2 k l) - v (ix2 k l)) - (u (ix2 k l) - v (ix2 k l) - (u (ix2 k l) - v (ix2 k l)))))
      + (∑ k : Fin 256, (if i.val ≤ k.val then (1 : EReal) else 0) * (u (ix2 k l) - v (ix2 k l) - (u (ix2 k l) - v (ix2 k l))))
      + ∑ k : Fin 256, (if i.val ≤ k.val then (1 : EReal) else 0) * (u (ix2 k l) - v (ix2 k l)) := by
  have h := tri_apply
  unfold k0_pay5
  generalize k0_pay4 (F := Ideal) = q at h ⊢
  pointwise
  simp only [h]

theorem sums_real (u v : S256x128.Idx → EReal) (i : Fin 256) (l : Fin 128) (d : Fin 256 → ℝ) (h : ∀ k, u (ix2 k l) - v (ix2 k l) = (d k : EReal)) :
    k0_pay5 (F := Ideal) u v (ix2 i l) = ((∑ k : Fin 256, if i.val ≤ k.val then d k else 0 : ℝ) : EReal) := by
  rw [sums_apply]
  simp only [h]
  rw [sum_of (f := fun _ => (0 : ℝ)) (fun k => by rw [← EReal.coe_sub, ← EReal.coe_sub, sub_self, EReal.coe_zero, mul_zero]),
    sum_of (f := fun _ => (0 : ℝ)) (fun k => by rw [← EReal.coe_sub, sub_self, EReal.coe_zero, mul_zero]),
    sum_of (f := fun k : Fin 256 => if i.val ≤ k.val then d k else 0) (fun k => by
      by_cases h : i.val ≤ k.val
      · rw [if_pos h, if_pos h, one_mul]
      · rw [if_neg h, if_neg h, zero_mul, EReal.coe_zero]), Finset.sum_const_zero, EReal.coe_zero, zero_add, zero_add]

theorem pay1_apply (r z : S256x128.Idx → EReal) (b : S1x128.Idx → EReal) (i : Fin 256) (l : Fin 128) :
    k0_pay1 (F := Ideal) r z b (ix2 i l) = r (ix2 i l) * Ideal.div 1 (1 + Ideal.exp (0 - (0 - (z (ix2 i l) + b (ix2 0 l))))) := by
  pointwise [k0_pay1]

theorem pay2_apply (r z : S256x128.Idx → EReal) (b : S1x128.Idx → EReal) (i : Fin 256) (l : Fin 128) :
    k0_pay2 (F := Ideal) r z b (ix2 i l) = r (ix2 i l) * Ideal.div 1 (1 + Ideal.exp (0 - (0 - (z (ix2 i l) + b (ix2 0 l))))) := by
  pointwise [k0_pay2, k0_pay1]

theorem pay3_apply (o b : S1x128.Idx → EReal) (r z : S256x128.Idx → EReal) (l : Fin 128) :
    k0_pay3 (F := Ideal) o r z b (ix2 0 l) = o (ix2 0 l) + ∑ i : Fin 256, r (ix2 i l) * Ideal.div 1 (1 + Ideal.exp (0 - (0 - (z (ix2 i l) + b (ix2 0 l))))) := by
  have h := pay1_apply r z b
  unfold k0_pay3
  generalize k0_pay1 (F := Ideal) r z b = q at h ⊢
  pointwise
  simp only [h]

/-! ## The sums over the blocks -/

section Sums

variable (a0 a1 a2 : S4096x128.Idx → EReal) (a3 : S1x128.Idx → EReal)
variable (D : Nat → Fin 128 → ℝ)

/-- A row's place in its block and the block's place among the rows. -/
theorem ld_apply (x : S4096x128.Idx → EReal) (n : Nat) (i : Fin 256) (l : Fin 128) :
    View.ld (Val := Elt Ideal) (S := S4096x128) (e' := .f32) x (rows n) (ix2 i l) = x (ix2 ⟨256 * (15 - n) + i.val, by omega⟩ l) := by
  refine congrArg x (funext fun k => ?_)
  fin_cases k
  · exact Fin.ext (show 256 * (15 - n) + 1 * i.val = 256 * (15 - n) + i.val by omega)
  · exact Fin.ext (show 0 + 1 * l.val = l.val by omega)

/-- The sum from row `t` on. -/
def from_ (t : Nat) (l : Fin 128) : ℝ := ∑ s ∈ Finset.Ico t 4096, D s l

theorem tri_sum (f : Nat → ℝ) (a : Nat) (i : Fin 256) :
    (∑ k : Fin 256, if i.val ≤ k.val then f (a + k.val) else 0) = ∑ s ∈ Finset.Ico (a + i.val) (a + 256), f s := by
  rw [Fin.sum_univ_eq_sum_range (fun k => if i.val ≤ k then f (a + k) else 0) 256, ← Finset.sum_filter, Finset.sum_Ico_eq_sum_range,
    show (Finset.range 256).filter (fun k => i.val ≤ k) = Finset.Ico i.val 256 by ext; simp; omega, Finset.sum_Ico_eq_sum_range,
    show a + 256 - (a + i.val) = 256 - i.val by omega]
  exact Finset.sum_congr rfl fun s _ => by rw [Nat.add_assoc]

variable {a0 a1 D} (hD : ∀ (T : Fin 4096) l, a0 (ix2 T l) - a1 (ix2 T l) = (D T.val l : EReal))
include hD

theorem loc_real (n : Nat) (i : Fin 256) (l : Fin 128) :
    loc (F := Ideal) a0 a1 n (ix2 i l) = ((∑ s ∈ Finset.Ico (256 * (15 - n) + i.val) (256 * (15 - n) + 256), D s l : ℝ) : EReal) := by
  refine (sums_real _ _ i l (fun k => D (256 * (15 - n) + k.val) l) (fun k =>
    (congrArg₂ (fun a b : EReal => a - b) (ld_apply a0 n k l) (ld_apply a1 n k l)).trans (hD _ l))).trans ?_
  exact congrArg _ (tri_sum (fun s => D s l) _ i)

theorem tail_real (n : Nat) (hn : n < 16) (i : Fin 256) (l : Fin 128)
    (hc : carry (F := Ideal) a0 a1 n (ix2 0 l) = (from_ D (256 * (16 - n)) l : EReal)) :
    tail (F := Ideal) a0 a1 n (ix2 i l) = (from_ D (256 * (15 - n) + i.val) l : EReal) := by
  have h := loc_real hD n i l
  unfold tail
  generalize loc (F := Ideal) a0 a1 n = q at h ⊢
  generalize carry (F := Ideal) a0 a1 n = c at hc ⊢
  pointwise
  rw [h, hc, ← EReal.coe_add]
  unfold from_
  rw [show 256 * (16 - n) = 256 * (15 - n) + 256 by omega, Finset.sum_Ico_consecutive _ (by omega) (by omega)]

theorem carry_real (n : Nat) (hn : n ≤ 16) (l : Fin 128) : carry (F := Ideal) a0 a1 n (ix2 0 l) = (from_ D (256 * (16 - n)) l : EReal) := by
  induction n with
  | zero =>
    show broadcast S1x128 (Scalar.ofBits (F := Ideal) .f32 0x00000000#32) (ix2 0 l) = _
    pointwise [from_]
    simp
  | succ n ih =>
    have h := tail_real hD n (by omega) 0 l (ih (by omega))
    show extractStridedSlice S1x128 ![0, 0] (tail (F := Ideal) a0 a1 n) slices_S256x128_o0_0_S1x128 (ix2 0 l) = _
    generalize tail (F := Ideal) a0 a1 n = q at h ⊢
    pointwise
    refine h.trans ?_
    rw [show 256 * (15 - n) + (0 : Fin 256).val = 256 * (16 - (n + 1)) by show 256 * (15 - n) + 0 = _; omega]

/-- A row's gradient. -/
def grad (D : Nat → Fin 128 → ℝ) (a2 : S4096x128.Idx → EReal) (a3 : S1x128.Idx → EReal) (T : Fin 4096) (l : Fin 128) : EReal :=
  (from_ D T.val l : EReal) * Ideal.div 1 (1 + Ideal.exp (0 - (0 - (a2 (ix2 T l) + a3 (ix2 0 l)))))

theorem piece_apply (n : Nat) (hn : n < 16) (i : Fin 256) (l : Fin 128) :
    k0_pay2 (F := Ideal) (tail (F := Ideal) a0 a1 n) (View.ld (Val := Elt Ideal) (S := S4096x128) (e' := .f32) a2 (rows n)) a3 (ix2 i l) =
      grad D a2 a3 ⟨256 * (15 - n) + i.val, by omega⟩ l := by
  rw [pay2_apply, tail_real hD n hn _ _ (carry_real hD n (by omega) _), ld_apply]
  rfl

theorem first_apply (T : Fin 4096) (l : Fin 128) : Cert.Kernel6Ideal.Value.G4 (F := Ideal) a0 a1 a2 a3 (ix2 T l) = grad D a2 a3 T l := by
  have key : ∀ n, n < 16 → ∀ x : (rows n).shape.Idx, (piece (F := Ideal) a0 a1 a2 a3 n).2 x = (fun y : S4096x128.Idx => grad D a2 a3 (y 0) (y 1)) ((rows n).emb x) := by
    intro n hn x
    have ex : (ix2 (x 0) (x 1) : S256x128.Idx) = x := by funext k; fin_cases k <;> rfl
    refine (congrArg (k0_pay2 (F := Ideal) (tail (F := Ideal) a0 a1 n) _ a3) ex).symm.trans ((piece_apply a2 a3 hD n hn (x 0) (x 1)).trans ?_)
    show grad D a2 a3 _ _ = grad D a2 a3 _ _
    congr 1
    · exact Fin.ext (show 256 * (15 - n) + (x 0).val = 256 * (15 - n) + 1 * (x 0).val by omega)
    · exact Fin.ext (show (x 1).val = 0 + 1 * (x 1).val by omega)
  rw [first_eq]
  refine View.canon_apply_of_pieces (Val := Elt Ideal) (e := .bf16) (fun y : S4096x128.Idx => grad D a2 a3 (y 0) (y 1)) _ ?_ (ix2 T l) (cover0_4 _ _ _ _ _ _ _ _ _ _ _ _ _ _ _ _ _)
  simp only [List.forall_mem_cons]
  exact ⟨key 15 (by decide), key 14 (by decide), key 13 (by decide), key 12 (by decide), key 11 (by decide), key 10 (by decide), key 9 (by decide), key 8 (by decide),
    key 7 (by decide), key 6 (by decide), key 5 (by decide), key 4 (by decide), key 3 (by decide), key 2 (by decide), key 1 (by decide), key 0 (by decide), fun _ h => absurd h (List.not_mem_nil)⟩

theorem bias_apply (l : Fin 128) (n : Nat) (hn : n ≤ 16) : bias (F := Ideal) a0 a1 a2 a3 n (ix2 0 l) =
    ∑ b ∈ Finset.range n, ∑ i : Fin 256, grad D a2 a3 ⟨256 * (15 - b) + i.val, by omega⟩ l := by
  induction n with
  | zero =>
    show broadcast S1x128 (Scalar.ofBits (F := Ideal) .f32 0x00000000#32) (ix2 0 l) = _
    pointwise
    rfl
  | succ n ih =>
    rw [bias_succ, pay3_apply, Finset.sum_range_succ, ih (by omega)]
    refine congrArg _ (Finset.sum_congr rfl fun i _ => ?_)
    rw [tail_real hD n (by omega) _ _ (carry_real hD n (by omega) _), ld_apply]
    rfl

theorem second_apply (l : Fin 128) : Cert.Kernel6Ideal.Value.G5 (F := Ideal) a0 a1 a2 a3 (ix2 0 l) = ∑ T, grad D a2 a3 T l := by
  rw [second_eq, bias_apply a2 a3 hD l 16 le_rfl, Finset.sum_range]
  refine Eq.symm ((Fin.sum_divmod_congr (A := 16) (S := 256) (f := fun a r => grad D a2 a3 ⟨256 * a.val + r.val, by omega⟩ l) fun T _ _ =>
    congrArg (fun t => grad D a2 a3 t l) (Fin.ext (Nat.div_add_mod T.val 256).symm)).trans ?_)
  refine (Equiv.sum_comp Fin.revPerm _).symm.trans (Finset.sum_congr rfl fun a _ => Finset.sum_congr rfl fun i _ => congrArg (fun t => grad D a2 a3 t l) (Fin.ext ?_))
  show 256 * (16 - (a.val + 1)) + i.val = 256 * (15 - a.val) + i.val
  omega

end Sums

end Cert.Proof.Gate

end
-- ==== Proof.Gate.Ref.lean ====
/-
  The reference of the sixth call over the extended reals: with finite arguments its results are those of the blocks.
-/
module

public import proofs.«01_k».proof.Proof.Gate.Value
public import proofs.«01_k».proof.Proof.Gen.Reference6Ideal.Run
public import proofs.«01_k».proof.Proof.In.Equal
public import Idealize.ShloMosaic.Lib.Routing.OpsOne

@[expose] public section

set_option maxRecDepth 16384

noncomputable section

namespace Cert.Proof.Gate

open Idealize.ShloMosaic Idealize.ShloMosaic.TcCoe
open Idealize.SL Idealize.SL.Sem
open Idealize.ShloMosaic.Routing
open Cert.Proof.PI (sum_of)

/-! ## A running sum over the extended reals -/

theorem foldl_sum {α : Type} (step : EReal → α → EReal) (g : α → EReal) (h : ∀ r n, step r n = r + g n) (L : List α) (v : EReal) :
    L.foldl step v = v + (L.map g).sum := by
  induction L generalizing v with
  | nil => exact (add_zero v).symm
  | cons a L ih => rw [List.foldl_cons, ih, List.map_cons, List.sum_cons, h, add_assoc]

theorem suffix_sum (f : Nat → ℝ) (t : Nat) (ht : t < 4096) :
    (∑ n ∈ Finset.range 4096, if t + n < 4096 then f (t + n) else 0) = ∑ s ∈ Finset.Ico t 4096, f s := by
  rw [← Finset.sum_filter, Finset.sum_Ico_eq_sum_range]
  exact Finset.sum_congr (by ext; simp; omega) fun _ _ => rfl

/-- A window of the whole height, padded after the last row, sums from a row to the last one. -/
theorem window_apply (x : (shape2 4096 128).Idx → EReal) (D : Nat → Fin 128 → ℝ) (hx : ∀ (T : Fin 4096) l, x (ix2 T l) = (D T.val l : EReal))
    (init : shape0.Idx → EReal) (hinit : ∀ i, init i = 0)
    (h : (shape2 4096 128).ReduceWindows (![4096, 1] : Fin 2 → Nat) ![1, 1] ![0, 0] ![4095, 0] (shape2 4096 128)) (hu : 0 < shape0.numel) (T : Fin 4096) (l : Fin 128) :
    Host.reduceWindow (fun a b : EReal => a + b) ![4096, 1] ![1, 1] ![0, 0] ![4095, 0] x init h hu (ix2 T l) = (from_ D T.val l : EReal) := by
  unfold Host.reduceWindow
  refine (foldl_sum _ (fun n : Fin (shape2 4096 1).numel => ((if T.val + n.val < 4096 then D (T.val + n.val) l else 0 : ℝ) : EReal)) (fun r n => congrArg (r + ·) ?_) _ _).trans ?_
  · have hw0 : ((shape2 4096 1).rowMajor.symm n 0).val = n.val := by rw [symm_col]; rfl
    have hw1 : ((shape2 4096 1).rowMajor.symm n 1).val = 0 := by rw [symm_col]; rfl
    have hl := l.isLt
    dsimp only
    split
    · next hin =>
      have h0 := (hin 0).2
      change T.val * 1 + ((shape2 4096 1).rowMajor.symm n 0).val - 0 < 4096 at h0
      rw [hw0] at h0
      rw [if_pos (by omega)]
      refine (congrArg x (funext fun a => Fin.ext ?_)).trans (hx ⟨T.val + n.val, by omega⟩ l)
      match a with
      | ⟨0, _⟩ => show T.val * 1 + ((shape2 4096 1).rowMajor.symm n 0).val - 0 = T.val + n.val; omega
      | ⟨1, _⟩ => show l.val * 1 + ((shape2 4096 1).rowMajor.symm n 1).val - 0 = l.val; omega
    · next hin =>
      rw [if_neg fun hlt => hin fun a => by
        match a with
        | ⟨0, _⟩ => show 0 ≤ T.val * 1 + ((shape2 4096 1).rowMajor.symm n 0).val ∧ T.val * 1 + ((shape2 4096 1).rowMajor.symm n 0).val - 0 < 4096; omega
        | ⟨1, _⟩ => show 0 ≤ l.val * 1 + ((shape2 4096 1).rowMajor.symm n 1).val ∧ l.val * 1 + ((shape2 4096 1).rowMajor.symm n 1).val - 0 < 128; omega]
      exact hinit _
  · rw [hinit, zero_add]
    refine (Fin.sum_univ_def _).symm.trans ?_
    rw [sum_of (fun _ => rfl), Fin.sum_univ_eq_sum_range (fun n => if T.val + n < 4096 then D (T.val + n) l else 0), numel_col]
    exact congrArg _ (suffix_sum (fun s => D s l) T.val T.isLt)

theorem windowAdd_eq {s t : Shape} (window strides lo hi : Fin s.rank → Nat) (x : FVec Ideal s .f32) (init : FVec Ideal shape0 .f32)
    (h : s.ReduceWindows window strides lo hi t) (hu : 0 < shape0.numel) :
    Host.reduceWindowAdd window strides lo hi x init h hu = Host.reduceWindow (fun a b : EReal => a + b) window strides lo hi x (fun _ : shape0.Idx => init (Shape.Idx.first hu)) h hu := rfl

theorem windowAdd_apply (x : FVec Ideal (shape2 4096 128) .f32) (D : Nat → Fin 128 → ℝ) (hx : ∀ (T : Fin 4096) l, x (ix2 T l) = (D T.val l : EReal))
    (init : FVec Ideal shape0 .f32) (hinit : ∀ i, init i = (0 : EReal))
    (h : (shape2 4096 128).ReduceWindows (![4096, 1] : Fin 2 → Nat) ![1, 1] ![0, 0] ![4095, 0] (shape2 4096 128)) (hu : 0 < shape0.numel) (T : Fin 4096) (l : Fin 128) :
    Host.reduceWindowAdd ![4096, 1] ![1, 1] ![0, 0] ![4095, 0] x init h hu (ix2 T l) = (from_ D T.val l : EReal) := by
  rw [windowAdd_eq]
  exact window_apply x D hx (fun _ => init (Shape.Idx.first hu)) (fun _ => hinit _) h hu T l

/-! ## The reference's results -/

section Results

open Cert.Reference6Ideal Cert.Reference6Ideal.Gen
open Cert.Proof.RI3 (lg)
open Cert.Proof.Out (sgr lg_real)
open Cert.Proof.In (AllReal)

/-- The reference's sums and rows. -/
def sums (x0 x1 : FVec Ideal S4096x128 .f32) : FVec Ideal S4096x128 .f32 :=
  Host.reduceWindowAdd ![4096, 1] ![1, 1] ![0, 0] ![4095, 0] (subf x0 x1) (broadcastInDim S_ ![] bcast_S_S_ (constant S_ .f32 0x00000000#32)) reduceWindows_S4096x128_S4096x128_w4096s1p0_4095_w1s1p0_0 h_S_
def gate (x2 : FVec Ideal S4096x128 .f32) (x3 : FVec Ideal S1x128 .f32) : FVec Ideal S4096x128 .f32 :=
  Host.divf (broadcastInDim S4096x128 ![] bcast_S_S4096x128 (constant S_ .f32 0x3F800000#32)) (addf (broadcastInDim S4096x128 ![] bcast_S_S4096x128 (constant S_ .f32 0x3F800000#32)) (Host.exp (Host.negf (addf x2 (broadcastInDim S4096x128 ![0, 1] bcast_S1x128_S4096x128_0_1 x3)))))
def grads (x0 x1 x2 : FVec Ideal S4096x128 .f32) (x3 : FVec Ideal S1x128 .f32) : FVec Ideal S4096x128 .f32 :=
  mulf (Host.divf (sums x0 x1) (gate x2 x3)) (mulf (gate x2 x3) (subf (broadcastInDim S4096x128 ![] bcast_S_S4096x128 (constant S_ .f32 0x3F800000#32)) (gate x2 x3)))

theorem gate_apply (x2 : FVec Ideal S4096x128 .f32) (x3 : FVec Ideal S1x128 .f32) (T : Fin 4096) (l : Fin 128) :
    gate x2 x3 (ix2 T l) = lg (x2 (ix2 T l) + x3 (ix2 0 l)) := by
  pointwise [gate, lg]

theorem grads_apply (x0 x1 x2 : FVec Ideal S4096x128 .f32) (x3 : FVec Ideal S1x128 .f32) (T : Fin 4096) (l : Fin 128) :
    grads x0 x1 x2 x3 (ix2 T l) = Ideal.div (sums x0 x1 (ix2 T l)) (lg (x2 (ix2 T l) + x3 (ix2 0 l))) * (lg (x2 (ix2 T l) + x3 (ix2 0 l)) * (1 - lg (x2 (ix2 T l) + x3 (ix2 0 l)))) := by
  have h := gate_apply x2 x3 T l
  unfold grads
  generalize gate x2 x3 = q at h ⊢
  generalize sums x0 x1 = w
  pointwise
  rw [h]

/-- The two ways to write a row's gradient, of real numbers. -/
theorem grad_real (r v : ℝ) : Ideal.div (r : EReal) (lg (v : EReal)) * (lg (v : EReal) * (1 - lg (v : EReal))) =
    (r : EReal) * Ideal.div 1 (1 + Ideal.exp (0 - (0 - (v : EReal)))) := by
  have hp : (1 + Real.exp (-v)) ≠ 0 := by positivity
  have hq : (1 + Real.exp v) ≠ 0 := by positivity
  have hs : sgr v ≠ 0 := by unfold sgr; positivity
  rw [lg_real, Ideal.div_coe hs, zero_sub, zero_sub, neg_neg, Ideal.exp_coe, ← EReal.coe_one, ← EReal.coe_add, Ideal.div_coe hq]
  simp only [← EReal.coe_mul, ← EReal.coe_sub]
  refine congrArg _ ?_
  unfold sgr
  rw [Real.exp_neg] at *
  have he := Real.exp_ne_zero v
  field_simp
  ring

variable {x0 x1 x2 : FVec Ideal S4096x128 .f32} {x3 : FVec Ideal S1x128 .f32}

/-- What is summed. -/
def inc (x0 x1 : FVec Ideal S4096x128 .f32) (t : Nat) (l : Fin 128) : ℝ :=
  if h : t < 4096 then ((x0 (ix2 ⟨t, h⟩ l) : EReal).toReal - (x1 (ix2 ⟨t, h⟩ l) : EReal).toReal) else 0

theorem inc_eq (h0 : AllReal x0) (h1 : AllReal x1) (T : Fin 4096) (l : Fin 128) : (x0 (ix2 T l) : EReal) - x1 (ix2 T l) = (inc x0 x1 T.val l : EReal) := by
  unfold inc
  rw [dif_pos T.isLt, EReal.coe_sub, ← h0, ← h1]

theorem sums_apply' (h0 : AllReal x0) (h1 : AllReal x1) (T : Fin 4096) (l : Fin 128) : sums x0 x1 (ix2 T l) = (from_ (inc x0 x1) T.val l : EReal) := by
  have hx : ∀ (T : Fin 4096) l, (subf x0 x1 : FVec Ideal S4096x128 .f32) (ix2 T l) = (inc x0 x1 T.val l : EReal) := fun T l => inc_eq h0 h1 T l
  have hi : ∀ i, (broadcastInDim S_ ![] bcast_S_S_ (constant (F := Ideal) S_ .f32 0x00000000#32)) i = (0 : EReal) := fun i => Ideal.ofBits_zero_f32
  exact windowAdd_apply _ _ hx _ hi reduceWindows_S4096x128_S4096x128_w4096s1p0_4095_w1s1p0_0 h_S_ T l

theorem grads_eq (h0 : AllReal x0) (h1 : AllReal x1) (h2 : AllReal x2) (h3 : AllReal x3) (T : Fin 4096) (l : Fin 128) :
    grads x0 x1 x2 x3 (ix2 T l) = grad (inc x0 x1) x2 x3 T l := by
  rw [grads_apply, sums_apply' h0 h1]
  unfold grad
  rw [h2 (ix2 T l), h3 (ix2 0 l), ← EReal.coe_add]
  exact grad_real _ _

theorem total_apply (q : FVec Ideal S4096x128 .f32) (l : Fin 128) :
    shapeCast S1x128 (Host.reduceAdd q (constant S_ .f32 0x00000000#32) reducesTo_S4096x128_S128_d0 h_S_) shapeCasts_S128_S1x128 (ix2 0 l) = ∑ T : Fin 4096, (q (ix2 T l) : EReal) := by
  pointwise

end Results

end Cert.Proof.Gate

end
-- ==== Proof.Gate.Equal.lean ====
/-
  From memories with the same finite arguments the sixth call and its reference end with the same results.
-/
module

public import proofs.«01_k».proof.Defs
public import proofs.«01_k».proof.Proof.Gate.Ref

@[expose] public section

set_option maxRecDepth 16384

noncomputable section

namespace Cert.Proof.Gate

open Idealize.ShloMosaic Idealize.ShloMosaic.TcCoe
open Idealize.SL Idealize.SL.Sem
open Cert.Proof.In (AllReal)

/-- The side conditions of the predicate that says "finite". -/
theorem finite_facts : Cert.Pre_finite6.Facts where
  bcast_S_S4096x128 := by decide
  reducesTo_S4096x128_S_d0_1 := by decide
  h_S_ := by decide
  bcast_S_S1x128 := by decide
  reducesTo_S1x128_S_d0_1 := by decide

instance : Subsingleton Cert.Pre_finite6.S_.Idx := ⟨fun _ _ => funext fun a => a.elim0⟩

theorem finite_of [Cert.Pre_finite6.Facts] (x0 x1 x2 : Cert.Pre_finite6.S4096x128.Idx → EReal) (x3 : Cert.Pre_finite6.S1x128.Idx → EReal)
    (h : Cert.Pre_finite6.fn (F := Ideal) x0 x1 x2 x3 = fun _ => 1#1) : (AllReal x0 ∧ AllReal x1) ∧ AllReal x2 ∧ AllReal x3 := by
  have e := congrFun h (fun a => a.elim0)
  unfold Cert.Pre_finite6.fn Cert.Pre_finite6.fn_part1 at e
  obtain ⟨hl, hr⟩ := IntOp.andi_eq_one.mp e
  obtain ⟨h0, h1⟩ := IntOp.andi_eq_one.mp hl
  obtain ⟨h2, h3⟩ := IntOp.andi_eq_one.mp hr
  exact ⟨⟨fun i => real_of_lt _ (Host.reduce_andi_all _ _ _ _ _ h0 i), fun i => real_of_lt _ (Host.reduce_andi_all _ _ _ _ _ h1 i)⟩,
    fun i => real_of_lt _ (Host.reduce_andi_all _ _ _ _ _ h2 i), fun i => real_of_lt _ (Host.reduce_andi_all _ _ _ _ _ h3 i)⟩

/-- The reference leaves its arguments as they were, and no counter. -/
theorem ref_frame : Cert.quiescent_Reference6Ideal (hReference6Ideal := Cert.Reference6Ideal.Gen.facts) :=
  fun m ρ _ => (θ_run Cert.Reference6Ideal.defs _ _).mono (fun r h => ⟨fun c => (h c).2.2, sem_eq_zero_of_no_sems (by decide) r.2⟩)
    (Cert.Reference6Ideal.Value.run m ρ)

/-! ### The results of the two, of finite arguments -/

section Results

open Cert.Reference6Ideal Cert.Reference6Ideal.Gen

variable {x0 x1 x2 : FVec Ideal S4096x128 .f32} {x3 : FVec Ideal S1x128 .f32}
variable (h0 : AllReal x0) (h1 : AllReal x1) (h2 : AllReal x2) (h3 : AllReal x3)
include h0 h1 h2 h3

theorem first_same : truncf .bf16 (grads x0 x1 x2 x3) bitsLt_bf16_f32 = Cert.Kernel6Ideal.Value.G4 (F := Ideal) x0 x1 x2 x3 :=
  (ext2 fun T l => grads_eq h0 h1 h2 h3 T l).trans (ext2 fun T l => first_apply x2 x3 (inc_eq h0 h1) T l).symm

theorem second_same : shapeCast S1x128 (Host.reduceAdd (grads x0 x1 x2 x3) (constant S_ .f32 0x00000000#32) reducesTo_S4096x128_S128_d0 h_S_) shapeCasts_S128_S1x128 =
    Cert.Kernel6Ideal.Value.G5 (F := Ideal) x0 x1 x2 x3 := by
  refine (ext2 (f := fun _ l => ∑ T, grad (inc x0 x1) x2 x3 T l) fun i l => ?_).trans (ext2 (f := fun _ l => ∑ T, grad (inc x0 x1) x2 x3 T l) fun i l => ?_).symm
  · rw [Subsingleton.elim i 0]
    exact (total_apply _ l).trans (Finset.sum_congr rfl fun T _ => grads_eq h0 h1 h2 h3 T l)
  · rw [Subsingleton.elim i 0]
    exact second_apply x2 x3 (inc_eq h0 h1) l

end Results

theorem algebraic [Cert.Pre_finite6.Facts] :
    Cert.algebraic_Kernel6Ideal_Reference6Ideal_pre_finite6 (hKernel6Ideal := Cert.Kernel6Ideal.Gen.facts) (hReference6Ideal := Cert.Reference6Ideal.Gen.facts) := by
  intro m g m' g' hm h
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N,
    Cert.Kernel6Ideal.Value.run_blocks m g, ?_⟩
  refine (θ_run Cert.Reference6Ideal.defs _ _).mono (fun r hr c => ?_) (Cert.Reference6Ideal.Value.run m' g')
  obtain ⟨e0, e1, ea⟩ := hr c
  obtain ⟨⟨f0, f1⟩, f2, f3⟩ := finite_of _ _ _ _ (hm c)
  obtain ⟨q0, q1, q2, q3⟩ := h c
  rw [q0, q1, q2, q3] at e0 e1
  exact ⟨e0.trans ((first_same f0 f1 f2 f3).trans (Cert.Kernel6Ideal.Value.final4 m c).symm),
    e1.trans ((second_same f0 f1 f2 f3).trans (Cert.Kernel6Ideal.Value.final5 m c).symm), ea⟩

end Cert.Proof.Gate

end
-- ==== Proof.Adam.Tile.lean ====
/-
  The seventh call: what each of its four points writes, the results' arrays, and their numbers over the extended reals.
-/
module

public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

namespace Cert.Proof.Adam

open Cert.Kernel7Ideal Cert.Kernel7Ideal.Gen
open Idealize.ShloMosaic Idealize.ShloMosaic.TcCoe
open Idealize.SL Idealize.SL.Sem
open Idealize.ShloMosaic.Pipeline

/-! ## What a point writes -/

section Body

variable {F : FTy → Type} [FloatOps F] [Named F]

theorem inb (n : Fin 8) : ∀ k, ![n.val, 0, 0] k + S1x552x128.size k ≤ S8x552x128.size k := by
  intro k
  match k with
  | ⟨0, _⟩ => show n.val + 1 ≤ 8; omega
  | ⟨1, _⟩ => exact le_of_eq (Nat.zero_add 552)
  | ⟨2, _⟩ => exact le_of_eq (Nat.zero_add 128)

/-- One device's part. -/
def part (x : Vec F S8x552x128 .f32) (n : Fin 8) : Vec F S1x552x128 .f32 :=
  View.ld x (Rect.unit (s := S8x552x128) ![n.val, 0, 0] S1x552x128.size (inb n))

/-- The sum of the devices' parts, and the two moments. -/
def total (x : Vec F S8x552x128 .f32) : FVec F S552x128 .f32 :=
  k0_pay5 (part x 0) (part x 1) (part x 2) (part x 3) (part x 4) (part x 5) (part x 6) (part x 7)
def first (v : Vec F S1x552x128 .f32) (x : Vec F S8x552x128 .f32) : FVec F S552x128 .f32 :=
  k0_pay6 (part x 0) (part x 1) (part x 2) (part x 3) (part x 4) (part x 5) (part x 6) (part x 7) v

/-- What a point writes of the four results. -/
abbrev Written (w v s : Vec F S1x552x128 .f32) (x : Vec F S8x552x128 .f32) : Vec F S1x552x128 .f32 × Vec F S1x552x128 .f32 × Vec F S1x552x128 .f32 × Vec F S1x552x128 .f32 :=
  (k0_pay8 (total x), k0_pay1 (k0_pay11 (total x) (first v x) s w), k0_pay9 (first v x), k0_pay10 (total x) s)

variable (m : (ℓ : Loc nD τ sig) → Buf (Elt F) ℓ) (c : Dev nD) (t : Fin cfg0.N)

theorem zeros : (![0, 0, 0] : Fin 3 → Nat) = fun _ => 0 := by decide

/-- The later layers' payloads are the first layer's. -/
theorem e12 : k0_pay12 (F := F) = k0_pay5 := rfl
theorem e13 : k0_pay13 (F := F) = k0_pay6 := rfl
theorem e14 : k0_pay14 (F := F) = k0_pay7 := rfl
theorem e15 : k0_pay15 (F := F) = k0_pay8 := rfl
theorem e16 : k0_pay16 (F := F) = k0_pay9 := rfl
theorem e17 : k0_pay17 (F := F) = k0_pay10 := rfl
theorem e18 : k0_pay18 (F := F) = k0_pay11 := rfl
theorem e2 : k0_pay2 (F := F) = k0_pay1 := rfl
theorem e19 : k0_pay19 (F := F) = k0_pay5 := rfl
theorem e20 : k0_pay20 (F := F) = k0_pay6 := rfl
theorem e21 : k0_pay21 (F := F) = k0_pay7 := rfl
theorem e22 : k0_pay22 (F := F) = k0_pay8 := rfl
theorem e23 : k0_pay23 (F := F) = k0_pay9 := rfl
theorem e24 : k0_pay24 (F := F) = k0_pay10 := rfl
theorem e25 : k0_pay25 (F := F) = k0_pay11 := rfl
theorem e3 : k0_pay3 (F := F) = k0_pay1 := rfl
theorem e26 : k0_pay26 (F := F) = k0_pay5 := rfl
theorem e27 : k0_pay27 (F := F) = k0_pay6 := rfl
theorem e28 : k0_pay28 (F := F) = k0_pay7 := rfl
theorem e29 : k0_pay29 (F := F) = k0_pay8 := rfl
theorem e30 : k0_pay30 (F := F) = k0_pay9 := rfl
theorem e31 : k0_pay31 (F := F) = k0_pay10 := rfl
theorem e32 : k0_pay32 (F := F) = k0_pay11 := rfl
theorem e4 : k0_pay4 (F := F) = k0_pay1 := rfl

theorem r_A (a : Memref sig .tc .vmem S8x552x128 .f32) (ha : a.IsWhole) (x : Vec F S8x552x128 .f32) :
    kernelRun0_A.sl.r c a ha x = total x := by
  delta kernelRun0_A.sl.r
  simp only [View.readAt_eq_ld, Memref.IsWhole.read_unread]
  rfl
theorem r1_A (b : Memref sig .tc .vmem S1x552x128 .f32) (hb : b.IsWhole) (a : Memref sig .tc .vmem S8x552x128 .f32) (ha : a.IsWhole) (x : Vec F S8x552x128 .f32) (v : Vec F S1x552x128 .f32) :
    kernelRun0_A.sl.r_1 c b hb a ha v x = first v x := by
  delta kernelRun0_A.sl.r_1
  simp only [View.readAt_eq_ld, Memref.IsWhole.read_unread, View.ld_unit_zero (S := S1x552x128) zeros]
  rfl
theorem r2_A (d : Memref sig .tc .vmem S1x552x128 .f32) (hd : d.IsWhole) (b : Memref sig .tc .vmem S1x552x128 .f32) (hb : b.IsWhole) (e : Memref sig .tc .vmem S1x552x128 .f32) (he : e.IsWhole) (a : Memref sig .tc .vmem S8x552x128 .f32) (ha : a.IsWhole) (x : Vec F S8x552x128 .f32) (w v s : Vec F S1x552x128 .f32) :
    kernelRun0_A.sl.r_2 c d hd b hb e he a ha w v s x = k0_pay11 (total x) (first v x) s w := by
  delta kernelRun0_A.sl.r_2
  simp only [View.readAt_eq_ld, Memref.IsWhole.read_unread, View.ld_unit_zero (S := S1x552x128) zeros, r_A, r1_A]
theorem outs_A (h : t.val % 4 = 0) : outsAt0 m c t.val t.isLt = Written (iblk m c 0 t) (iblk m c 1 t) (iblk m c 2 t) (iblk m c 3 t) := by
  rw [outsAt0_A m c t h (by omega) (by omega) (by omega)]
  refine Prod.ext ?_ (Prod.ext ?_ (Prod.ext ?_ ?_)) <;>
    (dsimp only; first | unfold out0_A_7 | unfold out0_A_8 | unfold out0_A_9 | unfold out0_A_10) <;>
    (rw [View.read_writes_junk_eq_canon]
     refine (View.canon_unit_zero (S := S1x552x128) zeros inb_S1x552x128_S1x552x128_0_0_0 _).trans ?_)
  · rw [r_A]
  · rw [r2_A]
  · rw [r1_A]
  · simp only [View.readAt_eq_ld, Memref.IsWhole.read_unread, View.ld_unit_zero (S := S1x552x128) zeros, r_A]

theorem r_B (a : Memref sig .tc .vmem S8x552x128 .f32) (ha : a.IsWhole) (x : Vec F S8x552x128 .f32) :
    kernelRun0_B.sl.r c a ha x = total x := by
  delta kernelRun0_B.sl.r
  simp only [View.readAt_eq_ld, Memref.IsWhole.read_unread, e12]
  rfl
theorem r1_B (b : Memref sig .tc .vmem S1x552x128 .f32) (hb : b.IsWhole) (a : Memref sig .tc .vmem S8x552x128 .f32) (ha : a.IsWhole) (x : Vec F S8x552x128 .f32) (v : Vec F S1x552x128 .f32) :
    kernelRun0_B.sl.r_1 c b hb a ha v x = first v x := by
  delta kernelRun0_B.sl.r_1
  simp only [View.readAt_eq_ld, Memref.IsWhole.read_unread, View.ld_unit_zero (S := S1x552x128) zeros, e13]
  rfl
theorem r2_B (d : Memref sig .tc .vmem S1x552x128 .f32) (hd : d.IsWhole) (b : Memref sig .tc .vmem S1x552x128 .f32) (hb : b.IsWhole) (e : Memref sig .tc .vmem S1x552x128 .f32) (he : e.IsWhole) (a : Memref sig .tc .vmem S8x552x128 .f32) (ha : a.IsWhole) (x : Vec F S8x552x128 .f32) (w v s : Vec F S1x552x128 .f32) :
    kernelRun0_B.sl.r_2 c d hd b hb e he a ha w v s x = k0_pay11 (total x) (first v x) s w := by
  delta kernelRun0_B.sl.r_2
  simp only [View.readAt_eq_ld, Memref.IsWhole.read_unread, View.ld_unit_zero (S := S1x552x128) zeros, r_B, r1_B, e18]
theorem outs_B (h : t.val % 4 = 1) : outsAt0 m c t.val t.isLt = Written (iblk m c 0 t) (iblk m c 1 t) (iblk m c 2 t) (iblk m c 4 t) := by
  rw [outsAt0_B m c t (by omega) h (by omega) (by omega)]
  refine Prod.ext ?_ (Prod.ext ?_ (Prod.ext ?_ ?_)) <;>
    (dsimp only; first | unfold out0_B_7 | unfold out0_B_8 | unfold out0_B_9 | unfold out0_B_10) <;>
    (rw [View.read_writes_junk_eq_canon]
     refine (View.canon_unit_zero (S := S1x552x128) zeros inb_S1x552x128_S1x552x128_0_0_0 _).trans ?_)
  · rw [r_B, e15]
  · rw [r2_B, e2]
  · rw [r1_B, e16]
  · simp only [View.readAt_eq_ld, Memref.IsWhole.read_unread, View.ld_unit_zero (S := S1x552x128) zeros, r_B, e17]

theorem r_C (a : Memref sig .tc .vmem S8x552x128 .f32) (ha : a.IsWhole) (x : Vec F S8x552x128 .f32) :
    kernelRun0_C.sl.r c a ha x = total x := by
  delta kernelRun0_C.sl.r
  simp only [View.readAt_eq_ld, Memref.IsWhole.read_unread, e19]
  rfl
theorem r1_C (b : Memref sig .tc .vmem S1x552x128 .f32) (hb : b.IsWhole) (a : Memref sig .tc .vmem S8x552x128 .f32) (ha : a.IsWhole) (x : Vec F S8x552x128 .f32) (v : Vec F S1x552x128 .f32) :
    kernelRun0_C.sl.r_1 c b hb a ha v x = first v x := by
  delta kernelRun0_C.sl.r_1
  simp only [View.readAt_eq_ld, Memref.IsWhole.read_unread, View.ld_unit_zero (S := S1x552x128) zeros, e20]
  rfl
theorem r2_C (d : Memref sig .tc .vmem S1x552x128 .f32) (hd : d.IsWhole) (b : Memref sig .tc .vmem S1x552x128 .f32) (hb : b.IsWhole) (e : Memref sig .tc .vmem S1x552x128 .f32) (he : e.IsWhole) (a : Memref sig .tc .vmem S8x552x128 .f32) (ha : a.IsWhole) (x : Vec F S8x552x128 .f32) (w v s : Vec F S1x552x128 .f32) :
    kernelRun0_C.sl.r_2 c d hd b hb e he a ha w v s x = k0_pay11 (total x) (first v x) s w := by
  delta kernelRun0_C.sl.r_2
  simp only [View.readAt_eq_ld, Memref.IsWhole.read_unread, View.ld_unit_zero (S := S1x552x128) zeros, r_C, r1_C, e25]
theorem outs_C (h : t.val % 4 = 2) : outsAt0 m c t.val t.isLt = Written (iblk m c 0 t) (iblk m c 1 t) (iblk m c 2 t) (iblk m c 5 t) := by
  rw [outsAt0_C m c t (by omega) (by omega) h (by omega)]
  refine Prod.ext ?_ (Prod.ext ?_ (Prod.ext ?_ ?_)) <;>
    (dsimp only; first | unfold out0_C_7 | unfold out0_C_8 | unfold out0_C_9 | unfold out0_C_10) <;>
    (rw [View.read_writes_junk_eq_canon]
     refine (View.canon_unit_zero (S := S1x552x128) zeros inb_S1x552x128_S1x552x128_0_0_0 _).trans ?_)
  · rw [r_C, e22]
  · rw [r2_C, e3]
  · rw [r1_C, e23]
  · simp only [View.readAt_eq_ld, Memref.IsWhole.read_unread, View.ld_unit_zero (S := S1x552x128) zeros, r_C, e24]

theorem r_D (a : Memref sig .tc .vmem S8x552x128 .f32) (ha : a.IsWhole) (x : Vec F S8x552x128 .f32) :
    kernelRun0_D.sl.r c a ha x = total x := by
  delta kernelRun0_D.sl.r
  simp only [View.readAt_eq_ld, Memref.IsWhole.read_unread, e26]
  rfl
theorem r1_D (b : Memref sig .tc .vmem S1x552x128 .f32) (hb : b.IsWhole) (a : Memref sig .tc .vmem S8x552x128 .f32) (ha : a.IsWhole) (x : Vec F S8x552x128 .f32) (v : Vec F S1x552x128 .f32) :
    kernelRun0_D.sl.r_1 c b hb a ha v x = first v x := by
  delta kernelRun0_D.sl.r_1
  simp only [View.readAt_eq_ld, Memref.IsWhole.read_unread, View.ld_unit_zero (S := S1x552x128) zeros, e27]
  rfl
theorem r2_D (d : Memref sig .tc .vmem S1x552x128 .f32) (hd : d.IsWhole) (b : Memref sig .tc .vmem S1x552x128 .f32) (hb : b.IsWhole) (e : Memref sig .tc .vmem S1x552x128 .f32) (he : e.IsWhole) (a : Memref sig .tc .vmem S8x552x128 .f32) (ha : a.IsWhole) (x : Vec F S8x552x128 .f32) (w v s : Vec F S1x552x128 .f32) :
    kernelRun0_D.sl.r_2 c d hd b hb e he a ha w v s x = k0_pay11 (total x) (first v x) s w := by
  delta kernelRun0_D.sl.r_2
  simp only [View.readAt_eq_ld, Memref.IsWhole.read_unread, View.ld_unit_zero (S := S1x552x128) zeros, r_D, r1_D, e32]
theorem outs_D (h : t.val % 4 = 3) : outsAt0 m c t.val t.isLt = Written (iblk m c 0 t) (iblk m c 1 t) (iblk m c 2 t) (iblk m c 6 t) := by
  rw [outsAt0_D m c t (by omega) (by omega) (by omega) h]
  refine Prod.ext ?_ (Prod.ext ?_ (Prod.ext ?_ ?_)) <;>
    (dsimp only; first | unfold out0_D_7 | unfold out0_D_8 | unfold out0_D_9 | unfold out0_D_10) <;>
    (rw [View.read_writes_junk_eq_canon]
     refine (View.canon_unit_zero (S := S1x552x128) zeros inb_S1x552x128_S1x552x128_0_0_0 _).trans ?_)
  · rw [r_D, e29]
  · rw [r2_D, e4]
  · rw [r1_D, e30]
  · simp only [View.readAt_eq_ld, Memref.IsWhole.read_unread, View.ld_unit_zero (S := S1x552x128) zeros, r_D, e31]

end Body

/-! ## Over the extended reals -/

/-- The sum of eight devices' numbers, the two moments, and the change of a weight with the two reciprocals named. -/
def add8 (f : Fin 8 → EReal) : EReal := f 0 + f 1 + f 2 + f 3 + f 4 + f 5 + f 6 + f 7
def moment1 (v g : EReal) : EReal := Ideal.ofBits .f32 0x3F666666#32 * v + Ideal.ofBits .f32 0x3DCCCCCD#32 * g
def moment2 (s g : EReal) : EReal := Ideal.ofBits .f32 0x3F7FBE77#32 * s + Ideal.ofBits .f32 0x3A83126F#32 * (g * g)
def change (w a b : EReal) : EReal :=
  Ideal.ofBits .f32 0xBA83126F#32 * (Ideal.div a (Ideal.sqrt b + Ideal.ofBits .f32 0x322BCC77#32) + Ideal.ofBits .f32 0x3C23D70A#32 * w)
def c1 : EReal := ((8388608 / 5463681 : ℝ) : EReal)
def c2 : EReal := ((268435456 / 2672307 : ℝ) : EReal)

theorem total_apply (x : S8x552x128.Idx → EReal) (r : Fin 552) (l : Fin 128) :
    total (F := Ideal) x (ix2 r l) = add8 fun n => x (ix3 n r l) := by
  have e : ∀ n : Fin 8, part (F := Ideal) x n (ix3 0 r l) = x (ix3 n r l) := by
    intro n
    pointwise [part]
  pointwise [total, k0_pay5]
  simp only [e, add8]
theorem first_apply (v : S1x552x128.Idx → EReal) (x : S8x552x128.Idx → EReal) (r : Fin 552) (l : Fin 128) :
    first (F := Ideal) v x (ix2 r l) = moment1 (v (ix3 0 r l)) (total (F := Ideal) x (ix2 r l)) := by
  unfold first total
  pointwise [k0_pay6]
  rfl
theorem pay7_apply (g : S552x128.Idx → EReal) (s : S1x552x128.Idx → EReal) (r : Fin 552) (l : Fin 128) :
    k0_pay7 (F := Ideal) g s (ix2 r l) = moment2 (s (ix3 0 r l)) (g (ix2 r l)) := by
  pointwise [k0_pay7]
  rfl
theorem pay11_apply (g a : S552x128.Idx → EReal) (s w : S1x552x128.Idx → EReal) (r : Fin 552) (l : Fin 128) :
    k0_pay11 (F := Ideal) g a s w (ix2 r l) = change (w (ix3 0 r l)) (a (ix2 r l) * c1) (moment2 (s (ix3 0 r l)) (g (ix2 r l)) * c2) := by
  pointwise [k0_pay11, k0_pay7]
  rfl
theorem pay8_apply (g : S552x128.Idx → EReal) (r : Fin 552) (l : Fin 128) : k0_pay8 (F := Ideal) g (ix3 0 r l) = g (ix2 r l) := by pointwise [k0_pay8]
theorem pay1_apply (g : S552x128.Idx → EReal) (r : Fin 552) (l : Fin 128) : k0_pay1 (F := Ideal) g (ix3 0 r l) = g (ix2 r l) := by pointwise [k0_pay1]
theorem pay9_apply (g : S552x128.Idx → EReal) (r : Fin 552) (l : Fin 128) : k0_pay9 (F := Ideal) g (ix3 0 r l) = g (ix2 r l) := by pointwise [k0_pay9]
theorem pay10_apply (g : S552x128.Idx → EReal) (s : S1x552x128.Idx → EReal) (r : Fin 552) (l : Fin 128) :
    k0_pay10 (F := Ideal) g s (ix3 0 r l) = moment2 (s (ix3 0 r l)) (g (ix2 r l)) := by
  pointwise [k0_pay10, k0_pay7]
  rfl

/-- The launched arrays of the call: weights, moments, and each layer's parts. -/
structure Args where
  (w v s : Fin 4 → Fin 552 → Fin 128 → EReal)
  p : Fin 4 → Fin 8 → Fin 552 → Fin 128 → EReal

namespace Args
variable (A : Args) (t : Fin 4) (r : Fin 552) (l : Fin 128)
def g : EReal := add8 fun n => A.p t n r l
def m1 : EReal := moment1 (A.v t r l) (A.g t r l)
def m2 : EReal := moment2 (A.s t r l) (A.g t r l)
def dw : EReal := change (A.w t r l) (A.m1 t r l * c1) (A.m2 t r l * c2)
end Args

theorem written_at (w v s : S1x552x128.Idx → EReal) (x : S8x552x128.Idx → EReal) (A : Args) (t : Fin 4)
    (ew : ∀ r l, w (ix3 0 r l) = A.w t r l) (ev : ∀ r l, v (ix3 0 r l) = A.v t r l) (es : ∀ r l, s (ix3 0 r l) = A.s t r l)
    (ex : ∀ n r l, x (ix3 n r l) = A.p t n r l) (r : Fin 552) (l : Fin 128) :
    (Written (F := Ideal) w v s x).1 (ix3 0 r l) = A.g t r l ∧ (Written (F := Ideal) w v s x).2.1 (ix3 0 r l) = A.dw t r l
      ∧ (Written (F := Ideal) w v s x).2.2.1 (ix3 0 r l) = A.m1 t r l ∧ (Written (F := Ideal) w v s x).2.2.2 (ix3 0 r l) = A.m2 t r l := by
  have eg : total (F := Ideal) x (ix2 r l) = A.g t r l := by
    rw [total_apply]; simp only [ex]; rfl
  refine ⟨(pay8_apply _ r l).trans eg, (pay1_apply (k0_pay11 (F := Ideal) (total (F := Ideal) x) (first (F := Ideal) v x) s w) r l).trans ?_, (pay9_apply (first (F := Ideal) v x) r l).trans ?_, (pay10_apply (total (F := Ideal) x) s r l).trans ?_⟩
  · rw [pay11_apply, first_apply, eg, ew, ev, es]; rfl
  · rw [first_apply, eg, ev]; rfl
  · rw [eg, es]; rfl

variable (m : (ℓ : Loc nD τ sig) → Buf (Elt Ideal) ℓ) (c : Dev nD)

def args : Args where
  w t r l := V m c main_arg0 (ix3 t r l)
  v t r l := V m c main_arg1 (ix3 t r l)
  s t r l := V m c main_arg2 (ix3 t r l)
  p t n r l := match t with
    | 0 => V m c main_arg3 (ix3 n r l)
    | 1 => V m c main_arg4 (ix3 n r l)
    | 2 => V m c main_arg5 (ix3 n r l)
    | 3 => V m c main_arg6 (ix3 n r l)

theorem lt4 (t : Fin cfg0.N) : t.val < 4 := lt_of_lt_of_eq t.isLt N_0
abbrev lay (t : Fin cfg0.N) : Fin 4 := ⟨t.val, lt4 t⟩

theorem wi0 : ∀ n : Fin grid0.N, win0_0.index n 0 = n.val ∧ win0_0.index n 1 = 0 ∧ win0_0.index n 2 = 0 := by decide +kernel
theorem wi1 : ∀ n : Fin grid0.N, win0_1.index n 0 = n.val ∧ win0_1.index n 1 = 0 ∧ win0_1.index n 2 = 0 := by decide +kernel
theorem wi2 : ∀ n : Fin grid0.N, win0_2.index n 0 = n.val ∧ win0_2.index n 1 = 0 ∧ win0_2.index n 2 = 0 := by decide +kernel
theorem wi3 : ∀ n : Fin grid0.N, win0_3.index n 0 = 0 ∧ win0_3.index n 1 = 0 ∧ win0_3.index n 2 = 0 := by decide +kernel
theorem wi4 : ∀ n : Fin grid0.N, win0_4.index n 0 = 0 ∧ win0_4.index n 1 = 0 ∧ win0_4.index n 2 = 0 := by decide +kernel
theorem wi5 : ∀ n : Fin grid0.N, win0_5.index n 0 = 0 ∧ win0_5.index n 1 = 0 ∧ win0_5.index n 2 = 0 := by decide +kernel
theorem wi6 : ∀ n : Fin grid0.N, win0_6.index n 0 = 0 ∧ win0_6.index n 1 = 0 ∧ win0_6.index n 2 = 0 := by decide +kernel
theorem wi7 : ∀ n : Fin grid0.N, win0_7.index n 0 = n.val ∧ win0_7.index n 1 = 0 ∧ win0_7.index n 2 = 0 := by decide +kernel
theorem wi8 : ∀ n : Fin grid0.N, win0_8.index n 0 = n.val ∧ win0_8.index n 1 = 0 ∧ win0_8.index n 2 = 0 := by decide +kernel
theorem wi9 : ∀ n : Fin grid0.N, win0_9.index n 0 = n.val ∧ win0_9.index n 1 = 0 ∧ win0_9.index n 2 = 0 := by decide +kernel
theorem wi10 : ∀ n : Fin grid0.N, win0_10.index n 0 = n.val ∧ win0_10.index n 1 = 0 ∧ win0_10.index n 2 = 0 := by decide +kernel

theorem blk0 (n : Fin cfg0.N) (r : Fin 552) (l : Fin 128) : iblk m c 0 n (ix3 0 r l) = V m c main_arg0 (ix3 (lay n) r l) := by
  obtain ⟨e0, e1, e2⟩ := wi0 n
  unfold iblk
  generalize V m c = A
  blk_simp
  refine congrArg (A main_arg0) ?_
  funext b; apply Fin.ext
  match b with
  | ⟨0, _⟩ => blk_simp [e0]; exact Nat.add_zero _
  | ⟨1, _⟩ => blk_simp [e1]
  | ⟨2, _⟩ => blk_simp [e2]
theorem blk1 (n : Fin cfg0.N) (r : Fin 552) (l : Fin 128) : iblk m c 1 n (ix3 0 r l) = V m c main_arg1 (ix3 (lay n) r l) := by
  obtain ⟨e0, e1, e2⟩ := wi1 n
  unfold iblk
  generalize V m c = A
  blk_simp
  refine congrArg (A main_arg1) ?_
  funext b; apply Fin.ext
  match b with
  | ⟨0, _⟩ => blk_simp [e0]; exact Nat.add_zero _
  | ⟨1, _⟩ => blk_simp [e1]
  | ⟨2, _⟩ => blk_simp [e2]
theorem blk2 (n : Fin cfg0.N) (r : Fin 552) (l : Fin 128) : iblk m c 2 n (ix3 0 r l) = V m c main_arg2 (ix3 (lay n) r l) := by
  obtain ⟨e0, e1, e2⟩ := wi2 n
  unfold iblk
  generalize V m c = A
  blk_simp
  refine congrArg (A main_arg2) ?_
  funext b; apply Fin.ext
  match b with
  | ⟨0, _⟩ => blk_simp [e0]; exact Nat.add_zero _
  | ⟨1, _⟩ => blk_simp [e1]
  | ⟨2, _⟩ => blk_simp [e2]
theorem blk3 (n : Fin cfg0.N) (d : Fin 8) (r : Fin 552) (l : Fin 128) : iblk m c 3 n (ix3 d r l) = V m c main_arg3 (ix3 d r l) := by
  obtain ⟨e0, e1, e2⟩ := wi3 n
  unfold iblk
  generalize V m c = A
  blk_simp
  refine congrArg (A main_arg3) ?_
  funext b; apply Fin.ext
  match b with
  | ⟨0, _⟩ => blk_simp [e0]
  | ⟨1, _⟩ => blk_simp [e1]
  | ⟨2, _⟩ => blk_simp [e2]
theorem blk4 (n : Fin cfg0.N) (d : Fin 8) (r : Fin 552) (l : Fin 128) : iblk m c 4 n (ix3 d r l) = V m c main_arg4 (ix3 d r l) := by
  obtain ⟨e0, e1, e2⟩ := wi4 n
  unfold iblk
  generalize V m c = A
  blk_simp
  refine congrArg (A main_arg4) ?_
  funext b; apply Fin.ext
  match b with
  | ⟨0, _⟩ => blk_simp [e0]
  | ⟨1, _⟩ => blk_simp [e1]
  | ⟨2, _⟩ => blk_simp [e2]
theorem blk5 (n : Fin cfg0.N) (d : Fin 8) (r : Fin 552) (l : Fin 128) : iblk m c 5 n (ix3 d r l) = V m c main_arg5 (ix3 d r l) := by
  obtain ⟨e0, e1, e2⟩ := wi5 n
  unfold iblk
  generalize V m c = A
  blk_simp
  refine congrArg (A main_arg5) ?_
  funext b; apply Fin.ext
  match b with
  | ⟨0, _⟩ => blk_simp [e0]
  | ⟨1, _⟩ => blk_simp [e1]
  | ⟨2, _⟩ => blk_simp [e2]
theorem blk6 (n : Fin cfg0.N) (d : Fin 8) (r : Fin 552) (l : Fin 128) : iblk m c 6 n (ix3 d r l) = V m c main_arg6 (ix3 d r l) := by
  obtain ⟨e0, e1, e2⟩ := wi6 n
  unfold iblk
  generalize V m c = A
  blk_simp
  refine congrArg (A main_arg6) ?_
  funext b; apply Fin.ext
  match b with
  | ⟨0, _⟩ => blk_simp [e0]
  | ⟨1, _⟩ => blk_simp [e1]
  | ⟨2, _⟩ => blk_simp [e2]

/-- What a point leaves in its results' buffers is its layer's. -/
theorem outs_at (t : Fin cfg0.N) (r : Fin 552) (l : Fin 128) :
    (outsAt0 m c t.val t.isLt).1 (ix3 0 r l) = (args m c).g (lay t) r l ∧ (outsAt0 m c t.val t.isLt).2.1 (ix3 0 r l) = (args m c).dw (lay t) r l
      ∧ (outsAt0 m c t.val t.isLt).2.2.1 (ix3 0 r l) = (args m c).m1 (lay t) r l ∧ (outsAt0 m c t.val t.isLt).2.2.2 (ix3 0 r l) = (args m c).m2 (lay t) r l := by
  have ht := lt4 t
  have q : t.val % 4 = 0 ∨ t.val % 4 = 1 ∨ t.val % 4 = 2 ∨ t.val % 4 = 3 := by omega
  rcases q with h | h | h | h
  · have e : lay t = 0 := Fin.ext (by show t.val = 0; omega)
    rw [outs_A m c t h]
    exact written_at _ _ _ _ _ _ (blk0 m c t) (blk1 m c t) (blk2 m c t) (fun d r l => by rw [e]; exact blk3 m c t d r l) r l
  · have e : lay t = 1 := Fin.ext (by show t.val = 1; omega)
    rw [outs_B m c t h]
    exact written_at _ _ _ _ _ _ (blk0 m c t) (blk1 m c t) (blk2 m c t) (fun d r l => by rw [e]; exact blk4 m c t d r l) r l
  · have e : lay t = 2 := Fin.ext (by show t.val = 2; omega)
    rw [outs_C m c t h]
    exact written_at _ _ _ _ _ _ (blk0 m c t) (blk1 m c t) (blk2 m c t) (fun d r l => by rw [e]; exact blk5 m c t d r l) r l
  · have e : lay t = 3 := Fin.ext (by show t.val = 3; omega)
    rw [outs_D m c t h]
    exact written_at _ _ _ _ _ _ (blk0 m c t) (blk1 m c t) (blk2 m c t) (fun d r l => by rw [e]; exact blk6 m c t d r l) r l

theorem arr7 : (dats m 0 c).arrAt 7 cfg0.N = fun y => (args m c).g (y 0) (y 1) (y 2) := by
  refine (dats m 0 c).arrAt_eq_of_covers 7 _ (by decide +kernel) fun t hf y => ?_
  obtain ⟨e0, e1, e2⟩ := wi7 t
  blk_simp
  rw [after0_7]
  idx_vars y
  obtain rfl : y0 = 0 := Subsingleton.elim _ _
  refine (outs_at m c t y1 y2).1.trans ?_
  congr 1 <;> apply Fin.ext
  · blk_simp [e0]; rfl
  · blk_simp [e1]
  · blk_simp [e2]

theorem arr8 : (dats m 0 c).arrAt 8 cfg0.N = fun y => (args m c).dw (y 0) (y 1) (y 2) := by
  refine (dats m 0 c).arrAt_eq_of_covers 8 _ (by decide +kernel) fun t hf y => ?_
  obtain ⟨e0, e1, e2⟩ := wi8 t
  blk_simp
  rw [after0_8]
  idx_vars y
  obtain rfl : y0 = 0 := Subsingleton.elim _ _
  refine (outs_at m c t y1 y2).2.1.trans ?_
  congr 1 <;> apply Fin.ext
  · blk_simp [e0]; rfl
  · blk_simp [e1]
  · blk_simp [e2]

theorem arr9 : (dats m 0 c).arrAt 9 cfg0.N = fun y => (args m c).m1 (y 0) (y 1) (y 2) := by
  refine (dats m 0 c).arrAt_eq_of_covers 9 _ (by decide +kernel) fun t hf y => ?_
  obtain ⟨e0, e1, e2⟩ := wi9 t
  blk_simp
  rw [after0_9]
  idx_vars y
  obtain rfl : y0 = 0 := Subsingleton.elim _ _
  refine (outs_at m c t y1 y2).2.2.1.trans ?_
  congr 1 <;> apply Fin.ext
  · blk_simp [e0]; rfl
  · blk_simp [e1]
  · blk_simp [e2]

theorem arr10 : (dats m 0 c).arrAt 10 cfg0.N = fun y => (args m c).m2 (y 0) (y 1) (y 2) := by
  refine (dats m 0 c).arrAt_eq_of_covers 10 _ (by decide +kernel) fun t hf y => ?_
  obtain ⟨e0, e1, e2⟩ := wi10 t
  blk_simp
  rw [after0_10]
  idx_vars y
  obtain rfl : y0 = 0 := Subsingleton.elim _ _
  refine (outs_at m c t y1 y2).2.2.2.trans ?_
  congr 1 <;> apply Fin.ext
  · blk_simp [e0]; rfl
  · blk_simp [e1]
  · blk_simp [e2]

end Cert.Proof.Adam

end
-- ==== Proof.Adam.Equal.lean ====
/-
  From memories with the same arguments the seventh call and its reference end with the same results.
-/
module

public import proofs.«01_k».proof.Defs
public import proofs.«01_k».proof.Proof.Adam.Tile
public import proofs.«01_k».proof.Proof.Gen.Reference7Ideal.Run

@[expose] public section

set_option maxRecDepth 16384

noncomputable section

namespace Cert.Proof.Adam

open Idealize.ShloMosaic Idealize.ShloMosaic.TcCoe
open Idealize.SL Idealize.SL.Sem

/-! ### A quotient by a word is the product with its reciprocal -/

theorem word1 : Ideal.ofBits .f32 0x3F26BD02#32 = ((5463681 / 8388608 : ℝ) : EReal) := by
  simp [Ideal.ofBits, Ideal.ieee, -EReal.coe_mul]
  norm_num
theorem word2 : Ideal.ofBits .f32 0x3C231ACC#32 = ((2672307 / 268435456 : ℝ) : EReal) := by
  simp [Ideal.ofBits, Ideal.ieee, -EReal.coe_mul]
  norm_num
theorem div1 (x : EReal) : Ideal.div x (Ideal.ofBits .f32 0x3F26BD02#32) = x * c1 := by
  rw [word1, Ideal.div_coe (by norm_num)]
  unfold c1; norm_num
theorem div2 (x : EReal) : Ideal.div x (Ideal.ofBits .f32 0x3C231ACC#32) = x * c2 := by
  rw [word2, Ideal.div_coe (by norm_num)]
  unfold c2; norm_num

/-! ### The reference's run -/

section RefRun

open Cert.Reference7Ideal Cert.Reference7Ideal.Gen Cert.Reference7Ideal.Value

theorem ref_frame : Cert.quiescent_Reference7Ideal (hReference7Ideal := Cert.Reference7Ideal.Gen.facts) :=
  fun m ρ _ => (θ_run Cert.Reference7Ideal.defs _ _).mono (fun r h => ⟨fun c => (h c).2.2.2.2, sem_eq_zero_of_no_sems (by decide) r.2⟩)
    (Cert.Reference7Ideal.Value.run m ρ)

/-- The devices' sum of one layer, as the reference writes it, and the four layers' stack. -/
abbrev rsum (X : S8x552x128.Idx → EReal) : S1x552x128.Idx → EReal :=
  broadcastInDim S1x552x128 ![1, 2] bcast_S552x128_S1x552x128_1_2 (Host.reduceAdd (F := Ideal) (φ := .f32) X (constant (F := Ideal) S_ .f32 0x00000000#32) reducesTo_S8x552x128_S552x128_d0 h_S_)

theorem rsum_apply (X : S8x552x128.Idx → EReal) (r : Fin 552) (l : Fin 128) : rsum X (ix3 0 r l) = add8 fun n => X (ix3 n r l) := by
  pointwise [rsum]
  simp [Fin.sum_univ_eight, add8]

abbrev stack (X0 X1 X2 X3 : S8x552x128.Idx → EReal) : S4x552x128.Idx → EReal := fn_main_v8 (F := Ideal) (rsum X0) (rsum X1) (rsum X2) (rsum X3)

theorem stack_apply (X0 X1 X2 X3 : S8x552x128.Idx → EReal) (t : Fin 4) (r : Fin 552) (l : Fin 128) :
    stack X0 X1 X2 X3 (ix3 t r l) = add8 fun n => (match t with | 0 => X0 | 1 => X1 | 2 => X2 | 3 => X3 : S8x552x128.Idx → EReal) (ix3 n r l) := by
  have q : t = 0 ∨ t = 1 ∨ t = 2 ∨ t = 3 := by omega
  unfold stack
  generalize e0 : rsum X0 = R0
  generalize e1 : rsum X1 = R1
  generalize e2 : rsum X2 = R2
  generalize e3 : rsum X3 = R3
  rcases q with rfl | rfl | rfl | rfl
  · refine Eq.trans ?_ (rsum_apply X0 r l); rw [e0]; pointwise [fn_main_v8]
  · refine Eq.trans ?_ (rsum_apply X1 r l); rw [e1]; pointwise [fn_main_v8]
  · refine Eq.trans ?_ (rsum_apply X2 r l); rw [e2]; pointwise [fn_main_v8]
  · refine Eq.trans ?_ (rsum_apply X3 r l); rw [e3]; pointwise [fn_main_v8]

/-- The two moments and the change, as the reference writes them. -/
def rm1 (V G : S4x552x128.Idx → EReal) : S4x552x128.Idx → EReal := (addf (F := Ideal) (φ := .f32) (mulf (F := Ideal) (φ := .f32) (broadcastInDim S4x552x128 ![] bcast_S_S4x552x128 (constant (F := Ideal) S_ .f32 0x3F666666#32)) V) (mulf (F := Ideal) (φ := .f32) (broadcastInDim S4x552x128 ![] bcast_S_S4x552x128 (constant (F := Ideal) S_ .f32 0x3DCCCCCD#32)) G))
def rm2 (S G : S4x552x128.Idx → EReal) : S4x552x128.Idx → EReal := (addf (F := Ideal) (φ := .f32) (mulf (F := Ideal) (φ := .f32) (broadcastInDim S4x552x128 ![] bcast_S_S4x552x128 (constant (F := Ideal) S_ .f32 0x3F7FBE77#32)) S) (mulf (F := Ideal) (φ := .f32) (broadcastInDim S4x552x128 ![] bcast_S_S4x552x128 (constant (F := Ideal) S_ .f32 0x3A83126F#32)) (mulf (F := Ideal) (φ := .f32) G G)))
def rdw (W V S G : S4x552x128.Idx → EReal) : S4x552x128.Idx → EReal := (mulf (F := Ideal) (φ := .f32) (broadcastInDim S4x552x128 ![] bcast_S_S4x552x128 (constant (F := Ideal) S_ .f32 0xBA83126F#32)) (addf (F := Ideal) (φ := .f32) (Host.divf (F := Ideal) (φ := .f32) (Host.divf (F := Ideal) (φ := .f32) (rm1 V G) (broadcastInDim S4x552x128 ![] bcast_S_S4x552x128 (constant (F := Ideal) S_ .f32 0x3F26BD02#32))) (addf (F := Ideal) (φ := .f32) (Host.sqrt (F := Ideal) (φ := .f32) (Host.divf (F := Ideal) (φ := .f32) (rm2 S G) (broadcastInDim S4x552x128 ![] bcast_S_S4x552x128 (constant (F := Ideal) S_ .f32 0x3C231ACC#32)))) (broadcastInDim S4x552x128 ![] bcast_S_S4x552x128 (constant (F := Ideal) S_ .f32 0x322BCC77#32)))) (mulf (F := Ideal) (φ := .f32) (broadcastInDim S4x552x128 ![] bcast_S_S4x552x128 (constant (F := Ideal) S_ .f32 0x3C23D70A#32)) W)))

theorem rm1_apply (V G : S4x552x128.Idx → EReal) (t : Fin 4) (r : Fin 552) (l : Fin 128) :
    rm1 V G (ix3 t r l) = moment1 (V (ix3 t r l)) (G (ix3 t r l)) := by
  pointwise [rm1]
  rfl
theorem rm2_apply (S G : S4x552x128.Idx → EReal) (t : Fin 4) (r : Fin 552) (l : Fin 128) :
    rm2 S G (ix3 t r l) = moment2 (S (ix3 t r l)) (G (ix3 t r l)) := by
  pointwise [rm2]
  rfl
theorem rdw_apply (W V S G : S4x552x128.Idx → EReal) (t : Fin 4) (r : Fin 552) (l : Fin 128) :
    rdw W V S G (ix3 t r l) = change (W (ix3 t r l)) (moment1 (V (ix3 t r l)) (G (ix3 t r l)) * c1) (moment2 (S (ix3 t r l)) (G (ix3 t r l)) * c2) := by
  pointwise [rdw]
  rw [rm1_apply, rm2_apply, div1, div2]
  rfl

theorem ext3 {f : Fin 4 → Fin 552 → Fin 128 → EReal} {A : S4x552x128.Idx → EReal} (h : ∀ t r l, A (ix3 t r l) = f t r l) : A = fun y => f (y 0) (y 1) (y 2) := by
  funext y
  idx_vars y
  exact h y0 y1 y2

variable (A : Args) (W V S : S4x552x128.Idx → EReal) (X0 X1 X2 X3 : S8x552x128.Idx → EReal)
variable (ew : ∀ t r l, W (ix3 t r l) = A.w t r l) (ev : ∀ t r l, V (ix3 t r l) = A.v t r l) (es : ∀ t r l, S (ix3 t r l) = A.s t r l)
variable (ex : ∀ t n r l, (match t with | 0 => X0 | 1 => X1 | 2 => X2 | 3 => X3 : S8x552x128.Idx → EReal) (ix3 n r l) = A.p t n r l)
include ex

theorem stack_eq (t : Fin 4) (r : Fin 552) (l : Fin 128) : stack X0 X1 X2 X3 (ix3 t r l) = A.g t r l := by
  rw [stack_apply]
  simp only [ex]
  rfl
include ev in
theorem rm1_eq (t : Fin 4) (r : Fin 552) (l : Fin 128) : rm1 V (stack X0 X1 X2 X3) (ix3 t r l) = A.m1 t r l := by
  rw [rm1_apply, stack_eq A X0 X1 X2 X3 ex, ev]; rfl
include es in
theorem rm2_eq (t : Fin 4) (r : Fin 552) (l : Fin 128) : rm2 S (stack X0 X1 X2 X3) (ix3 t r l) = A.m2 t r l := by
  rw [rm2_apply, stack_eq A X0 X1 X2 X3 ex, es]; rfl
include ew ev es in
theorem rdw_eq (t : Fin 4) (r : Fin 552) (l : Fin 128) : rdw W V S (stack X0 X1 X2 X3) (ix3 t r l) = A.dw t r l := by
  rw [rdw_apply, stack_eq A X0 X1 X2 X3 ex, ew, ev, es]; rfl

end RefRun

/-! ### The results of the two -/

theorem algebraic :
    Cert.algebraic_Kernel7Ideal_Reference7Ideal (hKernel7Ideal := Cert.Kernel7Ideal.Gen.facts) (hReference7Ideal := Cert.Reference7Ideal.Gen.facts) := by
  intro m g m' g' _ h
  refine ⟨fun c => (Cert.Kernel7Ideal.Gen.dats m 0 c).arrAt 7 Cert.Kernel7Ideal.cfg0.N, fun c => (Cert.Kernel7Ideal.Gen.dats m 0 c).arrAt 8 Cert.Kernel7Ideal.cfg0.N,
    fun c => (Cert.Kernel7Ideal.Gen.dats m 0 c).arrAt 9 Cert.Kernel7Ideal.cfg0.N, fun c => (Cert.Kernel7Ideal.Gen.dats m 0 c).arrAt 10 Cert.Kernel7Ideal.cfg0.N,
    Cert.Kernel7Ideal.Value.run_blocks m g, ?_⟩
  refine (θ_run Cert.Reference7Ideal.defs _ _).mono (fun r hr c => ?_) (Cert.Reference7Ideal.Value.run m' g')
  obtain ⟨e0, e1, e2, e3, ea⟩ := hr c
  obtain ⟨q0, q1, q2, q3, q4, q5, q6⟩ := h c
  have p0 := q0.trans (Cert.Kernel7Ideal.Gen.V_main_arg0 m c).symm
  have p1 := q1.trans (Cert.Kernel7Ideal.Gen.V_main_arg1 m c).symm
  have p2 := q2.trans (Cert.Kernel7Ideal.Gen.V_main_arg2 m c).symm
  have p3 := q3.trans (Cert.Kernel7Ideal.Gen.V_main_arg3 m c).symm
  have p4 := q4.trans (Cert.Kernel7Ideal.Gen.V_main_arg4 m c).symm
  have p5 := q5.trans (Cert.Kernel7Ideal.Gen.V_main_arg5 m c).symm
  have p6 := q6.trans (Cert.Kernel7Ideal.Gen.V_main_arg6 m c).symm
  have ex : ∀ (t : Fin 4) (n : Fin 8) (r : Fin 552) (l : Fin 128),
      (match t with
        | 0 => m' ((c.tc : Thread Cert.Reference7Ideal.nD Cert.Reference7Ideal.τ).loc Cert.Reference7Ideal.main_arg3)
        | 1 => m' ((c.tc : Thread Cert.Reference7Ideal.nD Cert.Reference7Ideal.τ).loc Cert.Reference7Ideal.main_arg4)
        | 2 => m' ((c.tc : Thread Cert.Reference7Ideal.nD Cert.Reference7Ideal.τ).loc Cert.Reference7Ideal.main_arg5)
        | 3 => m' ((c.tc : Thread Cert.Reference7Ideal.nD Cert.Reference7Ideal.τ).loc Cert.Reference7Ideal.main_arg6) : Cert.Reference7Ideal.S8x552x128.Idx → EReal) (ix3 n r l) = (args m c).p t n r l := by
    intro t n r l
    match t with
    | 0 => exact congrFun p3 (ix3 n r l)
    | 1 => exact congrFun p4 (ix3 n r l)
    | 2 => exact congrFun p5 (ix3 n r l)
    | 3 => exact congrFun p6 (ix3 n r l)
  have ew := fun (t : Fin 4) (r : Fin 552) (l : Fin 128) => congrFun p0 (ix3 t r l)
  have ev := fun (t : Fin 4) (r : Fin 552) (l : Fin 128) => congrFun p1 (ix3 t r l)
  have es := fun (t : Fin 4) (r : Fin 552) (l : Fin 128) => congrFun p2 (ix3 t r l)
  exact ⟨e0.trans ((ext3 (stack_eq (args m c) _ _ _ _ ex)).trans (arr7 m c).symm),
    e1.trans ((ext3 (rdw_eq (args m c) _ _ _ _ _ _ _ ew ev es ex)).trans (arr8 m c).symm),
    e2.trans ((ext3 (rm1_eq (args m c) _ _ _ _ _ ev ex)).trans (arr9 m c).symm),
    e3.trans ((ext3 (rm2_eq (args m c) _ _ _ _ _ es ex)).trans (arr10 m c).symm), ea⟩

end Cert.Proof.Adam

end
-- ==== Proof.lean ====
/-
  The certificate's claim, of the seven calls: the frames of the kernel, its ideal form and the reference, that the ideal form is
  the kernel's, and that over finite arguments (over any, in two calls) the ideal form's results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.PI.Run
public import proofs.«01_k».proof.Proof.PI.Word
public import proofs.«01_k».proof.Proof.Value.Equal
public import proofs.«01_k».proof.Proof.Gen.Kernel2.Frame
public import proofs.«01_k».proof.Proof.Gen.Kernel2Ideal.Value
public import proofs.«01_k».proof.Proof.Gen.Reference2Ideal.Run
public import proofs.«01_k».proof.Proof.In.Equal
public import proofs.«01_k».proof.Proof.Gen.Kernel3.Frame
public import proofs.«01_k».proof.Proof.Gen.Kernel3Ideal.Value
public import proofs.«01_k».proof.Proof.Gen.Reference3Ideal.Run
public import proofs.«01_k».proof.Proof.Out.Equal
public import proofs.«01_k».proof.Proof.Gen.Kernel4.Frame
public import proofs.«01_k».proof.Proof.Gen.Kernel4Ideal.Value
public import proofs.«01_k».proof.Proof.Gen.Reference4Ideal.Run
public import proofs.«01_k».proof.Proof.Bot.EqualDw
public import proofs.«01_k».proof.Proof.Gen.Kernel5.Frame
public import proofs.«01_k».proof.Proof.Gen.Kernel5Ideal.Value
public import proofs.«01_k».proof.Proof.Gen.Reference5Ideal.Run
public import proofs.«01_k».proof.Proof.Bot.EqualDx
public import proofs.«01_k».proof.Proof.Gen.Kernel6.Frame
public import proofs.«01_k».proof.Proof.Gen.Kernel6Ideal.Value
public import proofs.«01_k».proof.Proof.Gen.Reference6Ideal.Run
public import proofs.«01_k».proof.Proof.Gate.Equal
public import proofs.«01_k».proof.Proof.Gen.Kernel7.Frame
public import proofs.«01_k».proof.Proof.Gen.Kernel7Ideal.Value
public import proofs.«01_k».proof.Proof.Gen.Reference7Ideal.Run
public import proofs.«01_k».proof.Proof.Adam.Equal

@[expose] public section

noncomputable section

namespace Cert.Proof

open Idealize.ShloMosaic Idealize.SL.Sem

theorem frame_reference : Cert.quiescent_ReferenceIdeal (hReferenceIdeal := Cert.ReferenceIdeal.Gen.facts) :=
  fun m ρ _ => (θ_run Cert.ReferenceIdeal.defs _ _).mono (fun r h => ⟨fun c => (h c).2.2.2.2.2,
    sem_eq_zero_of_no_sems (by decide) r.2⟩) (RI.run_at m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, finite_facts, In.finite_facts, Out.finite_facts, Gate.finite_facts,
  PI.frame_word, fun m ρ _ => PI.frame_args m ρ, fun m ρ _ => PI.frame_args m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  In.ref_frame, fun m ρ _ => In.ref_frame m ρ trivial,
  fun m ρ _ => Cert.Kernel3.Gen.frame m ρ, fun m ρ _ => Cert.Kernel3Ideal.Gen.frame m ρ, fun m ρ _ => Cert.Kernel3Ideal.Gen.frame m ρ,
  Out.ref_frame, fun m ρ _ => Out.ref_frame m ρ trivial,
  fun m ρ _ => Cert.Kernel4.Gen.frame m ρ, fun m ρ _ => Cert.Kernel4Ideal.Gen.frame m ρ, Dw.ref_frame,
  fun m ρ _ => Cert.Kernel5.Gen.frame m ρ, fun m ρ _ => Cert.Kernel5Ideal.Gen.frame m ρ, fun m ρ _ => Cert.Kernel5Ideal.Gen.frame m ρ,
  Dx.ref_frame, fun m ρ _ => Dx.ref_frame m ρ trivial,
  fun m ρ _ => Cert.Kernel6.Gen.frame m ρ, fun m ρ _ => Cert.Kernel6Ideal.Gen.frame m ρ, fun m ρ _ => Cert.Kernel6Ideal.Gen.frame m ρ,
  Gate.ref_frame, fun m ρ _ => Gate.ref_frame m ρ trivial,
  fun m ρ _ => Cert.Kernel7.Gen.frame m ρ, fun m ρ _ => Cert.Kernel7Ideal.Gen.frame m ρ, Adam.ref_frame,
  IdealRules.named_const.statement Cert.KernelIdeal.κ "mask" .f32 0xF149F2CA#32 ⊥ rfl,
  (haveI := finite_facts; algebraic), trivial, (haveI := In.finite_facts; In.algebraic),
  trivial, (haveI := Out.finite_facts; Out.algebraic), trivial, Dw.algebraic,
  trivial, (haveI := In.finite_facts; Dx.algebraic),
  trivial, (haveI := Gate.finite_facts; Gate.algebraic),
  ⟨IdealRules.named_const.statement Cert.Kernel7Ideal.κ "c1" .f32 0x3FC48605#32 ((8388608 / 5463681 : ℝ) : EReal) rfl,
    IdealRules.named_const.statement Cert.Kernel7Ideal.κ "c2" .f32 0x42C8E6D3#32 ((268435456 / 2672307 : ℝ) : EReal) rfl⟩,
  Adam.algebraic⟩

end Cert.Proof

end
